-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v11) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v11) = v2 c
          ∧ r.2.mem ((c.tc : Thread Cert.Reference2Ideal.nD Cert.Reference2Ideal.τ).loc Cert.Reference2Ideal.main_v13) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v69_0)) (v1 : (c : Dev Cert.Kernel4Ideal.nD) → Buf (Elt Ideal) ((c.tc : Thread Cert.Kernel4Ideal.nD Cert.Kernel4Ideal.τ).loc Cert.Kernel4Ideal.main_v69_1)) (v2 : (c : Dev Cert.Kernel4Ideal.nD) → Buf (Elt Ideal) ((c.tc : Thread Cert.Kernel4Ideal.nD Cert.Kernel4Ideal.τ).loc Cert.Kernel4Ideal.main_v77)) (v3 : (c : Dev Cert.Kernel4Ideal.nD) → Buf (Elt Ideal) ((c.tc : Thread Cert.Kernel4Ideal.nD Cert.Kernel4Ideal.τ).loc Cert.Kernel4Ideal.main_v83)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v69_0) = v0 c
          ∧ r.2.mem ((c.tc : Thread Cert.Kernel4Ideal.nD Cert.Kernel4Ideal.τ).loc Cert.Kernel4Ideal.main_v69_1) = v1 c
          ∧ r.2.mem ((c.tc : Thread Cert.Kernel4Ideal.nD Cert.Kernel4Ideal.τ).loc Cert.Kernel4Ideal.main_v77) = v2 c
          ∧ r.2.mem ((c.tc : Thread Cert.Kernel4Ideal.nD Cert.Kernel4Ideal.τ).loc Cert.Kernel4Ideal.main_v83) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v103) = v0 c
          ∧ r.2.mem ((c.tc : Thread Cert.Reference4Ideal.nD Cert.Reference4Ideal.τ).loc Cert.Reference4Ideal.main_v106) = v1 c
          ∧ r.2.mem ((c.tc : Thread Cert.Reference4Ideal.nD Cert.Reference4Ideal.τ).loc Cert.Reference4Ideal.main_v107) = v2 c
          ∧ r.2.mem ((c.tc : Thread Cert.Reference4Ideal.nD Cert.Reference4Ideal.τ).loc Cert.Reference4Ideal.main_v108) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v41_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v41_4) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v101) = v0 c
          ∧ r.2.mem ((c.tc : Thread Cert.Reference5Ideal.nD Cert.Reference5Ideal.τ).loc Cert.Reference5Ideal.main_v104) = v1 c
          ∧ r.2.mem ((c.tc : Thread Cert.Reference5Ideal.nD Cert.Reference5Ideal.τ).loc Cert.Reference5Ideal.main_v105) = v2 c
          ∧ r.2.mem ((c.tc : Thread Cert.Reference5Ideal.nD Cert.Reference5Ideal.τ).loc Cert.Reference5Ideal.main_v106) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v11) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8x32768x128 : Shape := ⟨3, ![8, 32768, 128]⟩
abbrev S8x128x128 : Shape := ⟨3, ![8, 128, 128]⟩
abbrev S1x64 : Shape := ⟨2, ![1, 64]⟩
abbrev S1x128 : Shape := ⟨2, ![1, 128]⟩
abbrev S_ : Shape := ⟨0, ![]⟩
abbrev S8x16x128 : Shape := ⟨3, ![8, 16, 128]⟩

class Facts : Prop where
  bitsLt_bf16_f32 : FTy.bits .bf16 < FTy.bits .f32
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  slices_S8x128x128_S8x16x128_0_0_0 : S8x128x128.Slices ![0, 0, 0] S8x16x128
  bcast_S_S8x16x128 : S_.BroadcastsInDim S8x16x128 (![] : Fin 0 → Fin S8x16x128.rank)
  reducesTo_S8x16x128_S_d0_1_2 : S8x16x128.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_v51 : IVec S_ 1) (main_v52 : FVec F S1x64 .f32) (main_cst_16 : FVec F S_ .f32) : IVec S_ 1 :=
  let main_v53 : FVec F S1x64 .f32 := broadcastInDim S1x64 ![] bcast_S_S1x64 main_cst_16
  let main_v54 : IVec S1x64 1 := cmpf .olt main_v52 main_v53
  let main_c_17 : IVec S_ 1 := constantI S_ 1 1#1
  let main_v55 : IVec S_ 1 := (fun x v => Host.reduce IntOp.andi x v reducesTo_S1x64_S_d0_1 h_S_) main_v54 main_c_17
  let main_v56 : IVec S_ 1 := andi main_v51 main_v55
  main_v56

def fn_part2 {F : FTy → Type} [FloatOps F] (main_arg6 : FVec F S1x64 .f32) (main_arg7 : FVec F S1x64 .f32) (main_arg8 : FVec F S1x64 .f32) (main_arg9 : FVec F S1x64 .f32) (main_v30 : IVec S_ 1) (main_v35 : IVec S_ 1) : IVec S_ 1 :=
  let main_v36 : IVec S_ 1 := andi main_v30 main_v35
  let main_v37 : FVec F S1x64 .f32 := Host.absf main_arg6
  let main_cst_10 : FVec F S_ .f32 := constant S_ .f32 0x7F800000#32
  let main_v38 : FVec F S1x64 .f32 := broadcastInDim S1x64 ![] bcast_S_S1x64 main_cst_10
  let main_v39 : IVec S1x64 1 := cmpf .olt main_v37 main_v38
  let main_c_11 : IVec S_ 1 := constantI S_ 1 1#1
  let main_v40 : IVec S_ 1 := (fun x v => Host.reduce IntOp.andi x v reducesTo_S1x64_S_d0_1 h_S_) main_v39 main_c_11
  let main_v41 : IVec S_ 1 := andi main_v36 main_v40
  let main_v42 : FVec F S1x64 .f32 := Host.absf main_arg7
  let main_cst_12 : FVec F S_ .f32 := constant S_ .f32 0x7F800000#32
  let main_v43 : FVec F S1x64 .f32 := broadcastInDim S1x64 ![] bcast_S_S1x64 main_cst_12
  let main_v44 : IVec S1x64 1 := cmpf .olt main_v42 main_v43
  let main_c_13 : IVec S_ 1 := constantI S_ 1 1#1
  let main_v45 : IVec S_ 1 := (fun x v => Host.reduce IntOp.andi x v reducesTo_S1x64_S_d0_1 h_S_) main_v44 main_c_13
  let main_v46 : IVec S_ 1 := andi main_v41 main_v45
  let main_v47 : FVec F S1x64 .f32 := Host.absf main_arg8
  let main_cst_14 : FVec F S_ .f32 := constant S_ .f32 0x7F800000#32
  let main_v48 : FVec F S1x64 .f32 := broadcastInDim S1x64 ![] bcast_S_S1x64 main_cst_14
  let main_v49 : IVec S1x64 1 := cmpf .olt main_v47 main_v48
  let main_c_15 : IVec S_ 1 := constantI S_ 1 1#1
  let main_v50 : IVec S_ 1 := (fun x v => Host.reduce IntOp.andi x v reducesTo_S1x64_S_d0_1 h_S_) main_v49 main_c_15
  let main_v51 : IVec S_ 1 := andi main_v46 main_v50
  let main_v52 : FVec F S1x64 .f32 := Host.absf main_arg9
  let main_cst_16 : FVec F S_ .f32 := constant S_ .f32 0x7F800000#32
  fn_part3 (F := F) main_v51 main_v52 main_cst_16

def fn_part1 {F : FTy → Type} [FloatOps F] (main_arg3 : FVec F S8x32768x128 .bf16) (main_arg6 : FVec F S1x64 .f32) (main_arg7 : FVec F S1x64 .f32) (main_arg8 : FVec F S1x64 .f32) (main_arg9 : FVec F S1x64 .f32) (main_v5 : FVec F S8x16x128 .bf16) (main_v6 : FVec F S8x16x128 .bf16) (main_v12 : IVec S_ 1) (main_v17 : IVec S_ 1) : IVec S_ 1 :=
  let main_v18 : IVec S_ 1 := andi main_v12 main_v17
  let main_v19 : FVec F S8x32768x128 .f32 := (extf .f32 · bitsLt_bf16_f32) main_arg3
  let main_v20 : FVec F S8x32768x128 .f32 := Host.absf main_v19
  let main_cst_4 : FVec F S_ .f32 := constant S_ .f32 0x7F800000#32
  let main_v21 : FVec F S8x32768x128 .f32 := broadcastInDim S8x32768x128 ![] bcast_S_S8x32768x128 main_cst_4
  let main_v22 : IVec S8x32768x128 1 := cmpf .olt main_v20 main_v21
  let main_c_5 : IVec S_ 1 := constantI S_ 1 1#1
  let main_v23 : IVec S_ 1 := (fun x v => Host.reduce IntOp.andi x v reducesTo_S8x32768x128_S_d0_1_2 h_S_) main_v22 main_c_5
  let main_v24 : IVec S_ 1 := andi main_v18 main_v23
  let main_v25 : FVec F S8x16x128 .f32 := (extf .f32 · bitsLt_bf16_f32) main_v5
  let main_v26 : FVec F S8x16x128 .f32 := Host.absf main_v25
  let main_cst_6 : FVec F S_ .f32 := constant S_ .f32 0x7F800000#32
  let main_v27 : FVec F S8x16x128 .f32 := broadcastInDim S8x16x128 ![] bcast_S_S8x16x128 main_cst_6
  let main_v28 : IVec S8x16x128 1 := cmpf .olt main_v26 main_v27
  let main_c_7 : IVec S_ 1 := constantI S_ 1 1#1
  let main_v29 : IVec S_ 1 := (fun x v => Host.reduce IntOp.andi x v reducesTo_S8x16x128_S_d0_1_2 h_S_) main_v28 main_c_7
  let main_v30 : IVec S_ 1 := andi main_v24 main_v29
  let main_v31 : FVec F S8x16x128 .f32 := (extf .f32 · bitsLt_bf16_f32) main_v6
  let main_v32 : FVec F S8x16x128 .f32 := Host.absf main_v31
  let main_cst_8 : FVec F S_ .f32 := constant S_ .f32 0x7F800000#32
  let main_v33 : FVec F S8x16x128 .f32 := broadcastInDim S8x16x128 ![] bcast_S_S8x16x128 main_cst_8
  let main_v34 : IVec S8x16x128 1 := cmpf .olt main_v32 main_v33
  let main_c_9 : IVec S_ 1 := constantI S_ 1 1#1
  let main_v35 : IVec S_ 1 := (fun x v => Host.reduce IntOp.andi x v reducesTo_S8x16x128_S_d0_1_2 h_S_) main_v34 main_c_9
  fn_part2 (F := F) main_arg6 main_arg7 main_arg8 main_arg9 main_v30 main_v35

def fn {F : FTy → Type} [FloatOps F] (main_arg0 : FVec F S8x32768x128 .bf16) (main_arg1 : FVec F S8x32768x128 .bf16) (main_arg2 : FVec F S8x32768x128 .bf16) (main_arg3 : FVec F S8x32768x128 .bf16) (main_arg4 : FVec F S8x128x128 .bf16) (main_arg5 : FVec F S8x128x128 .bf16) (main_arg6 : FVec F S1x64 .f32) (main_arg7 : FVec F S1x64 .f32) (main_arg8 : FVec F S1x64 .f32) (main_arg9 : FVec F S1x64 .f32) (main_arg10 : FVec F S1x128 .f32) : IVec S_ 1 :=
  let main_v0 : FVec F S8x32768x128 .f32 := (extf .f32 · bitsLt_bf16_f32) main_arg0
  let main_v1 : FVec F S8x32768x128 .f32 := Host.absf main_v0
  let main_cst : FVec F S_ .f32 := constant S_ .f32 0x7F800000#32
  let main_v2 : FVec F S8x32768x128 .f32 := broadcastInDim S8x32768x128 ![] bcast_S_S8x32768x128 main_cst
  let main_v3 : IVec S8x32768x128 1 := cmpf .olt main_v1 main_v2
  let main_c : IVec S_ 1 := constantI S_ 1 1#1
  let main_v4 : IVec S_ 1 := (fun x v => Host.reduce IntOp.andi x v reducesTo_S8x32768x128_S_d0_1_2 h_S_) main_v3 main_c
  let main_v5 : FVec F S8x16x128 .bf16 := (extractStridedSlice S8x16x128 ![0, 0, 0] · slices_S8x128x128_S8x16x128_0_0_0) main_arg4
  let main_v6 : FVec F S8x16x128 .bf16 := (extractStridedSlice S8x16x128 ![0, 0, 0] · slices_S8x128x128_S8x16x128_0_0_0) main_arg5
  let main_v7 : FVec F S8x32768x128 .f32 := (extf .f32 · bitsLt_bf16_f32) main_arg1
  let main_v8 : FVec F S8x32768x128 .f32 := Host.absf main_v7
  let main_cst_0 : FVec F S_ .f32 := constant S_ .f32 0x7F800000#32
  let main_v9 : FVec F S8x32768x128 .f32 := broadcastInDim S8x32768x128 ![] bcast_S_S8x32768x128 main_cst_0
  let main_v10 : IVec S8x32768x128 1 := cmpf .olt main_v8 main_v9
  let main_c_1 : IVec S_ 1 := constantI S_ 1 1#1
  let main_v11 : IVec S_ 1 := (fun x v => Host.reduce IntOp.andi x v reducesTo_S8x32768x128_S_d0_1_2 h_S_) main_v10 main_c_1
  let main_v12 : IVec S_ 1 := andi main_v4 main_v11
  let main_v13 : FVec F S8x32768x128 .f32 := (extf .f32 · bitsLt_bf16_f32) main_arg2
  let main_v14 : FVec F S8x32768x128 .f32 := Host.absf main_v13
  let main_cst_2 : FVec F S_ .f32 := constant S_ .f32 0x7F800000#32
  let main_v15 : FVec F S8x32768x128 .f32 := broadcastInDim S8x32768x128 ![] bcast_S_S8x32768x128 main_cst_2
  let main_v16 : IVec S8x32768x128 1 := cmpf .olt main_v14 main_v15
  let main_c_3 : IVec S_ 1 := constantI S_ 1 1#1
  let main_v17 : IVec S_ 1 := (fun x v => Host.reduce IntOp.andi x v reducesTo_S8x32768x128_S_d0_1_2 h_S_) main_v16 main_c_3
  fn_part1 (F := F) main_arg3 main_arg6 main_arg7 main_arg8 main_arg9 main_v5 main_v6 main_v12 main_v17
-- ==== Kernel.lean ====
abbrev S8x32768x128 : Shape := ⟨3, ![8, 32768, 128]⟩
abbrev S8x128x128 : Shape := ⟨3, ![8, 128, 128]⟩
abbrev S1x64 : Shape := ⟨2, ![1, 64]⟩
abbrev S1x128 : Shape := ⟨2, ![1, 128]⟩
abbrev S44 : Shape := ⟨1, ![44]⟩
abbrev S64 : Shape := ⟨1, ![64]⟩
abbrev S_ : Shape := ⟨0, ![]⟩
abbrev S128 : Shape := ⟨1, ![128]⟩
abbrev S8x512x128 : Shape := ⟨3, ![8, 512, 128]⟩
abbrev S1 : Shape := ⟨1, ![1]⟩
abbrev S16x512x128 : Shape := ⟨3, ![16, 512, 128]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S512 : Shape := ⟨1, ![512]⟩
abbrev S512x1 : Shape := ⟨2, ![512, 1]⟩
abbrev S512x512 : Shape := ⟨2, ![512, 512]⟩

abbrev nBuf : Space → Nat
  | .hbm => 30
  | .vmem => 17
  | .smem => 2
  | _ => 0

abbrev bufTy : (tb : Table) → Fin (tcTables nBuf tb) → BufTy
  | .hbm, ⟨0, _⟩ => ⟨S8x32768x128, .bf16⟩
  | .hbm, ⟨1, _⟩ => ⟨S8x32768x128, .bf16⟩
  | .hbm, ⟨2, _⟩ => ⟨S8x32768x128, .bf16⟩
  | .hbm, ⟨3, _⟩ => ⟨S8x32768x128, .bf16⟩
  | .hbm, ⟨4, _⟩ => ⟨S8x128x128, .bf16⟩
  | .hbm, ⟨5, _⟩ => ⟨S8x128x128, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S8x32768x128, .bf16⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512x128, .bf16⟩
  | .local _ .vmem, ⟨5, _⟩ => ⟨S8x512x128, .bf16⟩
  | .local _ .vmem, ⟨6, _⟩ => ⟨S8x512x128, .bf16⟩
  | .local _ .vmem, ⟨7, _⟩ => ⟨S8x512x128, .bf16⟩
  | .local _ .vmem, ⟨8, _⟩ => ⟨S8x128x128, .bf16⟩
  | .local _ .vmem, ⟨9, _⟩ => ⟨S8x128x128, .bf16⟩
  | .local _ .vmem, ⟨10, _⟩ => ⟨S1x128, .f32⟩
  | .local _ .vmem, ⟨11, _⟩ => ⟨S1x128, .f32⟩
  | .local _ .vmem, ⟨12, _⟩ => ⟨S8x512x128, .bf16⟩
  | .local _ .vmem, ⟨13, _⟩ => ⟨S8x512x128, .bf16⟩
  | .local _ .vmem, ⟨14, _⟩ => ⟨S16x512x128, .f32⟩
  | .local _ .vmem, ⟨15, _⟩ => ⟨S16x512x128, .f32⟩
  | .local _ .vmem, ⟨16, _⟩ => ⟨S16x512x128, .f32⟩
  | .local _ .smem, ⟨0, _⟩ => ⟨S44, .i32⟩
  | .local _ .smem, ⟨1, _⟩ => ⟨S44, .i32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 44], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop : Scf.Loop 32 :=
  let c0_i32_14 : BitVec 32 := 0#32
  let c8_i32 : BitVec 32 := 8#32
  let v30 : BitVec 32 := Scalar.addi c0_i32_14 c8_i32
  let c1_i32 : BitVec 32 := 1#32
  ⟨c0_i32_14, v30, c1_i32⟩
def k0_off2 (k0_t1 : Fin k0_t1_loop.trips) : Fin 3 → Nat :=
  let c0_i32_14 : BitVec 32 := 0#32
  let c1_i32 : BitVec 32 := 1#32
  let arg16 : BitVec 32 := Scf.iv c0_i32_14 c1_i32 k0_t1
  let v32 : Index := Scalar.indexCast arg16
  let c0_16 : Index := 0#32
  let c0_17 : Index := 0#32
  ![v32.toNat, 0, 0]
def k0_off3 (k0_t1 : Fin k0_t1_loop.trips) : Fin 3 → Nat :=
  let c0_i32_14 : BitVec 32 := 0#32
  let c1_i32 : BitVec 32 := 1#32
  let arg16 : BitVec 32 := Scf.iv c0_i32_14 c1_i32 k0_t1
  let v35 : Index := Scalar.indexCast arg16
  let c0_18 : Index := 0#32
  let c0_19 : Index := 0#32
  ![v35.toNat, 0, 0]
def k0_off4 (k0_t1 : Fin k0_t1_loop.trips) : Fin 3 → Nat :=
  let c2_i32 : BitVec 32 := 2#32
  let c0_i32_14 : BitVec 32 := 0#32
  let c1_i32 : BitVec 32 := 1#32
  let arg16 : BitVec 32 := Scf.iv c0_i32_14 c1_i32 k0_t1
  let v31 : BitVec 32 := Scalar.muli c2_i32 arg16
  let v44 : Index := Scalar.indexCast v31
  let c0_24 : Index := 0#32
  let c0_25 : Index := 0#32
  ![v44.toNat, 0, 0]
def k0_off5 (k0_t1 : Fin k0_t1_loop.trips) : Fin 3 → Nat :=
  let c2_i32_39 : BitVec 32 := 2#32
  let c0_i32_14 : BitVec 32 := 0#32
  let c1_i32 : BitVec 32 := 1#32
  let arg16 : BitVec 32 := Scf.iv c0_i32_14 c1_i32 k0_t1
  let v82 : BitVec 32 := Scalar.muli c2_i32_39 arg16
  let c1_i32_40 : BitVec 32 := 1#32
  let v83 : BitVec 32 := Scalar.addi v82 c1_i32_40
  let v96 : Index := Scalar.indexCast v83
  let c0_49 : Index := 0#32
  let c0_50 : Index := 0#32
  ![v96.toNat, 0, 0]
@[reducible] def k0_t2_loop : Scf.Loop 32 :=
  let c0_i32_4 : BitVec 32 := 0#32
  let c8_i32 : BitVec 32 := 8#32
  let v15 : BitVec 32 := Scalar.addi c0_i32_4 c8_i32
  let c1_i32 : BitVec 32 := 1#32
  ⟨c0_i32_4, v15, c1_i32⟩
def k0_off6 (k0_t2 : Fin k0_t2_loop.trips) : Fin 3 → Nat :=
  let c0_i32_4 : BitVec 32 := 0#32
  let c1_i32 : BitVec 32 := 1#32
  let arg16 : BitVec 32 := Scf.iv c0_i32_4 c1_i32 k0_t2
  let v17 : Index := Scalar.indexCast arg16
  let c0 : Index := 0#32
  let c0_6 : Index := 0#32
  ![v17.toNat, 0, 0]
def k0_off7 (k0_t2 : Fin k0_t2_loop.trips) : Fin 3 → Nat :=
  let c2_i32 : BitVec 32 := 2#32
  let c0_i32_4 : BitVec 32 := 0#32
  let c1_i32 : BitVec 32 := 1#32
  let arg16 : BitVec 32 := Scf.iv c0_i32_4 c1_i32 k0_t2
  let v16 : BitVec 32 := Scalar.muli c2_i32 arg16
  let v27 : Index := Scalar.indexCast v16
  let c0_11 : Index := 0#32
  let c0_12 : Index := 0#32
  ![v27.toNat, 0, 0]
def k0_off8 (k0_t2 : Fin k0_t2_loop.trips) : Fin 3 → Nat :=
  let c2_i32_26 : BitVec 32 := 2#32
  let c0_i32_4 : BitVec 32 := 0#32
  let c1_i32 : BitVec 32 := 1#32
  let arg16 : BitVec 32 := Scf.iv c0_i32_4 c1_i32 k0_t2
  let v66 : BitVec 32 := Scalar.muli c2_i32_26 arg16
  let c1_i32_27 : BitVec 32 := 1#32
  let v67 : BitVec 32 := Scalar.addi v66 c1_i32_27
  let v78 : Index := Scalar.indexCast v67
  let c0_35 : Index := 0#32
  let c0_36 : Index := 0#32
  ![v78.toNat, 0, 0]
@[reducible] def k0_t3_loop : Scf.Loop 32 :=
  let c0_i32_7 : BitVec 32 := 0#32
  let c8_i32 : BitVec 32 := 8#32
  let v24 : BitVec 32 := Scalar.addi c0_i32_7 c8_i32
  let c1_i32 : BitVec 32 := 1#32
  ⟨c0_i32_7, v24, c1_i32⟩
def k0_off9 (k0_t3 : Fin k0_t3_loop.trips) : Fin 3 → Nat :=
  let c0_i32_7 : BitVec 32 := 0#32
  let c1_i32 : BitVec 32 := 1#32
  let arg16 : BitVec 32 := Scf.iv c0_i32_7 c1_i32 k0_t3
  let v26 : Index := Scalar.indexCast arg16
  let c0_9 : Index := 0#32
  let c0_10 : Index := 0#32
  ![v26.toNat, 0, 0]
def k0_off10 (k0_t3 : Fin k0_t3_loop.trips) : Fin 3 → Nat :=
  let c2_i32 : BitVec 32 := 2#32
  let c0_i32_7 : BitVec 32 := 0#32
  let c1_i32 : BitVec 32 := 1#32
  let arg16 : BitVec 32 := Scf.iv c0_i32_7 c1_i32 k0_t3
  let v25 : BitVec 32 := Scalar.muli c2_i32 arg16
  let v38 : Index := Scalar.indexCast v25
  let c0_17 : Index := 0#32
  let c0_18 : Index := 0#32
  ![v38.toNat, 0, 0]
def k0_off11 (k0_t3 : Fin k0_t3_loop.trips) : Fin 3 → Nat :=
  let c2_i32_32 : BitVec 32 := 2#32
  let c0_i32_7 : BitVec 32 := 0#32
  let c1_i32 : BitVec 32 := 1#32
  let arg16 : BitVec 32 := Scf.iv c0_i32_7 c1_i32 k0_t3
  let v77 : BitVec 32 := Scalar.muli c2_i32_32 arg16
  let c1_i32_33 : BitVec 32 := 1#32
  let v78 : BitVec 32 := Scalar.addi v77 c1_i32_33
  let v91 : Index := Scalar.indexCast v78
  let c0_42 : Index := 0#32
  let c0_43 : Index := 0#32
  ![v91.toNat, 0, 0]
def k0_cond3 (v1 : BitVec 32) (v3 : BitVec 32) : BitVec 1 :=
  let v12 : BitVec 1 := Scalar.cmpi .eq v3 v1
  let v13 : BitVec 32 := Scalar.extui v12
  let c0_i32_3 : BitVec 32 := 0#32
  let v14 : BitVec 1 := Scalar.cmpi .ne v13 c0_i32_3
  v14

def cc0_transform_0 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S44) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_1 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S44) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_2 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S44) ![v1.toNat] S1.size (k0_off1_inb i)) numel1_S1
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  let c0_i32_2 : BitVec 32 := 0#32
  ![c0_i32_0.toNat, v4.toNat, c0_i32_1.toNat]

def cc0_transform_3 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S44) ![v1.toNat] S1.size (k0_off1_inb i)) numel1_S1
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S44) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x32768x128 : Shape := ⟨3, ![8, 32768, 128]⟩
abbrev S8x128x128 : Shape := ⟨3, ![8, 128, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x16x128 : Shape := ⟨3, ![8, 16, 128]⟩
abbrev S8x1x16x128 : Shape := ⟨4, ![8, 1, 16, 128]⟩
abbrev S8x8x16x128 : Shape := ⟨4, ![8, 8, 16, 128]⟩
abbrev S8x8x4096x128 : Shape := ⟨4, ![8, 8, 4096, 128]⟩
abbrev S8x8x4112x128 : Shape := ⟨4, ![8, 8, 4112, 128]⟩
abbrev S4096 : Shape := ⟨1, ![4096]⟩
abbrev S4112 : Shape := ⟨1, ![4112]⟩
abbrev S8x8x4096x4112 : Shape := ⟨4, ![8, 8, 4096, 4112]⟩
abbrev S1x4112 : Shape := ⟨2, ![1, 4112]⟩
abbrev S4096x1 : Shape := ⟨2, ![4096, 1]⟩
abbrev S4096x4112 : Shape := ⟨2, ![4096, 4112]⟩
abbrev S8x8x4096 : Shape := ⟨3, ![8, 8, 4096]⟩
abbrev S8x8x4096x1 : Shape := ⟨4, ![8, 8, 4096, 1]⟩
abbrev S128 : Shape := ⟨1, ![128]⟩
abbrev S1x1x1x128 : Shape := ⟨4, ![1, 1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S8x32768x128, .bf16⟩
  | .hbm, ⟨1, _⟩ => ⟨S8x32768x128, .bf16⟩
  | .hbm, ⟨2, _⟩ => ⟨S8x32768x128, .bf16⟩
  | .hbm, ⟨3, _⟩ => ⟨S8x32768x128, .bf16⟩
  | .hbm, ⟨4, _⟩ => ⟨S8x128x128, .bf16⟩
  | .hbm, ⟨5, _⟩ => ⟨S8x128x128, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x16x128, .bf16⟩
  | .hbm, ⟨27, _⟩ => ⟨S8x1x16x128, .bf16⟩
  | .hbm, ⟨28, _⟩ => ⟨S8x8x16x128, .bf16⟩
  | .hbm, ⟨29, _⟩ => ⟨S8x8x4096x128, .bf16⟩
  | .hbm, ⟨30, _⟩ => ⟨S8x8x4112x128, .bf16⟩
  | .hbm, ⟨31, _⟩ => ⟨S8x8x4112x128, .f32⟩
  | .hbm, ⟨32, _⟩ => ⟨S8x16x128, .bf16⟩
  | .hbm, ⟨33, _⟩ => ⟨S8x1x16x128, .bf16⟩
  | .hbm, ⟨34, _⟩ => ⟨S8x8x16x128, .bf16⟩
  | .hbm, ⟨35, _⟩ => ⟨S8x8x4096x128, .bf16⟩
  | .hbm, ⟨36, _⟩ => ⟨S8x8x4112x128, .bf16⟩
  | .hbm, ⟨37, _⟩ => ⟨S8x8x4112x128, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4112, .i32⟩
  | .hbm, ⟨43, _⟩ => ⟨S8x8x4096x128, .bf16⟩
  | .hbm, ⟨44, _⟩ => ⟨S8x8x4096x128, .f32⟩
  | .hbm, ⟨45, _⟩ => ⟨S8x8x4096x4112, .f32⟩
  | .hbm, ⟨46, _⟩ => ⟨S1x4112, .i32⟩
  | .hbm, ⟨47, _⟩ => ⟨S4096x1, .i32⟩
  | .hbm, ⟨48, _⟩ => ⟨S4096x4112, .i32⟩
  | .hbm, ⟨49, _⟩ => ⟨S4096x4112, .i32⟩
  | .hbm, ⟨50, _⟩ => ⟨S4096x4112, .i1⟩
  | .hbm, ⟨51, _⟩ => ⟨S_, .f32⟩
  | .hbm, ⟨52, _⟩ => ⟨S_, .f32⟩
  | .hbm, ⟨53, _⟩ => ⟨S8x8x4096x4112, .i1⟩
  | .hbm, ⟨54, _⟩ => ⟨S8x8x4096x4112, .f32⟩
  | .hbm, ⟨55, _⟩ => ⟨S8x8x4096x4112, .f32⟩
  | .hbm, ⟨56, _⟩ => ⟨S_, .f32⟩
  | .hbm, ⟨57, _⟩ => ⟨S8x8x4096, .f32⟩
  | .hbm, ⟨58, _⟩ => ⟨S_, .f32⟩
  | .hbm, ⟨59, _⟩ => ⟨S8x8x4096, .f32⟩
  | .hbm, ⟨60, _⟩ => ⟨S8x8x4096, .f32⟩
  | .hbm, ⟨61, _⟩ => ⟨S8x8x4096x1, .f32⟩
  | .hbm, ⟨62, _⟩ => ⟨S8x8x4096x4112, .f32⟩
  | .hbm, ⟨63, _⟩ => ⟨S8x8x4096x4112, .f32⟩
  | .hbm, ⟨64, _⟩ => ⟨S8x8x4096x4112, .f32⟩
  | .hbm, ⟨65, _⟩ => ⟨S_, .f32⟩
  | .hbm, ⟨66, _⟩ => ⟨S8x8x4096, .f32⟩
  | .hbm, ⟨67, _⟩ => ⟨S8x8x4096x1, .f32⟩
  | .hbm, ⟨68, _⟩ => ⟨S8x8x4096x4112, .f32⟩
  | .hbm, ⟨69, _⟩ => ⟨S8x8x4096x4112, .f32⟩
  | .hbm, ⟨70, _⟩ => ⟨S8x8x4096x128, .bf16⟩
  | .hbm, ⟨71, _⟩ => ⟨S8x8x4096x128, .f32⟩
  | .hbm, ⟨72, _⟩ => ⟨S8x8x4096x4112, .f32⟩
  | .hbm, ⟨73, _⟩ => ⟨S1x4112, .i32⟩
  | .hbm, ⟨74, _⟩ => ⟨S4096x1, .i32⟩
  | .hbm, ⟨75, _⟩ => ⟨S4096x4112, .i32⟩
  | .hbm, ⟨76, _⟩ => ⟨S4096x4112, .i32⟩
  | .hbm, ⟨77, _⟩ => ⟨S4096x4112, .i1⟩
  | .hbm, ⟨78, _⟩ => ⟨S_, .f32⟩
  | .hbm, ⟨79, _⟩ => ⟨S_, .f32⟩
  | .hbm, ⟨80, _⟩ => ⟨S8x8x4096x4112, .i1⟩
  | .hbm, ⟨81, _⟩ => ⟨S8x8x4096x4112, .f32⟩
  | .hbm, ⟨82, _⟩ => ⟨S8x8x4096x4112, .f32⟩
  | .hbm, ⟨83, _⟩ => ⟨S_, .f32⟩
  | .hbm, ⟨84, _⟩ => ⟨S8x8x4096, .f32⟩
  | .hbm, ⟨85, _⟩ => ⟨S_, .f32⟩
  | .hbm, ⟨86, _⟩ => ⟨S8x8x4096, .f32⟩
  | .hbm, ⟨87, _⟩ => ⟨S8x8x4096, .f32⟩
  | .hbm, ⟨88, _⟩ => ⟨S8x8x4096x1, .f32⟩
  | .hbm, ⟨89, _⟩ => ⟨S8x8x4096x4112, .f32⟩
  | .hbm, ⟨90, _⟩ => ⟨S8x8x4096x4112, .f32⟩
  | .hbm, ⟨91, _⟩ => ⟨S8x8x4096x4112, .f32⟩
  | .hbm, ⟨92, _⟩ => ⟨S_, .f32⟩
  | .hbm, ⟨93, _⟩ => ⟨S8x8x4096, .f32⟩
  | .hbm, ⟨94, _⟩ => ⟨S8x8x4096x1, .f32⟩
  | .hbm, ⟨95, _⟩ => ⟨S8x8x4096x4112, .f32⟩
  | .hbm, ⟨96, _⟩ => ⟨S8x8x4096x4112, .f32⟩
  | .hbm, ⟨97, _⟩ => ⟨S8x8x4096x4112, .f32⟩
  | .hbm, ⟨98, _⟩ => ⟨S8x8x4096x4112, .f32⟩
  | .hbm, ⟨99, _⟩ => ⟨S8x8x4096x4112, .f32⟩
  | .hbm, ⟨100, _⟩ => ⟨S8x8x4096x128, .f32⟩
  | .hbm, ⟨101, _⟩ => ⟨S128, .f32⟩
  | .hbm, ⟨102, _⟩ => ⟨S8x8x4096x128, .f32⟩
  | .hbm, ⟨103, _⟩ => ⟨S_, .f32⟩
  | .hbm, ⟨104, _⟩ => ⟨S8x8x4096, .f32⟩
  | .hbm, ⟨105, _⟩ => ⟨S8x8x4096x1, .f32⟩
  | .hbm, ⟨106, _⟩ => ⟨S_, .f32⟩
  | .hbm, ⟨107, _⟩ => ⟨S8x8x4096x1, .f32⟩
  | .hbm, ⟨108, _⟩ => ⟨S8x8x4096x1, .f32⟩
  | .hbm, ⟨109, _⟩ => ⟨S_, .f32⟩
  | .hbm, ⟨110, _⟩ => ⟨S8x8x4096x1, .f32⟩
  | .hbm, ⟨111, _⟩ => ⟨S8x8x4096x1, .f32⟩
  | .hbm, ⟨112, _⟩ => ⟨S8x8x4096x1, .f32⟩
  | .hbm, ⟨113, _⟩ => ⟨S8x8x4096x128, .f32⟩
  | .hbm, ⟨114, _⟩ => ⟨S8x8x4096x128, .f32⟩
  | .hbm, ⟨115, _⟩ => ⟨S1x1x1x128, .f32⟩
  | .hbm, ⟨116, _⟩ => ⟨S8x8x4096x128, .f32⟩
  | .hbm, ⟨117, _⟩ => ⟨S8x8x4096x128, .f32⟩
  | .hbm, ⟨118, _⟩ => ⟨S_, .f32⟩
  | .hbm, ⟨119, _⟩ => ⟨S8x8x4096x128, .f32⟩
  | .hbm, ⟨120, _⟩ => ⟨S8x8x4096x128, .f32⟩
  | .hbm, ⟨121, _⟩ => ⟨S8x32768x128, .f32⟩
  | .hbm, ⟨122, _⟩ => ⟨S8x32768x128, .bf16⟩
  | _, _ => ⟨S8x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_cst_11 : Ref sig .tc := ⟨.hbm, 106, rfl⟩
abbrev main_v76 : Ref sig .tc := ⟨.hbm, 107, rfl⟩
abbrev main_v77 : Ref sig .tc := ⟨.hbm, 108, rfl⟩
abbrev main_cst_12 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_13 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024x9224 : Shape := ⟨3, ![1, 1024, 9224]⟩
abbrev S1x9224 : Shape := ⟨2, ![1, 9224]⟩
abbrev S1024x9224 : Shape := ⟨2, ![1024, 9224]⟩
abbrev S9224 : Shape := ⟨1, ![9224]⟩
abbrev S1024x4096 : Shape := ⟨2, ![1024, 4096]⟩
abbrev S4096 : Shape := ⟨1, ![4096]⟩
abbrev S1x4096 : Shape := ⟨2, ![1, 4096]⟩
abbrev S32768x1024 : Shape := ⟨2, ![32768, 1024]⟩
abbrev S32768x2048 : Shape := ⟨2, ![32768, 2048]⟩
abbrev S512x1024 : Shape := ⟨2, ![512, 1024]⟩
abbrev S512x2048 : Shape := ⟨2, ![512, 2048]⟩
abbrev S1024x2048 : Shape := ⟨2, ![1024, 2048]⟩
abbrev S1x2048 : Shape := ⟨2, ![1, 2048]⟩
abbrev S1024x1024 : Shape := ⟨2, ![1024, 1024]⟩
abbrev S1x1024 : Shape := ⟨2, ![1, 1024]⟩
abbrev S8x4096x2048 : Shape := ⟨3, ![8, 4096, 2048]⟩
abbrev S8x3x2048 : Shape := ⟨3, ![8, 3, 2048]⟩
abbrev S1x8x3x2048 : Shape := ⟨4, ![1, 8, 3, 2048]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S9224, .f32⟩
  | .hbm, ⟨5, _⟩ => ⟨S1024x4096, .f32⟩
  | .hbm, ⟨6, _⟩ => ⟨S1024x4096, .bf16⟩
  | .hbm, ⟨7, _⟩ => ⟨S4096, .f32⟩
  | .hbm, ⟨8, _⟩ => ⟨S1x4096, .f32⟩
  | .hbm, ⟨9, _⟩ => ⟨S32768x1024, .f32⟩
  | .hbm, ⟨10, _⟩ => ⟨S32768x1024, .bf16⟩
  | .hbm, ⟨11, _⟩ => ⟨S32768x2048, .f32⟩
  | .hbm, ⟨12, _⟩ => ⟨S32768x1024, .bf16⟩
  | .hbm, ⟨13, _⟩ => ⟨S32768x1024, .bf16⟩
  | .hbm, ⟨14, _⟩ => ⟨S8x4096x2048, .f32⟩
  | .hbm, ⟨15, _⟩ => ⟨S8x3x2048, .f32⟩
  | .hbm, ⟨16, _⟩ => ⟨S1x8x3x2048, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1x4096, .f32⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1x1024x9224 : Shape := ⟨3, ![1, 1024, 9224]⟩
abbrev S1x9224 : Shape := ⟨2, ![1, 9224]⟩
abbrev S1024x9224 : Shape := ⟨2, ![1024, 9224]⟩
abbrev S8x4096x9224 : Shape := ⟨3, ![8, 4096, 9224]⟩
abbrev S9224 : Shape := ⟨1, ![9224]⟩
abbrev S1x1x9224 : Shape := ⟨3, ![1, 1, 9224]⟩
abbrev S32768x9224 : Shape := ⟨2, ![32768, 9224]⟩
abbrev S32768x2048 : Shape := ⟨2, ![32768, 2048]⟩
abbrev S32768x1024 : Shape := ⟨2, ![32768, 1024]⟩
abbrev S8x3x2048 : Shape := ⟨3, ![8, 3, 2048]⟩
abbrev S1x8x3x2048 : Shape := ⟨4, ![1, 8, 3, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S8x4096x9224, .f32⟩
  | .hbm, ⟨5, _⟩ => ⟨S9224, .f32⟩
  | .hbm, ⟨6, _⟩ => ⟨S1x1x9224, .f32⟩
  | .hbm, ⟨7, _⟩ => ⟨S8x4096x9224, .f32⟩
  | .hbm, ⟨8, _⟩ => ⟨S8x4096x9224, .f32⟩
  | .hbm, ⟨9, _⟩ => ⟨S32768x9224, .f32⟩
  | .hbm, ⟨10, _⟩ => ⟨S32768x2048, .f32⟩
  | .hbm, ⟨11, _⟩ => ⟨S32768x1024, .f32⟩
  | .hbm, ⟨12, _⟩ => ⟨S32768x1024, .f32⟩
  | .hbm, ⟨13, _⟩ => ⟨S32768x1024, .bf16⟩
  | .hbm, ⟨14, _⟩ => ⟨S32768x1024, .bf16⟩
  | .hbm, ⟨15, _⟩ => ⟨S8x3x2048, .f32⟩
  | .hbm, ⟨16, _⟩ => ⟨S1x8x3x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024x9224 : Shape := ⟨3, ![1, 1024, 9224]⟩
abbrev S1x9224 : Shape := ⟨2, ![1, 9224]⟩
abbrev S1024x9224 : Shape := ⟨2, ![1024, 9224]⟩
abbrev S9224 : Shape := ⟨1, ![9224]⟩
abbrev S1024x2048 : Shape := ⟨2, ![1024, 2048]⟩
abbrev S2048 : Shape := ⟨1, ![2048]⟩
abbrev S1x2048 : Shape := ⟨2, ![1, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S9224, .f32⟩
  | .hbm, ⟨5, _⟩ => ⟨S1024x2048, .f32⟩
  | .hbm, ⟨6, _⟩ => ⟨S1024x2048, .bf16⟩
  | .hbm, ⟨7, _⟩ => ⟨S2048, .f32⟩
  | .hbm, ⟨8, _⟩ => ⟨S1x2048, .f32⟩
  | .hbm, ⟨9, _⟩ => ⟨S32768x1024, .f32⟩
  | .hbm, ⟨10, _⟩ => ⟨S32768x1024, .bf16⟩
  | .hbm, ⟨11, _⟩ => ⟨S32768x1024, .bf16⟩
  | .hbm, ⟨12, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x4096x1024 : Shape := ⟨3, ![8, 4096, 1024]⟩
abbrev S1x1024x9224 : Shape := ⟨3, ![1, 1024, 9224]⟩
abbrev S1x9224 : Shape := ⟨2, ![1, 9224]⟩
abbrev S1024x9224 : Shape := ⟨2, ![1024, 9224]⟩
abbrev S8x4096x9224 : Shape := ⟨3, ![8, 4096, 9224]⟩
abbrev S9224 : Shape := ⟨1, ![9224]⟩
abbrev S1x1x9224 : Shape := ⟨3, ![1, 1, 9224]⟩
abbrev S32768x9224 : Shape := ⟨2, ![32768, 9224]⟩
abbrev S32768x1024 : Shape := ⟨2, ![32768, 1024]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S8x4096x9224, .f32⟩
  | .hbm, ⟨5, _⟩ => ⟨S9224, .f32⟩
  | .hbm, ⟨6, _⟩ => ⟨S1x1x9224, .f32⟩
  | .hbm, ⟨7, _⟩ => ⟨S8x4096x9224, .f32⟩
  | .hbm, ⟨8, _⟩ => ⟨S8x4096x9224, .f32⟩
  | .hbm, ⟨9, _⟩ => ⟨S32768x9224, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .bf16⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel4.lean ====
abbrev S8x4096x1024 : Shape := ⟨3, ![8, 4096, 1024]⟩
abbrev S16x1024 : Shape := ⟨2, ![16, 1024]⟩
abbrev S1x1024x9224 : Shape := ⟨3, ![1, 1024, 9224]⟩
abbrev S1x9224 : Shape := ⟨2, ![1, 9224]⟩
abbrev S1024x9224 : Shape := ⟨2, ![1024, 9224]⟩
abbrev S9224 : Shape := ⟨1, ![9224]⟩
abbrev S1024x3072 : Shape := ⟨2, ![1024, 3072]⟩
abbrev S3072 : Shape := ⟨1, ![3072]⟩
abbrev S1x3072 : Shape := ⟨2, ![1, 3072]⟩
abbrev S32768x1024 : Shape := ⟨2, ![32768, 1024]⟩
abbrev S_ : Shape := ⟨0, ![]⟩
abbrev S128x1024 : Shape := ⟨2, ![128, 1024]⟩
abbrev S1 : Shape := ⟨1, ![1]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S128x1 : Shape := ⟨2, ![128, 1]⟩
abbrev S128x8 : Shape := ⟨2, ![128, 8]⟩
abbrev S128x48 : Shape := ⟨2, ![128, 48]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S8x32768x128 : Shape := ⟨3, ![8, 32768, 128]⟩
abbrev S512x1024 : Shape := ⟨2, ![512, 1024]⟩
abbrev S512x128 : Shape := ⟨2, ![512, 128]⟩
abbrev S8x512x128 : Shape := ⟨3, ![8, 512, 128]⟩
abbrev S1024x1024 : Shape := ⟨2, ![1024, 1024]⟩
abbrev S1x1024 : Shape := ⟨2, ![1, 1024]⟩
abbrev S1x512x128 : Shape := ⟨3, ![1, 512, 128]⟩
abbrev S8x128x128 : Shape := ⟨3, ![8, 128, 128]⟩
abbrev S1x128x128 : Shape := ⟨3, ![1, 128, 128]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S1x8x4112x8x128 : Shape := ⟨5, ![1, 8, 4112, 8, 128]⟩

abbrev nBuf : Space → Nat
  | .hbm => 111
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1x1024x9224, .f32⟩
  | .hbm, ⟨3, _⟩ => ⟨S1x9224, .f32⟩
  | .hbm, ⟨4, _⟩ => ⟨S1024x9224, .f32⟩
  | .hbm, ⟨5, _⟩ => ⟨S9224, .f32⟩
  | .hbm, ⟨6, _⟩ => ⟨S1024x3072, .f32⟩
  | .hbm, ⟨7, _⟩ => ⟨S1024x3072, .bf16⟩
  | .hbm, ⟨8, _⟩ => ⟨S3072, .f32⟩
  | .hbm, ⟨9, _⟩ => ⟨S1x3072, .f32⟩
  | .hbm, ⟨10, _⟩ => ⟨S32768x1024, .f32⟩
  | .hbm, ⟨11, _⟩ => ⟨S_, .f32⟩
  | .hbm, ⟨12, _⟩ => ⟨S128x1024, .f32⟩
  | .hbm, ⟨13, _⟩ => ⟨S_, .i32⟩
  | .hbm, ⟨14, _⟩ => ⟨S1, .i32⟩
  | .hbm, ⟨15, _⟩ => ⟨S128x1024, .f32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S4096, .f32⟩
  | .hbm, ⟨32, _⟩ => ⟨S4096x1, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096x48, .f32⟩
  | .hbm, ⟨41, _⟩ => ⟨S4096x64, .f32⟩
  | .hbm, ⟨42, _⟩ => ⟨S4096x8, .f32⟩
  | .hbm, ⟨43, _⟩ => ⟨S_, .f32⟩
  | .hbm, ⟨44, _⟩ => ⟨S4096x48, .f32⟩
  | .hbm, ⟨45, _⟩ => ⟨S4096x64, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S128, .i32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S128, .f32⟩
  | .hbm, ⟨65, _⟩ => ⟨S128x1, .f32⟩
  | .hbm, ⟨66, _⟩ => ⟨S1x8, .f32⟩
  | .hbm, ⟨67, _⟩ => ⟨S128x8, .f32⟩
  | .hbm, ⟨68, _⟩ => ⟨S128x8, .f32⟩
  | .hbm, ⟨69, _⟩ => ⟨S128x8, .f32⟩
  | .hbm, ⟨70, _⟩ => ⟨S128x8, .f32⟩
  | .hbm, ⟨71, _⟩ => ⟨S128x8, .f32⟩
  | .hbm, ⟨72, _⟩ => ⟨S_, .f32⟩
  | .hbm, ⟨73, _⟩ => ⟨S128x48, .f32⟩
  | .hbm, ⟨74, _⟩ => ⟨S128x64, .f32⟩
  | .hbm, ⟨75, _⟩ => ⟨S128x8, .f32⟩
  | .hbm, ⟨76, _⟩ => ⟨S_, .f32⟩
  | .hbm, ⟨77, _⟩ => ⟨S128x48, .f32⟩
  | .hbm, ⟨78, _⟩ => ⟨S128x64, .f32⟩
  | .hbm, ⟨79, _⟩ => ⟨S1x128x1x64, .f32⟩
  | .hbm, ⟨80, _⟩ => ⟨S1x128x2x64, .f32⟩
  | .hbm, ⟨81, _⟩ => ⟨S128x128, .f32⟩
  | .hbm, ⟨82, _⟩ => ⟨S1x128x1x64, .f32⟩
  | .hbm, ⟨83, _⟩ => ⟨S1x128x2x64, .f32⟩
  | .hbm, ⟨84, _⟩ => ⟨S128x128, .f32⟩
  | .hbm, ⟨85, _⟩ => ⟨S32768x1024, .bf16⟩
  | .hbm, ⟨86, _⟩ => ⟨S8x32768x128, .bf16⟩
  | .hbm, ⟨87, _⟩ => ⟨S8x32768x128, .bf16⟩
  | .hbm, ⟨88, _⟩ => ⟨S32768x1024, .f32⟩
  | .hbm, ⟨89, _⟩ => ⟨S8x32768x128, .bf16⟩
  | .hbm, ⟨90, _⟩ => ⟨S32768x1024, .f32⟩
  | .hbm, ⟨91, _⟩ => ⟨S8x32768x128, .bf16⟩
  | .hbm, ⟨92, _⟩ => ⟨S128x1024, .bf16⟩
  | .hbm, ⟨93, _⟩ => ⟨S8x128x128, .bf16⟩
  | .hbm, ⟨94, _⟩ => ⟨S8x128x128, .bf16⟩
  | .hbm, ⟨95, _⟩ => ⟨S128x1024, .f32⟩
  | .hbm, ⟨96, _⟩ => ⟨S8x128x128, .bf16⟩
  | .hbm, ⟨97, _⟩ => ⟨S128x1024, .f32⟩
  | .hbm, ⟨98, _⟩ => ⟨S8x128x128, .bf16⟩
  | .hbm, ⟨99, _⟩ => ⟨S16x1024, .f32⟩
  | .hbm, ⟨100, _⟩ => ⟨S1x16x1024, .f32⟩
  | .hbm, ⟨101, _⟩ => ⟨S8x16x1024, .f32⟩
  | .hbm, ⟨102, _⟩ => ⟨S8x4096x1024, .f32⟩
  | .hbm, ⟨103, _⟩ => ⟨S8x4112x1024, .f32⟩
  | .hbm, ⟨104, _⟩ => ⟨S1x8x4112x8x128, .f32⟩
  | .hbm, ⟨105, _⟩ => ⟨S16x1024, .f32⟩
  | .hbm, ⟨106, _⟩ => ⟨S1x16x1024, .f32⟩
  | .hbm, ⟨107, _⟩ => ⟨S8x16x1024, .f32⟩
  | .hbm, ⟨108, _⟩ => ⟨S8x4096x1024, .f32⟩
  | .hbm, ⟨109, _⟩ => ⟨S8x4112x1024, .f32⟩
  | .hbm, ⟨110, _⟩ => ⟨S1x8x4112x8x128, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S8x512x128, .bf16⟩
  | .local _ .vmem, ⟨9, _⟩ => ⟨S8x512x128, .bf16⟩
  | .local _ .vmem, ⟨10, _⟩ => ⟨S8x512x128, .bf16⟩
  | .local _ .vmem, ⟨11, _⟩ => ⟨S8x512x128, .bf16⟩
  | .local _ .vmem, ⟨12, _⟩ => ⟨S512x1024, .f32⟩
  | .local _ .vmem, ⟨13, _⟩ => ⟨S512x1024, .f32⟩
  | .local _ .vmem, ⟨14, _⟩ => ⟨S8x512x128, .bf16⟩
  | .local _ .vmem, ⟨15, _⟩ => ⟨S8x512x128, .bf16⟩
  | .local _ .vmem, ⟨16, _⟩ => ⟨S512x1024, .f32⟩
  | .local _ .vmem, ⟨17, _⟩ => ⟨S512x1024, .f32⟩
  | .local _ .vmem, ⟨18, _⟩ => ⟨S8x512x128, .bf16⟩
  | .local _ .vmem, ⟨19, _⟩ => ⟨S8x512x128, .bf16⟩
  | .local _ .vmem, ⟨20, _⟩ => ⟨S128x1024, .bf16⟩
  | .local _ .vmem, ⟨21, _⟩ => ⟨S1024x3072, .bf16⟩
  | .local _ .vmem, ⟨22, _⟩ => ⟨S1x3072, .f32⟩
  | .local _ .vmem, ⟨23, _⟩ => ⟨S128x128, .f32⟩
  | .local _ .vmem, ⟨24, _⟩ => ⟨S128x128, .f32⟩
  | .local _ .vmem, ⟨25, _⟩ => ⟨S8x128x128, .bf16⟩
  | .local _ .vmem, ⟨26, _⟩ => ⟨S8x128x128, .bf16⟩
  | .local _ .vmem, ⟨27, _⟩ => ⟨S128x1024, .f32⟩
  | .local _ .vmem, ⟨28, _⟩ => ⟨S8x128x128, .bf16⟩
  | .local _ .vmem, ⟨29, _⟩ => ⟨S128x1024, .f32⟩
  | .local _ .vmem, ⟨30, _⟩ => ⟨S8x128x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69_0 : Ref sig .tc := ⟨.hbm, 86, rfl⟩
abbrev main_v69_1 : Ref sig .tc := ⟨.hbm, 87, rfl⟩
abbrev main_v69_2 : Ref sig .tc := ⟨.hbm, 88, rfl⟩
abbrev main_v69_3 : Ref sig .tc := ⟨.hbm, 89, rfl⟩
abbrev main_v69_4 : Ref sig .tc := ⟨.hbm, 90, rfl⟩
abbrev main_v69_5 : Ref sig .tc := ⟨.hbm, 91, rfl⟩
abbrev main_v70 : Ref sig .tc := ⟨.hbm, 92, rfl⟩
abbrev main_v71_0 : Ref sig .tc := ⟨.hbm, 93, rfl⟩
abbrev main_v71_1 : Ref sig .tc := ⟨.hbm, 94, rfl⟩
abbrev main_v71_2 : Ref sig .tc := ⟨.hbm, 95, rfl⟩
abbrev main_v71_3 : Ref sig .tc := ⟨.hbm, 96, rfl⟩
abbrev main_v71_4 : Ref sig .tc := ⟨.hbm, 97, rfl⟩
abbrev main_v71_5 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S8x128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev stage1_8 : Fin 1 → Memref sig .tc .vmem S8x128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true]

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true]

abbrev stage1_10 : Fin 1 → Memref sig .tc .vmem S8x128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]
-- ==== Reference4Ideal.lean ====
abbrev S8x4096x1024 : Shape := ⟨3, ![8, 4096, 1024]⟩
abbrev S16x1024 : Shape := ⟨2, ![16, 1024]⟩
abbrev S1x1024x9224 : Shape := ⟨3, ![1, 1024, 9224]⟩
abbrev S1x9224 : Shape := ⟨2, ![1, 9224]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S1024x9224 : Shape := ⟨2, ![1024, 9224]⟩
abbrev S8x4112x9224 : Shape := ⟨3, ![8, 4112, 9224]⟩
abbrev S9224 : Shape := ⟨1, ![9224]⟩
abbrev S1x1x9224 : Shape := ⟨3, ![1, 1, 9224]⟩
abbrev S4112 : Shape := ⟨1, ![4112]⟩
abbrev S8x4112x8x2x64 : Shape := ⟨5, ![8, 4112, 8, 2, 64]⟩
abbrev S8 : Shape := ⟨1, ![8]⟩
abbrev S_ : Shape := ⟨0, ![]⟩
abbrev S4112x1 : Shape := ⟨2, ![4112, 1]⟩
abbrev S1x8 : Shape := ⟨2, ![1, 8]⟩
abbrev S4112x8 : Shape := ⟨2, ![4112, 8]⟩
abbrev S4112x1x1x8 : Shape := ⟨4, ![4112, 1, 1, 8]⟩
abbrev S8x4112x8x2x8 : Shape := ⟨5, ![8, 4112, 8, 2, 8]⟩
abbrev S1x4112x1x1x8 : Shape := ⟨5, ![1, 4112, 1, 1, 8]⟩
abbrev S8x4112x8x2x48 : Shape := ⟨5, ![8, 4112, 8, 2, 48]⟩
abbrev S8x4112x8x128 : Shape := ⟨4, ![8, 4112, 8, 128]⟩
abbrev S8x4096x8x2x64 : Shape := ⟨5, ![8, 4096, 8, 2, 64]⟩
abbrev S8x4096x8x1x64 : Shape := ⟨5, ![8, 4096, 8, 1, 64]⟩
abbrev S8x4096x8x64 : Shape := ⟨4, ![8, 4096, 8, 64]⟩
abbrev S8x4096x8x128 : Shape := ⟨4, ![8, 4096, 8, 128]⟩
abbrev S8x8x4096x128 : Shape := ⟨4, ![8, 8, 4096, 128]⟩
abbrev S8x32768x128 : Shape := ⟨3, ![8, 32768, 128]⟩
abbrev S1x8x4112x8x128 : Shape := ⟨5, ![1, 8, 4112, 8, 128]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1x1024x9224, .f32⟩
  | .hbm, ⟨3, _⟩ => ⟨S1x9224, .f32⟩
  | .hbm, ⟨4, _⟩ => ⟨S1x16x1024, .f32⟩
  | .hbm, ⟨5, _⟩ => ⟨S8x16x1024, .f32⟩
  | .hbm, ⟨6, _⟩ => ⟨S8x4112x1024, .f32⟩
  | .hbm, ⟨7, _⟩ => ⟨S1024x9224, .f32⟩
  | .hbm, ⟨8, _⟩ => ⟨S8x4112x9224, .f32⟩
  | .hbm, ⟨9, _⟩ => ⟨S9224, .f32⟩
  | .hbm, ⟨10, _⟩ => ⟨S1x1x9224, .f32⟩
  | .hbm, ⟨11, _⟩ => ⟨S8x4112x9224, .f32⟩
  | .hbm, ⟨12, _⟩ => ⟨S8x4112x9224, .f32⟩
  | .hbm, ⟨13, _⟩ => ⟨S4112, .i32⟩
  | .hbm, ⟨14, _⟩ => ⟨S8x4112x1024, .f32⟩
  | .hbm, ⟨15, _⟩ => ⟨S8x4112x8x2x64, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S4112, .f32⟩
  | .hbm, ⟨28, _⟩ => ⟨S4112x1, .f32⟩
  | .hbm, ⟨29, _⟩ => ⟨S1x8, .f32⟩
  | .hbm, ⟨30, _⟩ => ⟨S4112x8, .f32⟩
  | .hbm, ⟨31, _⟩ => ⟨S4112x8, .f32⟩
  | .hbm, ⟨32, _⟩ => ⟨S4112x8, .f32⟩
  | .hbm, ⟨33, _⟩ => ⟨S4112x8, .f32⟩
  | .hbm, ⟨34, _⟩ => ⟨S4112x1x1x8, .f32⟩
  | .hbm, ⟨35, _⟩ => ⟨S4112x8, .f32⟩
  | .hbm, ⟨36, _⟩ => ⟨S4112x1x1x8, .f32⟩
  | .hbm, ⟨37, _⟩ => ⟨S8x4112x8x2x8, .f32⟩
  | .hbm, ⟨38, _⟩ => ⟨S8x4112x8x2x8, .f32⟩
  | .hbm, ⟨39, _⟩ => ⟨S1x4112x1x1x8, .f32⟩
  | .hbm, ⟨40, _⟩ => ⟨S8x4112x8x2x8, .f32⟩
  | .hbm, ⟨41, _⟩ => ⟨S8x4112x8x2x8, .f32⟩
  | .hbm, ⟨42, _⟩ => ⟨S1x4112x1x1x8, .f32⟩
  | .hbm, ⟨43, _⟩ => ⟨S8x4112x8x2x8, .f32⟩
  | .hbm, ⟨44, _⟩ => ⟨S8x4112x8x2x8, .f32⟩
  | .hbm, ⟨45, _⟩ => ⟨S8x4112x8x2x8, .f32⟩
  | .hbm, ⟨46, _⟩ => ⟨S1x4112x1x1x8, .f32⟩
  | .hbm, ⟨47, _⟩ => ⟨S8x4112x8x2x8, .f32⟩
  | .hbm, ⟨48, _⟩ => ⟨S8x4112x8x2x8, .f32⟩
  | .hbm, ⟨49, _⟩ => ⟨S1x4112x1x1x8, .f32⟩
  | .hbm, ⟨50, _⟩ => ⟨S8x4112x8x2x8, .f32⟩
  | .hbm, ⟨51, _⟩ => ⟨S8x4112x8x2x8, .f32⟩
  | .hbm, ⟨52, _⟩ => ⟨S8x4112x8x2x8, .f32⟩
  | .hbm, ⟨53, _⟩ => ⟨S8x4112x8x2x48, .f32⟩
  | .hbm, ⟨54, _⟩ => ⟨S8x4112x8x2x64, .f32⟩
  | .hbm, ⟨55, _⟩ => ⟨S8x4112x1024, .f32⟩
  | .hbm, ⟨56, _⟩ => ⟨S8x4112x8x2x64, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S4112, .f32⟩
  | .hbm, ⟨69, _⟩ => ⟨S4112x1, .f32⟩
  | .hbm, ⟨70, _⟩ => ⟨S1x8, .f32⟩
  | .hbm, ⟨71, _⟩ => ⟨S4112x8, .f32⟩
  | .hbm, ⟨72, _⟩ => ⟨S4112x8, .f32⟩
  | .hbm, ⟨73, _⟩ => ⟨S4112x8, .f32⟩
  | .hbm, ⟨74, _⟩ => ⟨S4112x8, .f32⟩
  | .hbm, ⟨75, _⟩ => ⟨S4112x1x1x8, .f32⟩
  | .hbm, ⟨76, _⟩ => ⟨S4112x8, .f32⟩
  | .hbm, ⟨77, _⟩ => ⟨S4112x1x1x8, .f32⟩
  | .hbm, ⟨78, _⟩ => ⟨S8x4112x8x2x8, .f32⟩
  | .hbm, ⟨79, _⟩ => ⟨S8x4112x8x2x8, .f32⟩
  | .hbm, ⟨80, _⟩ => ⟨S1x4112x1x1x8, .f32⟩
  | .hbm, ⟨81, _⟩ => ⟨S8x4112x8x2x8, .f32⟩
  | .hbm, ⟨82, _⟩ => ⟨S8x4112x8x2x8, .f32⟩
  | .hbm, ⟨83, _⟩ => ⟨S1x4112x1x1x8, .f32⟩
  | .hbm, ⟨84, _⟩ => ⟨S8x4112x8x2x8, .f32⟩
  | .hbm, ⟨85, _⟩ => ⟨S8x4112x8x2x8, .f32⟩
  | .hbm, ⟨86, _⟩ => ⟨S8x4112x8x2x8, .f32⟩
  | .hbm, ⟨87, _⟩ => ⟨S1x4112x1x1x8, .f32⟩
  | .hbm, ⟨88, _⟩ => ⟨S8x4112x8x2x8, .f32⟩
  | .hbm, ⟨89, _⟩ => ⟨S8x4112x8x2x8, .f32⟩
  | .hbm, ⟨90, _⟩ => ⟨S1x4112x1x1x8, .f32⟩
  | .hbm, ⟨91, _⟩ => ⟨S8x4112x8x2x8, .f32⟩
  | .hbm, ⟨92, _⟩ => ⟨S8x4112x8x2x8, .f32⟩
  | .hbm, ⟨93, _⟩ => ⟨S8x4112x8x2x8, .f32⟩
  | .hbm, ⟨94, _⟩ => ⟨S8x4112x8x2x48, .f32⟩
  | .hbm, ⟨95, _⟩ => ⟨S8x4112x8x2x64, .f32⟩
  | .hbm, ⟨96, _⟩ => ⟨S8x4112x8x128, .f32⟩
  | .hbm, ⟨97, _⟩ => ⟨S8x4112x1024, .f32⟩
  | .hbm, ⟨98, _⟩ => ⟨S8x4112x8x128, .f32⟩
  | .hbm, ⟨99, _⟩ => ⟨S8x4096x8x2x64, .f32⟩
  | .hbm, ⟨100, _⟩ => ⟨S_, .f32⟩
  | .hbm, ⟨101, _⟩ => ⟨S8x4096x8x2x64, .f32⟩
  | .hbm, ⟨102, _⟩ => ⟨S8x4096x8x2x64, .f32⟩
  | .hbm, ⟨103, _⟩ => ⟨S8x4096x8x1x64, .f32⟩
  | .hbm, ⟨104, _⟩ => ⟨S8x4096x8x64, .f32⟩
  | .hbm, ⟨105, _⟩ => ⟨S_, .f32⟩
  | .hbm, ⟨106, _⟩ => ⟨S8x4096x8x64, .f32⟩
  | .hbm, ⟨107, _⟩ => ⟨S8x4096x8x1x64, .f32⟩
  | .hbm, ⟨108, _⟩ => ⟨S8x4096x8x64, .f32⟩
  | .hbm, ⟨109, _⟩ => ⟨S8x4096x8x128, .f32⟩
  | .hbm, ⟨110, _⟩ => ⟨S8x4096x8x1x64, .f32⟩
  | .hbm, ⟨111, _⟩ => ⟨S8x4096x8x64, .f32⟩
  | .hbm, ⟨112, _⟩ => ⟨S8x4096x8x128, .f32⟩
  | .hbm, ⟨113, _⟩ => ⟨S8x8x4096x128, .f32⟩
  | .hbm, ⟨114, _⟩ => ⟨S8x32768x128, .f32⟩
  | .hbm, ⟨115, _⟩ => ⟨S8x32768x128, .bf16⟩
  | .hbm, ⟨116, _⟩ => ⟨S8x8x4096x128, .f32⟩
  | .hbm, ⟨117, _⟩ => ⟨S8x32768x128, .f32⟩
  | .hbm, ⟨118, _⟩ => ⟨S8x32768x128, .bf16⟩
  | .hbm, ⟨119, _⟩ => ⟨S1x8x4112x8x128, .f32⟩
  | .hbm, ⟨120, _⟩ => ⟨S1x8x4112x8x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_2 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_5 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_6 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩

abbrev nD : Nat := 1
abbrev τ : Topo := Topo.v7x

variable {F : FTy → Type} [FloatOps F]
-- ==== Kernel5.lean ====
abbrev S32x8x1024 : Shape := ⟨3, ![32, 8, 1024]⟩
abbrev S1x1024x9224 : Shape := ⟨3, ![1, 1024, 9224]⟩
abbrev S1x9224 : Shape := ⟨2, ![1, 9224]⟩
abbrev S1024x9224 : Shape := ⟨2, ![1024, 9224]⟩
abbrev S9224 : Shape := ⟨1, ![9224]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S256x1 : Shape := ⟨2, ![256, 1]⟩
abbrev S256x8 : Shape := ⟨2, ![256, 8]⟩
abbrev S256x48 : Shape := ⟨2, ![256, 48]⟩
abbrev S256x64 : Shape := ⟨2, ![256, 64]⟩
abbrev S1x256x1x64 : Shape := ⟨4, ![1, 256, 1, 64]⟩
abbrev S1x256x2x64 : Shape := ⟨4, ![1, 256, 2, 64]⟩
abbrev S256x128 : Shape := ⟨2, ![256, 128]⟩
abbrev S8x256x128 : Shape := ⟨3, ![8, 256, 128]⟩
abbrev S1024x1024 : Shape := ⟨2, ![1024, 1024]⟩
abbrev S1x1024 : Shape := ⟨2, ![1, 1024]⟩
abbrev S1x256x128 : Shape := ⟨3, ![1, 256, 128]⟩

abbrev nBuf : Space → Nat
  | .hbm => 56
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S9224, .f32⟩
  | .hbm, ⟨5, _⟩ => ⟨S1024x3072, .f32⟩
  | .hbm, ⟨6, _⟩ => ⟨S1024x3072, .bf16⟩
  | .hbm, ⟨7, _⟩ => ⟨S3072, .f32⟩
  | .hbm, ⟨8, _⟩ => ⟨S1x3072, .f32⟩
  | .hbm, ⟨9, _⟩ => ⟨S256x1024, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S1x8, .i32⟩
  | .hbm, ⟨15, _⟩ => ⟨S32x8, .i32⟩
  | .hbm, ⟨16, _⟩ => ⟨S256, .i32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S256, .f32⟩
  | .hbm, ⟨29, _⟩ => ⟨S256x1, .f32⟩
  | .hbm, ⟨30, _⟩ => ⟨S1x8, .f32⟩
  | .hbm, ⟨31, _⟩ => ⟨S256x8, .f32⟩
  | .hbm, ⟨32, _⟩ => ⟨S256x8, .f32⟩
  | .hbm, ⟨33, _⟩ => ⟨S256x8, .f32⟩
  | .hbm, ⟨34, _⟩ => ⟨S256x8, .f32⟩
  | .hbm, ⟨35, _⟩ => ⟨S256x8, .f32⟩
  | .hbm, ⟨36, _⟩ => ⟨S_, .f32⟩
  | .hbm, ⟨37, _⟩ => ⟨S256x48, .f32⟩
  | .hbm, ⟨38, _⟩ => ⟨S256x64, .f32⟩
  | .hbm, ⟨39, _⟩ => ⟨S256x8, .f32⟩
  | .hbm, ⟨40, _⟩ => ⟨S_, .f32⟩
  | .hbm, ⟨41, _⟩ => ⟨S256x48, .f32⟩
  | .hbm, ⟨42, _⟩ => ⟨S256x64, .f32⟩
  | .hbm, ⟨43, _⟩ => ⟨S1x256x1x64, .f32⟩
  | .hbm, ⟨44, _⟩ => ⟨S1x256x2x64, .f32⟩
  | .hbm, ⟨45, _⟩ => ⟨S256x128, .f32⟩
  | .hbm, ⟨46, _⟩ => ⟨S1x256x1x64, .f32⟩
  | .hbm, ⟨47, _⟩ => ⟨S1x256x2x64, .f32⟩
  | .hbm, ⟨48, _⟩ => ⟨S256x128, .f32⟩
  | .hbm, ⟨49, _⟩ => ⟨S256x1024, .bf16⟩
  | .hbm, ⟨50, _⟩ => ⟨S8x256x128, .bf16⟩
  | .hbm, ⟨51, _⟩ => ⟨S8x256x128, .bf16⟩
  | .hbm, ⟨52, _⟩ => ⟨S256x1024, .f32⟩
  | .hbm, ⟨53, _⟩ => ⟨S8x256x128, .bf16⟩
  | .hbm, ⟨54, _⟩ => ⟨S256x1024, .f32⟩
  | .hbm, ⟨55, _⟩ => ⟨S8x256x128, .bf16⟩
  | .local _ .vmem, ⟨0, _⟩ => ⟨S256x1024, .bf16⟩
  | .local _ .vmem, ⟨1, _⟩ => ⟨S1024x3072, .bf16⟩
  | .local _ .vmem, ⟨2, _⟩ => ⟨S1x3072, .f32⟩
  | .local _ .vmem, ⟨3, _⟩ => ⟨S256x128, .f32⟩
  | .local _ .vmem, ⟨4, _⟩ => ⟨S256x128, .f32⟩
  | .local _ .vmem, ⟨5, _⟩ => ⟨S8x256x128, .bf16⟩
  | .local _ .vmem, ⟨6, _⟩ => ⟨S8x256x128, .bf16⟩
  | .local _ .vmem, ⟨7, _⟩ => ⟨S256x1024, .f32⟩
  | .local _ .vmem, ⟨8, _⟩ => ⟨S8x256x128, .bf16⟩
  | .local _ .vmem, ⟨9, _⟩ => ⟨S256x1024, .f32⟩
  | .local _ .vmem, ⟨10, _⟩ => ⟨S8x256x128, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev main_v41_2 : Ref sig .tc := ⟨.hbm, 52, rfl⟩
abbrev main_v41_3 : Ref sig .tc := ⟨.hbm, 53, rfl⟩
abbrev main_v41_4 : Ref sig .tc := ⟨.hbm, 54, rfl⟩
abbrev main_v41_5 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S8x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference5Ideal.lean ====
abbrev S32x8x1024 : Shape := ⟨3, ![32, 8, 1024]⟩
abbrev S1x1024x9224 : Shape := ⟨3, ![1, 1024, 9224]⟩
abbrev S1x9224 : Shape := ⟨2, ![1, 9224]⟩
abbrev S1024x9224 : Shape := ⟨2, ![1024, 9224]⟩
abbrev S32x8x9224 : Shape := ⟨3, ![32, 8, 9224]⟩
abbrev S9224 : Shape := ⟨1, ![9224]⟩
abbrev S1x1x9224 : Shape := ⟨3, ![1, 1, 9224]⟩
abbrev S8 : Shape := ⟨1, ![8]⟩
abbrev S_ : Shape := ⟨0, ![]⟩
abbrev S32x8x8x2x64 : Shape := ⟨5, ![32, 8, 8, 2, 64]⟩
abbrev S8x1 : Shape := ⟨2, ![8, 1]⟩
abbrev S1x8 : Shape := ⟨2, ![1, 8]⟩
abbrev S8x8 : Shape := ⟨2, ![8, 8]⟩
abbrev S8x1x1x8 : Shape := ⟨4, ![8, 1, 1, 8]⟩
abbrev S32x8x8x2x8 : Shape := ⟨5, ![32, 8, 8, 2, 8]⟩
abbrev S1x8x1x1x8 : Shape := ⟨5, ![1, 8, 1, 1, 8]⟩
abbrev S32x8x8x2x48 : Shape := ⟨5, ![32, 8, 8, 2, 48]⟩
abbrev S32x8x8x128 : Shape := ⟨4, ![32, 8, 8, 128]⟩
abbrev S32x8x8x1x64 : Shape := ⟨5, ![32, 8, 8, 1, 64]⟩
abbrev S32x8x8x64 : Shape := ⟨4, ![32, 8, 8, 64]⟩
abbrev S8x32x8x128 : Shape := ⟨4, ![8, 32, 8, 128]⟩
abbrev S8x256x128 : Shape := ⟨3, ![8, 256, 128]⟩
abbrev S256x1024 : Shape := ⟨2, ![256, 1024]⟩

abbrev nBuf : Space → Nat
  | .hbm => 119
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S32x8x9224, .f32⟩
  | .hbm, ⟨5, _⟩ => ⟨S9224, .f32⟩
  | .hbm, ⟨6, _⟩ => ⟨S1x1x9224, .f32⟩
  | .hbm, ⟨7, _⟩ => ⟨S32x8x9224, .f32⟩
  | .hbm, ⟨8, _⟩ => ⟨S32x8x9224, .f32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S32x8x1024, .f32⟩
  | .hbm, ⟨14, _⟩ => ⟨S32x8x8x2x64, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S8x1, .f32⟩
  | .hbm, ⟨28, _⟩ => ⟨S1x8, .f32⟩
  | .hbm, ⟨29, _⟩ => ⟨S8x8, .f32⟩
  | .hbm, ⟨30, _⟩ => ⟨S8x8, .f32⟩
  | .hbm, ⟨31, _⟩ => ⟨S8x8, .f32⟩
  | .hbm, ⟨32, _⟩ => ⟨S8x8, .f32⟩
  | .hbm, ⟨33, _⟩ => ⟨S8x1x1x8, .f32⟩
  | .hbm, ⟨34, _⟩ => ⟨S8x8, .f32⟩
  | .hbm, ⟨35, _⟩ => ⟨S8x1x1x8, .f32⟩
  | .hbm, ⟨36, _⟩ => ⟨S32x8x8x2x8, .f32⟩
  | .hbm, ⟨37, _⟩ => ⟨S32x8x8x2x8, .f32⟩
  | .hbm, ⟨38, _⟩ => ⟨S1x8x1x1x8, .f32⟩
  | .hbm, ⟨39, _⟩ => ⟨S32x8x8x2x8, .f32⟩
  | .hbm, ⟨40, _⟩ => ⟨S32x8x8x2x8, .f32⟩
  | .hbm, ⟨41, _⟩ => ⟨S1x8x1x1x8, .f32⟩
  | .hbm, ⟨42, _⟩ => ⟨S32x8x8x2x8, .f32⟩
  | .hbm, ⟨43, _⟩ => ⟨S32x8x8x2x8, .f32⟩
  | .hbm, ⟨44, _⟩ => ⟨S32x8x8x2x8, .f32⟩
  | .hbm, ⟨45, _⟩ => ⟨S1x8x1x1x8, .f32⟩
  | .hbm, ⟨46, _⟩ => ⟨S32x8x8x2x8, .f32⟩
  | .hbm, ⟨47, _⟩ => ⟨S32x8x8x2x8, .f32⟩
  | .hbm, ⟨48, _⟩ => ⟨S1x8x1x1x8, .f32⟩
  | .hbm, ⟨49, _⟩ => ⟨S32x8x8x2x8, .f32⟩
  | .hbm, ⟨50, _⟩ => ⟨S32x8x8x2x8, .f32⟩
  | .hbm, ⟨51, _⟩ => ⟨S32x8x8x2x8, .f32⟩
  | .hbm, ⟨52, _⟩ => ⟨S32x8x8x2x48, .f32⟩
  | .hbm, ⟨53, _⟩ => ⟨S32x8x8x2x64, .f32⟩
  | .hbm, ⟨54, _⟩ => ⟨S32x8x1024, .f32⟩
  | .hbm, ⟨55, _⟩ => ⟨S32x8x8x2x64, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S8x1, .f32⟩
  | .hbm, ⟨69, _⟩ => ⟨S1x8, .f32⟩
  | .hbm, ⟨70, _⟩ => ⟨S8x8, .f32⟩
  | .hbm, ⟨71, _⟩ => ⟨S8x8, .f32⟩
  | .hbm, ⟨72, _⟩ => ⟨S8x8, .f32⟩
  | .hbm, ⟨73, _⟩ => ⟨S8x8, .f32⟩
  | .hbm, ⟨74, _⟩ => ⟨S8x1x1x8, .f32⟩
  | .hbm, ⟨75, _⟩ => ⟨S8x8, .f32⟩
  | .hbm, ⟨76, _⟩ => ⟨S8x1x1x8, .f32⟩
  | .hbm, ⟨77, _⟩ => ⟨S32x8x8x2x8, .f32⟩
  | .hbm, ⟨78, _⟩ => ⟨S32x8x8x2x8, .f32⟩
  | .hbm, ⟨79, _⟩ => ⟨S1x8x1x1x8, .f32⟩
  | .hbm, ⟨80, _⟩ => ⟨S32x8x8x2x8, .f32⟩
  | .hbm, ⟨81, _⟩ => ⟨S32x8x8x2x8, .f32⟩
  | .hbm, ⟨82, _⟩ => ⟨S1x8x1x1x8, .f32⟩
  | .hbm, ⟨83, _⟩ => ⟨S32x8x8x2x8, .f32⟩
  | .hbm, ⟨84, _⟩ => ⟨S32x8x8x2x8, .f32⟩
  | .hbm, ⟨85, _⟩ => ⟨S32x8x8x2x8, .f32⟩
  | .hbm, ⟨86, _⟩ => ⟨S1x8x1x1x8, .f32⟩
  | .hbm, ⟨87, _⟩ => ⟨S32x8x8x2x8, .f32⟩
  | .hbm, ⟨88, _⟩ => ⟨S32x8x8x2x8, .f32⟩
  | .hbm, ⟨89, _⟩ => ⟨S1x8x1x1x8, .f32⟩
  | .hbm, ⟨90, _⟩ => ⟨S32x8x8x2x8, .f32⟩
  | .hbm, ⟨91, _⟩ => ⟨S32x8x8x2x8, .f32⟩
  | .hbm, ⟨92, _⟩ => ⟨S32x8x8x2x8, .f32⟩
  | .hbm, ⟨93, _⟩ => ⟨S32x8x8x2x48, .f32⟩
  | .hbm, ⟨94, _⟩ => ⟨S32x8x8x2x64, .f32⟩
  | .hbm, ⟨95, _⟩ => ⟨S32x8x8x128, .f32⟩
  | .hbm, ⟨96, _⟩ => ⟨S32x8x1024, .f32⟩
  | .hbm, ⟨97, _⟩ => ⟨S32x8x8x128, .f32⟩
  | .hbm, ⟨98, _⟩ => ⟨S_, .f32⟩
  | .hbm, ⟨99, _⟩ => ⟨S32x8x8x2x64, .f32⟩
  | .hbm, ⟨100, _⟩ => ⟨S32x8x8x2x64, .f32⟩
  | .hbm, ⟨101, _⟩ => ⟨S32x8x8x1x64, .f32⟩
  | .hbm, ⟨102, _⟩ => ⟨S32x8x8x64, .f32⟩
  | .hbm, ⟨103, _⟩ => ⟨S_, .f32⟩
  | .hbm, ⟨104, _⟩ => ⟨S32x8x8x64, .f32⟩
  | .hbm, ⟨105, _⟩ => ⟨S32x8x8x1x64, .f32⟩
  | .hbm, ⟨106, _⟩ => ⟨S32x8x8x64, .f32⟩
  | .hbm, ⟨107, _⟩ => ⟨S32x8x8x128, .f32⟩
  | .hbm, ⟨108, _⟩ => ⟨S32x8x8x1x64, .f32⟩
  | .hbm, ⟨109, _⟩ => ⟨S32x8x8x64, .f32⟩
  | .hbm, ⟨110, _⟩ => ⟨S32x8x8x128, .f32⟩
  | .hbm, ⟨111, _⟩ => ⟨S8x32x8x128, .f32⟩
  | .hbm, ⟨112, _⟩ => ⟨S8x256x128, .f32⟩
  | .hbm, ⟨113, _⟩ => ⟨S8x256x128, .bf16⟩
  | .hbm, ⟨114, _⟩ => ⟨S8x32x8x128, .f32⟩
  | .hbm, ⟨115, _⟩ => ⟨S8x256x128, .f32⟩
  | .hbm, ⟨116, _⟩ => ⟨S8x256x128, .bf16⟩
  | .hbm, ⟨117, _⟩ => ⟨S256x1024, .f32⟩
  | .hbm, ⟨118, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_5 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_6 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩

abbrev nD : Nat := 1
abbrev τ : Topo := Topo.v7x

variable {F : FTy → Type} [FloatOps F]
-- ==== Kernel6.lean ====
abbrev S32x8x1024 : Shape := ⟨3, ![32, 8, 1024]⟩
abbrev S1x1024x9224 : Shape := ⟨3, ![1, 1024, 9224]⟩
abbrev S1x9224 : Shape := ⟨2, ![1, 9224]⟩
abbrev S1024x9224 : Shape := ⟨2, ![1024, 9224]⟩
abbrev S9224 : Shape := ⟨1, ![9224]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S1024x2048 : Shape := ⟨2, ![1024, 2048]⟩
abbrev S1x2048 : Shape := ⟨2, ![1, 2048]⟩
abbrev S1024x1024 : Shape := ⟨2, ![1024, 1024]⟩
abbrev S1x1024 : Shape := ⟨2, ![1, 1024]⟩
abbrev S32x8x2048 : Shape := ⟨3, ![32, 8, 2048]⟩
abbrev S32x3x2048 : Shape := ⟨3, ![32, 3, 2048]⟩
abbrev S1x32x3x2048 : Shape := ⟨4, ![1, 32, 3, 2048]⟩

abbrev nBuf : Space → Nat
  | .hbm => 17
  | .vmem => 6
  | .smem => 0
  | _ => 0

abbrev bufTy : (tb : Table) → Fin (tcTables nBuf tb) → BufTy
  | .hbm, ⟨0, _⟩ => ⟨S32x8x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S9224, .f32⟩
  | .hbm, ⟨5, _⟩ => ⟨S1024x4096, .f32⟩
  | .hbm, ⟨6, _⟩ => ⟨S1024x4096, .bf16⟩
  | .hbm, ⟨7, _⟩ => ⟨S4096, .f32⟩
  | .hbm, ⟨8, _⟩ => ⟨S1x4096, .f32⟩
  | .hbm, ⟨9, _⟩ => ⟨S256x1024, .f32⟩
  | .hbm, ⟨10, _⟩ => ⟨S256x1024, .bf16⟩
  | .hbm, ⟨11, _⟩ => ⟨S256x2048, .f32⟩
  | .hbm, ⟨12, _⟩ => ⟨S256x1024, .bf16⟩
  | .hbm, ⟨13, _⟩ => ⟨S256x1024, .bf16⟩
  | .hbm, ⟨14, _⟩ => ⟨S32x8x2048, .f32⟩
  | .hbm, ⟨15, _⟩ => ⟨S32x3x2048, .f32⟩
  | .hbm, ⟨16, _⟩ => ⟨S1x32x3x2048, .f32⟩
  | .local _ .vmem, ⟨0, _⟩ => ⟨S256x1024, .bf16⟩
  | .local _ .vmem, ⟨1, _⟩ => ⟨S1024x4096, .bf16⟩
  | .local _ .vmem, ⟨2, _⟩ => ⟨S1x4096, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference6Ideal.lean ====
abbrev S32x8x1024 : Shape := ⟨3, ![32, 8, 1024]⟩
abbrev S1x1024x9224 : Shape := ⟨3, ![1, 1024, 9224]⟩
abbrev S1x9224 : Shape := ⟨2, ![1, 9224]⟩
abbrev S1024x9224 : Shape := ⟨2, ![1024, 9224]⟩
abbrev S32x8x9224 : Shape := ⟨3, ![32, 8, 9224]⟩
abbrev S9224 : Shape := ⟨1, ![9224]⟩
abbrev S1x1x9224 : Shape := ⟨3, ![1, 1, 9224]⟩
abbrev S256x9224 : Shape := ⟨2, ![256, 9224]⟩
abbrev S256x2048 : Shape := ⟨2, ![256, 2048]⟩
abbrev S256x1024 : Shape := ⟨2, ![256, 1024]⟩
abbrev S32x3x2048 : Shape := ⟨3, ![32, 3, 2048]⟩
abbrev S1x32x3x2048 : Shape := ⟨4, ![1, 32, 3, 2048]⟩

abbrev nBuf : Space → Nat
  | .hbm => 17
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x9224, .f32⟩
  | .hbm, ⟨2, _⟩ => ⟨S1x9224, .f32⟩
  | .hbm, ⟨3, _⟩ => ⟨S1024x9224, .f32⟩
  | .hbm, ⟨4, _⟩ => ⟨S32x8x9224, .f32⟩
  | .hbm, ⟨5, _⟩ => ⟨S9224, .f32⟩
  | .hbm, ⟨6, _⟩ => ⟨S1x1x9224, .f32⟩
  | .hbm, ⟨7, _⟩ => ⟨S32x8x9224, .f32⟩
  | .hbm, ⟨8, _⟩ => ⟨S32x8x9224, .f32⟩
  | .hbm, ⟨9, _⟩ => ⟨S256x9224, .f32⟩
  | .hbm, ⟨10, _⟩ => ⟨S256x2048, .f32⟩
  | .hbm, ⟨11, _⟩ => ⟨S256x1024, .f32⟩
  | .hbm, ⟨12, _⟩ => ⟨S256x1024, .f32⟩
  | .hbm, ⟨13, _⟩ => ⟨S256x1024, .bf16⟩
  | .hbm, ⟨14, _⟩ => ⟨S256x1024, .bf16⟩
  | .hbm, ⟨15, _⟩ => ⟨S32x3x2048, .f32⟩
  | .hbm, ⟨16, _⟩ => ⟨S1x32x3x2048, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S32768x1024 : Shape := ⟨2, ![32768, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x1024 : Shape := ⟨2, ![256, 1024]⟩
abbrev S1024 : Shape := ⟨1, ![1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .f32⟩
  | .hbm, ⟨3, _⟩ => ⟨S1x1024x256, .f32⟩
  | .hbm, ⟨4, _⟩ => ⟨S1x1024x256, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S1024x256, .f32⟩
  | .hbm, ⟨9, _⟩ => ⟨S1024x256, .bf16⟩
  | .hbm, ⟨10, _⟩ => ⟨S1024x256, .f32⟩
  | .hbm, ⟨11, _⟩ => ⟨S1024x256, .bf16⟩
  | .hbm, ⟨12, _⟩ => ⟨S256x1024, .f32⟩
  | .hbm, ⟨13, _⟩ => ⟨S256x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S32768x1024 : Shape := ⟨2, ![32768, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x1024 : Shape := ⟨2, ![256, 1024]⟩
abbrev S32768x256 : Shape := ⟨2, ![32768, 256]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .f32⟩
  | .hbm, ⟨3, _⟩ => ⟨S1x1024x256, .f32⟩
  | .hbm, ⟨4, _⟩ => ⟨S1x1024x256, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S_, .f32⟩
  | .hbm, ⟨16, _⟩ => ⟨S32768x256, .f32⟩
  | .hbm, ⟨17, _⟩ => ⟨S32768x256, .f32⟩
  | .hbm, ⟨18, _⟩ => ⟨S_, .f32⟩
  | .hbm, ⟨19, _⟩ => ⟨S32768x256, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Kernel8.lean ====
abbrev S256x1024 : Shape := ⟨2, ![256, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S1024 : Shape := ⟨1, ![1024]⟩
abbrev S256x256 : Shape := ⟨2, ![256, 256]⟩
abbrev S256 : Shape := ⟨1, ![256]⟩
abbrev S256x1 : Shape := ⟨2, ![256, 1]⟩

abbrev nBuf : Space → Nat
  | .hbm => 19
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S256x1024, .f32⟩
  | .hbm, ⟨3, _⟩ => ⟨S1x1024x256, .f32⟩
  | .hbm, ⟨4, _⟩ => ⟨S1x1024x256, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S1024x256, .f32⟩
  | .hbm, ⟨9, _⟩ => ⟨S1024x256, .bf16⟩
  | .hbm, ⟨10, _⟩ => ⟨S1024x256, .f32⟩
  | .hbm, ⟨11, _⟩ => ⟨S1024x256, .bf16⟩
  | .hbm, ⟨12, _⟩ => ⟨S256x1024, .f32⟩
  | .hbm, ⟨13, _⟩ => ⟨S256x1024, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S256x1024, .f32⟩
  | .local _ .vmem, ⟨0, _⟩ => ⟨S256x1024, .f32⟩
  | .local _ .vmem, ⟨1, _⟩ => ⟨S256x1024, .bf16⟩
  | .local _ .vmem, ⟨2, _⟩ => ⟨S256x1024, .f32⟩
  | .local _ .vmem, ⟨3, _⟩ => ⟨S1024x256, .bf16⟩
  | .local _ .vmem, ⟨4, _⟩ => ⟨S1024x256, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S256x1024 : Shape := ⟨2, ![256, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x256 : Shape := ⟨2, ![256, 256]⟩
abbrev S_ : Shape := ⟨0, ![]⟩
abbrev S1024 : Shape := ⟨1, ![1024]⟩
abbrev S256 : Shape := ⟨1, ![256]⟩
abbrev S256x1 : Shape := ⟨2, ![256, 1]⟩

abbrev nBuf : Space → Nat
  | .hbm => 61
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S256x1024, .f32⟩
  | .hbm, ⟨3, _⟩ => ⟨S1x1024x256, .f32⟩
  | .hbm, ⟨4, _⟩ => ⟨S1x1024x256, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S256x1024, .f32⟩
  | .hbm, ⟨9, _⟩ => ⟨S1024x256, .f32⟩
  | .hbm, ⟨10, _⟩ => ⟨S1024x256, .f32⟩
  | .hbm, ⟨11, _⟩ => ⟨S256x1024, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1, .f32⟩
  | .hbm, ⟨51, _⟩ => ⟨S256x1, .f32⟩
  | .hbm, ⟨52, _⟩ => ⟨S256x1, .f32⟩
  | .hbm, ⟨53, _⟩ => ⟨S256x1024, .f32⟩
  | .hbm, ⟨54, _⟩ => ⟨S256x1024, .f32⟩
  | .hbm, ⟨55, _⟩ => ⟨S1x1024, .f32⟩
  | .hbm, ⟨56, _⟩ => ⟨S256x1024, .f32⟩
  | .hbm, ⟨57, _⟩ => ⟨S256x1024, .f32⟩
  | .hbm, ⟨58, _⟩ => ⟨S1x1024, .f32⟩
  | .hbm, ⟨59, _⟩ => ⟨S256x1024, .f32⟩
  | .hbm, ⟨60, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.MixValue.lean ====
/-
The in-projection's mLSTM columns of the prompt (`Kernel2Ideal`): each of the three result arrays of the launch is, entry by
entry, the reference's slice of `x · W + b`, and so are the last three rows of every sequence.
-/
module

public import proofs.«01_k».proof.Proof.Gen.Kernel2Ideal.Frame
public import proofs.«01_k».proof.Proof.Gen.Reference2Ideal
public import proofs.«01_k».proof.Proof.Gen.Reference2Ideal.Run
public import Idealize.ShloMosaic.Lib.Pipeline.ValueKit
public import Idealize.ShloMosaic.Lib.StableHlo.RunRead

@[expose] public section

set_option maxRecDepth 16384

noncomputable section

namespace Cert.Kernel2Ideal.Mix

open Idealize.ShloMosaic Idealize.ShloMosaic.StableHlo Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The reference's `x · W + b`. -/
abbrev whole (X : FVec Ideal Cert.Reference2Ideal.S8x4096x1024 .f32) (W : FVec Ideal Cert.Reference2Ideal.S1x1024x9224 .f32)
    (Bi : FVec Ideal Cert.Reference2Ideal.S1x9224 .f32) : FVec Ideal Cert.Reference2Ideal.S8x4096x9224 .f32 :=
  addf (Host.dotGeneral Cert.Reference2Ideal.dot_S8x4096x1024_S1024x9224_S8x4096x9224_2_0_01_1_n_n none X
      (shapeCast _ W Cert.Reference2Ideal.Gen.shapeCasts_S1x1024x9224_S1024x9224))
    (broadcastInDim Cert.Reference2Ideal.S8x4096x9224 ![0, 1, 2] Cert.Reference2Ideal.Gen.bcast_S1x1x9224_S8x4096x9224_0_1_2
      (broadcastInDim Cert.Reference2Ideal.S1x1x9224 ![2] Cert.Reference2Ideal.Gen.bcast_S9224_S1x1x9224_2
        (shapeCast _ Bi Cert.Reference2Ideal.Gen.shapeCasts_S1x9224_S9224)))

/-- The same, one row per token. -/
abbrev proj (X : FVec Ideal Cert.Reference2Ideal.S8x4096x1024 .f32) (W : FVec Ideal Cert.Reference2Ideal.S1x1024x9224 .f32)
    (Bi : FVec Ideal Cert.Reference2Ideal.S1x9224 .f32) : FVec Ideal Cert.Reference2Ideal.S32768x9224 .f32 :=
  shapeCast _ (whole X W Bi) Cert.Reference2Ideal.Gen.shapeCasts_S8x4096x9224_S32768x9224

/-- The reference's fourth result: the last three rows of every sequence, columns 3072 to 5120. -/
abbrev refConv (X : FVec Ideal Cert.Reference2Ideal.S8x4096x1024 .f32) (W : FVec Ideal Cert.Reference2Ideal.S1x1024x9224 .f32)
    (Bi : FVec Ideal Cert.Reference2Ideal.S1x9224 .f32) : FVec Ideal Cert.Reference2Ideal.S1x8x3x2048 .f32 :=
  broadcastInDim Cert.Reference2Ideal.S1x8x3x2048 ![1, 2, 3] Cert.Reference2Ideal.Gen.bcast_S8x3x2048_S1x8x3x2048_1_2_3
    (extractStridedSlice Cert.Reference2Ideal.S8x3x2048 ![0, 4093, 3072] (whole X W Bi)
      Cert.Reference2Ideal.Gen.slices_S8x4096x9224_S8x3x2048_0_4093_3072)

/-- The reference's first result: columns 3072 to 5120. -/
abbrev refQk (X : FVec Ideal Cert.Reference2Ideal.S8x4096x1024 .f32) (W : FVec Ideal Cert.Reference2Ideal.S1x1024x9224 .f32)
    (Bi : FVec Ideal Cert.Reference2Ideal.S1x9224 .f32) : FVec Ideal Cert.Reference2Ideal.S32768x2048 .f32 :=
  extractStridedSlice Cert.Reference2Ideal.S32768x2048 ![0, 3072] (proj X W Bi)
    Cert.Reference2Ideal.Gen.slices_S32768x9224_S32768x2048_0_3072

/-- Every window's block index at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The tokens, as launched. -/
abbrev argX (c : Dev nD) : FVec Ideal S8x4096x1024 .f32 := m ((c : Thread nD τ).loc main_arg0)
/-- The weights, as launched. -/
abbrev argW (c : Dev nD) : FVec Ideal S1x1024x9224 .f32 := m ((c : Thread nD τ).loc main_arg1)
/-- The bias, as launched. -/
abbrev argB (c : Dev nD) : FVec Ideal S1x9224 .f32 := m ((c : Thread nD τ).loc main_arg2)

/-- The tokens' array the launch reads is the argument, one row per token. -/
theorem entryX (c : Dev nD) : (V m c main_v7 : FVec Ideal S32768x1024 .bf16)
    = truncf (F := Ideal) .bf16 (shapeCast S32768x1024 (argX m c) shapeCasts_S8x4096x1024_S32768x1024) bitsLt_bf16_f32 := by
  entry_read <;> rfl

/-- The weight columns the launch reads. -/
theorem entryW (c : Dev nD) : (V m c main_v3 : FVec Ideal S1024x4096 .bf16)
    = truncf (F := Ideal) .bf16 (extractStridedSlice S1024x4096 ![0, 3072] (shapeCast S1024x9224 (argW m c) shapeCasts_S1x1024x9224_S1024x9224) slices_S1024x9224_S1024x4096_0_3072) bitsLt_bf16_f32 := by
  entry_read <;> rfl

/-- The bias columns the launch reads, as one row. -/
theorem entryB (c : Dev nD) : (V m c main_v5 : FVec Ideal S1x4096 .f32)
    = broadcastInDim S1x4096 ![1] bcast_S4096_S1x4096_1 (extractStridedSlice S4096 ![3072] (shapeCast S9224 (argB m c) shapeCasts_S1x9224_S9224) slices_S9224_S4096_3072) := by
  entry_read <;> rfl

/-- Point `t`'s block of tokens, at an entry. -/
theorem blockX (c : Dev nD) (t : Fin cfg0.N) (a : Fin 512) (x : Fin 1024) (h1 : (t.val * 512 + a.val) / 4096 < 8)
    (h2 : (t.val * 512 + a.val) % 4096 < 4096) :
    iblk m c 0 t (ix2 a x) = argX m c
      (ix3 ⟨(t.val * 512 + a.val) / 4096, h1⟩ ⟨(t.val * 512 + a.val) % 4096, h2⟩ x) := by
  blk_simp [iblk]
  refine (congrFun (entryX m c) _).trans ?_
  pointwise
  blk_ext [idx t]

/-- The block of weight columns, at an entry. -/
theorem blockW (c : Dev nD) (t : Fin cfg0.N) (x : Fin 1024) (b : Fin 4096) (h : 3072 + b.val < 9224) :
    iblk m c 1 t (ix2 x b) = argW m c (ix3 0 x ⟨3072 + b.val, h⟩) := by
  blk_simp [iblk]
  refine (congrFun (entryW m c) _).trans ?_
  pointwise
  blk_ext [idx t]

/-- The block of bias columns, at an entry. -/
theorem blockB (c : Dev nD) (t : Fin cfg0.N) (b : Fin 4096) (h : 3072 + b.val < 9224) :
    iblk m c 2 t (ix2 0 b) = argB m c (ix2 0 ⟨3072 + b.val, h⟩) := by
  blk_simp [iblk]
  refine (congrFun (entryB m c) _).trans ?_
  pointwise
  blk_ext [idx t]

/-- The reference's second result: columns 5120 to 6144, rounded. -/
abbrev refV (X : FVec Ideal Cert.Reference2Ideal.S8x4096x1024 .f32) (W : FVec Ideal Cert.Reference2Ideal.S1x1024x9224 .f32)
    (Bi : FVec Ideal Cert.Reference2Ideal.S1x9224 .f32) : FVec Ideal Cert.Reference2Ideal.S32768x1024 .bf16 :=
  truncf .bf16 (extractStridedSlice Cert.Reference2Ideal.S32768x1024 ![0, 5120] (proj X W Bi)
    Cert.Reference2Ideal.Gen.slices_S32768x9224_S32768x1024_0_5120) Cert.Reference2Ideal.Gen.bitsLt_bf16_f32

/-- The reference's third result: columns 6144 to 7168, rounded. -/
abbrev refOm (X : FVec Ideal Cert.Reference2Ideal.S8x4096x1024 .f32) (W : FVec Ideal Cert.Reference2Ideal.S1x1024x9224 .f32)
    (Bi : FVec Ideal Cert.Reference2Ideal.S1x9224 .f32) : FVec Ideal Cert.Reference2Ideal.S32768x1024 .bf16 :=
  truncf .bf16 (extractStridedSlice Cert.Reference2Ideal.S32768x1024 ![0, 6144] (proj X W Bi)
    Cert.Reference2Ideal.Gen.slices_S32768x9224_S32768x1024_0_6144) Cert.Reference2Ideal.Gen.bitsLt_bf16_f32

/-- What a point stores at an entry of its query-key block is the reference's first result there. -/
theorem pointQk (c : Dev nD) (t : Fin cfg0.N) (y : S512x2048.Idx) :
    k0_pay2 (iblk m c 0 t) (View.ld (iblk m c 1 t) r0_1) (View.ld (iblk m c 2 t) r0_2) y
    = refQk (argX m c) (argW m c) (argB m c) (((cfg0.win 3).blk t).view.emb y) := by
  have ht : t.val < 64 := t.isLt
  have h0 : (y 0).val < 512 := (y 0).isLt
  have h1 : (y 1).val < 2048 := (y 1).isLt
  pointwise [k0_pay1, k0_pay2, refQk, proj, whole]
  refine congrArg₂ (· + ·) (Finset.sum_congr rfl fun x _ => congrArg₂ (· * ·) ?_ ?_) ?_
  · exact (blockX m c t (y 0) x (by omega) (by omega)).trans (by blk_ext [idx t])
  · exact (blockW m c t x _ (show 3072 + ((y 1).val) < 9224 by omega)).trans (by blk_ext [idx t])
  · exact (blockB m c t _ (show 3072 + ((y 1).val) < 9224 by omega)).trans (by blk_ext [idx t])

/-- What a point stores at an entry of its value block is the reference's second result there. -/
theorem pointV (c : Dev nD) (t : Fin cfg0.N) (y : S512x1024.Idx) :
    k0_pay3 (iblk m c 0 t) (View.ld (iblk m c 1 t) r0_4) (View.ld (iblk m c 2 t) r0_5) y
    = refV (argX m c) (argW m c) (argB m c) (((cfg0.win 4).blk t).view.emb y) := by
  have ht : t.val < 64 := t.isLt
  have h0 : (y 0).val < 512 := (y 0).isLt
  have h1 : (y 1).val < 1024 := (y 1).isLt
  pointwise [k0_pay1, k0_pay3, refV, proj, whole]
  refine congrArg₂ (· + ·) (Finset.sum_congr rfl fun x _ => congrArg₂ (· * ·) ?_ ?_) ?_
  · exact (blockX m c t (y 0) x (by omega) (by omega)).trans (by blk_ext [idx t])
  · exact (blockW m c t x _ (show 3072 + (2048 + (y 1).val) < 9224 by omega)).trans (by blk_ext [idx t])
  · exact (blockB m c t _ (show 3072 + (2048 + (y 1).val) < 9224 by omega)).trans (by blk_ext [idx t])

/-- What a point stores at an entry of its output-gate block is the reference's third result there. -/
theorem pointOm (c : Dev nD) (t : Fin cfg0.N) (y : S512x1024.Idx) :
    k0_pay4 (iblk m c 0 t) (View.ld (iblk m c 1 t) r0_6) (View.ld (iblk m c 2 t) r0_7) y
    = refOm (argX m c) (argW m c) (argB m c) (((cfg0.win 5).blk t).view.emb y) := by
  have ht : t.val < 64 := t.isLt
  have h0 : (y 0).val < 512 := (y 0).isLt
  have h1 : (y 1).val < 1024 := (y 1).isLt
  pointwise [k0_pay1, k0_pay4, refOm, proj, whole]
  refine congrArg₂ (· + ·) (Finset.sum_congr rfl fun x _ => congrArg₂ (· * ·) ?_ ?_) ?_
  · exact (blockX m c t (y 0) x (by omega) (by omega)).trans (by blk_ext [idx t])
  · exact (blockW m c t x _ (show 3072 + (3072 + (y 1).val) < 9224 by omega)).trans (by blk_ext [idx t])
  · exact (blockB m c t _ (show 3072 + (3072 + (y 1).val) < 9224 by omega)).trans (by blk_ext [idx t])

/-- After the run the query-key array is the reference's first result. -/
theorem finalQk (c : Dev nD) : (dats m 0 c).arrAt 3 (cfgs 0).N = refQk (argX m c) (argW m c) (argB m c) := by
  refine (dats m 0 c).arrAt_eq_of_covers 3 _ (by decide +kernel) fun t _ y => ?_
  blk_simp
  rw [after0_3]; frame_out
  exact pointQk m c t y

/-- After the run the value array is the reference's second result. -/
theorem finalV (c : Dev nD) : (dats m 0 c).arrAt 4 (cfgs 0).N = refV (argX m c) (argW m c) (argB m c) := by
  refine (dats m 0 c).arrAt_eq_of_covers 4 _ (by decide +kernel) fun t _ y => ?_
  blk_simp
  rw [after0_4]; frame_out
  exact pointV m c t y

/-- After the run the output-gate array is the reference's third result. -/
theorem finalOm (c : Dev nD) : (dats m 0 c).arrAt 5 (cfgs 0).N = refOm (argX m c) (argW m c) (argB m c) := by
  refine (dats m 0 c).arrAt_eq_of_covers 5 _ (by decide +kernel) fun t _ y => ?_
  blk_simp
  rw [after0_5]; frame_out
  exact pointOm m c t y

/-- The last three rows of every sequence, of an array with one row per token. -/
abbrev lastRows (x : FVec Ideal S32768x2048 .f32) : FVec Ideal S1x8x3x2048 .f32 :=
  broadcastInDim S1x8x3x2048 ![1, 2, 3] bcast_S8x3x2048_S1x8x3x2048_1_2_3
    (extractStridedSlice S8x3x2048 ![0, 4093, 0] (shapeCast S8x4096x2048 x shapeCasts_S32768x2048_S8x4096x2048) slices_S8x4096x2048_S8x3x2048_0_4093_0)

/-- The last rows of a slice of columns are the slice of the last rows. -/
theorem lastRows_eq (Y : FVec Ideal Cert.Reference2Ideal.S8x4096x9224 .f32) :
    lastRows (extractStridedSlice Cert.Reference2Ideal.S32768x2048 ![0, 3072]
        (shapeCast _ Y Cert.Reference2Ideal.Gen.shapeCasts_S8x4096x9224_S32768x9224) Cert.Reference2Ideal.Gen.slices_S32768x9224_S32768x2048_0_3072)
      = broadcastInDim Cert.Reference2Ideal.S1x8x3x2048 ![1, 2, 3] Cert.Reference2Ideal.Gen.bcast_S8x3x2048_S1x8x3x2048_1_2_3
        (extractStridedSlice Cert.Reference2Ideal.S8x3x2048 ![0, 4093, 3072] Y Cert.Reference2Ideal.Gen.slices_S8x4096x9224_S8x3x2048_0_4093_3072) := by
  funext y
  idx_vars y
  pointwise
  blk_ext []

/-- What the lines after the launch leave in the fourth result, from the buffers they find. -/
theorem tailConv (W : Valuation τ sig (Elt Ideal)) :
    (StableHlo.after (List.flatten [hostOps1]) W (Proc.devRef .tc main_v11) : FVec Ideal S1x8x3x2048 .f32)
      = lastRows (W (Proc.devRef .tc main_v8_0)) := by
  after_reads_simp
  rfl

/-- The fourth result is the reference's. -/
theorem finalConv (c : Dev nD) : (Pipeline.afterTail₀ cfgs (dats m) 0 (V0 m) [hostOps1] c main_v11 : FVec Ideal S1x8x3x2048 .f32)
    = refConv (argX m c) (argW m c) (argB m c) := by
  have h : Pipeline.withArrays (cfgs 0).spec c (V0 m c) (fun w => (dats m 0 c).arrAt w (cfgs 0).N) (Proc.devRef .tc main_v8_0)
      = (refQk (argX m c) (argW m c) (argB m c) : FVec Ideal S32768x2048 .f32) :=
    (Pipeline.withArrays_arr (cfgs 0).spec launch0.win.arr_inj c (V0 m c) (fun w => (dats m 0 c).arrAt w (cfgs 0).N) 3).trans (finalQk m c)
  refine (tailConv _).trans ((congrArg lastRows h).trans ?_)
  exact lastRows_eq (whole (argX m c) (argW m c) (argB m c))

/-- The program runs to the reference's four results and leaves its arguments. -/
theorem run_named (ρ : Dev nD → PrngReg) :
    θ_run defs (onTc (τ := τ) (main (F := Ideal))) ⟨m, fun _ => 0, ρ⟩ fun r => ∀ c : Dev nD,
      r.2.mem ((c.tc : Thread nD τ).loc main_v8_0) = refQk (m ((c.tc : Thread nD τ).loc main_arg0)) (m ((c.tc : Thread nD τ).loc main_arg1)) (m ((c.tc : Thread nD τ).loc main_arg2))
      ∧ r.2.mem ((c.tc : Thread nD τ).loc main_v8_1) = refV (m ((c.tc : Thread nD τ).loc main_arg0)) (m ((c.tc : Thread nD τ).loc main_arg1)) (m ((c.tc : Thread nD τ).loc main_arg2))
      ∧ r.2.mem ((c.tc : Thread nD τ).loc main_v8_2) = refOm (m ((c.tc : Thread nD τ).loc main_arg0)) (m ((c.tc : Thread nD τ).loc main_arg1)) (m ((c.tc : Thread nD τ).loc main_arg2))
      ∧ r.2.mem ((c.tc : Thread nD τ).loc main_v11) = refConv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (finalQk m c), ((h.1 c).1 4).trans (finalV m c),
      ((h.1 c).1 5).trans (finalOm m c),
      ((h.1 c).2 main_v11 (Pipeline.mem_restRefs_of main_v11 (by decide) (by decide))).trans (finalConv m c), h.2 c⟩)
    (θ_run_and (run_main m ρ) (unchanged m ρ))

/-- The reference runs to its four results and leaves its arguments. -/
theorem ref_named (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩
      fun r => ∀ c : Dev Cert.Reference2Ideal.nD,
      r.2.mem ((c.tc : Thread Cert.Reference2Ideal.nD Cert.Reference2Ideal.τ).loc Cert.Reference2Ideal.main_v7) = refQk (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v10) = refV (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v11) = refOm (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_v13) = refConv (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) :=
  Cert.Reference2Ideal.Value.run m ρ

end Cert.Kernel2Ideal.Mix

end
-- ==== Proof.MixClaim.lean ====
/-
The prompt's part of the mLSTM projection: the programs run, and the kernel's four results are the reference's.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.MixValue
public import Idealize.ShloMosaic.Lib.Claim

@[expose] public section

set_option maxRecDepth 16384

noncomputable section

namespace Cert.Proof

open Idealize.ShloMosaic Idealize.SL.Sem

/-- The mLSTM projection of the prompt runs as compiled and leaves its arguments as they were. -/
theorem frame2 : Cert.quiescent_Kernel2 := fun m g _ => Cert.Kernel2.Gen.frame m g

/-- So does its ideal form. -/
theorem frame2Ideal : Cert.quiescent_Kernel2Ideal := fun m g _ => Cert.Kernel2Ideal.Gen.frame m g

/-- The reference of that projection runs. -/
theorem frame2Ref : Cert.quiescent_Reference2Ideal := fun m g _ =>
  (θ_run Cert.Reference2Ideal.defs _ _).mono (fun r h => ⟨fun c => (h c).2.2.2.2, sem_eq_zero_of_no_sems (by decide) r.2⟩)
    (Cert.Reference2Ideal.Value.run m g)

/-- The mLSTM projection of the prompt computes the reference's four results. -/
theorem algebraic2 : Cert.algebraic_Kernel2Ideal_Reference2Ideal :=
  fun m g m' g' _ hag => ⟨_, _, _, _, Cert.Kernel2Ideal.Mix.run_named m g,
    (θ_run Cert.Reference2Ideal.defs _ _).mono (fun r h c => by
      obtain ⟨h0, h1, h2, h3, ha⟩ := h c
      obtain ⟨e0, e1, e2⟩ := hag c
      rw [e0, e1, e2] at h0 h1 h2 h3
      exact ⟨h0, h1, h2, h3, ha⟩) (Cert.Kernel2Ideal.Mix.ref_named m' g')⟩

end Cert.Proof

end
-- ==== Proof.MixSampleValue.lean ====
/-
The in-projection's mLSTM columns of the new tokens (`Kernel6Ideal`): each of the three result arrays of the launch is, entry by
entry, the reference's slice of `x · W + b`, and so are the last three rows of every sequence.
-/
module

public import proofs.«01_k».proof.Proof.Gen.Kernel6Ideal.Frame
public import proofs.«01_k».proof.Proof.Gen.Reference6Ideal
public import proofs.«01_k».proof.Proof.Gen.Reference6Ideal.Run
public import Idealize.ShloMosaic.Lib.Pipeline.ValueKit
public import Idealize.ShloMosaic.Lib.StableHlo.RunRead

@[expose] public section

set_option maxRecDepth 16384

noncomputable section

namespace Cert.Kernel6Ideal.Mix

open Idealize.ShloMosaic Idealize.ShloMosaic.StableHlo Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The reference's `x · W + b`. -/
abbrev whole (X : FVec Ideal Cert.Reference6Ideal.S32x8x1024 .f32) (W : FVec Ideal Cert.Reference6Ideal.S1x1024x9224 .f32)
    (Bi : FVec Ideal Cert.Reference6Ideal.S1x9224 .f32) : FVec Ideal Cert.Reference6Ideal.S32x8x9224 .f32 :=
  addf (Host.dotGeneral Cert.Reference6Ideal.dot_S32x8x1024_S1024x9224_S32x8x9224_2_0_01_1_n_n none X
      (shapeCast _ W Cert.Reference6Ideal.Gen.shapeCasts_S1x1024x9224_S1024x9224))
    (broadcastInDim Cert.Reference6Ideal.S32x8x9224 ![0, 1, 2] Cert.Reference6Ideal.Gen.bcast_S1x1x9224_S32x8x9224_0_1_2
      (broadcastInDim Cert.Reference6Ideal.S1x1x9224 ![2] Cert.Reference6Ideal.Gen.bcast_S9224_S1x1x9224_2
        (shapeCast _ Bi Cert.Reference6Ideal.Gen.shapeCasts_S1x9224_S9224)))

/-- The same, one row per token. -/
abbrev proj (X : FVec Ideal Cert.Reference6Ideal.S32x8x1024 .f32) (W : FVec Ideal Cert.Reference6Ideal.S1x1024x9224 .f32)
    (Bi : FVec Ideal Cert.Reference6Ideal.S1x9224 .f32) : FVec Ideal Cert.Reference6Ideal.S256x9224 .f32 :=
  shapeCast _ (whole X W Bi) Cert.Reference6Ideal.Gen.shapeCasts_S32x8x9224_S256x9224

/-- The reference's fourth result: the last three rows of every sequence, columns 3072 to 5120. -/
abbrev refConv (X : FVec Ideal Cert.Reference6Ideal.S32x8x1024 .f32) (W : FVec Ideal Cert.Reference6Ideal.S1x1024x9224 .f32)
    (Bi : FVec Ideal Cert.Reference6Ideal.S1x9224 .f32) : FVec Ideal Cert.Reference6Ideal.S1x32x3x2048 .f32 :=
  broadcastInDim Cert.Reference6Ideal.S1x32x3x2048 ![1, 2, 3] Cert.Reference6Ideal.Gen.bcast_S32x3x2048_S1x32x3x2048_1_2_3
    (extractStridedSlice Cert.Reference6Ideal.S32x3x2048 ![0, 5, 3072] (whole X W Bi)
      Cert.Reference6Ideal.Gen.slices_S32x8x9224_S32x3x2048_0_5_3072)

/-- The reference's first result: columns 3072 to 5120. -/
abbrev refQk (X : FVec Ideal Cert.Reference6Ideal.S32x8x1024 .f32) (W : FVec Ideal Cert.Reference6Ideal.S1x1024x9224 .f32)
    (Bi : FVec Ideal Cert.Reference6Ideal.S1x9224 .f32) : FVec Ideal Cert.Reference6Ideal.S256x2048 .f32 :=
  extractStridedSlice Cert.Reference6Ideal.S256x2048 ![0, 3072] (proj X W Bi)
    Cert.Reference6Ideal.Gen.slices_S256x9224_S256x2048_0_3072

/-- Every window's block index at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The tokens, as launched. -/
abbrev argX (c : Dev nD) : FVec Ideal S32x8x1024 .f32 := m ((c : Thread nD τ).loc main_arg0)
/-- The weights, as launched. -/
abbrev argW (c : Dev nD) : FVec Ideal S1x1024x9224 .f32 := m ((c : Thread nD τ).loc main_arg1)
/-- The bias, as launched. -/
abbrev argB (c : Dev nD) : FVec Ideal S1x9224 .f32 := m ((c : Thread nD τ).loc main_arg2)

/-- The tokens' array the launch reads is the argument, one row per token. -/
theorem entryX (c : Dev nD) : (V m c main_v7 : FVec Ideal S256x1024 .bf16)
    = truncf (F := Ideal) .bf16 (shapeCast S256x1024 (argX m c) shapeCasts_S32x8x1024_S256x1024) bitsLt_bf16_f32 := by
  entry_read <;> rfl

/-- The weight columns the launch reads. -/
theorem entryW (c : Dev nD) : (V m c main_v3 : FVec Ideal S1024x4096 .bf16)
    = truncf (F := Ideal) .bf16 (extractStridedSlice S1024x4096 ![0, 3072] (shapeCast S1024x9224 (argW m c) shapeCasts_S1x1024x9224_S1024x9224) slices_S1024x9224_S1024x4096_0_3072) bitsLt_bf16_f32 := by
  entry_read <;> rfl

/-- The bias columns the launch reads, as one row. -/
theorem entryB (c : Dev nD) : (V m c main_v5 : FVec Ideal S1x4096 .f32)
    = broadcastInDim S1x4096 ![1] bcast_S4096_S1x4096_1 (extractStridedSlice S4096 ![3072] (shapeCast S9224 (argB m c) shapeCasts_S1x9224_S9224) slices_S9224_S4096_3072) := by
  entry_read <;> rfl

/-- Point `t`'s block of tokens, at an entry. -/
theorem blockX (c : Dev nD) (t : Fin cfg0.N) (a : Fin 256) (x : Fin 1024) (h1 : (t.val * 256 + a.val) / 8 < 32)
    (h2 : (t.val * 256 + a.val) % 8 < 8) :
    iblk m c 0 t (ix2 a x) = argX m c
      (ix3 ⟨(t.val * 256 + a.val) / 8, h1⟩ ⟨(t.val * 256 + a.val) % 8, h2⟩ x) := by
  blk_simp [iblk]
  refine (congrFun (entryX m c) _).trans ?_
  pointwise
  blk_ext [idx t]

/-- The block of weight columns, at an entry. -/
theorem blockW (c : Dev nD) (t : Fin cfg0.N) (x : Fin 1024) (b : Fin 4096) (h : 3072 + b.val < 9224) :
    iblk m c 1 t (ix2 x b) = argW m c (ix3 0 x ⟨3072 + b.val, h⟩) := by
  blk_simp [iblk]
  refine (congrFun (entryW m c) _).trans ?_
  pointwise
  blk_ext [idx t]

/-- The block of bias columns, at an entry. -/
theorem blockB (c : Dev nD) (t : Fin cfg0.N) (b : Fin 4096) (h : 3072 + b.val < 9224) :
    iblk m c 2 t (ix2 0 b) = argB m c (ix2 0 ⟨3072 + b.val, h⟩) := by
  blk_simp [iblk]
  refine (congrFun (entryB m c) _).trans ?_
  pointwise
  blk_ext [idx t]

/-- The reference's second result: columns 5120 to 6144, rounded. -/
abbrev refV (X : FVec Ideal Cert.Reference6Ideal.S32x8x1024 .f32) (W : FVec Ideal Cert.Reference6Ideal.S1x1024x9224 .f32)
    (Bi : FVec Ideal Cert.Reference6Ideal.S1x9224 .f32) : FVec Ideal Cert.Reference6Ideal.S256x1024 .bf16 :=
  truncf .bf16 (extractStridedSlice Cert.Reference6Ideal.S256x1024 ![0, 5120] (proj X W Bi)
    Cert.Reference6Ideal.Gen.slices_S256x9224_S256x1024_0_5120) Cert.Reference6Ideal.Gen.bitsLt_bf16_f32

/-- The reference's third result: columns 6144 to 7168, rounded. -/
abbrev refOm (X : FVec Ideal Cert.Reference6Ideal.S32x8x1024 .f32) (W : FVec Ideal Cert.Reference6Ideal.S1x1024x9224 .f32)
    (Bi : FVec Ideal Cert.Reference6Ideal.S1x9224 .f32) : FVec Ideal Cert.Reference6Ideal.S256x1024 .bf16 :=
  truncf .bf16 (extractStridedSlice Cert.Reference6Ideal.S256x1024 ![0, 6144] (proj X W Bi)
    Cert.Reference6Ideal.Gen.slices_S256x9224_S256x1024_0_6144) Cert.Reference6Ideal.Gen.bitsLt_bf16_f32

/-- What a point stores at an entry of its query-key block is the reference's first result there. -/
theorem pointQk (c : Dev nD) (t : Fin cfg0.N) (y : S256x2048.Idx) :
    k0_pay2 (iblk m c 0 t) (View.ld (iblk m c 1 t) r0_1) (View.ld (iblk m c 2 t) r0_2) y
    = refQk (argX m c) (argW m c) (argB m c) (((cfg0.win 3).blk t).view.emb y) := by
  have ht : t.val < 1 := t.isLt
  have h0 : (y 0).val < 256 := (y 0).isLt
  have h1 : (y 1).val < 2048 := (y 1).isLt
  pointwise [k0_pay1, k0_pay2, refQk, proj, whole]
  refine congrArg₂ (· + ·) (Finset.sum_congr rfl fun x _ => congrArg₂ (· * ·) ?_ ?_) ?_
  · exact (blockX m c t (y 0) x (by omega) (by omega)).trans (by blk_ext [idx t])
  · exact (blockW m c t x _ (show 3072 + ((y 1).val) < 9224 by omega)).trans (by blk_ext [idx t])
  · exact (blockB m c t _ (show 3072 + ((y 1).val) < 9224 by omega)).trans (by blk_ext [idx t])

/-- What a point stores at an entry of its value block is the reference's second result there. -/
theorem pointV (c : Dev nD) (t : Fin cfg0.N) (y : S256x1024.Idx) :
    k0_pay3 (iblk m c 0 t) (View.ld (iblk m c 1 t) r0_4) (View.ld (iblk m c 2 t) r0_5) y
    = refV (argX m c) (argW m c) (argB m c) (((cfg0.win 4).blk t).view.emb y) := by
  have ht : t.val < 1 := t.isLt
  have h0 : (y 0).val < 256 := (y 0).isLt
  have h1 : (y 1).val < 1024 := (y 1).isLt
  pointwise [k0_pay1, k0_pay3, refV, proj, whole]
  refine congrArg₂ (· + ·) (Finset.sum_congr rfl fun x _ => congrArg₂ (· * ·) ?_ ?_) ?_
  · exact (blockX m c t (y 0) x (by omega) (by omega)).trans (by blk_ext [idx t])
  · exact (blockW m c t x _ (show 3072 + (2048 + (y 1).val) < 9224 by omega)).trans (by blk_ext [idx t])
  · exact (blockB m c t _ (show 3072 + (2048 + (y 1).val) < 9224 by omega)).trans (by blk_ext [idx t])

/-- What a point stores at an entry of its output-gate block is the reference's third result there. -/
theorem pointOm (c : Dev nD) (t : Fin cfg0.N) (y : S256x1024.Idx) :
    k0_pay4 (iblk m c 0 t) (View.ld (iblk m c 1 t) r0_6) (View.ld (iblk m c 2 t) r0_7) y
    = refOm (argX m c) (argW m c) (argB m c) (((cfg0.win 5).blk t).view.emb y) := by
  have ht : t.val < 1 := t.isLt
  have h0 : (y 0).val < 256 := (y 0).isLt
  have h1 : (y 1).val < 1024 := (y 1).isLt
  pointwise [k0_pay1, k0_pay4, refOm, proj, whole]
  refine congrArg₂ (· + ·) (Finset.sum_congr rfl fun x _ => congrArg₂ (· * ·) ?_ ?_) ?_
  · exact (blockX m c t (y 0) x (by omega) (by omega)).trans (by blk_ext [idx t])
  · exact (blockW m c t x _ (show 3072 + (3072 + (y 1).val) < 9224 by omega)).trans (by blk_ext [idx t])
  · exact (blockB m c t _ (show 3072 + (3072 + (y 1).val) < 9224 by omega)).trans (by blk_ext [idx t])

/-- After the run the query-key array is the reference's first result. -/
theorem finalQk (c : Dev nD) : (dats m 0 c).arrAt 3 (cfgs 0).N = refQk (argX m c) (argW m c) (argB m c) := by
  refine (dats m 0 c).arrAt_eq_of_covers 3 _ (by decide +kernel) fun t _ y => ?_
  blk_simp
  rw [after0_3]; frame_out
  exact pointQk m c t y

/-- After the run the value array is the reference's second result. -/
theorem finalV (c : Dev nD) : (dats m 0 c).arrAt 4 (cfgs 0).N = refV (argX m c) (argW m c) (argB m c) := by
  refine (dats m 0 c).arrAt_eq_of_covers 4 _ (by decide +kernel) fun t _ y => ?_
  blk_simp
  rw [after0_4]; frame_out
  exact pointV m c t y

/-- After the run the output-gate array is the reference's third result. -/
theorem finalOm (c : Dev nD) : (dats m 0 c).arrAt 5 (cfgs 0).N = refOm (argX m c) (argW m c) (argB m c) := by
  refine (dats m 0 c).arrAt_eq_of_covers 5 _ (by decide +kernel) fun t _ y => ?_
  blk_simp
  rw [after0_5]; frame_out
  exact pointOm m c t y

/-- The last three rows of every sequence, of an array with one row per token. -/
abbrev lastRows (x : FVec Ideal S256x2048 .f32) : FVec Ideal S1x32x3x2048 .f32 :=
  broadcastInDim S1x32x3x2048 ![1, 2, 3] bcast_S32x3x2048_S1x32x3x2048_1_2_3
    (extractStridedSlice S32x3x2048 ![0, 5, 0] (shapeCast S32x8x2048 x shapeCasts_S256x2048_S32x8x2048) slices_S32x8x2048_S32x3x2048_0_5_0)

/-- The last rows of a slice of columns are the slice of the last rows. -/
theorem lastRows_eq (Y : FVec Ideal Cert.Reference6Ideal.S32x8x9224 .f32) :
    lastRows (extractStridedSlice Cert.Reference6Ideal.S256x2048 ![0, 3072]
        (shapeCast _ Y Cert.Reference6Ideal.Gen.shapeCasts_S32x8x9224_S256x9224) Cert.Reference6Ideal.Gen.slices_S256x9224_S256x2048_0_3072)
      = broadcastInDim Cert.Reference6Ideal.S1x32x3x2048 ![1, 2, 3] Cert.Reference6Ideal.Gen.bcast_S32x3x2048_S1x32x3x2048_1_2_3
        (extractStridedSlice Cert.Reference6Ideal.S32x3x2048 ![0, 5, 3072] Y Cert.Reference6Ideal.Gen.slices_S32x8x9224_S32x3x2048_0_5_3072) := by
  funext y
  idx_vars y
  pointwise
  blk_ext []

/-- What the lines after the launch leave in the fourth result, from the buffers they find. -/
theorem tailConv (W : Valuation τ sig (Elt Ideal)) :
    (StableHlo.after (List.flatten [hostOps1]) W (Proc.devRef .tc main_v11) : FVec Ideal S1x32x3x2048 .f32)
      = lastRows (W (Proc.devRef .tc main_v8_0)) := by
  after_reads_simp
  rfl

/-- The fourth result is the reference's. -/
theorem finalConv (c : Dev nD) : (Pipeline.afterTail₀ cfgs (dats m) 0 (V0 m) [hostOps1] c main_v11 : FVec Ideal S1x32x3x2048 .f32)
    = refConv (argX m c) (argW m c) (argB m c) := by
  have h : Pipeline.withArrays (cfgs 0).spec c (V0 m c) (fun w => (dats m 0 c).arrAt w (cfgs 0).N) (Proc.devRef .tc main_v8_0)
      = (refQk (argX m c) (argW m c) (argB m c) : FVec Ideal S256x2048 .f32) :=
    (Pipeline.withArrays_arr (cfgs 0).spec launch0.win.arr_inj c (V0 m c) (fun w => (dats m 0 c).arrAt w (cfgs 0).N) 3).trans (finalQk m c)
  refine (tailConv _).trans ((congrArg lastRows h).trans ?_)
  exact lastRows_eq (whole (argX m c) (argW m c) (argB m c))

/-- The program runs to the reference's four results and leaves its arguments. -/
theorem run_named (ρ : Dev nD → PrngReg) :
    θ_run defs (onTc (τ := τ) (main (F := Ideal))) ⟨m, fun _ => 0, ρ⟩ fun r => ∀ c : Dev nD,
      r.2.mem ((c.tc : Thread nD τ).loc main_v8_0) = refQk (m ((c.tc : Thread nD τ).loc main_arg0)) (m ((c.tc : Thread nD τ).loc main_arg1)) (m ((c.tc : Thread nD τ).loc main_arg2))
      ∧ r.2.mem ((c.tc : Thread nD τ).loc main_v8_1) = refV (m ((c.tc : Thread nD τ).loc main_arg0)) (m ((c.tc : Thread nD τ).loc main_arg1)) (m ((c.tc : Thread nD τ).loc main_arg2))
      ∧ r.2.mem ((c.tc : Thread nD τ).loc main_v8_2) = refOm (m ((c.tc : Thread nD τ).loc main_arg0)) (m ((c.tc : Thread nD τ).loc main_arg1)) (m ((c.tc : Thread nD τ).loc main_arg2))
      ∧ r.2.mem ((c.tc : Thread nD τ).loc main_v11) = refConv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (finalQk m c), ((h.1 c).1 4).trans (finalV m c),
      ((h.1 c).1 5).trans (finalOm m c),
      ((h.1 c).2 main_v11 (Pipeline.mem_restRefs_of main_v11 (by decide) (by decide))).trans (finalConv m c), h.2 c⟩)
    (θ_run_and (run_main m ρ) (unchanged m ρ))

/-- The reference runs to its four results and leaves its arguments. -/
theorem ref_named (m : (ℓ : Loc Cert.Reference6Ideal.nD Cert.Reference6Ideal.τ Cert.Reference6Ideal.sig) → Buf (Elt Ideal) ℓ)
    (ρ : Dev Cert.Reference6Ideal.nD → PrngReg) :
    θ_run Cert.Reference6Ideal.defs (onTc (τ := Cert.Reference6Ideal.τ) (Cert.Reference6Ideal.main (F := Ideal))) ⟨m, fun _ => 0, ρ⟩
      fun r => ∀ c : Dev Cert.Reference6Ideal.nD,
      r.2.mem ((c.tc : Thread Cert.Reference6Ideal.nD Cert.Reference6Ideal.τ).loc Cert.Reference6Ideal.main_v7) = refQk (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))
      ∧ r.2.mem ((c.tc : Thread Cert.Reference6Ideal.nD Cert.Reference6Ideal.τ).loc Cert.Reference6Ideal.main_v10) = refV (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))
      ∧ r.2.mem ((c.tc : Thread Cert.Reference6Ideal.nD Cert.Reference6Ideal.τ).loc Cert.Reference6Ideal.main_v11) = refOm (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))
      ∧ r.2.mem ((c.tc : Thread Cert.Reference6Ideal.nD Cert.Reference6Ideal.τ).loc Cert.Reference6Ideal.main_v13) = refConv (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2) :=
  Cert.Reference6Ideal.Value.run m ρ

end Cert.Kernel6Ideal.Mix

end
-- ==== Proof.MixSampleClaim.lean ====
/-
The new tokens' part of the mLSTM projection: the programs run, and the kernel's four results are the reference's.
-/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.MixSampleValue
public import Idealize.ShloMosaic.Lib.Claim

@[expose] public section

set_option maxRecDepth 16384

noncomputable section

namespace Cert.Proof

open Idealize.ShloMosaic Idealize.SL.Sem

/-- The mLSTM projection of the new tokens runs as compiled and leaves its arguments as they were. -/
theorem frame6 : Cert.quiescent_Kernel6 := fun m g _ => Cert.Kernel6.Gen.frame m g

/-- So does its ideal form. -/
theorem frame6Ideal : Cert.quiescent_Kernel6Ideal := fun m g _ => Cert.Kernel6Ideal.Gen.frame m g

/-- The reference of that projection runs. -/
theorem frame6Ref : Cert.quiescent_Reference6Ideal := fun m g _ =>
  (θ_run Cert.Reference6Ideal.defs _ _).mono (fun r h => ⟨fun c => (h c).2.2.2.2, sem_eq_zero_of_no_sems (by decide) r.2⟩)
    (Cert.Reference6Ideal.Value.run m g)

/-- The mLSTM projection of the new tokens computes the reference's four results. -/
theorem algebraic6 : Cert.algebraic_Kernel6Ideal_Reference6Ideal :=
  fun m g m' g' _ hag => ⟨_, _, _, _, Cert.Kernel6Ideal.Mix.run_named m g,
    (θ_run Cert.Reference6Ideal.defs _ _).mono (fun r h c => by
      obtain ⟨h0, h1, h2, h3, ha⟩ := h c
      obtain ⟨e0, e1, e2⟩ := hag c
      rw [e0, e1, e2] at h0 h1 h2 h3
      exact ⟨h0, h1, h2, h3, ha⟩) (Cert.Kernel6Ideal.Mix.ref_named m' g')⟩

end Cert.Proof

end
-- ==== Proof.LayerNorm.lean ====
/-
The layer's last step at one token: the shared expert's gated product, the residual sum and the layer normalisation, as functions
of the token's row.
-/
module

public import Idealize.ShloMosaic.Lib.Pipeline.ValueKit

@[expose] public section

noncomputable section

namespace Cert.Proof.LayerNorm

open Idealize.ShloMosaic

/-- A row times a column of weights. -/
def lin {n p : ℕ} (x : Fin n → EReal) (w : Fin n → Fin p → EReal) (e : Fin p) : EReal := ∑ k, x k * w k e

/-- `a · sigmoid a`. -/
def silu (a : EReal) : EReal := a * Ideal.div 1 (1 + Ideal.exp (-a))

/-- The shared expert's gated product at one column. -/
def gated (x : Fin 1024 → EReal) (w1 w3 : Fin 1024 → Fin 256 → EReal) (e : Fin 256) : EReal := silu (lin x w1 e) * lin x w3 e

/-- The residual sum at one column: a multiple of `h`, plus the routed experts' row, plus the shared expert's. -/
def total (c : EReal) (h x r : Fin 1024 → EReal) (w1 w3 : Fin 1024 → Fin 256 → EReal) (w2 : Fin 256 → Fin 1024 → EReal) (n : Fin 1024) : EReal :=
  c * h n + (r n + lin (gated x w1 w3) w2 n)

/-- The mean of a row. -/
def mean (d : EReal) (z : Fin 1024 → EReal) : EReal := Ideal.div (∑ k, z k) d

/-- The normalised row at one column. -/
def norm (d ε : EReal) (z g b : Fin 1024 → EReal) (n : Fin 1024) : EReal :=
  (z n - mean d z) * Ideal.rsqrt (mean d (fun k => (z k - mean d z) * (z k - mean d z)) + ε) * g n + b n

end Cert.Proof.LayerNorm

end
-- ==== Proof.FinalRef.lean ====
/-
The reference of the layer's last step (`Reference7Ideal`): its result is, entry by entry, the normalised residual sum of the
token's row.
-/
module

public import proofs.«01_k».proof.Proof.LayerNorm
public import proofs.«01_k».proof.Proof.Gen.Reference7Ideal
public import proofs.«01_k».proof.Proof.Gen.Reference7Ideal.Run
public import Idealize.ShloMosaic.Lib.Pipeline.ValueKit

@[expose] public section

set_option maxRecDepth 65536

noncomputable section

namespace Cert.Reference7Ideal.Final

open Idealize.ShloMosaic Idealize.ShloMosaic.TcCoe Idealize.SL.Sem Cert.Proof.LayerNorm
open Cert.Reference7Ideal Cert.Reference7Ideal.Gen

/-- The factor of the residual. -/
abbrev alpha : EReal := (Scalar.ofBits .f32 0x3F9837F0#32 : Ideal .f32)
/-- The number of columns. -/
abbrev count : EReal := (Scalar.ofBits .f32 0x44800000#32 : Ideal .f32)
/-- The variance's increment. -/
abbrev eps : EReal := (Scalar.ofBits .f32 0x3727C5AC#32 : Ideal .f32)

/-- A column array of weights of the one layer. -/
abbrev dotA (X : FVec Ideal S32768x1024 .bf16) (W : FVec Ideal S1x1024x256 .f32) : FVec Ideal S32768x256 .f32 :=
  Host.dotGeneral dot_S32768x1024_S1024x256_S32768x256_1_0_0_1_n_n none (extf .f32 X bitsLt_bf16_f32) (shapeCast _ W shapeCasts_S1x1024x256_S1024x256)

/-- `a · sigmoid a`, entry by entry. -/
abbrev siluA (a : FVec Ideal S32768x256 .f32) : FVec Ideal S32768x256 .f32 :=
  mulf a (Host.divf (broadcastInDim S32768x256 ![] bcast_S_S32768x256 (constant S_ .f32 0x3F800000#32))
    (addf (broadcastInDim S32768x256 ![] bcast_S_S32768x256 (constant S_ .f32 0x3F800000#32)) (Host.exp (Host.negf a))))

/-- The residual sum. -/
abbrev totalA (H : FVec Ideal S32768x1024 .f32) (X : FVec Ideal S32768x1024 .bf16) (R : FVec Ideal S32768x1024 .f32)
    (W1 W3 : FVec Ideal S1x1024x256 .f32) (W2 : FVec Ideal S1x256x1024 .f32) : FVec Ideal S32768x1024 .f32 :=
  addf (mulf (broadcastInDim S32768x1024 ![] bcast_S_S32768x1024 (constant S_ .f32 0x3F9837F0#32)) H)
    (addf R (Host.dotGeneral dot_S32768x256_S256x1024_S32768x1024_1_0_0_1_n_n none (mulf (siluA (dotA X W1)) (dotA X W3))
      (shapeCast _ W2 shapeCasts_S1x256x1024_S256x1024)))

/-- Every row's mean. -/
def meanA (z : FVec Ideal S32768x1024 .f32) : FVec Ideal S32768x1 .f32 :=
  Host.divf (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))

/-- The rows less their means. -/
def centA (z : FVec Ideal S32768x1024 .f32) : FVec Ideal S32768x1024 .f32 :=
  subf z (broadcastInDim S32768x1024 ![0, 1] bcast_S32768x1_S32768x1024_0_1 (meanA z))

/-- The normalised rows. -/
def normA (z : FVec Ideal S32768x1024 .f32) (g b : FVec Ideal S1x1024 .f32) : FVec Ideal S32768x1024 .f32 :=
  addf (mulf (mulf (centA z) (broadcastInDim S32768x1024 ![0, 1] bcast_S32768x1_S32768x1024_0_1
      (Host.rsqrt (addf (meanA (mulf (centA z) (centA z))) (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 (shapeCast _ g shapeCasts_S1x1024_S1024))))
    (broadcastInDim S32768x1024 ![0, 1] bcast_S1x1024_S32768x1024_0_1 (broadcastInDim S1x1024 ![1] bcast_S1024_S1x1024_1 (shapeCast _ b shapeCasts_S1x1024_S1024)))

/-- The reference's result. -/
def res (H : FVec Ideal S32768x1024 .f32) (X : FVec Ideal S32768x1024 .bf16) (R : FVec Ideal S32768x1024 .f32)
    (W1 W3 : FVec Ideal S1x1024x256 .f32) (W2 : FVec Ideal S1x256x1024 .f32) (g b : FVec Ideal S1x1024 .f32) : FVec Ideal S32768x1024 .f32 :=
  normA (totalA H X R W1 W3 W2) g b

theorem dot_at (X : FVec Ideal S32768x1024 .bf16) (W : FVec Ideal S1x1024x256 .f32) (r : Fin 32768) (e : Fin 256) :
    dotA X W (ix2 r e) = lin (fun k => X (ix2 r k)) (fun k e => W (ix3 0 k e)) e := by
  pointwise [dotA, lin]

theorem silu_at (a : FVec Ideal S32768x256 .f32) (y : S32768x256.Idx) : siluA a y = silu (a y) := by
  pointwise [siluA, silu]

theorem wide_at (A : FVec Ideal S32768x256 .f32) (W2 : FVec Ideal S1x256x1024 .f32) (r : Fin 32768) (n : Fin 1024) :
    Host.dotGeneral dot_S32768x256_S256x1024_S32768x1024_1_0_0_1_n_n none A (shapeCast _ W2 shapeCasts_S1x256x1024_S256x1024) (ix2 r n)
      = lin (fun e => A (ix2 r e)) (fun e n => W2 (ix3 0 e n)) n := by
  pointwise [lin]

theorem total_at (H : FVec Ideal S32768x1024 .f32) (X : FVec Ideal S32768x1024 .bf16) (R : FVec Ideal S32768x1024 .f32)
    (W1 W3 : FVec Ideal S1x1024x256 .f32) (W2 : FVec Ideal S1x256x1024 .f32) (r : Fin 32768) (n : Fin 1024) :
    totalA H X R W1 W3 W2 (ix2 r n) = total alpha (fun k => H (ix2 r k)) (fun k => X (ix2 r k)) (fun k => R (ix2 r k))
      (fun k e => W1 (ix3 0 k e)) (fun k e => W3 (ix3 0 k e)) (fun e n => W2 (ix3 0 e n)) n := by
  refine (show totalA H X R W1 W3 W2 (ix2 r n) = alpha * H (ix2 r n) + (R (ix2 r n) + Host.dotGeneral dot_S32768x256_S256x1024_S32768x1024_1_0_0_1_n_n none
    (mulf (siluA (dotA X W1)) (dotA X W3)) (shapeCast _ W2 shapeCasts_S1x256x1024_S256x1024) (ix2 r n)) from rfl).trans ?_
  refine congrArg (fun s : EReal => alpha * H (ix2 r n) + (R (ix2 r n) + s)) ((wide_at _ W2 r n).trans ?_)
  refine congrArg (fun f => lin f _ n) (funext fun e => ?_)
  exact congrArg₂ (fun a b : EReal => a * b) ((silu_at _ _).trans (congrArg silu (dot_at X W1 r e))) (dot_at X W3 r e)

theorem mean_at (z : FVec Ideal S32768x1024 .f32) (r : Fin 32768) : meanA z (ix2 r 0) = mean count (fun k => z (ix2 r k)) := by
  pointwise [meanA, mean]

theorem cent_at (z : FVec Ideal S32768x1024 .f32) (r : Fin 32768) (n : Fin 1024) :
    centA z (ix2 r n) = z (ix2 r n) - meanA z (ix2 r 0) := by
  pointwise [centA]

theorem cent_mean (z : FVec Ideal S32768x1024 .f32) (r : Fin 32768) (n : Fin 1024) :
    centA z (ix2 r n) = z (ix2 r n) - mean count (fun k => z (ix2 r k)) :=
  (cent_at z r n).trans (congrArg (fun s : EReal => z (ix2 r n) - s) (mean_at z r))

theorem norm_pieces (z : FVec Ideal S32768x1024 .f32) (g b : FVec Ideal S1x1024 .f32) (r : Fin 32768) (n : Fin 1024) :
    normA z g b (ix2 r n)
      = centA z (ix2 r n) * Ideal.rsqrt (meanA (mulf (centA z) (centA z)) (ix2 r 0) + eps) * g (ix2 0 n) + b (ix2 0 n) := by
  pointwise [normA]

theorem norm_at (z : FVec Ideal S32768x1024 .f32) (g b : FVec Ideal S1x1024 .f32) (r : Fin 32768) (n : Fin 1024) :
    normA z g b (ix2 r n) = norm count eps (fun k => z (ix2 r k)) (fun k => g (ix2 0 k)) (fun k => b (ix2 0 k)) n := by
  refine (norm_pieces z g b r n).trans ?_
  refine congrArg₂ (fun s v : EReal => s * Ideal.rsqrt (v + eps) * g (ix2 0 n) + b (ix2 0 n)) (cent_mean z r n) ((mean_at _ r).trans ?_)
  exact congrArg (mean count) (funext fun k => congrArg₂ (fun s t : EReal => s * t) (cent_mean z r k) (cent_mean z r k))

/-- The result at an entry. -/
theorem res_at (H : FVec Ideal S32768x1024 .f32) (X : FVec Ideal S32768x1024 .bf16) (R : FVec Ideal S32768x1024 .f32)
    (W1 W3 : FVec Ideal S1x1024x256 .f32) (W2 : FVec Ideal S1x256x1024 .f32) (g b : FVec Ideal S1x1024 .f32) (r : Fin 32768) (n : Fin 1024) :
    res H X R W1 W3 W2 g b (ix2 r n) = norm count eps (total alpha (fun k => H (ix2 r k)) (fun k => X (ix2 r k)) (fun k => R (ix2 r k))
      (fun k e => W1 (ix3 0 k e)) (fun k e => W3 (ix3 0 k e)) (fun e n => W2 (ix3 0 e n))) (fun k => g (ix2 0 k)) (fun k => b (ix2 0 k)) n :=
  (norm_at (totalA H X R W1 W3 W2) g b r n).trans
    (congrArg (fun f => norm count eps f _ _ n) (funext fun k => total_at H X R W1 W3 W2 r k))

/-- The reference runs to that result and leaves its arguments. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (by unfold Value.res_main_v38 res; rfl), (h c).2⟩) (Value.run m ρ)

end Cert.Reference7Ideal.Final

end
-- ==== Proof.FinalValue.lean ====
/-
The layer's last step (`Kernel7Ideal`): the launch's result array is, entry by entry, the reference's normalised residual sum.
-/
module

public import proofs.«01_k».proof.Proof.FinalRef
public import proofs.«01_k».proof.Proof.Gen.Kernel7Ideal.Frame
public import Idealize.ShloMosaic.Lib.Pipeline.ValueKit

@[expose] public section

set_option maxRecDepth 16384

noncomputable section

namespace Cert.Kernel7Ideal.Final

open Idealize.ShloMosaic Idealize.ShloMosaic.TcCoe Idealize.SL.Sem Cert.Proof.LayerNorm
open Idealize.ShloMosaic.Pipeline (Dat)
open Cert.Kernel7Ideal Cert.Kernel7Ideal.Gen
open Cert.Reference7Ideal.Final (alpha count eps)

variable (m : (ℓ : Loc nD τ sig) → Buf (Elt Ideal) ℓ)

/-- Every window's block index at every point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The arguments, as launched. -/
abbrev argH (c : Dev nD) : FVec Ideal S32768x1024 .f32 := m ((c : Thread nD τ).loc main_arg0)
abbrev argX (c : Dev nD) : FVec Ideal S32768x1024 .bf16 := m ((c : Thread nD τ).loc main_arg1)
abbrev argR (c : Dev nD) : FVec Ideal S32768x1024 .f32 := m ((c : Thread nD τ).loc main_arg2)
abbrev argW1 (c : Dev nD) : FVec Ideal S1x1024x256 .f32 := m ((c : Thread nD τ).loc main_arg3)
abbrev argW3 (c : Dev nD) : FVec Ideal S1x1024x256 .f32 := m ((c : Thread nD τ).loc main_arg4)
abbrev argW2 (c : Dev nD) : FVec Ideal S1x256x1024 .f32 := m ((c : Thread nD τ).loc main_arg5)
abbrev argG (c : Dev nD) : FVec Ideal S1x1024 .f32 := m ((c : Thread nD τ).loc main_arg6)
abbrev argB (c : Dev nD) : FVec Ideal S1x1024 .f32 := m ((c : Thread nD τ).loc main_arg7)

/-- The reference's result of the launch's arguments. -/
abbrev ref (c : Dev nD) : FVec Ideal S32768x1024 .f32 :=
  Cert.Reference7Ideal.Final.res (argH m c) (argX m c) (argR m c) (argW1 m c) (argW3 m c) (argW2 m c) (argG m c) (argB m c)

theorem entryW1 (c : Dev nD) : (V m c main_v1 : FVec Ideal S1024x256 .bf16)
    = truncf (F := Ideal) .bf16 (shapeCast S1024x256 (argW1 m c) shapeCasts_S1x1024x256_S1024x256) bitsLt_bf16_f32 := by
  entry_read <;> rfl

theorem entryW3 (c : Dev nD) : (V m c main_v3 : FVec Ideal S1024x256 .bf16)
    = truncf (F := Ideal) .bf16 (shapeCast S1024x256 (argW3 m c) shapeCasts_S1x1024x256_S1024x256) bitsLt_bf16_f32 := by
  entry_read <;> rfl

theorem entryW2 (c : Dev nD) : (V m c main_v5 : FVec Ideal S256x1024 .bf16)
    = truncf (F := Ideal) .bf16 (shapeCast S256x1024 (argW2 m c) shapeCasts_S1x256x1024_S256x1024) bitsLt_bf16_f32 := by
  entry_read <;> rfl

theorem entryG (c : Dev nD) : (V m c main_v7 : FVec Ideal S1x1024 .f32)
    = broadcastInDim S1x1024 ![1] bcast_S1024_S1x1024_1 (shapeCast S1024 (argG m c) shapeCasts_S1x1024_S1024) := by
  entry_read <;> rfl

theorem entryB (c : Dev nD) : (V m c main_v9 : FVec Ideal S1x1024 .f32)
    = broadcastInDim S1x1024 ![1] bcast_S1024_S1x1024_1 (shapeCast S1024 (argB m c) shapeCasts_S1x1024_S1024) := by
  entry_read <;> rfl

theorem entryH (c : Dev nD) : (V m c main_arg0 : FVec Ideal S32768x1024 .f32) = argH m c := by
  entry_read <;> rfl

theorem entryX (c : Dev nD) : (V m c main_arg1 : FVec Ideal S32768x1024 .bf16) = argX m c := by
  entry_read <;> rfl

theorem entryR (c : Dev nD) : (V m c main_arg2 : FVec Ideal S32768x1024 .f32) = argR m c := by
  entry_read <;> rfl

/-- Point `t`'s block of argH, at an entry. -/
theorem blockH (c : Dev nD) (t : Fin cfg0.N) (a : Fin 512) (x : Fin 1024) (h : t.val * 512 + a.val < 32768) :
    iblk m c 0 t (ix2 a x) = argH m c (ix2 ⟨t.val * 512 + a.val, h⟩ x) := by
  blk_simp [iblk]
  refine (congrFun (entryH m c) _).trans ?_
  blk_ext [idx t]

/-- Point `t`'s block of argX, at an entry. -/
theorem blockX (c : Dev nD) (t : Fin cfg0.N) (a : Fin 512) (x : Fin 1024) (h : t.val * 512 + a.val < 32768) :
    iblk m c 1 t (ix2 a x) = argX m c (ix2 ⟨t.val * 512 + a.val, h⟩ x) := by
  blk_simp [iblk]
  refine (congrFun (entryX m c) _).trans ?_
  blk_ext [idx t]

/-- Point `t`'s block of argR, at an entry. -/
theorem blockR (c : Dev nD) (t : Fin cfg0.N) (a : Fin 512) (x : Fin 1024) (h : t.val * 512 + a.val < 32768) :
    iblk m c 2 t (ix2 a x) = argR m c (ix2 ⟨t.val * 512 + a.val, h⟩ x) := by
  blk_simp [iblk]
  refine (congrFun (entryR m c) _).trans ?_
  blk_ext [idx t]

theorem blockW1 (c : Dev nD) (t : Fin cfg0.N) (x : Fin 1024) (b : Fin 256) :
    iblk m c 3 t (ix2 x b) = argW1 m c (ix3 0 x b) := by
  blk_simp [iblk]
  refine (congrFun (entryW1 m c) _).trans ?_
  pointwise
  blk_ext [idx t]

theorem blockW3 (c : Dev nD) (t : Fin cfg0.N) (x : Fin 1024) (b : Fin 256) :
    iblk m c 4 t (ix2 x b) = argW3 m c (ix3 0 x b) := by
  blk_simp [iblk]
  refine (congrFun (entryW3 m c) _).trans ?_
  pointwise
  blk_ext [idx t]

theorem blockW2 (c : Dev nD) (t : Fin cfg0.N) (x : Fin 256) (b : Fin 1024) :
    iblk m c 5 t (ix2 x b) = argW2 m c (ix3 0 x b) := by
  blk_simp [iblk]
  refine (congrFun (entryW2 m c) _).trans ?_
  pointwise
  blk_ext [idx t]

theorem blockG (c : Dev nD) (t : Fin cfg0.N) (b : Fin 1024) :
    iblk m c 6 t (ix2 0 b) = argG m c (ix2 0 b) := by
  blk_simp [iblk]
  refine (congrFun (entryG m c) _).trans ?_
  pointwise
  blk_ext [idx t]

theorem blockB (c : Dev nD) (t : Fin cfg0.N) (b : Fin 1024) :
    iblk m c 7 t (ix2 0 b) = argB m c (ix2 0 b) := by
  blk_simp [iblk]
  refine (congrFun (entryB m c) _).trans ?_
  pointwise
  blk_ext [idx t]

/-- The block's residual sum. -/
theorem total_at (v0 : FVec Ideal S512x1024 .bf16) (v1 v12 : FVec Ideal S1024x256 .bf16) (v16 : FVec Ideal S512x1024 .f32)
    (v18 : FVec Ideal S256x1024 .bf16) (v22 : FVec Ideal S512x1024 .f32) (a : Fin 512) (n : Fin 1024) :
    k0_pay2 (F := Ideal) v0 v1 v12 v16 v18 v22 (ix2 a n) = total alpha (fun k => v22 (ix2 a k)) (fun k => v0 (ix2 a k)) (fun k => v16 (ix2 a k))
      (fun k e => v1 (ix2 k e)) (fun k e => v12 (ix2 k e)) (fun e n => v18 (ix2 e n)) n := by
  pointwise [k0_pay2, total, lin, gated, silu]
  simp only [zero_sub]

/-- The block's row means. -/
abbrev meanK (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

theorem mean_at (z : FVec Ideal S512x1024 .f32) (a : Fin 512) : meanK z (ix2 a 0) = mean count (fun k => z (ix2 a k)) := by
  pointwise [meanK, mean]

/-- The block's normalised rows. -/
theorem norm_at (z : FVec Ideal S512x1024 .f32) (g b : FVec Ideal S1x1024 .f32) (d : FVec Ideal S512x1 .f32)
    (hd : d = meanK z) (a : Fin 512) (n : Fin 1024) :
    k0_pay1 (F := Ideal) z (k0_pay3 g) (k0_pay4 b) d (ix2 a n)
      = norm count eps (fun k => z (ix2 a k)) (fun k => g (ix2 0 k)) (fun k => b (ix2 0 k)) n := by
  have e : d (ix2 a 0) = mean count (fun k => z (ix2 a k)) := (congrFun hd _).trans (mean_at z a)
  unfold Cert.Proof.LayerNorm.norm
  rw [← e]
  pointwise [k0_pay1, k0_pay3, k0_pay4, mean]

/-- What a point stores at an entry is the reference's result of the token there. -/
theorem point (c : Dev nD) (t : Fin cfg0.N) (a : Fin 512) (n : Fin 1024) (hr : t.val * 512 + a.val < 32768)
    (v0 : FVec Ideal S512x1024 .bf16) (v1 v12 : FVec Ideal S1024x256 .bf16) (v16 : FVec Ideal S512x1024 .f32)
    (v18 : FVec Ideal S256x1024 .bf16) (v22 : FVec Ideal S512x1024 .f32) (g b : FVec Ideal S1x1024 .f32)
    (e22 : ∀ k, v22 (ix2 a k) = argH m c (ix2 ⟨t.val * 512 + a.val, hr⟩ k)) (e0 : ∀ k, v0 (ix2 a k) = argX m c (ix2 ⟨t.val * 512 + a.val, hr⟩ k))
    (e16 : ∀ k, v16 (ix2 a k) = argR m c (ix2 ⟨t.val * 512 + a.val, hr⟩ k)) (e1 : ∀ k e, v1 (ix2 k e) = argW1 m c (ix3 0 k e))
    (e12 : ∀ k e, v12 (ix2 k e) = argW3 m c (ix3 0 k e)) (e18 : ∀ k e, v18 (ix2 k e) = argW2 m c (ix3 0 k e))
    (eg : ∀ k, g (ix2 0 k) = argG m c (ix2 0 k)) (eb : ∀ k, b (ix2 0 k) = argB m c (ix2 0 k)) :
    k0_pay1 (F := Ideal) (k0_pay2 v0 v1 v12 v16 v18 v22) (k0_pay3 g) (k0_pay4 b) (k0_pay5 v0 v1 v12 v16 v18 v22) (ix2 a n)
      = ref m c (ix2 ⟨t.val * 512 + a.val, hr⟩ n) := by
  refine (norm_at (k0_pay2 v0 v1 v12 v16 v18 v22) g b _ rfl a n).trans ?_
  refine Eq.trans ?_ (Cert.Reference7Ideal.Final.res_at (argH m c) (argX m c) (argR m c) (argW1 m c) (argW3 m c) (argW2 m c) (argG m c) (argB m c)
    ⟨t.val * 512 + a.val, hr⟩ n).symm
  have hz : (fun k => k0_pay2 (F := Ideal) v0 v1 v12 v16 v18 v22 (ix2 a k)) = total alpha (fun k => v22 (ix2 a k)) (fun k => v0 (ix2 a k))
      (fun k => v16 (ix2 a k)) (fun k e => v1 (ix2 k e)) (fun k e => v12 (ix2 k e)) (fun e n => v18 (ix2 e n)) := funext fun k => total_at v0 v1 v12 v16 v18 v22 a k
  rw [hz, funext eg, funext eb, funext e22, funext e0, funext e16, funext fun k => funext (e1 k), funext fun k => funext (e12 k),
    funext fun k => funext (e18 k)]

/-- An index of a block is the pair of its coordinates. -/
theorem eta (y : S512x1024.Idx) : y = ix2 (y 0) (y 1) := by
  blk_ext []

/-- The same at an entry of the array. -/
theorem pointAt (c : Dev nD) (t : Fin cfg0.N) (y : S512x1024.Idx) :
    k0_pay1 (F := Ideal) (k0_pay2 (F := Ideal) (iblk m c 1 t) (iblk m c 3 t) (iblk m c 4 t) (iblk m c 2 t) (iblk m c 5 t) (iblk m c 0 t))
      (k0_pay3 (F := Ideal) (iblk m c 6 t)) (k0_pay4 (F := Ideal) (iblk m c 7 t))
      (k0_pay5 (F := Ideal) (iblk m c 1 t) (iblk m c 3 t) (iblk m c 4 t) (iblk m c 2 t) (iblk m c 5 t) (iblk m c 0 t)) y
    = ref m c (((cfg0.win 8).blk t).view.emb y) := by
  have ht : t.val < 64 := t.isLt
  have h0 : (y 0).val < 512 := (y 0).isLt
  have hr : t.val * 512 + (y 0).val < 32768 := by omega
  refine (congrArg _ (eta y)).trans ?_
  refine (point m c t (y 0) (y 1) hr _ _ _ _ _ _ _ _ (fun k => blockH m c t (y 0) k hr) (fun k => blockX m c t (y 0) k hr) (fun k => blockR m c t (y 0) k hr)
    (blockW1 m c t) (blockW3 m c t) (blockW2 m c t) (blockG m c t) (blockB m c t)).trans ?_
  refine congrArg (ref m c) ?_
  blk_ext [idx t]

/-- After the run the result array is the reference's. -/
theorem final (c : Dev nD) : (dats m 0 c).arrAt 8 (cfgs 0).N = ref m c := by
  refine (dats m 0 c).arrAt_eq_of_covers 8 _ (by decide +kernel) fun t _ y => ?_
  blk_simp
  rw [after0_8]; frame_out
  exact pointAt m c t y

end Cert.Kernel7Ideal.Final

end
-- ==== Proof.FinalSampleRef.lean ====
/-
The reference of the layer's last step (`Reference8Ideal`): its result is, entry by entry, the normalised residual sum of the
token's row.
-/
module

public import proofs.«01_k».proof.Proof.LayerNorm
public import proofs.«01_k».proof.Proof.Gen.Reference8Ideal
public import proofs.«01_k».proof.Proof.Gen.Reference8Ideal.Run
public import Idealize.ShloMosaic.Lib.Pipeline.ValueKit

@[expose] public section

set_option maxRecDepth 65536

noncomputable section

namespace Cert.Reference8Ideal.Final

open Idealize.ShloMosaic Idealize.ShloMosaic.TcCoe Idealize.SL.Sem Cert.Proof.LayerNorm
open Cert.Reference8Ideal Cert.Reference8Ideal.Gen

/-- The factor of the residual. -/
abbrev alpha : EReal := (Scalar.ofBits .f32 0x3F9837F0#32 : Ideal .f32)
/-- The number of columns. -/
abbrev count : EReal := (Scalar.ofBits .f32 0x44800000#32 : Ideal .f32)
/-- The variance's increment. -/
abbrev eps : EReal := (Scalar.ofBits .f32 0x3727C5AC#32 : Ideal .f32)

/-- A column array of weights of the one layer. -/
abbrev dotA (X : FVec Ideal S256x1024 .bf16) (W : FVec Ideal S1x1024x256 .f32) : FVec Ideal S256x256 .f32 :=
  Host.dotGeneral dot_S256x1024_S1024x256_S256x256_1_0_0_1_n_n none (extf .f32 X bitsLt_bf16_f32) (shapeCast _ W shapeCasts_S1x1024x256_S1024x256)

/-- `a · sigmoid a`, entry by entry. -/
abbrev siluA (a : FVec Ideal S256x256 .f32) : FVec Ideal S256x256 .f32 :=
  mulf a (Host.divf (broadcastInDim S256x256 ![] bcast_S_S256x256 (constant S_ .f32 0x3F800000#32))
    (addf (broadcastInDim S256x256 ![] bcast_S_S256x256 (constant S_ .f32 0x3F800000#32)) (Host.exp (Host.negf a))))

/-- The residual sum. -/
abbrev totalA (H : FVec Ideal S256x1024 .f32) (X : FVec Ideal S256x1024 .bf16) (R : FVec Ideal S256x1024 .f32)
    (W1 W3 : FVec Ideal S1x1024x256 .f32) (W2 : FVec Ideal S1x256x1024 .f32) : FVec Ideal S256x1024 .f32 :=
  addf (mulf (broadcastInDim S256x1024 ![] bcast_S_S256x1024 (constant S_ .f32 0x3F9837F0#32)) H)
    (addf R (Host.dotGeneral dot_S256x256_S256x1024_S256x1024_1_0_0_1_n_n none (mulf (siluA (dotA X W1)) (dotA X W3))
      (shapeCast _ W2 shapeCasts_S1x256x1024_S256x1024)))

/-- Every row's mean. -/
def meanA (z : FVec Ideal S256x1024 .f32) : FVec Ideal S256x1 .f32 :=
  Host.divf (broadcastInDim S256x1 ![0] bcast_S256_S256x1_0 (Host.reduceAdd z (constant S_ .f32 0x00000000#32) reducesTo_S256x1024_S256_d1 h_S_))
    (broadcastInDim S256x1 ![] bcast_S_S256x1 (constant S_ .f32 0x44800000#32))

/-- The rows less their means. -/
def centA (z : FVec Ideal S256x1024 .f32) : FVec Ideal S256x1024 .f32 :=
  subf z (broadcastInDim S256x1024 ![0, 1] bcast_S256x1_S256x1024_0_1 (meanA z))

/-- The normalised rows. -/
def normA (z : FVec Ideal S256x1024 .f32) (g b : FVec Ideal S1x1024 .f32) : FVec Ideal S256x1024 .f32 :=
  addf (mulf (mulf (centA z) (broadcastInDim S256x1024 ![0, 1] bcast_S256x1_S256x1024_0_1
      (Host.rsqrt (addf (meanA (mulf (centA z) (centA z))) (broadcastInDim S256x1 ![] bcast_S_S256x1 (constant S_ .f32 0x3727C5AC#32))))))
      (broadcastInDim S256x1024 ![0, 1] bcast_S1x1024_S256x1024_0_1 (broadcastInDim S1x1024 ![1] bcast_S1024_S1x1024_1 (shapeCast _ g shapeCasts_S1x1024_S1024))))
    (broadcastInDim S256x1024 ![0, 1] bcast_S1x1024_S256x1024_0_1 (broadcastInDim S1x1024 ![1] bcast_S1024_S1x1024_1 (shapeCast _ b shapeCasts_S1x1024_S1024)))

/-- The reference's result. -/
def res (H : FVec Ideal S256x1024 .f32) (X : FVec Ideal S256x1024 .bf16) (R : FVec Ideal S256x1024 .f32)
    (W1 W3 : FVec Ideal S1x1024x256 .f32) (W2 : FVec Ideal S1x256x1024 .f32) (g b : FVec Ideal S1x1024 .f32) : FVec Ideal S256x1024 .f32 :=
  normA (totalA H X R W1 W3 W2) g b

theorem dot_at (X : FVec Ideal S256x1024 .bf16) (W : FVec Ideal S1x1024x256 .f32) (r : Fin 256) (e : Fin 256) :
    dotA X W (ix2 r e) = lin (fun k => X (ix2 r k)) (fun k e => W (ix3 0 k e)) e := by
  pointwise [dotA, lin]

theorem silu_at (a : FVec Ideal S256x256 .f32) (y : S256x256.Idx) : siluA a y = silu (a y) := by
  pointwise [siluA, silu]

theorem wide_at (A : FVec Ideal S256x256 .f32) (W2 : FVec Ideal S1x256x1024 .f32) (r : Fin 256) (n : Fin 1024) :
    Host.dotGeneral dot_S256x256_S256x1024_S256x1024_1_0_0_1_n_n none A (shapeCast _ W2 shapeCasts_S1x256x1024_S256x1024) (ix2 r n)
      = lin (fun e => A (ix2 r e)) (fun e n => W2 (ix3 0 e n)) n := by
  pointwise [lin]

theorem total_at (H : FVec Ideal S256x1024 .f32) (X : FVec Ideal S256x1024 .bf16) (R : FVec Ideal S256x1024 .f32)
    (W1 W3 : FVec Ideal S1x1024x256 .f32) (W2 : FVec Ideal S1x256x1024 .f32) (r : Fin 256) (n : Fin 1024) :
    totalA H X R W1 W3 W2 (ix2 r n) = total alpha (fun k => H (ix2 r k)) (fun k => X (ix2 r k)) (fun k => R (ix2 r k))
      (fun k e => W1 (ix3 0 k e)) (fun k e => W3 (ix3 0 k e)) (fun e n => W2 (ix3 0 e n)) n := by
  refine (show totalA H X R W1 W3 W2 (ix2 r n) = alpha * H (ix2 r n) + (R (ix2 r n) + Host.dotGeneral dot_S256x256_S256x1024_S256x1024_1_0_0_1_n_n none
    (mulf (siluA (dotA X W1)) (dotA X W3)) (shapeCast _ W2 shapeCasts_S1x256x1024_S256x1024) (ix2 r n)) from rfl).trans ?_
  refine congrArg (fun s : EReal => alpha * H (ix2 r n) + (R (ix2 r n) + s)) ((wide_at _ W2 r n).trans ?_)
  refine congrArg (fun f => lin f _ n) (funext fun e => ?_)
  exact congrArg₂ (fun a b : EReal => a * b) ((silu_at _ _).trans (congrArg silu (dot_at X W1 r e))) (dot_at X W3 r e)

theorem mean_at (z : FVec Ideal S256x1024 .f32) (r : Fin 256) : meanA z (ix2 r 0) = mean count (fun k => z (ix2 r k)) := by
  pointwise [meanA, mean]

theorem cent_at (z : FVec Ideal S256x1024 .f32) (r : Fin 256) (n : Fin 1024) :
    centA z (ix2 r n) = z (ix2 r n) - meanA z (ix2 r 0) := by
  pointwise [centA]

theorem cent_mean (z : FVec Ideal S256x1024 .f32) (r : Fin 256) (n : Fin 1024) :
    centA z (ix2 r n) = z (ix2 r n) - mean count (fun k => z (ix2 r k)) :=
  (cent_at z r n).trans (congrArg (fun s : EReal => z (ix2 r n) - s) (mean_at z r))

theorem norm_pieces (z : FVec Ideal S256x1024 .f32) (g b : FVec Ideal S1x1024 .f32) (r : Fin 256) (n : Fin 1024) :
    normA z g b (ix2 r n)
      = centA z (ix2 r n) * Ideal.rsqrt (meanA (mulf (centA z) (centA z)) (ix2 r 0) + eps) * g (ix2 0 n) + b (ix2 0 n) := by
  pointwise [normA]

theorem norm_at (z : FVec Ideal S256x1024 .f32) (g b : FVec Ideal S1x1024 .f32) (r : Fin 256) (n : Fin 1024) :
    normA z g b (ix2 r n) = norm count eps (fun k => z (ix2 r k)) (fun k => g (ix2 0 k)) (fun k => b (ix2 0 k)) n := by
  refine (norm_pieces z g b r n).trans ?_
  refine congrArg₂ (fun s v : EReal => s * Ideal.rsqrt (v + eps) * g (ix2 0 n) + b (ix2 0 n)) (cent_mean z r n) ((mean_at _ r).trans ?_)
  exact congrArg (mean count) (funext fun k => congrArg₂ (fun s t : EReal => s * t) (cent_mean z r k) (cent_mean z r k))

/-- The result at an entry. -/
theorem res_at (H : FVec Ideal S256x1024 .f32) (X : FVec Ideal S256x1024 .bf16) (R : FVec Ideal S256x1024 .f32)
    (W1 W3 : FVec Ideal S1x1024x256 .f32) (W2 : FVec Ideal S1x256x1024 .f32) (g b : FVec Ideal S1x1024 .f32) (r : Fin 256) (n : Fin 1024) :
    res H X R W1 W3 W2 g b (ix2 r n) = norm count eps (total alpha (fun k => H (ix2 r k)) (fun k => X (ix2 r k)) (fun k => R (ix2 r k))
      (fun k e => W1 (ix3 0 k e)) (fun k e => W3 (ix3 0 k e)) (fun e n => W2 (ix3 0 e n))) (fun k => g (ix2 0 k)) (fun k => b (ix2 0 k)) n :=
  (norm_at (totalA H X R W1 W3 W2) g b r n).trans
    (congrArg (fun f => norm count eps f _ _ n) (funext fun k => total_at H X R W1 W3 W2 r k))

/-- The reference runs to that result and leaves its arguments. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (by unfold Value.res_main_v38 res; rfl), (h c).2⟩) (Value.run m ρ)

end Cert.Reference8Ideal.Final

end
-- ==== Proof.FinalSampleValue.lean ====
/-
The layer's last step (`Kernel8Ideal`): the launch's result array is, entry by entry, the reference's normalised residual sum.
-/
module

public import proofs.«01_k».proof.Proof.FinalSampleRef
public import proofs.«01_k».proof.Proof.Gen.Kernel8Ideal.Frame
public import Idealize.ShloMosaic.Lib.Pipeline.ValueKit

@[expose] public section

set_option maxRecDepth 16384

noncomputable section

namespace Cert.Kernel8Ideal.Final

open Idealize.ShloMosaic Idealize.ShloMosaic.TcCoe Idealize.SL.Sem Cert.Proof.LayerNorm
open Idealize.ShloMosaic.Pipeline (Dat)
open Cert.Kernel8Ideal Cert.Kernel8Ideal.Gen
open Cert.Reference8Ideal.Final (alpha count eps)

variable (m : (ℓ : Loc nD τ sig) → Buf (Elt Ideal) ℓ)

/-- Every window's block index at every point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The arguments, as launched. -/
abbrev argH (c : Dev nD) : FVec Ideal S256x1024 .f32 := m ((c : Thread nD τ).loc main_arg0)
abbrev argX (c : Dev nD) : FVec Ideal S256x1024 .bf16 := m ((c : Thread nD τ).loc main_arg1)
abbrev argR (c : Dev nD) : FVec Ideal S256x1024 .f32 := m ((c : Thread nD τ).loc main_arg2)
abbrev argW1 (c : Dev nD) : FVec Ideal S1x1024x256 .f32 := m ((c : Thread nD τ).loc main_arg3)
abbrev argW3 (c : Dev nD) : FVec Ideal S1x1024x256 .f32 := m ((c : Thread nD τ).loc main_arg4)
abbrev argW2 (c : Dev nD) : FVec Ideal S1x256x1024 .f32 := m ((c : Thread nD τ).loc main_arg5)
abbrev argG (c : Dev nD) : FVec Ideal S1x1024 .f32 := m ((c : Thread nD τ).loc main_arg6)
abbrev argB (c : Dev nD) : FVec Ideal S1x1024 .f32 := m ((c : Thread nD τ).loc main_arg7)

/-- The reference's result of the launch's arguments. -/
abbrev ref (c : Dev nD) : FVec Ideal S256x1024 .f32 :=
  Cert.Reference8Ideal.Final.res (argH m c) (argX m c) (argR m c) (argW1 m c) (argW3 m c) (argW2 m c) (argG m c) (argB m c)

theorem entryW1 (c : Dev nD) : (V m c main_v1 : FVec Ideal S1024x256 .bf16)
    = truncf (F := Ideal) .bf16 (shapeCast S1024x256 (argW1 m c) shapeCasts_S1x1024x256_S1024x256) bitsLt_bf16_f32 := by
  entry_read <;> rfl

theorem entryW3 (c : Dev nD) : (V m c main_v3 : FVec Ideal S1024x256 .bf16)
    = truncf (F := Ideal) .bf16 (shapeCast S1024x256 (argW3 m c) shapeCasts_S1x1024x256_S1024x256) bitsLt_bf16_f32 := by
  entry_read <;> rfl

theorem entryW2 (c : Dev nD) : (V m c main_v5 : FVec Ideal S256x1024 .bf16)
    = truncf (F := Ideal) .bf16 (shapeCast S256x1024 (argW2 m c) shapeCasts_S1x256x1024_S256x1024) bitsLt_bf16_f32 := by
  entry_read <;> rfl

theorem entryG (c : Dev nD) : (V m c main_v7 : FVec Ideal S1x1024 .f32)
    = broadcastInDim S1x1024 ![1] bcast_S1024_S1x1024_1 (shapeCast S1024 (argG m c) shapeCasts_S1x1024_S1024) := by
  entry_read <;> rfl

theorem entryB (c : Dev nD) : (V m c main_v9 : FVec Ideal S1x1024 .f32)
    = broadcastInDim S1x1024 ![1] bcast_S1024_S1x1024_1 (shapeCast S1024 (argB m c) shapeCasts_S1x1024_S1024) := by
  entry_read <;> rfl

theorem entryH (c : Dev nD) : (V m c main_arg0 : FVec Ideal S256x1024 .f32) = argH m c := by
  entry_read <;> rfl

theorem entryX (c : Dev nD) : (V m c main_arg1 : FVec Ideal S256x1024 .bf16) = argX m c := by
  entry_read <;> rfl

theorem entryR (c : Dev nD) : (V m c main_arg2 : FVec Ideal S256x1024 .f32) = argR m c := by
  entry_read <;> rfl

/-- Point `t`'s block of argH, at an entry. -/
theorem blockH (c : Dev nD) (t : Fin cfg0.N) (a : Fin 256) (x : Fin 1024) (h : t.val * 256 + a.val < 256) :
    iblk m c 0 t (ix2 a x) = argH m c (ix2 ⟨t.val * 256 + a.val, h⟩ x) := by
  blk_simp [iblk]
  refine (congrFun (entryH m c) _).trans ?_
  blk_ext [idx t]

/-- Point `t`'s block of argX, at an entry. -/
theorem blockX (c : Dev nD) (t : Fin cfg0.N) (a : Fin 256) (x : Fin 1024) (h : t.val * 256 + a.val < 256) :
    iblk m c 1 t (ix2 a x) = argX m c (ix2 ⟨t.val * 256 + a.val, h⟩ x) := by
  blk_simp [iblk]
  refine (congrFun (entryX m c) _).trans ?_
  blk_ext [idx t]

/-- Point `t`'s block of argR, at an entry. -/
theorem blockR (c : Dev nD) (t : Fin cfg0.N) (a : Fin 256) (x : Fin 1024) (h : t.val * 256 + a.val < 256) :
    iblk m c 2 t (ix2 a x) = argR m c (ix2 ⟨t.val * 256 + a.val, h⟩ x) := by
  blk_simp [iblk]
  refine (congrFun (entryR m c) _).trans ?_
  blk_ext [idx t]

theorem blockW1 (c : Dev nD) (t : Fin cfg0.N) (x : Fin 1024) (b : Fin 256) :
    iblk m c 3 t (ix2 x b) = argW1 m c (ix3 0 x b) := by
  blk_simp [iblk]
  refine (congrFun (entryW1 m c) _).trans ?_
  pointwise
  blk_ext [idx t]

theorem blockW3 (c : Dev nD) (t : Fin cfg0.N) (x : Fin 1024) (b : Fin 256) :
    iblk m c 4 t (ix2 x b) = argW3 m c (ix3 0 x b) := by
  blk_simp [iblk]
  refine (congrFun (entryW3 m c) _).trans ?_
  pointwise
  blk_ext [idx t]

theorem blockW2 (c : Dev nD) (t : Fin cfg0.N) (x : Fin 256) (b : Fin 1024) :
    iblk m c 5 t (ix2 x b) = argW2 m c (ix3 0 x b) := by
  blk_simp [iblk]
  refine (congrFun (entryW2 m c) _).trans ?_
  pointwise
  blk_ext [idx t]

theorem blockG (c : Dev nD) (t : Fin cfg0.N) (b : Fin 1024) :
    iblk m c 6 t (ix2 0 b) = argG m c (ix2 0 b) := by
  blk_simp [iblk]
  refine (congrFun (entryG m c) _).trans ?_
  pointwise
  blk_ext [idx t]

theorem blockB (c : Dev nD) (t : Fin cfg0.N) (b : Fin 1024) :
    iblk m c 7 t (ix2 0 b) = argB m c (ix2 0 b) := by
  blk_simp [iblk]
  refine (congrFun (entryB m c) _).trans ?_
  pointwise
  blk_ext [idx t]

/-- The block's residual sum. -/
theorem total_at (v0 : FVec Ideal S256x1024 .bf16) (v1 v12 : FVec Ideal S1024x256 .bf16) (v16 : FVec Ideal S256x1024 .f32)
    (v18 : FVec Ideal S256x1024 .bf16) (v22 : FVec Ideal S256x1024 .f32) (a : Fin 256) (n : Fin 1024) :
    k0_pay2 (F := Ideal) v0 v1 v12 v16 v18 v22 (ix2 a n) = total alpha (fun k => v22 (ix2 a k)) (fun k => v0 (ix2 a k)) (fun k => v16 (ix2 a k))
      (fun k e => v1 (ix2 k e)) (fun k e => v12 (ix2 k e)) (fun e n => v18 (ix2 e n)) n := by
  pointwise [k0_pay2, total, lin, gated, silu]
  simp only [zero_sub]

/-- The block's row means. -/
abbrev meanK (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits .f32 0x44800000#32))

theorem mean_at (z : FVec Ideal S256x1024 .f32) (a : Fin 256) : meanK z (ix2 a 0) = mean count (fun k => z (ix2 a k)) := by
  pointwise [meanK, mean]

/-- The block's normalised rows. -/
theorem norm_at (z : FVec Ideal S256x1024 .f32) (g b : FVec Ideal S1x1024 .f32) (d : FVec Ideal S256x1 .f32)
    (hd : d = meanK z) (a : Fin 256) (n : Fin 1024) :
    k0_pay1 (F := Ideal) z (k0_pay3 g) (k0_pay4 b) d (ix2 a n)
      = norm count eps (fun k => z (ix2 a k)) (fun k => g (ix2 0 k)) (fun k => b (ix2 0 k)) n := by
  have e : d (ix2 a 0) = mean count (fun k => z (ix2 a k)) := (congrFun hd _).trans (mean_at z a)
  unfold Cert.Proof.LayerNorm.norm
  rw [← e]
  pointwise [k0_pay1, k0_pay3, k0_pay4, mean]

/-- What a point stores at an entry is the reference's result of the token there. -/
theorem point (c : Dev nD) (t : Fin cfg0.N) (a : Fin 256) (n : Fin 1024) (hr : t.val * 256 + a.val < 256)
    (v0 : FVec Ideal S256x1024 .bf16) (v1 v12 : FVec Ideal S1024x256 .bf16) (v16 : FVec Ideal S256x1024 .f32)
    (v18 : FVec Ideal S256x1024 .bf16) (v22 : FVec Ideal S256x1024 .f32) (g b : FVec Ideal S1x1024 .f32)
    (e22 : ∀ k, v22 (ix2 a k) = argH m c (ix2 ⟨t.val * 256 + a.val, hr⟩ k)) (e0 : ∀ k, v0 (ix2 a k) = argX m c (ix2 ⟨t.val * 256 + a.val, hr⟩ k))
    (e16 : ∀ k, v16 (ix2 a k) = argR m c (ix2 ⟨t.val * 256 + a.val, hr⟩ k)) (e1 : ∀ k e, v1 (ix2 k e) = argW1 m c (ix3 0 k e))
    (e12 : ∀ k e, v12 (ix2 k e) = argW3 m c (ix3 0 k e)) (e18 : ∀ k e, v18 (ix2 k e) = argW2 m c (ix3 0 k e))
    (eg : ∀ k, g (ix2 0 k) = argG m c (ix2 0 k)) (eb : ∀ k, b (ix2 0 k) = argB m c (ix2 0 k)) :
    k0_pay1 (F := Ideal) (k0_pay2 v0 v1 v12 v16 v18 v22) (k0_pay3 g) (k0_pay4 b) (k0_pay5 v0 v1 v12 v16 v18 v22) (ix2 a n)
      = ref m c (ix2 ⟨t.val * 256 + a.val, hr⟩ n) := by
  refine (norm_at (k0_pay2 v0 v1 v12 v16 v18 v22) g b _ rfl a n).trans ?_
  refine Eq.trans ?_ (Cert.Reference8Ideal.Final.res_at (argH m c) (argX m c) (argR m c) (argW1 m c) (argW3 m c) (argW2 m c) (argG m c) (argB m c)
    ⟨t.val * 256 + a.val, hr⟩ n).symm
  have hz : (fun k => k0_pay2 (F := Ideal) v0 v1 v12 v16 v18 v22 (ix2 a k)) = total alpha (fun k => v22 (ix2 a k)) (fun k => v0 (ix2 a k))
      (fun k => v16 (ix2 a k)) (fun k e => v1 (ix2 k e)) (fun k e => v12 (ix2 k e)) (fun e n => v18 (ix2 e n)) := funext fun k => total_at v0 v1 v12 v16 v18 v22 a k
  rw [hz, funext eg, funext eb, funext e22, funext e0, funext e16, funext fun k => funext (e1 k), funext fun k => funext (e12 k),
    funext fun k => funext (e18 k)]

/-- An index of a block is the pair of its coordinates. -/
theorem eta (y : S256x1024.Idx) : y = ix2 (y 0) (y 1) := by
  blk_ext []

/-- The same at an entry of the array. -/
theorem pointAt (c : Dev nD) (t : Fin cfg0.N) (y : S256x1024.Idx) :
    k0_pay1 (F := Ideal) (k0_pay2 (F := Ideal) (iblk m c 1 t) (iblk m c 3 t) (iblk m c 4 t) (iblk m c 2 t) (iblk m c 5 t) (iblk m c 0 t))
      (k0_pay3 (F := Ideal) (iblk m c 6 t)) (k0_pay4 (F := Ideal) (iblk m c 7 t))
      (k0_pay5 (F := Ideal) (iblk m c 1 t) (iblk m c 3 t) (iblk m c 4 t) (iblk m c 2 t) (iblk m c 5 t) (iblk m c 0 t)) y
    = ref m c (((cfg0.win 8).blk t).view.emb y) := by
  have ht : t.val < 1 := t.isLt
  have h0 : (y 0).val < 256 := (y 0).isLt
  have hr : t.val * 256 + (y 0).val < 256 := by omega
  refine (congrArg _ (eta y)).trans ?_
  refine (point m c t (y 0) (y 1) hr _ _ _ _ _ _ _ _ (fun k => blockH m c t (y 0) k hr) (fun k => blockX m c t (y 0) k hr) (fun k => blockR m c t (y 0) k hr)
    (blockW1 m c t) (blockW3 m c t) (blockW2 m c t) (blockG m c t) (blockB m c t)).trans ?_
  refine congrArg (ref m c) ?_
  blk_ext [idx t]

/-- After the run the result array is the reference's. -/
theorem final (c : Dev nD) : (dats m 0 c).arrAt 8 (cfgs 0).N = ref m c := by
  refine (dats m 0 c).arrAt_eq_of_covers 8 _ (by decide +kernel) fun t _ y => ?_
  blk_simp
  rw [after0_8]; frame_out
  exact pointAt m c t y

end Cert.Kernel8Ideal.Final

end
-- ==== Proof.FinalClaim.lean ====
/-
The claims about the layer's last step, of the prompt (`Kernel7`) and of the sample (`Kernel8`): the frames and the value equations.
-/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.FinalValue
public import proofs.«01_k».proof.Proof.FinalSampleValue
public import Idealize.ShloMosaic.Lib.Claim

@[expose] public section

set_option maxRecDepth 16384

noncomputable section

namespace Cert.Proof

open Idealize.ShloMosaic Idealize.SL.Sem

/-- The last step of the prompt runs as compiled and leaves its arguments as they were. -/
theorem frame7 : Cert.quiescent_Kernel7 := fun m g _ => Cert.Kernel7.Gen.frame m g

/-- So does its ideal form. -/
theorem frame7Ideal : Cert.quiescent_Kernel7Ideal := fun m g _ => Cert.Kernel7Ideal.Gen.frame m g

/-- The reference of the last step of the prompt runs. -/
theorem frame7Ref : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The last step of the prompt computes the reference's result. -/
theorem algebraic7 : Cert.algebraic_Kernel7Ideal_Reference7Ideal := by
  pair_intro
  · run_from Cert.Kernel7Ideal.Gen.run_main m g
  · run_from Cert.Reference7Ideal.Final.run_named m' g'
    · exact (Cert.Kernel7Ideal.Final.final m c).symm

/-- The last step of the sample runs as compiled and leaves its arguments as they were. -/
theorem frame8 : Cert.quiescent_Kernel8 := fun m g _ => Cert.Kernel8.Gen.frame m g

/-- So does its ideal form. -/
theorem frame8Ideal : Cert.quiescent_Kernel8Ideal := fun m g _ => Cert.Kernel8Ideal.Gen.frame m g

/-- The reference of the last step of the sample runs. -/
theorem frame8Ref : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The last step of the sample computes the reference's result. -/
theorem algebraic8 : Cert.algebraic_Kernel8Ideal_Reference8Ideal := by
  pair_intro
  · run_from Cert.Kernel8Ideal.Gen.run_main m g
  · run_from Cert.Reference8Ideal.Final.run_named m' g'
    · exact (Cert.Kernel8Ideal.Final.final m c).symm

end Cert.Proof

end
-- ==== Proof.GatesValue.lean ====
/-
The in-projection's gate columns (`Kernel3Ideal`): each of the two result arrays of the launch is, entry by entry,
the reference's sigmoid of its slice of `x · W + b`.
-/
module

public import proofs.«01_k».proof.Proof.Gen.Kernel3Ideal.Frame
public import proofs.«01_k».proof.Proof.Gen.Reference3Ideal
public import Idealize.ShloMosaic.Lib.Pipeline.ValueKit

@[expose] public section

set_option maxRecDepth 16384

noncomputable section

namespace Cert.Kernel3Ideal.Gates

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's `x · W + b`, one row per token. -/
abbrev proj (X : FVec Ideal Cert.Reference3Ideal.S8x4096x1024 .f32) (W : FVec Ideal Cert.Reference3Ideal.S1x1024x9224 .f32)
    (Bi : FVec Ideal Cert.Reference3Ideal.S1x9224 .f32) : FVec Ideal Cert.Reference3Ideal.S32768x9224 .f32 :=
  shapeCast _ (addf (Host.dotGeneral Cert.Reference3Ideal.dot_S8x4096x1024_S1024x9224_S8x4096x9224_2_0_01_1_n_n none X
      (shapeCast _ W Cert.Reference3Ideal.Gen.shapeCasts_S1x1024x9224_S1024x9224))
    (broadcastInDim Cert.Reference3Ideal.S8x4096x9224 ![0, 1, 2] Cert.Reference3Ideal.Gen.bcast_S1x1x9224_S8x4096x9224_0_1_2
      (broadcastInDim Cert.Reference3Ideal.S1x1x9224 ![2] Cert.Reference3Ideal.Gen.bcast_S9224_S1x1x9224_2
        (shapeCast _ Bi Cert.Reference3Ideal.Gen.shapeCasts_S1x9224_S9224))))
    Cert.Reference3Ideal.Gen.shapeCasts_S8x4096x9224_S32768x9224

/-- The reference's first result: the sigmoid of columns 7176 to 8200, rounded. -/
abbrev refGa (X : FVec Ideal Cert.Reference3Ideal.S8x4096x1024 .f32) (W : FVec Ideal Cert.Reference3Ideal.S1x1024x9224 .f32)
    (Bi : FVec Ideal Cert.Reference3Ideal.S1x9224 .f32) : FVec Ideal Cert.Reference3Ideal.S32768x1024 .bf16 :=
  truncf .bf16 (Host.divf (broadcastInDim Cert.Reference3Ideal.S32768x1024 ![] Cert.Reference3Ideal.Gen.bcast_S_S32768x1024 (constant Cert.Reference3Ideal.S_ .f32 0x3F800000#32))
    (addf (broadcastInDim Cert.Reference3Ideal.S32768x1024 ![] Cert.Reference3Ideal.Gen.bcast_S_S32768x1024 (constant Cert.Reference3Ideal.S_ .f32 0x3F800000#32))
      (Host.exp (Host.negf (extractStridedSlice Cert.Reference3Ideal.S32768x1024 ![0, 7176] (proj X W Bi)
        Cert.Reference3Ideal.Gen.slices_S32768x9224_S32768x1024_0_7176))))) Cert.Reference3Ideal.Gen.bitsLt_bf16_f32

/-- The reference's second result: the sigmoid of columns 8200 to 9224, rounded. -/
abbrev refGm (X : FVec Ideal Cert.Reference3Ideal.S8x4096x1024 .f32) (W : FVec Ideal Cert.Reference3Ideal.S1x1024x9224 .f32)
    (Bi : FVec Ideal Cert.Reference3Ideal.S1x9224 .f32) : FVec Ideal Cert.Reference3Ideal.S32768x1024 .bf16 :=
  truncf .bf16 (Host.divf (broadcastInDim Cert.Reference3Ideal.S32768x1024 ![] Cert.Reference3Ideal.Gen.bcast_S_S32768x1024 (constant Cert.Reference3Ideal.S_ .f32 0x3F800000#32))
    (addf (broadcastInDim Cert.Reference3Ideal.S32768x1024 ![] Cert.Reference3Ideal.Gen.bcast_S_S32768x1024 (constant Cert.Reference3Ideal.S_ .f32 0x3F800000#32))
      (Host.exp (Host.negf (extractStridedSlice Cert.Reference3Ideal.S32768x1024 ![0, 8200] (proj X W Bi)
        Cert.Reference3Ideal.Gen.slices_S32768x9224_S32768x1024_0_8200))))) Cert.Reference3Ideal.Gen.bitsLt_bf16_f32

/-- Every window's block index at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The tokens, as launched. -/
abbrev argX (c : Dev nD) : FVec Ideal S8x4096x1024 .f32 := m ((c : Thread nD τ).loc main_arg0)
/-- The weights, as launched. -/
abbrev argW (c : Dev nD) : FVec Ideal S1x1024x9224 .f32 := m ((c : Thread nD τ).loc main_arg1)
/-- The bias, as launched. -/
abbrev argB (c : Dev nD) : FVec Ideal S1x9224 .f32 := m ((c : Thread nD τ).loc main_arg2)

/-- The tokens' array the launch reads is the argument, one row per token. -/
theorem entryX (c : Dev nD) : (V m c main_v7 : FVec Ideal S32768x1024 .bf16)
    = truncf (F := Ideal) .bf16 (shapeCast S32768x1024 (argX m c) shapeCasts_S8x4096x1024_S32768x1024) bitsLt_bf16_f32 := by
  entry_read <;> rfl

/-- The weight columns the launch reads. -/
theorem entryW (c : Dev nD) : (V m c main_v3 : FVec Ideal S1024x2048 .bf16)
    = truncf (F := Ideal) .bf16 (extractStridedSlice S1024x2048 ![0, 7176] (shapeCast S1024x9224 (argW m c) shapeCasts_S1x1024x9224_S1024x9224) slices_S1024x9224_S1024x2048_0_7176) bitsLt_bf16_f32 := by
  entry_read <;> rfl

/-- The bias columns the launch reads, as one row. -/
theorem entryB (c : Dev nD) : (V m c main_v5 : FVec Ideal S1x2048 .f32)
    = broadcastInDim S1x2048 ![1] bcast_S2048_S1x2048_1 (extractStridedSlice S2048 ![7176] (shapeCast S9224 (argB m c) shapeCasts_S1x9224_S9224) slices_S9224_S2048_7176) := by
  entry_read <;> rfl

/-- Point `t`'s block of tokens, at an entry. -/
theorem blockX (c : Dev nD) (t : Fin cfg0.N) (a : Fin 512) (x : Fin 1024) (h1 : (t.val * 512 + a.val) / 4096 < 8)
    (h2 : (t.val * 512 + a.val) % 4096 < 4096) :
    iblk m c 0 t (ix2 a x) = argX m c
      (ix3 ⟨(t.val * 512 + a.val) / 4096, h1⟩ ⟨(t.val * 512 + a.val) % 4096, h2⟩ x) := by
  blk_simp [iblk]
  refine (congrFun (entryX m c) _).trans ?_
  pointwise
  blk_ext [idx t]

/-- The block of weight columns, at an entry. -/
theorem blockW (c : Dev nD) (t : Fin cfg0.N) (x : Fin 1024) (b : Fin 2048) (h : 7176 + b.val < 9224) :
    iblk m c 1 t (ix2 x b) = argW m c (ix3 0 x ⟨7176 + b.val, h⟩) := by
  blk_simp [iblk]
  refine (congrFun (entryW m c) _).trans ?_
  pointwise
  blk_ext [idx t]

/-- The block of bias columns, at an entry. -/
theorem blockB (c : Dev nD) (t : Fin cfg0.N) (b : Fin 2048) (h : 7176 + b.val < 9224) :
    iblk m c 2 t (ix2 0 b) = argB m c (ix2 0 ⟨7176 + b.val, h⟩) := by
  blk_simp [iblk]
  refine (congrFun (entryB m c) _).trans ?_
  pointwise
  blk_ext [idx t]

/-- What a point stores at an entry of its attention-gate block is the reference's first result there. -/
theorem pointGa (c : Dev nD) (t : Fin cfg0.N) (y : S512x1024.Idx) :
    k0_pay2 (iblk m c 0 t) (View.ld (iblk m c 1 t) r0_1) (View.ld (iblk m c 2 t) r0_2) y
    = refGa (argX m c) (argW m c) (argB m c) (((cfg0.win 3).blk t).view.emb y) := by
  have ht : t.val < 64 := t.isLt
  have h0 : (y 0).val < 512 := (y 0).isLt
  have h1 : (y 1).val < 1024 := (y 1).isLt
  pointwise [k0_pay1, k0_pay2, refGa, proj]
  rw [zero_sub]
  refine congrArg (fun z : EReal => Ideal.div 1 (1 + Ideal.exp (-z))) ?_
  refine congrArg₂ (fun a b : EReal => a + b) (Finset.sum_congr rfl fun x _ => congrArg₂ (fun a b : EReal => a * b) ?_ ?_) ?_
  · exact (blockX m c t (y 0) x (by omega) (by omega)).trans (by blk_ext [idx t])
  · exact (blockW m c t x _ (show 7176 + ((y 1).val) < 9224 by omega)).trans (by blk_ext [idx t])
  · exact (blockB m c t _ (show 7176 + ((y 1).val) < 9224 by omega)).trans (by blk_ext [idx t])

/-- What a point stores at an entry of its memory-gate block is the reference's second result there. -/
theorem pointGm (c : Dev nD) (t : Fin cfg0.N) (y : S512x1024.Idx) :
    k0_pay3 (iblk m c 0 t) (View.ld (iblk m c 1 t) r0_3) (View.ld (iblk m c 2 t) r0_4) y
    = refGm (argX m c) (argW m c) (argB m c) (((cfg0.win 4).blk t).view.emb y) := by
  have ht : t.val < 64 := t.isLt
  have h0 : (y 0).val < 512 := (y 0).isLt
  have h1 : (y 1).val < 1024 := (y 1).isLt
  pointwise [k0_pay1, k0_pay3, refGm, proj]
  rw [zero_sub]
  refine congrArg (fun z : EReal => Ideal.div 1 (1 + Ideal.exp (-z))) ?_
  refine congrArg₂ (fun a b : EReal => a + b) (Finset.sum_congr rfl fun x _ => congrArg₂ (fun a b : EReal => a * b) ?_ ?_) ?_
  · exact (blockX m c t (y 0) x (by omega) (by omega)).trans (by blk_ext [idx t])
  · exact (blockW m c t x _ (show 7176 + (1024 + (y 1).val) < 9224 by omega)).trans (by blk_ext [idx t])
  · exact (blockB m c t _ (show 7176 + (1024 + (y 1).val) < 9224 by omega)).trans (by blk_ext [idx t])

/-- After the run the attention-gate array is the reference's first result. -/
theorem finalGa (c : Dev nD) : (dats m 0 c).arrAt 3 (cfgs 0).N = refGa (argX m c) (argW m c) (argB m c) := by
  refine (dats m 0 c).arrAt_eq_of_covers 3 _ (by decide +kernel) fun t _ y => ?_
  blk_simp
  rw [after0_3]; frame_out
  exact pointGa m c t y

/-- After the run the memory-gate array is the reference's second result. -/
theorem finalGm (c : Dev nD) : (dats m 0 c).arrAt 4 (cfgs 0).N = refGm (argX m c) (argW m c) (argB m c) := by
  refine (dats m 0 c).arrAt_eq_of_covers 4 _ (by decide +kernel) fun t _ y => ?_
  blk_simp
  rw [after0_4]; frame_out
  exact pointGm m c t y

end Cert.Kernel3Ideal.Gates

end
-- ==== Proof.GatesClaim.lean ====
/-
The claims about the gate projection (`Kernel3`): the frames and the value equation.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.GatesValue
public import Idealize.ShloMosaic.Lib.Claim

@[expose] public section

set_option maxRecDepth 16384

noncomputable section

namespace Cert.Proof

open Idealize.ShloMosaic Idealize.SL.Sem

/-- The gate projection runs as compiled and leaves its arguments as they were. -/
theorem frame3 : Cert.quiescent_Kernel3 := fun m g _ => Cert.Kernel3.Gen.frame m g

/-- So does its ideal form. -/
theorem frame3Ideal : Cert.quiescent_Kernel3Ideal := fun m g _ => Cert.Kernel3Ideal.Gen.frame m g

/-- The reference of the gate projection runs. -/
theorem frame3Ref : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

/-- The gate projection computes the reference's two results. -/
theorem algebraic3 : Cert.algebraic_Kernel3Ideal_Reference3Ideal := by
  pair_intro
  · run_from Cert.Kernel3Ideal.Gen.run_main m g
  · run_from Cert.Reference3Ideal.Value.run m' g'
    · exact (Cert.Kernel3Ideal.Gates.finalGa m c).symm
    · exact (Cert.Kernel3Ideal.Gates.finalGm m c).symm

end Cert.Proof

end
-- ==== Proof.Rope.lean ====
/-
The rotation of a query or key row, stated on the extended reals and apart from any array: what the reference computes
(`rotated`), what the kernel computes from its two lane tables (`turn`), and that they agree.
-/
module

public import Idealize.ShloMosaic.Lib.Pipeline.ValueKit

@[expose] public section

noncomputable section

namespace Cert.Proof.Rope

open Idealize.ShloMosaic

/-- The angle of frequency `j` at the position whose word is `p`. -/
def angle (p : BitVec 32) (j : ℕ) : EReal :=
  FloatOps.sitofp (F := Ideal) FTy.f32 p *
    Ideal.pow (Ideal.ofBits FTy.f32 0x48F42400#32)
      (Ideal.div (-FloatOps.sitofp (F := Ideal) FTy.f32 (BitVec.ofNat 32 j) * Ideal.ofBits FTy.f32 0x40000000#32)
        (Ideal.ofBits FTy.f32 0x41800000#32))

/-- Column `n` of a row `z` of 64-wide maps after the rotation at position `p`: of each map the first eight columns are
    paired with the next eight, the other columns stay. -/
def rotated (z : ℕ → EReal) (p : BitVec 32) (n : ℕ) : EReal :=
  if n % 64 < 8 then z n * Ideal.cos (angle p (n % 64)) - z (n + 8) * Ideal.sin (angle p (n % 64))
  else if n % 64 < 16 then z n * Ideal.cos (angle p (n % 64 - 8)) + z (n - 8) * Ideal.sin (angle p (n % 64 - 8))
  else z n

/-- The cosine table of the kernel at lane `l`. -/
def cosAt (p : BitVec 32) (l : ℕ) : EReal :=
  if l % 64 < 8 then Ideal.cos (angle p (l % 64)) else if l % 64 < 16 then Ideal.cos (angle p (l % 64 - 8)) else 1

/-- The signed sine table of the kernel at lane `l`. -/
def sinAt (p : BitVec 32) (l : ℕ) : EReal :=
  if l % 64 < 8 then -Ideal.sin (angle p (l % 64)) else if l % 64 < 16 then Ideal.sin (angle p (l % 64 - 8)) else 0

/-- A row of 128 lanes as a function on the numbers. -/
def lane (t : Fin 128 → EReal) (l : ℕ) : EReal := if h : l < 128 then t ⟨l, h⟩ else 0

theorem lane_val (t : Fin 128 → EReal) (l : Fin 128) : lane t l.val = t l := dif_pos l.isLt

/-- Column `n` of a row as the kernel turns it: within its 128 lanes the row times the cosines, plus the row shifted by
    eight lanes, up or down, times the signed sines. -/
def turn (z co si : ℕ → EReal) (n : ℕ) : EReal :=
  z n * co (n % 128)
    + (if n % 128 % 64 < 8 then z (n / 128 * 128 + (n % 128 + 8) % 128) else z (n / 128 * 128 + (n % 128 + 120) % 128)) * si (n % 128)

/-- The turn, at lane `l` of head `h`. -/
theorem turn_at (z co si : ℕ → EReal) (h l : ℕ) (hl : l < 128) :
    turn z co si (h * 128 + l) = z (h * 128 + l) * co l
      + (if l % 64 < 8 then z (h * 128 + (l + 8) % 128) else z (h * 128 + (l + 120) % 128)) * si l := by
  have h1 : (h * 128 + l) % 128 = l := by omega
  have h2 : (h * 128 + l) / 128 = h := by omega
  unfold turn
  rw [h1, h2]

/-- With the tables of position `p` the turn is the reference's rotation. -/
theorem turn_eq (z co si : ℕ → EReal) (p : BitVec 32) (hco : ∀ l < 128, co l = cosAt p l) (hsi : ∀ l < 128, si l = sinAt p l)
    (n : ℕ) : turn z co si n = rotated z p n := by
  have hl : n % 128 < 128 := Nat.mod_lt _ (by decide)
  have hm : n % 128 % 64 = n % 64 := by omega
  have hn : n / 128 * 128 + n % 128 = n := by omega
  unfold turn rotated
  rw [hco _ hl, hsi _ hl]
  unfold cosAt sinAt
  rw [hm]
  by_cases h8 : n % 64 < 8
  · rw [if_pos h8, if_pos h8, if_pos h8, if_pos h8, mul_neg, ← sub_eq_add_neg,
      show n / 128 * 128 + (n % 128 + 8) % 128 = n + 8 by omega]
  · rw [if_neg h8, if_neg h8, if_neg h8, if_neg h8]
    by_cases h16 : n % 64 < 16
    · rw [if_pos h16, if_pos h16, if_pos h16, show n / 128 * 128 + (n % 128 + 120) % 128 = n - 8 by omega]
    · rw [if_neg h16, if_neg h16, if_neg h16, mul_one, mul_zero, add_zero]

/-- The rotation reads its row at the columns of the same head only, so rows that agree on them rotate alike. -/
theorem rotated_congr (z z' : ℕ → EReal) (p : BitVec 32) (n : ℕ) (N : ℕ) (hn : n < N) (h64 : N % 64 = 0) (h : ∀ k < N, z k = z' k) :
    rotated z p n = rotated z' p n := by
  unfold rotated
  by_cases h8 : n % 64 < 8
  · rw [if_pos h8, if_pos h8, h n hn, h (n + 8) (by omega)]
  · rw [if_neg h8, if_neg h8]
    by_cases h16 : n % 64 < 16
    · rw [if_pos h16, if_pos h16, h n hn, h (n - 8) (by omega)]
    · rw [if_neg h16, if_neg h16, h n hn]

/-- A selection by a bit that says `p`. -/
theorem select_ite {α : Type} (p : Prop) [Decidable p] (a b : α) :
    Scalar.select (if p then 1#1 else 0#1) a b = if p then a else b := by
  split <;> rfl

/-- Column `n` of a token's row `x · W + b`. -/
def rowAt (x : Fin 1024 → EReal) (W : Fin 1024 → Fin 9224 → EReal) (b : Fin 9224 → EReal) (n : ℕ) : EReal :=
  if h : n < 9224 then (∑ k : Fin 1024, x k * W k ⟨n, h⟩) + b ⟨n, h⟩ else 0

end Cert.Proof.Rope
-- ==== Proof.QkvMetaBlock.lean ====
/-
The block of the meta tokens' queries, keys and values: what the body leaves in its query, key and value windows, column by column, from the blocks it reads.
-/
module

public import proofs.«01_k».proof.Proof.Gen.Kernel4Ideal.Frame
public import proofs.«01_k».proof.Proof.Rope
public import Idealize.ShloMosaic.Lib.Pipeline.ValueKit

@[expose] public section

set_option maxRecDepth 65536

noncomputable section

namespace Cert.Kernel4Ideal.MetaBlock

open Idealize.ShloMosaic Cert.Proof.Rope
open Cert.Kernel4Ideal Cert.Kernel4Ideal.Gen

variable (x0 : Vec Ideal S128x1024 .bf16) (x1 : Vec Ideal S1024x3072 .bf16) (x2 : Vec Ideal S1x3072 .f32)
  (x3 : Vec Ideal S128x128 .f32) (x4 : Vec Ideal S128x128 .f32)

/-- Column `off + n` of row `r` of `x · W + b` over the blocks. -/
def zrow (off : ℕ) (r : Fin 128) (n : ℕ) : EReal :=
  if h : off + n < 3072 then (∑ k : Fin 1024, x0 (ix2 r k) * x1 (ix2 k ⟨off + n, h⟩)) + x2 (ix2 0 ⟨off + n, h⟩) else 0

/-- The tables' rows. -/
abbrev co (r : Fin 128) : ℕ → EReal := lane fun l => x3 (ix2 r l)
/-- The signed sines' row. -/
abbrev si (r : Fin 128) : ℕ → EReal := lane fun l => x4 (ix2 r l)

/-- The turned row of the columns from `off`. -/
def turned (off : ℕ) (r : Fin 128) (n : ℕ) : EReal := turn (zrow x0 x1 x2 off r) (co x3 r) (si x4 r) n

/-- The keys of the block. -/
def keys : Vec Ideal S128x1024 .f32 := fun y => turned x0 x1 x2 x3 x4 1024 (y 0) (y 1).val
/-- The values of the block. -/
def vals : Vec Ideal S128x1024 .f32 := fun y => zrow x0 x1 x2 2048 (y 0) (y 1).val
/-- The scaled queries of the block, the first map's lanes. -/
def qLo : Vec Ideal S8x128x128 .bf16 := fun y =>
  if (y 2).val < 64 then turned x0 x1 x2 x3 x4 0 (y 1) ((y 0).val * 128 + (y 2).val) * Ideal.ofBits FTy.f32 0x3E000000#32 else 0
/-- The scaled queries of the block, the second map's lanes. -/
def qHi : Vec Ideal S8x128x128 .bf16 := fun y =>
  if (y 2).val < 64 then 0 else turned x0 x1 x2 x3 x4 0 (y 1) ((y 0).val * 128 + (y 2).val) * Ideal.ofBits FTy.f32 0x3E000000#32

/-- The body's query product. -/
abbrev zq : FVec Ideal S128x1024 .f32 := k1_pay7 (View.ld x0 r1_0) (View.ld x1 r1_2) (View.ld x2 r1_3)
/-- The body's key product. -/
abbrev zk : FVec Ideal S128x1024 .f32 := k1_pay41 (k1_pay2 (View.ld x0 r1_0)) (View.ld x1 r1_12) (View.ld x2 r1_13)

/-- The query product, before the turn. -/
theorem zq_at (r : Fin 128) (c : Fin 1024) :
    zq x0 x1 x2 (ix2 r c) = zrow x0 x1 x2 0 r c.val := by
  rw [zrow, dif_pos (show 0 + c.val < 3072 by omega)]
  pointwise [k1_pay7, k1_pay2]
  <;> simp only [Nat.zero_add]

/-- The key product, before the turn. -/
theorem zk_at (r : Fin 128) (c : Fin 1024) :
    zk x0 x1 x2 (ix2 r c) = zrow x0 x1 x2 1024 r c.val := by
  rw [zrow, dif_pos (show 1024 + c.val < 3072 by omega)]
  pointwise [k1_pay41, k1_pay2]

/-- The value product. -/
theorem zv_at (r : Fin 128) (c : Fin 1024) :
    k1_pay61 (k1_pay2 x0) (View.ld x1 r1_22) (View.ld x2 r1_23) (ix2 r c) = zrow x0 x1 x2 2048 r c.val := by
  rw [zrow, dif_pos (show 2048 + c.val < 3072 by omega)]
  pointwise [k1_pay61, k1_pay2]

/-- The body's test for a map's first eight lanes. -/
theorem first_at (r : Fin 128) (l : Fin 128) : k1_pay5 (ix2 r l) = if l.val % 64 < 8 then 1#1 else 0#1 := by
  pointwise [k1_pay5]
  revert l
  decide +kernel

/-- The body's test for the first map's lanes. -/
theorem half_at (r : Fin 128) (l : Fin 128) : k1_pay6 (ix2 r l) = if l.val < 64 then 1#1 else 0#1 := by
  pointwise [k1_pay6]
  revert l
  decide +kernel

/-- The turn at lane `l` of head `h`, the tables read at the lane. -/
theorem turned_at (off : ℕ) (r : Fin 128) (h : ℕ) (l : Fin 128) :
    turned x0 x1 x2 x3 x4 off r (h * 128 + l.val) = zrow x0 x1 x2 off r (h * 128 + l.val) * x3 (ix2 r l)
      + (if l.val % 64 < 8 then zrow x0 x1 x2 off r (h * 128 + (l.val + 8) % 128)
          else zrow x0 x1 x2 off r (h * 128 + (l.val + 120) % 128)) * x4 (ix2 r l) := by
  unfold turned
  rw [turn_at _ _ _ h l.val l.isLt, show co x3 r l.val = x3 (ix2 r l) from lane_val _ l, show si x4 r l.val = x4 (ix2 r l) from lane_val _ l]

/-- A key piece, as the body spells it, is the turned row. -/
theorem keys_of (h : ℕ) (r : Fin 128) (l : Fin 128) (y : S128x1024.Idx) (hy0 : y 0 = r) (hy1 : (y 1).val = h * 128 + l.val)
    (a u d : Fin 1024) (ha : a.val = h * 128 + l.val) (hu : u.val = h * 128 + (l.val + 8) % 128) (hd : d.val = h * 128 + (l.val + 120) % 128) :
    zk x0 x1 x2 (ix2 r a) * x3 (ix2 r l) + Scalar.select (k1_pay5 (ix2 r l)) (zk x0 x1 x2 (ix2 r u)) (zk x0 x1 x2 (ix2 r d)) * x4 (ix2 r l)
      = keys x0 x1 x2 x3 x4 y := by
  unfold keys
  rw [hy0, hy1, turned_at, first_at, select_ite, zk_at, zk_at, zk_at, ha, hu, hd]

/-- A query, as the body spells it, is the turned row times the scale. -/
theorem query_of (h : ℕ) (r : Fin 128) (l : Fin 128)
    (a u d : Fin 1024) (ha : a.val = h * 128 + l.val) (hu : u.val = h * 128 + (l.val + 8) % 128) (hd : d.val = h * 128 + (l.val + 120) % 128) :
    zq x0 x1 x2 (ix2 r a) * x3 (ix2 r l) + Scalar.select (k1_pay5 (ix2 r l)) (zq x0 x1 x2 (ix2 r u)) (zq x0 x1 x2 (ix2 r d)) * x4 (ix2 r l)
      = turned x0 x1 x2 x3 x4 0 r (h * 128 + l.val) := by
  rw [turned_at, first_at, select_ite, zq_at, zq_at, zq_at, ha, hu, hd]

/-- A piece of the first map's queries, as the body spells it. -/
theorem qLo_of (h : ℕ) (r : Fin 128) (l : Fin 128) (y : S8x128x128.Idx) (hy0 : (y 0).val = h) (hy1 : y 1 = r) (hy2 : (y 2).val = l.val)
    (a u d : Fin 1024) (ha : a.val = h * 128 + l.val) (hu : u.val = h * 128 + (l.val + 8) % 128) (hd : d.val = h * 128 + (l.val + 120) % 128) :
    Scalar.select (k1_pay6 (ix2 r l)) ((zq x0 x1 x2 (ix2 r a) * x3 (ix2 r l) + Scalar.select (k1_pay5 (ix2 r l)) (zq x0 x1 x2 (ix2 r u)) (zq x0 x1 x2 (ix2 r d)) * x4 (ix2 r l)) * Ideal.ofBits FTy.f32 0x3E000000#32) (Ideal.ofBits FTy.f32 0x00000000#32)
      = qLo x0 x1 x2 x3 x4 y := by
  unfold qLo
  rw [hy0, hy1, hy2, query_of x0 x1 x2 x3 x4 h r l a u d ha hu hd, half_at, select_ite, Ideal.ofBits_zero]

/-- A piece of the second map's queries, as the body spells it. -/
theorem qHi_of (h : ℕ) (r : Fin 128) (l : Fin 128) (y : S8x128x128.Idx) (hy0 : (y 0).val = h) (hy1 : y 1 = r) (hy2 : (y 2).val = l.val)
    (a u d : Fin 1024) (ha : a.val = h * 128 + l.val) (hu : u.val = h * 128 + (l.val + 8) % 128) (hd : d.val = h * 128 + (l.val + 120) % 128) :
    Scalar.select (k1_pay6 (ix2 r l)) (Ideal.ofBits FTy.f32 0x00000000#32) ((zq x0 x1 x2 (ix2 r a) * x3 (ix2 r l) + Scalar.select (k1_pay5 (ix2 r l)) (zq x0 x1 x2 (ix2 r u)) (zq x0 x1 x2 (ix2 r d)) * x4 (ix2 r l)) * Ideal.ofBits FTy.f32 0x3E000000#32)
      = qHi x0 x1 x2 x3 x4 y := by
  unfold qHi
  rw [hy0, hy1, hy2, query_of x0 x1 x2 x3 x4 h r l a u d ha hu hd, half_at, select_ite, Ideal.ofBits_zero]

/-- What the body leaves in the key window. -/
theorem keys_eq (y : S128x1024.Idx) : out1_7 x0 x1 x2 x3 x4 y = keys x0 x1 x2 x3 x4 y := by
  unfold_out out1_7
  refine View.canon_apply_of_pieces (keys x0 x1 x2 x3 x4) _ ?_ y (cover1_7 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (keys_of x0 x1 x2 x3 x4 7 w0 w1 _ (Fin.ext (by show 0 + 1 * w0.val = _; omega)) (by show 896 + 1 * w1.val = _; omega)
      ⟨896 + w1.val, by omega⟩ ⟨896 + (w1.val + 128 - 120) % 128, by omega⟩ ⟨896 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 6 w0 w1 _ (Fin.ext (by show 0 + 1 * w0.val = _; omega)) (by show 768 + 1 * w1.val = _; omega)
      ⟨768 + w1.val, by omega⟩ ⟨768 + (w1.val + 128 - 120) % 128, by omega⟩ ⟨768 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 5 w0 w1 _ (Fin.ext (by show 0 + 1 * w0.val = _; omega)) (by show 640 + 1 * w1.val = _; omega)
      ⟨640 + w1.val, by omega⟩ ⟨640 + (w1.val + 128 - 120) % 128, by omega⟩ ⟨640 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 4 w0 w1 _ (Fin.ext (by show 0 + 1 * w0.val = _; omega)) (by show 512 + 1 * w1.val = _; omega)
      ⟨512 + w1.val, by omega⟩ ⟨512 + (w1.val + 128 - 120) % 128, by omega⟩ ⟨512 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 3 w0 w1 _ (Fin.ext (by show 0 + 1 * w0.val = _; omega)) (by show 384 + 1 * w1.val = _; omega)
      ⟨384 + w1.val, by omega⟩ ⟨384 + (w1.val + 128 - 120) % 128, by omega⟩ ⟨384 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 2 w0 w1 _ (Fin.ext (by show 0 + 1 * w0.val = _; omega)) (by show 256 + 1 * w1.val = _; omega)
      ⟨256 + w1.val, by omega⟩ ⟨256 + (w1.val + 128 - 120) % 128, by omega⟩ ⟨256 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 1 w0 w1 _ (Fin.ext (by show 0 + 1 * w0.val = _; omega)) (by show 128 + 1 * w1.val = _; omega)
      ⟨128 + w1.val, by omega⟩ ⟨128 + (w1.val + 128 - 120) % 128, by omega⟩ ⟨128 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (keys_of x0 x1 x2 x3 x4 0 w0 w1 _ (Fin.ext (by show 0 + 1 * w0.val = _; omega)) (by show 0 + 1 * w1.val = _; omega)
      ⟨0 + w1.val, by omega⟩ ⟨0 + (w1.val + 128 - 120) % 128, by omega⟩ ⟨0 + (w1.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]

/-- What the body leaves in the value window. -/
theorem vals_eq (y : S128x1024.Idx) : out1_9 x0 x1 x2 x3 x4 y = vals x0 x1 x2 y := by
  idx_vars y
  unfold_out out1_9
  frame_out
  exact zv_at x0 x1 x2 y0 y1

/-- What the body leaves in the window of the first map's queries. -/
theorem qLo_eq (y : S8x128x128.Idx) : out1_5 x0 x1 x2 x3 x4 y = qLo x0 x1 x2 x3 x4 y := by
  unfold_out out1_5
  refine View.canon_apply_of_pieces (qLo x0 x1 x2 x3 x4) _ ?_ y (cover1_5 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (qLo_of x0 x1 x2 x3 x4 7 w1 w2 _ (by show 7 + 1 * w0.val = _; omega) (Fin.ext (by show 0 + 1 * w1.val = _; omega)) (by show 0 + 1 * w2.val = _; omega)
      ⟨896 + w2.val, by omega⟩ ⟨896 + (w2.val + 128 - 120) % 128, by omega⟩ ⟨896 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 6 w1 w2 _ (by show 6 + 1 * w0.val = _; omega) (Fin.ext (by show 0 + 1 * w1.val = _; omega)) (by show 0 + 1 * w2.val = _; omega)
      ⟨768 + w2.val, by omega⟩ ⟨768 + (w2.val + 128 - 120) % 128, by omega⟩ ⟨768 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 5 w1 w2 _ (by show 5 + 1 * w0.val = _; omega) (Fin.ext (by show 0 + 1 * w1.val = _; omega)) (by show 0 + 1 * w2.val = _; omega)
      ⟨640 + w2.val, by omega⟩ ⟨640 + (w2.val + 128 - 120) % 128, by omega⟩ ⟨640 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 4 w1 w2 _ (by show 4 + 1 * w0.val = _; omega) (Fin.ext (by show 0 + 1 * w1.val = _; omega)) (by show 0 + 1 * w2.val = _; omega)
      ⟨512 + w2.val, by omega⟩ ⟨512 + (w2.val + 128 - 120) % 128, by omega⟩ ⟨512 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 3 w1 w2 _ (by show 3 + 1 * w0.val = _; omega) (Fin.ext (by show 0 + 1 * w1.val = _; omega)) (by show 0 + 1 * w2.val = _; omega)
      ⟨384 + w2.val, by omega⟩ ⟨384 + (w2.val + 128 - 120) % 128, by omega⟩ ⟨384 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 2 w1 w2 _ (by show 2 + 1 * w0.val = _; omega) (Fin.ext (by show 0 + 1 * w1.val = _; omega)) (by show 0 + 1 * w2.val = _; omega)
      ⟨256 + w2.val, by omega⟩ ⟨256 + (w2.val + 128 - 120) % 128, by omega⟩ ⟨256 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 1 w1 w2 _ (by show 1 + 1 * w0.val = _; omega) (Fin.ext (by show 0 + 1 * w1.val = _; omega)) (by show 0 + 1 * w2.val = _; omega)
      ⟨128 + w2.val, by omega⟩ ⟨128 + (w2.val + 128 - 120) % 128, by omega⟩ ⟨128 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qLo_of x0 x1 x2 x3 x4 0 w1 w2 _ (by show 0 + 1 * w0.val = _; omega) (Fin.ext (by show 0 + 1 * w1.val = _; omega)) (by show 0 + 1 * w2.val = _; omega)
      ⟨0 + w2.val, by omega⟩ ⟨0 + (w2.val + 128 - 120) % 128, by omega⟩ ⟨0 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]

/-- What the body leaves in the window of the second map's queries. -/
theorem qHi_eq (y : S8x128x128.Idx) : out1_6 x0 x1 x2 x3 x4 y = qHi x0 x1 x2 x3 x4 y := by
  unfold_out out1_6
  refine View.canon_apply_of_pieces (qHi x0 x1 x2 x3 x4) _ ?_ y (cover1_6 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (qHi_of x0 x1 x2 x3 x4 7 w1 w2 _ (by show 7 + 1 * w0.val = _; omega) (Fin.ext (by show 0 + 1 * w1.val = _; omega)) (by show 0 + 1 * w2.val = _; omega)
      ⟨896 + w2.val, by omega⟩ ⟨896 + (w2.val + 128 - 120) % 128, by omega⟩ ⟨896 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 6 w1 w2 _ (by show 6 + 1 * w0.val = _; omega) (Fin.ext (by show 0 + 1 * w1.val = _; omega)) (by show 0 + 1 * w2.val = _; omega)
      ⟨768 + w2.val, by omega⟩ ⟨768 + (w2.val + 128 - 120) % 128, by omega⟩ ⟨768 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 5 w1 w2 _ (by show 5 + 1 * w0.val = _; omega) (Fin.ext (by show 0 + 1 * w1.val = _; omega)) (by show 0 + 1 * w2.val = _; omega)
      ⟨640 + w2.val, by omega⟩ ⟨640 + (w2.val + 128 - 120) % 128, by omega⟩ ⟨640 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 4 w1 w2 _ (by show 4 + 1 * w0.val = _; omega) (Fin.ext (by show 0 + 1 * w1.val = _; omega)) (by show 0 + 1 * w2.val = _; omega)
      ⟨512 + w2.val, by omega⟩ ⟨512 + (w2.val + 128 - 120) % 128, by omega⟩ ⟨512 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 3 w1 w2 _ (by show 3 + 1 * w0.val = _; omega) (Fin.ext (by show 0 + 1 * w1.val = _; omega)) (by show 0 + 1 * w2.val = _; omega)
      ⟨384 + w2.val, by omega⟩ ⟨384 + (w2.val + 128 - 120) % 128, by omega⟩ ⟨384 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 2 w1 w2 _ (by show 2 + 1 * w0.val = _; omega) (Fin.ext (by show 0 + 1 * w1.val = _; omega)) (by show 0 + 1 * w2.val = _; omega)
      ⟨256 + w2.val, by omega⟩ ⟨256 + (w2.val + 128 - 120) % 128, by omega⟩ ⟨256 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 1 w1 w2 _ (by show 1 + 1 * w0.val = _; omega) (Fin.ext (by show 0 + 1 * w1.val = _; omega)) (by show 0 + 1 * w2.val = _; omega)
      ⟨128 + w2.val, by omega⟩ ⟨128 + (w2.val + 128 - 120) % 128, by omega⟩ ⟨128 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]
  · intro w
    idx_vars w
    refine Eq.trans ?_ (qHi_of x0 x1 x2 x3 x4 0 w1 w2 _ (by show 0 + 1 * w0.val = _; omega) (Fin.ext (by show 0 + 1 * w1.val = _; omega)) (by show 0 + 1 * w2.val = _; omega)
      ⟨0 + w2.val, by omega⟩ ⟨0 + (w2.val + 128 - 120) % 128, by omega⟩ ⟨0 + (w2.val + 128 - 8) % 128, by omega⟩
      rfl (by show _ + _ = _; omega) (by show _ + _ = _; omega))
    pointwise [k1_pay1, k1_pay3, k1_pay4, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay62, k1_pay63, k1_pay64, k1_pay65, k1_pay66, k1_pay67, k1_pay68, k1_pay69]

end Cert.Kernel4Ideal.MetaBlock
-- ==== Proof.QkvMetaTables.lean ====
/-
The meta tokens' tables: cosines and signed sines of every position's rotation, lane by lane, and the row of the blocks a
token's row is.
-/
module

public import proofs.«01_k».proof.Proof.QkvMetaBlock
public import Idealize.ShloMosaic.Lib.Pipeline.ValueKit

@[expose] public section

set_option maxRecDepth 65536

noncomputable section

namespace Cert.Kernel4Ideal.MetaBlock

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen

/-- A row of the blocks: token `X`, weights `Wt`, bias `Bv`, at position `p`. -/
structure RowOf (x0 : Vec Ideal S128x1024 .bf16) (x1 : Vec Ideal S1024x3072 .bf16) (x2 : Vec Ideal S1x3072 .f32)
    (x3 x4 : Vec Ideal S128x128 .f32) (r : Fin 128) (X : Fin 1024 → EReal) (Wt : Fin 1024 → Fin 9224 → EReal) (Bv : Fin 9224 → EReal)
    (p : BitVec 32) : Prop where
  hx : ∀ k, x0 (ix2 r k) = X k
  hw : ∀ k (n : Fin 3072), x1 (ix2 k n) = Wt k ⟨n.val, by omega⟩
  hb : ∀ n : Fin 3072, x2 (ix2 0 n) = Bv ⟨n.val, by omega⟩
  hc : ∀ l : Fin 128, x3 (ix2 r l) = cosAt p l.val
  hs : ∀ l : Fin 128, x4 (ix2 r l) = sinAt p l.val

section
variable {x0 : Vec Ideal S128x1024 .bf16} {x1 : Vec Ideal S1024x3072 .bf16} {x2 : Vec Ideal S1x3072 .f32}
    {x3 x4 : Vec Ideal S128x128 .f32} {r : Fin 128} {X : Fin 1024 → EReal} {Wt : Fin 1024 → Fin 9224 → EReal} {Bv : Fin 9224 → EReal}
    {p : BitVec 32}

theorem RowOf.zrow (h : RowOf x0 x1 x2 x3 x4 r X Wt Bv p) (off n : ℕ) (hn : off + n < 3072) :
    zrow x0 x1 x2 off r n = rowAt X Wt Bv (off + n) := by
  unfold MetaBlock.zrow rowAt
  rw [dif_pos hn, dif_pos (show off + n < 9224 by omega), h.hb]
  refine congrArg (· + _) (Finset.sum_congr rfl fun k _ => ?_)
  rw [h.hx, h.hw]

theorem RowOf.turned (h : RowOf x0 x1 x2 x3 x4 r X Wt Bv p) (off n : ℕ) (hoff : off + 1024 ≤ 3072) (hn : n < 1024) :
    turned x0 x1 x2 x3 x4 off r n = rotated (fun n => rowAt X Wt Bv (off + n)) p n := by
  unfold MetaBlock.turned
  rw [turn_eq _ _ _ p (fun l hl => (lane_val _ ⟨l, hl⟩).trans (h.hc ⟨l, hl⟩)) (fun l hl => (lane_val _ ⟨l, hl⟩).trans (h.hs ⟨l, hl⟩))]
  exact rotated_congr _ _ p n 1024 hn (by decide) fun k hk => h.zrow off k (by omega)
end

/-- The frequencies. -/
abbrev inv : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

/-- The angles of the rows' positions `w`. -/
abbrev ang (w : IVec S128 32) : FVec Ideal S128x8 .f32 :=
  mulf (broadcastInDim S128x8 ![0, 1] bcast_S128x1_S128x8_0_1 (broadcastInDim S128x1 ![0] bcast_S128_S128x1_0 (sitofp .f32 w)))
    (broadcastInDim S128x8 ![0, 1] bcast_S1x8_S128x8_0_1 (broadcastInDim S1x8 ![1] bcast_S8_S1x8_1 inv))

/-- A table of 64 lanes laid twice side by side. -/
abbrev twice (t : FVec Ideal S128x64 .f32) : FVec Ideal S128x128 .f32 :=
  shapeCast S128x128 (broadcastInDim S1x128x2x64 ![0, 1, 2, 3] bcast_S1x128x1x64_S1x128x2x64_0_1_2_3
    (shapeCast S1x128x1x64 t shapeCasts_S128x64_S1x128x1x64)) shapeCasts_S1x128x2x64_S128x128

/-- The cosine table of 64 lanes. -/
abbrev cos64 (w : IVec S128 32) : FVec Ideal S128x64 .f32 :=
  concatenate S128x64 1 [⟨S128x8, Host.cos (ang w)⟩, ⟨S128x8, Host.cos (ang w)⟩,
    ⟨S128x48, broadcastInDim S128x48 ![] bcast_S_S128x48 (constant S_ .f32 0x3F800000#32)⟩]
    concatenates_S128x8_S128x8_S128x48_S128x64_d1

/-- The signed sine table of 64 lanes. -/
abbrev sin64 (w : IVec S128 32) : FVec Ideal S128x64 .f32 :=
  concatenate S128x64 1 [⟨S128x8, Host.negf (Host.sin (ang w))⟩, ⟨S128x8, Host.sin (ang w)⟩,
    ⟨S128x48, broadcastInDim S128x48 ![] bcast_S_S128x48 (constant S_ .f32 0x00000000#32)⟩]
    concatenates_S128x8_S128x8_S128x48_S128x64_d1

theorem ang_at (w : IVec S128 32) (r : Fin 128) (j : Fin 8) : ang w (ix2 r j) = angle (w (ix1 r)) j.val := by
  unfold angle
  pointwise [inv]

theorem twice_at (t : FVec Ideal S128x64 .f32) (r : Fin 128) (l : Fin 128) :
    twice t (ix2 r l) = t (ix2 r ⟨l.val % 64, by omega⟩) := by
  pointwise []
  <;> blk_ext []

theorem parts_at (u v : FVec Ideal S128x8 .f32) (o : FVec Ideal S128x48 .f32) (r : Fin 128) (l : Fin 64) :
    concatenate S128x64 1 [⟨S128x8, u⟩, ⟨S128x8, v⟩, ⟨S128x48, o⟩] concatenates_S128x8_S128x8_S128x48_S128x64_d1 (ix2 r l)
      = if h0 : l.val < 8 then u (ix2 r ⟨l.val, h0⟩) else if h1 : l.val - 8 < 8 then v (ix2 r ⟨l.val - 8, h1⟩)
        else o (ix2 r ⟨l.val - 8 - 8, by omega⟩) := by
  pointwise []

/-- The cosine table at a lane. -/
theorem cos_at (w : IVec S128 32) (r : Fin 128) (l : Fin 128) : twice (cos64 w) (ix2 r l) = cosAt (w (ix1 r)) l.val := by
  rw [twice_at]
  refine (parts_at _ _ _ r _).trans ?_
  unfold cosAt
  by_cases h8 : l.val % 64 < 8
  · rw [dif_pos h8, if_pos h8]
    exact congrArg Ideal.cos (ang_at w r _)
  · rw [dif_neg h8, if_neg h8]
    by_cases h16 : l.val % 64 < 16
    · rw [dif_pos (show l.val % 64 - 8 < 8 by omega), if_pos h16]
      exact congrArg Ideal.cos (ang_at w r _)
    · rw [dif_neg (show ¬ l.val % 64 - 8 < 8 by omega), if_neg h16]
      exact Ideal.ofBits_one_f32

/-- The signed sine table at a lane. -/
theorem sin_at (w : IVec S128 32) (r : Fin 128) (l : Fin 128) : twice (sin64 w) (ix2 r l) = sinAt (w (ix1 r)) l.val := by
  rw [twice_at]
  refine (parts_at _ _ _ r _).trans ?_
  unfold sinAt
  by_cases h8 : l.val % 64 < 8
  · rw [dif_pos h8, if_pos h8]
    exact congrArg (fun a => -Ideal.sin a) (ang_at w r _)
  · rw [dif_neg h8, if_neg h8]
    by_cases h16 : l.val % 64 < 16
    · rw [dif_pos (show l.val % 64 - 8 < 8 by omega), if_pos h16]
      exact congrArg Ideal.sin (ang_at w r _)
    · rw [dif_neg (show ¬ l.val % 64 - 8 < 8 by omega), if_neg h16]
      exact Ideal.ofBits_zero FTy.f32

end Cert.Kernel4Ideal.MetaBlock
-- ==== Proof.QkvPadded.lean ====
/-
The meta tokens padded with zero rows: the first sixteen rows are the meta tokens.
-/
module

public import proofs.«01_k».proof.Proof.Gen.Kernel4Ideal.Frame
public import proofs.«01_k».proof.Proof.Rope
public import Idealize.ShloMosaic.Lib.Pipeline.ValueKit
public import Idealize.ShloMosaic.Lib.Routing.OpsPair

@[expose] public section

set_option maxRecDepth 65536

noncomputable section

namespace Cert.Kernel4Ideal.MetaBlock

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen

/-- The meta tokens set into 128 zero rows, from row zero. -/
abbrev padded (M : FVec Ideal S16x1024 .f32) : FVec Ideal S128x1024 .f32 :=
  Host.scatter scatter_S128x1024_S1_S16x1024_01_n_0_0 (fun _ b => b)
    (broadcastInDim S128x1024 ![] bcast_S_S128x1024 (constant S_ .f32 0x00000000#32))
    (broadcastInDim S1 ![] bcast_S_S1 (constantI S_ 32 0#32)) M

/-- A fold that overwrites by every hit, all hits the value `x`, ends at `x` if it started there or something hit. -/
theorem fold_hit {α β : Type} (P : β → Prop) [DecidablePred P] (v : β → α) (x : α) (hv : ∀ n, P n → v n = x) :
    ∀ (L : List β) (a : α), (a = x ∨ ∃ n ∈ L, P n) → L.foldl (fun a n => if P n then v n else a) a = x
  | [], a, h => h.elim id fun ⟨n, hn, _⟩ => absurd hn List.not_mem_nil
  | n :: L, a, h => by
    rw [List.foldl_cons]
    refine fold_hit P v x hv L _ ?_
    by_cases hp : P n
    · rw [if_pos hp]; exact .inl (hv n hp)
    · rw [if_neg hp]
      rcases h with h | ⟨k, hk, hpk⟩
      · exact .inl h
      · rcases List.mem_cons.mp hk with rfl | hk
        · exact absurd hpk hp
        · exact .inr ⟨k, hk, hpk⟩

/-- Where an update lands: at its own index. -/
theorem lands (k : S16x1024.Idx) (w : IVec S1 32) (hw : ∀ i, w i = 0#32) (r : Fin 128) (n : Fin 1024) :
    scatter_S128x1024_S1_S16x1024_01_n_0_0.resultIdx? k w = some (ix2 r n) ↔ (k 0).val = r.val ∧ (k 1).val = n.val := by
  rw [Routing.resultIdx?_eq_some]
  have h0 : scatter_S128x1024_S1_S16x1024_01_n_0_0.start k w 0 = 0 := by
    show (w _).toInt = 0
    rw [hw]; rfl
  have h1 : scatter_S128x1024_S1_S16x1024_01_n_0_0.start k w 1 = 0 := rfl
  have w0 : scatter_S128x1024_S1_S16x1024_01_n_0_0.window k 0 = (k 0).val := rfl
  have w1 : scatter_S128x1024_S1_S16x1024_01_n_0_0.window k 1 = (k 1).val := rfl
  constructor
  · intro h
    have a := h 0
    have b := h 1
    rw [h0, w0] at a
    rw [h1, w1] at b
    have a' : (0 : Int) + ((k 0).val : Int) = (r.val : Int) := a
    have b' : (0 : Int) + ((k 1).val : Int) = (n.val : Int) := b
    omega
  · rintro ⟨a, b⟩ i
    fin_cases i
    · show scatter_S128x1024_S1_S16x1024_01_n_0_0.start k w 0 + (scatter_S128x1024_S1_S16x1024_01_n_0_0.window k 0 : Int) = (r.val : Int)
      rw [h0, w0]; omega
    · show scatter_S128x1024_S1_S16x1024_01_n_0_0.start k w 1 + (scatter_S128x1024_S1_S16x1024_01_n_0_0.window k 1 : Int) = (n.val : Int)
      rw [h1, w1]; omega

/-- The first sixteen rows are the meta tokens. -/
theorem padded_at (M : FVec Ideal S16x1024 .f32) (r : Fin 16) (n : Fin 1024) :
    padded M (ix2 ⟨r.val, by omega⟩ n) = M (ix2 r n) := by
  rw [padded, Routing.scatter_at]
  refine fold_hit (fun k => scatter_S128x1024_S1_S16x1024_01_n_0_0.resultIdx? (S16x1024.rowMajor.symm k) _ = some (ix2 ⟨r.val, by omega⟩ n))
    (fun k => M (S16x1024.rowMajor.symm k)) _ (fun k hk => ?_) _ _ (.inr ⟨S16x1024.rowMajor (ix2 r n), List.mem_finRange _, ?_⟩)
  · obtain ⟨a, b⟩ := (lands _ _ (fun _ => rfl) _ _).mp hk
    refine congrArg M (funext fun i => ?_)
    fin_cases i
    · exact Fin.ext a
    · exact Fin.ext b
  · rw [Equiv.symm_apply_apply]
    exact (lands _ _ (fun _ => rfl) _ _).mpr ⟨rfl, rfl⟩

end Cert.Kernel4Ideal.MetaBlock
-- ==== Proof.QkvBlock.lean ====
/-
One block of the prompt's queries, keys and values: what the body leaves in its query, key and value windows, column by column, from the blocks it reads.
-/
module

public import proofs.«01_k».proof.Proof.Gen.Kernel4Ideal.Frame
public import proofs.«01_k».proof.Proof.Rope
public import Idealize.ShloMosaic.Lib.Pipeline.ValueKit

@[expose] public section

set_option maxRecDepth 65536

noncomputable section

namespace Cert.Kernel4Ideal.Block

open Idealize.ShloMosaic Cert.Proof.Rope
open Cert.Kernel4Ideal Cert.Kernel4Ideal.Gen

variable (x0 : Vec Ideal S512x1024 .bf16) (x1 : Vec Ideal S1024x3072 .bf16) (x2 : Vec Ideal S1x3072 .f32)
  (x3 : Vec Ideal S512x128 .f32) (x4 : Vec Ideal S512x128 .f32)

/-- Column `off + n` of row `r` of `x · W + b` over the blocks. -/
def zrow (off : ℕ) (r : Fin 512) (n : ℕ) : EReal :=
  if h : off + n < 3072 then (∑ k : Fin 1024, x0 (ix2 r k) * x1 (ix2 k ⟨off + n, h⟩)) + x2 (ix2 0 ⟨off + n, h⟩) else 0

/-- The tables' rows. -/
abbrev co (r : Fin 512) : ℕ → EReal := lane fun l => x3 (ix2 r l)
/-- The signed sines' row. -/
abbrev si (r : Fin 512) : ℕ → EReal := lane fun l => x4 (ix2 r l)

/-- The turned row of the columns from `off`. -/
def turned (off : ℕ) (r : Fin 512) (n : ℕ) : EReal := turn (zrow x0 x1 x2 off r) (co x3 r) (si x4 r) n

/-- The keys of the block. -/
def keys : Vec Ideal S512x1024 .f32 := fun y => turned x0 x1 x2 x3 x4 1024 (y 0) (y 1).val
/-- The values of the block. -/
def vals : Vec Ideal S512x1024 .f32 := fun y => zrow x0 x1 x2 2048 (y 0) (y 1).val
/-- The scaled queries of the block, the first map's lanes. -/
def qLo : Vec Ideal S8x512x128 .bf16 := fun y =>
  if (y 2).val < 64 then turned x0 x1 x2 x3 x4 0 (y 1) ((y 0).val * 128 + (y 2).val) * Ideal.ofBits FTy.f32 0x3E000000#32 else 0
/-- The scaled queries of the block, the second map's lanes. -/
def qHi : Vec Ideal S8x512x128 .bf16 := fun y =>
  if (y 2).val < 64 then 0 else turned x0 x1 x2 x3 x4 0 (y 1) ((y 0).val * 128 + (y 2).val) * Ideal.ofBits FTy.f32 0x3E000000#32

/-- The body's query product. -/
abbrev zq : FVec Ideal S512x1024 .f32 := k0_pay7 (View.ld x0 r0_0) (View.ld x1 r0_2) (View.ld x2 r0_3)
/-- The body's key product. -/
abbrev zk : FVec Ideal S512x1024 .f32 := k0_pay41 (k0_pay2 (View.ld x0 r0_0)) (View.ld x1 r0_12) (View.ld x2 r0_13)

/-- The query product, before the turn. -/
theorem zq_at (r : Fin 512) (c : Fin 1024) :
    zq x0 x1 x2 (ix2 r c) = zrow x0 x1 x2 0 r c.val := by
  rw [zrow, dif_pos (show 0 + c.val < 3072 by omega)]
  pointwise [k0_pay7, k0_pay2]
  <;> simp only [Nat.zero_add]

/-- The key product, before the turn. -/
theorem zk_at (r : Fin 512) (c : Fin 1024) :
    zk x0 x1 x2 (ix2 r c) = zrow x0 x1 x2 1024 r c.val := by
  rw [zrow, dif_pos (show 1024 + c.val < 3072 by omega)]
  pointwise [k0_pay41, k0_pay2]

/-- The value product. -/
theorem zv_at (r : Fin 512) (c : Fin 1024) :
    k0_pay61 (k0_pay2 x0) (View.ld x1 r0_22) (View.ld x2 r0_23) (ix2 r c) = zrow x0 x1 x2 2048 r c.val := by
  rw [zrow, dif_pos (show 2048 + c.val < 3072 by omega)]
  pointwise [k0_pay61, k0_pay2]

/-- The body's test for a map's first eight lanes. -/
theorem first_at (r : Fin 512) (l : Fin 128) : k0_pay5 (ix2 r l) = if l.val % 64 < 8 then 1#1 else 0#1 := by
  pointwise [k0_pay5]
  revert l
  decide +kernel

/-- The body's test for the first map's lanes. -/
theorem half_at (r : Fin 512) (l : Fin 128) : k0_pay6 (ix2 r l) = if l.val < 64 then 1#1 else 0#1 := by
  pointwise [k0_pay6]
  revert l
  decide +kernel

/-- The turn at lane `l` of head `h`, the tables read at the lane. -/
theorem turned_at (off : ℕ) (r : Fin 512) (h : ℕ) (l : Fin 128) :
    turned x0 x1 x2 x3 x4 off r (h * 128 + l.val) = zrow x0 x1 x2 off r (h * 128 + l.val) * x3 (ix2 r l)
      + (if l.val % 64 < 8 then zrow x0 x1 x2 off r (h * 128 + (l.val + 8) % 128)
          else zrow x0 x1 x2 off r (h * 128 + (l.val + 120) % 128)) * x4 (ix2 r l) := by
  unfold turned
  rw [turn_at _ _ _ h l.val l.isLt, show co x3 r l.val = x3 (ix2 r l) from lane_val _ l, show si x4 r l.val = x4 (ix2 r l) from lane_val _ l]

/-- A key piece, as the body spells it, is the turned row. -/
theorem keys_of (h : ℕ) (r : Fin 512) (l : Fin 128) (y : S512x1024.Idx) (hy0 : y 0 = r) (hy1 : (y 1).val = h * 128 + l.val)
    (a u d : Fin 1024) (ha : a.val = h * 128 + l.val) (hu : u.val = h * 128 + (l.val + 8) % 128) (hd : d.val = h * 128 + (l.val + 120) % 128) :
    zk x0 x1 x2 (ix2 r a) * x3 (ix2 r l) + Scalar.select (k0_pay5 (ix2 r l)) (zk x0 x1 x2 (ix2 r u)) (zk x0 x1 x2 (ix2 r d)) * x4 (ix2 r l)
      = keys x0 x1 x2 x3 x4 y := by
  unfold keys
  rw [hy0, hy1, turned_at, first_at, select_ite, zk_at, zk_at, zk_at, ha, hu, hd]

/-- A query, as the body spells it, is the turned row times the scale. -/
theorem query_of (h : ℕ) (r : Fin 512) (l : Fin 128)
    (a u d : Fin 1024) (ha : a.val = h * 128 + l.val) (hu : u.val = h * 128 + (l.val + 8) % 128) (hd : d.val = h * 128 + (l.val + 120) % 128) :
    zq x0 x1 x2 (ix2 r a) * x3 (ix2 r l) + Scalar.select (k0_pay5 (ix2 r l)) (zq x0 x1 x2 (ix2 r u)) (zq x0 x1 x2 (ix2 r d)) * x4 (ix2 r l)
      = turned x0 x1 x2 x3 x4 0 r (h * 128 + l.val) := by
  rw [turned_at, first_at, select_ite, zq_at, zq_at, zq_at, ha, hu, hd]

/-- A piece of the first map's queries, as the body spells it. -/
theorem qLo_of (h : ℕ) (r : Fin 512) (l : Fin 128) (y : S8x512x128.Idx) (hy0 : (y 0).val = h) (hy1 : y 1 = r) (hy2 : (y 2).val = l.val)
    (a u d : Fin 1024) (ha : a.val = h * 128 + l.val) (hu : u.val = h * 128 + (l.val + 8) % 128) (hd : d.val = h * 128 + (l.val + 120) % 128) :
    Scalar.select (k0_pay6 (ix2 r l)) ((zq x0 x1 x2 (ix2 r a) * x3 (ix2 r l) + Scalar.select (k0_pay5 (ix2 r l)) (zq x0 x1 x2 (ix2 r u)) (zq x0 x1 x2 (ix2 r d)) * x4 (ix2 r l)) * Ideal.ofBits FTy.f32 0x3E000000#32) (Ideal.ofBits FTy.f32 0x00000000#32)
      = qLo x0 x1 x2 x3 x4 y := by
  unfold qLo
  rw [hy0, hy1, hy2, query_of x0 x1 x2 x3 x4 h r l a u d ha hu hd, half_at, select_ite, Ideal.ofBits_zero]

/-- A piece of the second map's queries, as the body spells it. -/
theorem qHi_of (h : ℕ) (r : Fin 512) (l : Fin 128) (y : S8x512x128.Idx) (hy0 : (y 0).val = h) (hy1 : y 1 = r) (hy2 : (y 2).val = l.val)
    (a u d : Fin 1024) (ha : a.val = h * 128 + l.val) (hu : u.val = h * 128 + (l.val + 8) % 128) (hd : d.val = h * 128 + (l.val + 120) % 128) :
    Scalar.select (k0_pay6 (ix2 r l)) (Ideal.ofBits FTy.f32 0x00000000#32) ((zq x0 x1 x2 (ix2 r a) * x3 (ix2 r l) + Scalar.select (k0_pay5 (ix2 r l)) (zq x0 x1 x2 (ix2 r u)) (zq x0 x1 x2 (ix2 r d)) * x4 (ix2 r l)) * Ideal.ofBits FTy.f32 0x3E000000#32)
      = qHi x0 x1 x2 x3 x4 y := by
  unfold qHi
  rw [hy0, hy1, hy2, query_of x0 x1 x2 x3 x4 h r l a u d ha hu hd, half_at, select_ite, Ideal.ofBits_zero]

/-- What the body leaves in the key window. -/
theorem keys_eq (y : S512x1024.Idx) : out0_7 x0 x1 x2 x3 x4 y = keys x0 x1 x2 x3 x4 y := by
  unfold_out out0_7
  refine View.canon_apply_of_pieces (keys x0 x1 x2 x3 x4) _ ?_ y (cover0_7 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (keys_of x0 x1 x2 x3 x4 7 w0 w1 _ (Fin.ext (by show 0 + 1 * w0.val = _; omega)) (by show 896 + 1 * w1.val = _; omega)
      ⟨896 + w1.val, by omega⟩ ⟨896 + (w1.val + 128 - 120) % 128, by omega⟩ ⟨896 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 6 w0 w1 _ (Fin.ext (by show 0 + 1 * w0.val = _; omega)) (by show 768 + 1 * w1.val = _; omega)
      ⟨768 + w1.val, by omega⟩ ⟨768 + (w1.val + 128 - 120) % 128, by omega⟩ ⟨768 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 5 w0 w1 _ (Fin.ext (by show 0 + 1 * w0.val = _; omega)) (by show 640 + 1 * w1.val = _; omega)
      ⟨640 + w1.val, by omega⟩ ⟨640 + (w1.val + 128 - 120) % 128, by omega⟩ ⟨640 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 4 w0 w1 _ (Fin.ext (by show 0 + 1 * w0.val = _; omega)) (by show 512 + 1 * w1.val = _; omega)
      ⟨512 + w1.val, by omega⟩ ⟨512 + (w1.val + 128 - 120) % 128, by omega⟩ ⟨512 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 3 w0 w1 _ (Fin.ext (by show 0 + 1 * w0.val = _; omega)) (by show 384 + 1 * w1.val = _; omega)
      ⟨384 + w1.val, by omega⟩ ⟨384 + (w1.val + 128 - 120) % 128, by omega⟩ ⟨384 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 2 w0 w1 _ (Fin.ext (by show 0 + 1 * w0.val = _; omega)) (by show 256 + 1 * w1.val = _; omega)
      ⟨256 + w1.val, by omega⟩ ⟨256 + (w1.val + 128 - 120) % 128, by omega⟩ ⟨256 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 1 w0 w1 _ (Fin.ext (by show 0 + 1 * w0.val = _; omega)) (by show 128 + 1 * w1.val = _; omega)
      ⟨128 + w1.val, by omega⟩ ⟨128 + (w1.val + 128 - 120) % 128, by omega⟩ ⟨128 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 0 w0 w1 _ (Fin.ext (by show 0 + 1 * w0.val = _; omega)) (by show 0 + 1 * w1.val = _; omega)
      ⟨0 + w1.val, by omega⟩ ⟨0 + (w1.val + 128 - 120) % 128, by omega⟩ ⟨0 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]

/-- What the body leaves in the value window. -/
theorem vals_eq (y : S512x1024.Idx) : out0_9 x0 x1 x2 x3 x4 y = vals x0 x1 x2 y := by
  idx_vars y
  unfold_out out0_9
  frame_out
  exact zv_at x0 x1 x2 y0 y1

/-- What the body leaves in the window of the first map's queries. -/
theorem qLo_eq (y : S8x512x128.Idx) : out0_5 x0 x1 x2 x3 x4 y = qLo x0 x1 x2 x3 x4 y := by
  unfold_out out0_5
  refine View.canon_apply_of_pieces (qLo x0 x1 x2 x3 x4) _ ?_ y (cover0_5 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (qLo_of x0 x1 x2 x3 x4 7 w1 w2 _ (by show 7 + 1 * w0.val = _; omega) (Fin.ext (by show 0 + 1 * w1.val = _; omega)) (by show 0 + 1 * w2.val = _; omega)
      ⟨896 + w2.val, by omega⟩ ⟨896 + (w2.val + 128 - 120) % 128, by omega⟩ ⟨896 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 6 w1 w2 _ (by show 6 + 1 * w0.val = _; omega) (Fin.ext (by show 0 + 1 * w1.val = _; omega)) (by show 0 + 1 * w2.val = _; omega)
      ⟨768 + w2.val, by omega⟩ ⟨768 + (w2.val + 128 - 120) % 128, by omega⟩ ⟨768 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 5 w1 w2 _ (by show 5 + 1 * w0.val = _; omega) (Fin.ext (by show 0 + 1 * w1.val = _; omega)) (by show 0 + 1 * w2.val = _; omega)
      ⟨640 + w2.val, by omega⟩ ⟨640 + (w2.val + 128 - 120) % 128, by omega⟩ ⟨640 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 4 w1 w2 _ (by show 4 + 1 * w0.val = _; omega) (Fin.ext (by show 0 + 1 * w1.val = _; omega)) (by show 0 + 1 * w2.val = _; omega)
      ⟨512 + w2.val, by omega⟩ ⟨512 + (w2.val + 128 - 120) % 128, by omega⟩ ⟨512 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 3 w1 w2 _ (by show 3 + 1 * w0.val = _; omega) (Fin.ext (by show 0 + 1 * w1.val = _; omega)) (by show 0 + 1 * w2.val = _; omega)
      ⟨384 + w2.val, by omega⟩ ⟨384 + (w2.val + 128 - 120) % 128, by omega⟩ ⟨384 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 2 w1 w2 _ (by show 2 + 1 * w0.val = _; omega) (Fin.ext (by show 0 + 1 * w1.val = _; omega)) (by show 0 + 1 * w2.val = _; omega)
      ⟨256 + w2.val, by omega⟩ ⟨256 + (w2.val + 128 - 120) % 128, by omega⟩ ⟨256 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 1 w1 w2 _ (by show 1 + 1 * w0.val = _; omega) (Fin.ext (by show 0 + 1 * w1.val = _; omega)) (by show 0 + 1 * w2.val = _; omega)
      ⟨128 + w2.val, by omega⟩ ⟨128 + (w2.val + 128 - 120) % 128, by omega⟩ ⟨128 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 0 w1 w2 _ (by show 0 + 1 * w0.val = _; omega) (Fin.ext (by show 0 + 1 * w1.val = _; omega)) (by show 0 + 1 * w2.val = _; omega)
      ⟨0 + w2.val, by omega⟩ ⟨0 + (w2.val + 128 - 120) % 128, by omega⟩ ⟨0 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]

/-- What the body leaves in the window of the second map's queries. -/
theorem qHi_eq (y : S8x512x128.Idx) : out0_6 x0 x1 x2 x3 x4 y = qHi x0 x1 x2 x3 x4 y := by
  unfold_out out0_6
  refine View.canon_apply_of_pieces (qHi x0 x1 x2 x3 x4) _ ?_ y (cover0_6 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (qHi_of x0 x1 x2 x3 x4 7 w1 w2 _ (by show 7 + 1 * w0.val = _; omega) (Fin.ext (by show 0 + 1 * w1.val = _; omega)) (by show 0 + 1 * w2.val = _; omega)
      ⟨896 + w2.val, by omega⟩ ⟨896 + (w2.val + 128 - 120) % 128, by omega⟩ ⟨896 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 6 w1 w2 _ (by show 6 + 1 * w0.val = _; omega) (Fin.ext (by show 0 + 1 * w1.val = _; omega)) (by show 0 + 1 * w2.val = _; omega)
      ⟨768 + w2.val, by omega⟩ ⟨768 + (w2.val + 128 - 120) % 128, by omega⟩ ⟨768 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 5 w1 w2 _ (by show 5 + 1 * w0.val = _; omega) (Fin.ext (by show 0 + 1 * w1.val = _; omega)) (by show 0 + 1 * w2.val = _; omega)
      ⟨640 + w2.val, by omega⟩ ⟨640 + (w2.val + 128 - 120) % 128, by omega⟩ ⟨640 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 4 w1 w2 _ (by show 4 + 1 * w0.val = _; omega) (Fin.ext (by show 0 + 1 * w1.val = _; omega)) (by show 0 + 1 * w2.val = _; omega)
      ⟨512 + w2.val, by omega⟩ ⟨512 + (w2.val + 128 - 120) % 128, by omega⟩ ⟨512 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 3 w1 w2 _ (by show 3 + 1 * w0.val = _; omega) (Fin.ext (by show 0 + 1 * w1.val = _; omega)) (by show 0 + 1 * w2.val = _; omega)
      ⟨384 + w2.val, by omega⟩ ⟨384 + (w2.val + 128 - 120) % 128, by omega⟩ ⟨384 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 2 w1 w2 _ (by show 2 + 1 * w0.val = _; omega) (Fin.ext (by show 0 + 1 * w1.val = _; omega)) (by show 0 + 1 * w2.val = _; omega)
      ⟨256 + w2.val, by omega⟩ ⟨256 + (w2.val + 128 - 120) % 128, by omega⟩ ⟨256 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 1 w1 w2 _ (by show 1 + 1 * w0.val = _; omega) (Fin.ext (by show 0 + 1 * w1.val = _; omega)) (by show 0 + 1 * w2.val = _; omega)
      ⟨128 + w2.val, by omega⟩ ⟨128 + (w2.val + 128 - 120) % 128, by omega⟩ ⟨128 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 0 w1 w2 _ (by show 0 + 1 * w0.val = _; omega) (Fin.ext (by show 0 + 1 * w1.val = _; omega)) (by show 0 + 1 * w2.val = _; omega)
      ⟨0 + w2.val, by omega⟩ ⟨0 + (w2.val + 128 - 120) % 128, by omega⟩ ⟨0 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]

end Cert.Kernel4Ideal.Block
-- ==== Proof.QkvTables.lean ====
/-
The prompt's tables: cosines and signed sines of every position's rotation, lane by lane, and the row of the blocks a
token's row is.
-/
module

public import proofs.«01_k».proof.Proof.QkvBlock
public import Idealize.ShloMosaic.Lib.Pipeline.ValueKit

@[expose] public section

set_option maxRecDepth 65536

noncomputable section

namespace Cert.Kernel4Ideal.Block

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen

/-- A row of the blocks: token `X`, weights `Wt`, bias `Bv`, at position `p`. -/
structure RowOf (x0 : Vec Ideal S512x1024 .bf16) (x1 : Vec Ideal S1024x3072 .bf16) (x2 : Vec Ideal S1x3072 .f32)
    (x3 x4 : Vec Ideal S512x128 .f32) (r : Fin 512) (X : Fin 1024 → EReal) (Wt : Fin 1024 → Fin 9224 → EReal) (Bv : Fin 9224 → EReal)
    (p : BitVec 32) : Prop where
  hx : ∀ k, x0 (ix2 r k) = X k
  hw : ∀ k (n : Fin 3072), x1 (ix2 k n) = Wt k ⟨n.val, by omega⟩
  hb : ∀ n : Fin 3072, x2 (ix2 0 n) = Bv ⟨n.val, by omega⟩
  hc : ∀ l : Fin 128, x3 (ix2 r l) = cosAt p l.val
  hs : ∀ l : Fin 128, x4 (ix2 r l) = sinAt p l.val

section
variable {x0 : Vec Ideal S512x1024 .bf16} {x1 : Vec Ideal S1024x3072 .bf16} {x2 : Vec Ideal S1x3072 .f32}
    {x3 x4 : Vec Ideal S512x128 .f32} {r : Fin 512} {X : Fin 1024 → EReal} {Wt : Fin 1024 → Fin 9224 → EReal} {Bv : Fin 9224 → EReal}
    {p : BitVec 32}

theorem RowOf.zrow (h : RowOf x0 x1 x2 x3 x4 r X Wt Bv p) (off n : ℕ) (hn : off + n < 3072) :
    zrow x0 x1 x2 off r n = rowAt X Wt Bv (off + n) := by
  unfold Block.zrow rowAt
  rw [dif_pos hn, dif_pos (show off + n < 9224 by omega), h.hb]
  refine congrArg (· + _) (Finset.sum_congr rfl fun k _ => ?_)
  rw [h.hx, h.hw]

theorem RowOf.turned (h : RowOf x0 x1 x2 x3 x4 r X Wt Bv p) (off n : ℕ) (hoff : off + 1024 ≤ 3072) (hn : n < 1024) :
    turned x0 x1 x2 x3 x4 off r n = rotated (fun n => rowAt X Wt Bv (off + n)) p n := by
  unfold Block.turned
  rw [turn_eq _ _ _ p (fun l hl => (lane_val _ ⟨l, hl⟩).trans (h.hc ⟨l, hl⟩)) (fun l hl => (lane_val _ ⟨l, hl⟩).trans (h.hs ⟨l, hl⟩))]
  exact rotated_congr _ _ p n 1024 hn (by decide) fun k hk => h.zrow off k (by omega)
end

/-- The frequencies. -/
abbrev inv : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

/-- The angles of the rows' positions `w`. -/
abbrev ang (w : IVec S4096 32) : FVec Ideal S4096x8 .f32 :=
  mulf (broadcastInDim S4096x8 ![0, 1] bcast_S4096x1_S4096x8_0_1 (broadcastInDim S4096x1 ![0] bcast_S4096_S4096x1_0 (sitofp .f32 w)))
    (broadcastInDim S4096x8 ![0, 1] bcast_S1x8_S4096x8_0_1 (broadcastInDim S1x8 ![1] bcast_S8_S1x8_1 inv))

/-- A table of 64 lanes laid twice side by side. -/
abbrev twice (t : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 t shapeCasts_S4096x64_S1x4096x1x64)) shapeCasts_S1x4096x2x64_S4096x128

/-- The cosine table of 64 lanes. -/
abbrev cos64 (w : IVec S4096 32) : FVec Ideal S4096x64 .f32 :=
  concatenate S4096x64 1 [⟨S4096x8, Host.cos (ang w)⟩, ⟨S4096x8, Host.cos (ang w)⟩,
    ⟨S4096x48, broadcastInDim S4096x48 ![] bcast_S_S4096x48 (constant S_ .f32 0x3F800000#32)⟩]
    concatenates_S4096x8_S4096x8_S4096x48_S4096x64_d1

/-- The signed sine table of 64 lanes. -/
abbrev sin64 (w : IVec S4096 32) : FVec Ideal S4096x64 .f32 :=
  concatenate S4096x64 1 [⟨S4096x8, Host.negf (Host.sin (ang w))⟩, ⟨S4096x8, Host.sin (ang w)⟩,
    ⟨S4096x48, broadcastInDim S4096x48 ![] bcast_S_S4096x48 (constant S_ .f32 0x00000000#32)⟩]
    concatenates_S4096x8_S4096x8_S4096x48_S4096x64_d1

theorem ang_at (w : IVec S4096 32) (r : Fin 4096) (j : Fin 8) : ang w (ix2 r j) = angle (w (ix1 r)) j.val := by
  unfold angle
  pointwise [inv]

theorem twice_at (t : FVec Ideal S4096x64 .f32) (r : Fin 4096) (l : Fin 128) :
    twice t (ix2 r l) = t (ix2 r ⟨l.val % 64, by omega⟩) := by
  pointwise []
  <;> blk_ext []

theorem parts_at (u v : FVec Ideal S4096x8 .f32) (o : FVec Ideal S4096x48 .f32) (r : Fin 4096) (l : Fin 64) :
    concatenate S4096x64 1 [⟨S4096x8, u⟩, ⟨S4096x8, v⟩, ⟨S4096x48, o⟩] concatenates_S4096x8_S4096x8_S4096x48_S4096x64_d1 (ix2 r l)
      = if h0 : l.val < 8 then u (ix2 r ⟨l.val, h0⟩) else if h1 : l.val - 8 < 8 then v (ix2 r ⟨l.val - 8, h1⟩)
        else o (ix2 r ⟨l.val - 8 - 8, by omega⟩) := by
  pointwise []

/-- The cosine table at a lane. -/
theorem cos_at (w : IVec S4096 32) (r : Fin 4096) (l : Fin 128) : twice (cos64 w) (ix2 r l) = cosAt (w (ix1 r)) l.val := by
  rw [twice_at]
  refine (parts_at _ _ _ r _).trans ?_
  unfold cosAt
  by_cases h8 : l.val % 64 < 8
  · rw [dif_pos h8, if_pos h8]
    exact congrArg Ideal.cos (ang_at w r _)
  · rw [dif_neg h8, if_neg h8]
    by_cases h16 : l.val % 64 < 16
    · rw [dif_pos (show l.val % 64 - 8 < 8 by omega), if_pos h16]
      exact congrArg Ideal.cos (ang_at w r _)
    · rw [dif_neg (show ¬ l.val % 64 - 8 < 8 by omega), if_neg h16]
      exact Ideal.ofBits_one_f32

/-- The signed sine table at a lane. -/
theorem sin_at (w : IVec S4096 32) (r : Fin 4096) (l : Fin 128) : twice (sin64 w) (ix2 r l) = sinAt (w (ix1 r)) l.val := by
  rw [twice_at]
  refine (parts_at _ _ _ r _).trans ?_
  unfold sinAt
  by_cases h8 : l.val % 64 < 8
  · rw [dif_pos h8, if_pos h8]
    exact congrArg (fun a => -Ideal.sin a) (ang_at w r _)
  · rw [dif_neg h8, if_neg h8]
    by_cases h16 : l.val % 64 < 16
    · rw [dif_pos (show l.val % 64 - 8 < 8 by omega), if_pos h16]
      exact congrArg Ideal.sin (ang_at w r _)
    · rw [dif_neg (show ¬ l.val % 64 - 8 < 8 by omega), if_neg h16]
      exact Ideal.ofBits_zero FTy.f32

end Cert.Kernel4Ideal.Block
-- ==== Proof.QkvRef.lean ====
/-
Prompt and meta tokens: the reference's rotated queries and keys and its values, read at one index.
-/
module

public import proofs.«01_k».proof.Proof.Gen.Reference4Ideal.Run
public import proofs.«01_k».proof.Proof.Rope
public import Idealize.ShloMosaic.Lib.Pipeline.ValueKit

@[expose] public section

set_option maxRecDepth 65536

noncomputable section

namespace Cert.Reference4Ideal.Qkv

open Idealize.ShloMosaic Idealize.ShloMosaic.TcCoe Idealize.SL.Sem Cert.Proof.Rope
open Cert.Reference4Ideal Cert.Reference4Ideal.Gen Cert.Reference4Ideal.Value

/-- The frequencies. -/
abbrev inv : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

/-- The angle of every position and frequency. -/
abbrev ang : FVec Ideal S4112x8 .f32 :=
  mulf (broadcastInDim S4112x8 ![0, 1] bcast_S4112x1_S4112x8_0_1 (broadcastInDim S4112x1 ![0] bcast_S4112_S4112x1_0
      (sitofp .f32 (iotaInDim S4112 32 0))))
    (broadcastInDim S4112x8 ![0, 1] bcast_S1x8_S4112x8_0_1 (broadcastInDim S1x8 ![1] bcast_S8_S1x8_1 inv))

/-- The cosines. -/
abbrev cosT : FVec Ideal S4112x1x1x8 .f32 := broadcastInDim S4112x1x1x8 ![0, 3] bcast_S4112x8_S4112x1x1x8_0_3 (Host.cos ang)
/-- The sines. -/
abbrev sinT : FVec Ideal S4112x1x1x8 .f32 := broadcastInDim S4112x1x1x8 ![0, 3] bcast_S4112x8_S4112x1x1x8_0_3 (Host.sin ang)

/-- A table spread over tokens, heads and maps. -/
abbrev spread (t : FVec Ideal S4112x1x1x8 .f32) : FVec Ideal S8x4112x8x2x8 .f32 :=
  broadcastInDim S8x4112x8x2x8 ![0, 1, 2, 3, 4] bcast_S1x4112x1x1x8_S8x4112x8x2x8_0_1_2_3_4
    (broadcastInDim S1x4112x1x1x8 ![1, 2, 3, 4] bcast_S4112x1x1x8_S1x4112x1x1x8_1_2_3_4 t)

/-- The reference's rotation of every map. -/
abbrev rot (x : FVec Ideal S8x4112x8x2x64 .f32) (co si : FVec Ideal S4112x1x1x8 .f32) : FVec Ideal S8x4112x8x2x64 .f32 :=
  concatenate S8x4112x8x2x64 4
    [⟨S8x4112x8x2x8, subf (mulf (extractStridedSlice S8x4112x8x2x8 ![0, 0, 0, 0, 0] x slices_S8x4112x8x2x64_S8x4112x8x2x8_0_0_0_0_0) (spread co))
        (mulf (extractStridedSlice S8x4112x8x2x8 ![0, 0, 0, 0, 8] x slices_S8x4112x8x2x64_S8x4112x8x2x8_0_0_0_0_8) (spread si))⟩,
     ⟨S8x4112x8x2x8, addf (mulf (extractStridedSlice S8x4112x8x2x8 ![0, 0, 0, 0, 8] x slices_S8x4112x8x2x64_S8x4112x8x2x8_0_0_0_0_8) (spread co))
        (mulf (extractStridedSlice S8x4112x8x2x8 ![0, 0, 0, 0, 0] x slices_S8x4112x8x2x64_S8x4112x8x2x8_0_0_0_0_0) (spread si))⟩,
     ⟨S8x4112x8x2x48, extractStridedSlice S8x4112x8x2x48 ![0, 0, 0, 0, 16] x slices_S8x4112x8x2x64_S8x4112x8x2x48_0_0_0_0_16⟩]
    concatenates_S8x4112x8x2x8_S8x4112x8x2x8_S8x4112x8x2x48_S8x4112x8x2x64_d4

/-- `x · W + b`. -/
abbrev proj (x : FVec Ideal S8x4112x1024 .f32) (W : FVec Ideal S1x1024x9224 .f32) (b : FVec Ideal S1x9224 .f32) : FVec Ideal S8x4112x9224 .f32 :=
  addf (Host.dotGeneral dot_S8x4112x1024_S1024x9224_S8x4112x9224_2_0_01_1_n_n none x (shapeCast _ W shapeCasts_S1x1024x9224_S1024x9224))
    (broadcastInDim S8x4112x9224 ![0, 1, 2] bcast_S1x1x9224_S8x4112x9224_0_1_2
      (broadcastInDim S1x1x9224 ![2] bcast_S9224_S1x1x9224_2 (shapeCast _ b shapeCasts_S1x9224_S9224)))

/-- The query columns as maps. -/
abbrev mapsQ (z : FVec Ideal S8x4112x9224 .f32) : FVec Ideal S8x4112x8x2x64 .f32 :=
  shapeCast S8x4112x8x2x64 (extractStridedSlice S8x4112x1024 ![0, 0, 0] z slices_S8x4112x9224_S8x4112x1024_0_0_0) shapeCasts_S8x4112x1024_S8x4112x8x2x64
/-- The key columns as maps. -/
abbrev mapsK (z : FVec Ideal S8x4112x9224 .f32) : FVec Ideal S8x4112x8x2x64 .f32 :=
  shapeCast S8x4112x8x2x64 (extractStridedSlice S8x4112x1024 ![0, 0, 1024] z slices_S8x4112x9224_S8x4112x1024_0_0_1024) shapeCasts_S8x4112x1024_S8x4112x8x2x64

/-- The word of a position. -/
abbrev word (p : Fin 4112) : BitVec 32 := BitVec.ofNat 32 p.val

theorem cos_at (p : Fin 4112) (j : Fin 8) : cosT (ix4 p 0 0 j) = Ideal.cos (angle (word p) j.val) := by
  unfold angle
  pointwise [inv]

theorem sin_at (p : Fin 4112) (j : Fin 8) : sinT (ix4 p 0 0 j) = Ideal.sin (angle (word p) j.val) := by
  unfold angle
  pointwise [inv]

/-- The rotation at an index, the tables still arrays. -/
theorem rot_at (x : FVec Ideal S8x4112x8x2x64 .f32) (co si : FVec Ideal S4112x1x1x8 .f32) (b : Fin 8) (p : Fin 4112) (h : Fin 8) (s : Fin 2) (d : Fin 64) :
    rot x co si (ix5 b p h s d)
      = if h0 : d.val < 8 then
          x (ix5 b p h s d) * co (ix4 p 0 0 ⟨d.val, h0⟩) - x (ix5 b p h s ⟨8 + d.val, by omega⟩) * si (ix4 p 0 0 ⟨d.val, h0⟩)
        else if h1 : d.val - 8 < 8 then
          x (ix5 b p h s ⟨8 + (d.val - 8), by omega⟩) * co (ix4 p 0 0 ⟨d.val - 8, h1⟩)
            + x (ix5 b p h s ⟨d.val - 8, by omega⟩) * si (ix4 p 0 0 ⟨d.val - 8, h1⟩)
        else x (ix5 b p h s ⟨16 + (d.val - 8 - 8), by omega⟩) := by
  pointwise []

/-- The reference's rotation is `rotated`, over a token's row `z`. -/
theorem rot_eq (x : FVec Ideal S8x4112x8x2x64 .f32) (z : ℕ → EReal) (b : Fin 8) (p : Fin 4112)
    (hx : ∀ (h : Fin 8) (s : Fin 2) (d : Fin 64), x (ix5 b p h s d) = z (h.val * 128 + s.val * 64 + d.val))
    (h : Fin 8) (s : Fin 2) (d : Fin 64) :
    rot x cosT sinT (ix5 b p h s d) = rotated z (word p) (h.val * 128 + s.val * 64 + d.val) := by
  have hm : (h.val * 128 + s.val * 64 + d.val) % 64 = d.val := by omega
  rw [rot_at]
  unfold rotated
  rw [hm]
  by_cases h8 : d.val < 8
  · rw [dif_pos h8, if_pos h8, cos_at, sin_at, hx, hx]
    rw [show h.val * 128 + s.val * 64 + (8 + d.val) = h.val * 128 + s.val * 64 + d.val + 8 by omega]
  · rw [dif_neg h8, if_neg h8]
    by_cases h16 : d.val < 16
    · rw [dif_pos (show d.val - 8 < 8 by omega), if_pos h16, cos_at, sin_at, hx, hx]
      rw [show h.val * 128 + s.val * 64 + (8 + (d.val - 8)) = h.val * 128 + s.val * 64 + d.val by omega,
        show h.val * 128 + s.val * 64 + (d.val - 8) = h.val * 128 + s.val * 64 + d.val - 8 by omega]
    · rw [dif_neg (show ¬ d.val - 8 < 8 by omega), if_neg h16, hx]
      rw [show h.val * 128 + s.val * 64 + (16 + (d.val - 8 - 8)) = h.val * 128 + s.val * 64 + d.val by omega]

/-- A token's row of `x · W + b`. -/
abbrev row (x : FVec Ideal S8x4112x1024 .f32) (W : FVec Ideal S1x1024x9224 .f32) (b : FVec Ideal S1x9224 .f32) (i : Fin 8) (p : Fin 4112) : ℕ → EReal :=
  rowAt (fun k => x (ix3 i p k)) (fun k n => W (ix3 0 k n)) (fun n => b (ix2 0 n))

theorem proj_at (x : FVec Ideal S8x4112x1024 .f32) (W : FVec Ideal S1x1024x9224 .f32) (b : FVec Ideal S1x9224 .f32) (i : Fin 8) (p : Fin 4112) (n : Fin 9224) :
    proj x W b (ix3 i p n) = row x W b i p n.val := by
  unfold row rowAt
  rw [dif_pos n.isLt]
  pointwise []

theorem mapsQ_at (z : FVec Ideal S8x4112x9224 .f32) (b : Fin 8) (p : Fin 4112) (h : Fin 8) (s : Fin 2) (d : Fin 64) :
    mapsQ z (ix5 b p h s d) = z (ix3 b p ⟨h.val * 128 + s.val * 64 + d.val, by omega⟩) := by
  pointwise []
  <;> blk_ext []

theorem mapsK_at (z : FVec Ideal S8x4112x9224 .f32) (b : Fin 8) (p : Fin 4112) (h : Fin 8) (s : Fin 2) (d : Fin 64) :
    mapsK z (ix5 b p h s d) = z (ix3 b p ⟨1024 + (h.val * 128 + s.val * 64 + d.val), by omega⟩) := by
  pointwise []
  <;> blk_ext []

/-- The scaled queries. -/
abbrev scaled (r : FVec Ideal S8x4112x8x2x64 .f32) : FVec Ideal S8x4096x8x2x64 .f32 :=
  mulf (extractStridedSlice S8x4096x8x2x64 ![0, 16, 0, 0, 0] r slices_S8x4112x8x2x64_S8x4096x8x2x64_0_16_0_0_0) (broadcastInDim S8x4096x8x2x64 ![] bcast_S_S8x4096x8x2x64 (constant S_ .f32 0x3E000000#32))

/-- Heads first, one row per token. -/
abbrev headsFirst (q : FVec Ideal S8x4096x8x128 .f32) : FVec Ideal S8x32768x128 .bf16 :=
  truncf .bf16 (shapeCast S8x32768x128 (transpose S8x8x4096x128 [2, 0, 1, 3] q transposes_S8x4096x8x128_S8x8x4096x128_2_0_1_3)
    shapeCasts_S8x8x4096x128_S8x32768x128) bitsLt_bf16_f32

/-- The first map's queries. -/
abbrev loOf (r : FVec Ideal S8x4112x8x2x64 .f32) : FVec Ideal S8x32768x128 .bf16 :=
  headsFirst (concatenate S8x4096x8x128 3 [⟨S8x4096x8x64, shapeCast S8x4096x8x64 (extractStridedSlice S8x4096x8x1x64 ![0, 0, 0, 0, 0] (scaled r) slices_S8x4096x8x2x64_S8x4096x8x1x64_0_0_0_0_0) shapeCasts_S8x4096x8x1x64_S8x4096x8x64⟩,
    ⟨S8x4096x8x64, broadcastInDim S8x4096x8x64 ![] bcast_S_S8x4096x8x64 (constant S_ .f32 0x00000000#32)⟩] concatenates_S8x4096x8x64_S8x4096x8x64_S8x4096x8x128_d3)
/-- The second map's queries. -/
abbrev hiOf (r : FVec Ideal S8x4112x8x2x64 .f32) : FVec Ideal S8x32768x128 .bf16 :=
  headsFirst (concatenate S8x4096x8x128 3 [⟨S8x4096x8x64, broadcastInDim S8x4096x8x64 ![] bcast_S_S8x4096x8x64 (constant S_ .f32 0x00000000#32)⟩,
    ⟨S8x4096x8x64, shapeCast S8x4096x8x64 (extractStridedSlice S8x4096x8x1x64 ![0, 0, 0, 1, 0] (scaled r) slices_S8x4096x8x2x64_S8x4096x8x1x64_0_0_0_1_0) shapeCasts_S8x4096x8x1x64_S8x4096x8x64⟩] concatenates_S8x4096x8x64_S8x4096x8x64_S8x4096x8x128_d3)

theorem heads_at (q : FVec Ideal S8x4096x8x128 .f32) (h : Fin 8) (n : Fin 32768) (l : Fin 128) :
    headsFirst q (ix3 h n l) = q (ix4 ⟨n.val / 4096, by omega⟩ ⟨n.val % 4096, by omega⟩ h l) := by
  pointwise []

theorem scaled_at (r : FVec Ideal S8x4112x8x2x64 .f32) (b : Fin 8) (p : Fin 4096) (h : Fin 8) (s : Fin 2) (d : Fin 64) :
    scaled r (ix5 b p h s d) = r (ix5 b ⟨16 + p.val, by omega⟩ h s d) * Ideal.ofBits FTy.f32 0x3E000000#32 := by
  pointwise []

/-- Two maps side by side. -/
abbrev pair (u v : FVec Ideal S8x4096x8x64 .f32) : FVec Ideal S8x4096x8x128 .f32 :=
  concatenate S8x4096x8x128 3 [⟨S8x4096x8x64, u⟩, ⟨S8x4096x8x64, v⟩] concatenates_S8x4096x8x64_S8x4096x8x64_S8x4096x8x128_d3

theorem pair_at (u v : FVec Ideal S8x4096x8x64 .f32) (b : Fin 8) (p : Fin 4096) (h : Fin 8) (l : Fin 128) :
    pair u v (ix4 b p h l) = if hl : l.val < 64 then u (ix4 b p h ⟨l.val, hl⟩) else v (ix4 b p h ⟨l.val - 64, by omega⟩) := by
  pointwise []

theorem map0_at (s : FVec Ideal S8x4096x8x2x64 .f32) (b : Fin 8) (p : Fin 4096) (h : Fin 8) (d : Fin 64) :
    shapeCast S8x4096x8x64 (extractStridedSlice S8x4096x8x1x64 ![0, 0, 0, 0, 0] s slices_S8x4096x8x2x64_S8x4096x8x1x64_0_0_0_0_0) shapeCasts_S8x4096x8x1x64_S8x4096x8x64 (ix4 b p h d)
      = s (ix5 b p h 0 d) := by
  pointwise []

theorem map1_at (s : FVec Ideal S8x4096x8x2x64 .f32) (b : Fin 8) (p : Fin 4096) (h : Fin 8) (d : Fin 64) :
    shapeCast S8x4096x8x64 (extractStridedSlice S8x4096x8x1x64 ![0, 0, 0, 1, 0] s slices_S8x4096x8x2x64_S8x4096x8x1x64_0_0_0_1_0) shapeCasts_S8x4096x8x1x64_S8x4096x8x64 (ix4 b p h d)
      = s (ix5 b p h 1 d) := by
  pointwise []

/-- The first map's queries at an index: the other map's lanes are zero. -/
theorem lo_at (r : FVec Ideal S8x4112x8x2x64 .f32) (h : Fin 8) (n : Fin 32768) (l : Fin 128) :
    loOf r (ix3 h n l) = if hl : l.val < 64 then
        r (ix5 ⟨n.val / 4096, by omega⟩ ⟨16 + n.val % 4096, by omega⟩ h 0 ⟨l.val, hl⟩) * Ideal.ofBits FTy.f32 0x3E000000#32
      else Ideal.ofBits FTy.f32 0x00000000#32 := by
  refine (heads_at _ h n l).trans ((pair_at _ _ _ _ _ _).trans ?_)
  by_cases hl : l.val < 64
  · rw [dif_pos hl, dif_pos hl, map0_at, scaled_at]
  · rw [dif_neg hl, dif_neg hl]
    rfl

/-- The second map's queries at an index: the other map's lanes are zero. -/
theorem hi_at (r : FVec Ideal S8x4112x8x2x64 .f32) (h : Fin 8) (n : Fin 32768) (l : Fin 128) :
    hiOf r (ix3 h n l) = if hl : l.val < 64 then Ideal.ofBits FTy.f32 0x00000000#32
      else r (ix5 ⟨n.val / 4096, by omega⟩ ⟨16 + n.val % 4096, by omega⟩ h 1 ⟨l.val - 64, by omega⟩) * Ideal.ofBits FTy.f32 0x3E000000#32 := by
  refine (heads_at _ h n l).trans ((pair_at _ _ _ _ _ _).trans ?_)
  by_cases hl : l.val < 64
  · rw [dif_pos hl, dif_pos hl]
    rfl
  · rw [dif_neg hl, dif_neg hl, map1_at, scaled_at]

/-- The whole row array, rotated queries. -/
abbrev rotQ (x : FVec Ideal S8x4112x1024 .f32) (W : FVec Ideal S1x1024x9224 .f32) (b : FVec Ideal S1x9224 .f32) := rot (mapsQ (proj x W b)) cosT sinT
/-- The whole row array, rotated keys. -/
abbrev rotK (x : FVec Ideal S8x4112x1024 .f32) (W : FVec Ideal S1x1024x9224 .f32) (b : FVec Ideal S1x9224 .f32) := rot (mapsK (proj x W b)) cosT sinT

theorem rotQ_at (x : FVec Ideal S8x4112x1024 .f32) (W : FVec Ideal S1x1024x9224 .f32) (b : FVec Ideal S1x9224 .f32) (i : Fin 8) (p : Fin 4112) (h : Fin 8) (s : Fin 2) (d : Fin 64) :
    rotQ x W b (ix5 i p h s d) = rotated (fun n => row x W b i p n) (word p) (h.val * 128 + s.val * 64 + d.val) :=
  rot_eq _ _ i p (fun h s d => (mapsQ_at _ i p h s d).trans (proj_at x W b i p _)) h s d

theorem rotK_at (x : FVec Ideal S8x4112x1024 .f32) (W : FVec Ideal S1x1024x9224 .f32) (b : FVec Ideal S1x9224 .f32) (i : Fin 8) (p : Fin 4112) (h : Fin 8) (s : Fin 2) (d : Fin 64) :
    rotK x W b (ix5 i p h s d) = rotated (fun n => row x W b i p (1024 + n)) (word p) (h.val * 128 + s.val * 64 + d.val) :=
  rot_eq _ (fun n => row x W b i p (1024 + n)) i p (fun h s d => (mapsK_at _ i p h s d).trans (proj_at x W b i p _)) h s d

/-- The meta tokens before each prompt. -/
abbrev tokens (X : FVec Ideal S8x4096x1024 .f32) (M : FVec Ideal S16x1024 .f32) : FVec Ideal S8x4112x1024 .f32 :=
  concatenate S8x4112x1024 1 [⟨S8x16x1024, broadcastInDim S8x16x1024 ![0, 1, 2] bcast_S1x16x1024_S8x16x1024_0_1_2 (broadcastInDim S1x16x1024 ![1, 2] bcast_S16x1024_S1x16x1024_1_2 M)⟩, ⟨S8x4096x1024, X⟩] concatenates_S8x16x1024_S8x4096x1024_S8x4112x1024_d1

/-- The reference's first result: the first map's queries. -/
def resLo (X : FVec Ideal S8x4096x1024 .f32) (M : FVec Ideal S16x1024 .f32) (W : FVec Ideal S1x1024x9224 .f32) (b : FVec Ideal S1x9224 .f32) : FVec Ideal S8x32768x128 .bf16 := loOf (rotQ (tokens X M) W b)
/-- The reference's second result: the second map's queries. -/
def resHi (X : FVec Ideal S8x4096x1024 .f32) (M : FVec Ideal S16x1024 .f32) (W : FVec Ideal S1x1024x9224 .f32) (b : FVec Ideal S1x9224 .f32) : FVec Ideal S8x32768x128 .bf16 := hiOf (rotQ (tokens X M) W b)
/-- The reference's third result: the keys. -/
def resK (X : FVec Ideal S8x4096x1024 .f32) (M : FVec Ideal S16x1024 .f32) (W : FVec Ideal S1x1024x9224 .f32) (b : FVec Ideal S1x9224 .f32) : FVec Ideal S1x8x4112x8x128 .f32 := broadcastInDim S1x8x4112x8x128 ![1, 2, 3, 4] bcast_S8x4112x8x128_S1x8x4112x8x128_1_2_3_4 (shapeCast S8x4112x8x128 (rotK (tokens X M) W b) shapeCasts_S8x4112x8x2x64_S8x4112x8x128)
/-- The reference's fourth result: the values. -/
def resV (X : FVec Ideal S8x4096x1024 .f32) (M : FVec Ideal S16x1024 .f32) (W : FVec Ideal S1x1024x9224 .f32) (b : FVec Ideal S1x9224 .f32) : FVec Ideal S1x8x4112x8x128 .f32 :=
  broadcastInDim S1x8x4112x8x128 ![1, 2, 3, 4] bcast_S8x4112x8x128_S1x8x4112x8x128_1_2_3_4 (shapeCast S8x4112x8x128 (extractStridedSlice S8x4112x1024 ![0, 0, 2048] (proj (tokens X M) W b) slices_S8x4112x9224_S8x4112x1024_0_0_2048) shapeCasts_S8x4112x1024_S8x4112x8x128)

/-- The reference runs to the four named results and leaves its arguments. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103) = resLo (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v106) = resHi (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v107) = resK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v108) = resV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by unfold res_main_v103; rfl), (h c).2.1.trans (by unfold res_main_v106; rfl),
    (h c).2.2.1.trans (by unfold res_main_v107; rfl), (h c).2.2.2.1.trans rfl, (h c).2.2.2.2⟩) (run m ρ)

end Cert.Reference4Ideal.Qkv
-- ==== Proof.QkvRefAt.lean ====
/-
Prompt and meta tokens: the reference's four results, read at one index.
-/
module

public import proofs.«01_k».proof.Proof.QkvRef
public import proofs.«01_k».proof.Proof.Rope
public import Idealize.ShloMosaic.Lib.Pipeline.ValueKit

@[expose] public section

set_option maxRecDepth 65536

noncomputable section

namespace Cert.Reference4Ideal.Qkv

open Idealize.ShloMosaic Idealize.ShloMosaic.TcCoe Idealize.SL.Sem Cert.Proof.Rope
open Cert.Reference4Ideal Cert.Reference4Ideal.Gen Cert.Reference4Ideal.Value

/-- The first result at an index. -/
theorem resLo_at (X : FVec Ideal S8x4096x1024 .f32) (M : FVec Ideal S16x1024 .f32) (W : FVec Ideal S1x1024x9224 .f32) (b : FVec Ideal S1x9224 .f32)
    (h : Fin 8) (n : Fin 32768) (l : Fin 128) :
    resLo X M W b (ix3 h n l) = if hl : l.val < 64 then
        rotQ (tokens X M) W b (ix5 ⟨n.val / 4096, by omega⟩ ⟨16 + n.val % 4096, by omega⟩ h 0 ⟨l.val, hl⟩) * Ideal.ofBits FTy.f32 0x3E000000#32
      else Ideal.ofBits FTy.f32 0x00000000#32 :=
  (congrFun (show resLo X M W b = loOf (rotQ (tokens X M) W b) from rfl) _).trans (lo_at (rotQ (tokens X M) W b) h n l)

/-- The second result at an index. -/
theorem resHi_at (X : FVec Ideal S8x4096x1024 .f32) (M : FVec Ideal S16x1024 .f32) (W : FVec Ideal S1x1024x9224 .f32) (b : FVec Ideal S1x9224 .f32)
    (h : Fin 8) (n : Fin 32768) (l : Fin 128) :
    resHi X M W b (ix3 h n l) = if hl : l.val < 64 then Ideal.ofBits FTy.f32 0x00000000#32
      else rotQ (tokens X M) W b (ix5 ⟨n.val / 4096, by omega⟩ ⟨16 + n.val % 4096, by omega⟩ h 1 ⟨l.val - 64, by omega⟩) * Ideal.ofBits FTy.f32 0x3E000000#32 :=
  (congrFun (show resHi X M W b = hiOf (rotQ (tokens X M) W b) from rfl) _).trans (hi_at (rotQ (tokens X M) W b) h n l)

/-- The keys' array at an index, from the array it reshapes. -/
theorem fromMaps_at (x : FVec Ideal S8x4112x8x2x64 .f32) (z : Fin 1) (i : Fin 8) (p : Fin 4112) (h : Fin 8) (d : Fin 128) :
    broadcastInDim S1x8x4112x8x128 ![1, 2, 3, 4] bcast_S8x4112x8x128_S1x8x4112x8x128_1_2_3_4 (shapeCast S8x4112x8x128 x shapeCasts_S8x4112x8x2x64_S8x4112x8x128) (ix5 z i p h d)
      = x (ix5 i p h ⟨d.val / 64, by omega⟩ ⟨d.val % 64, by omega⟩) := by
  pointwise []
  <;> blk_ext []

/-- The values' array at an index, from the projection. -/
theorem fromProj_at (x : FVec Ideal S8x4112x9224 .f32) (z : Fin 1) (i : Fin 8) (p : Fin 4112) (h : Fin 8) (d : Fin 128) :
    broadcastInDim S1x8x4112x8x128 ![1, 2, 3, 4] bcast_S8x4112x8x128_S1x8x4112x8x128_1_2_3_4 (shapeCast S8x4112x8x128 (extractStridedSlice S8x4112x1024 ![0, 0, 2048] x slices_S8x4112x9224_S8x4112x1024_0_0_2048) shapeCasts_S8x4112x1024_S8x4112x8x128) (ix5 z i p h d)
      = x (ix3 i p ⟨2048 + (h.val * 128 + d.val), by omega⟩) := by
  pointwise []
  <;> blk_ext []

/-- The third result at an index: the token's row, rotated. -/
theorem resK_at (X : FVec Ideal S8x4096x1024 .f32) (M : FVec Ideal S16x1024 .f32) (W : FVec Ideal S1x1024x9224 .f32) (b : FVec Ideal S1x9224 .f32)
    (z : Fin 1) (i : Fin 8) (p : Fin 4112) (h : Fin 8) (d : Fin 128) :
    resK X M W b (ix5 z i p h d) = rotated (fun n => row (tokens X M) W b i p (1024 + n)) (word p) (h.val * 128 + d.val) := by
  have e : h.val * 128 + (d.val / 64) * 64 + d.val % 64 = h.val * 128 + d.val := by omega
  rw [← e]
  exact (congrFun (show resK X M W b = broadcastInDim S1x8x4112x8x128 ![1, 2, 3, 4] bcast_S8x4112x8x128_S1x8x4112x8x128_1_2_3_4 (shapeCast S8x4112x8x128 (rotK (tokens X M) W b) shapeCasts_S8x4112x8x2x64_S8x4112x8x128) from rfl) _).trans
    ((fromMaps_at (rotK (tokens X M) W b) z i p h d).trans (rotK_at (tokens X M) W b i p h ⟨d.val / 64, by omega⟩ ⟨d.val % 64, by omega⟩))

/-- The fourth result at an index: the token's row. -/
theorem resV_at (X : FVec Ideal S8x4096x1024 .f32) (M : FVec Ideal S16x1024 .f32) (W : FVec Ideal S1x1024x9224 .f32) (b : FVec Ideal S1x9224 .f32)
    (z : Fin 1) (i : Fin 8) (p : Fin 4112) (h : Fin 8) (d : Fin 128) :
    resV X M W b (ix5 z i p h d) = row (tokens X M) W b i p (2048 + (h.val * 128 + d.val)) :=
  (congrFun (show resV X M W b = broadcastInDim S1x8x4112x8x128 ![1, 2, 3, 4] bcast_S8x4112x8x128_S1x8x4112x8x128_1_2_3_4 (shapeCast S8x4112x8x128 (extractStridedSlice S8x4112x1024 ![0, 0, 2048] (proj (tokens X M) W b) slices_S8x4112x9224_S8x4112x1024_0_0_2048) shapeCasts_S8x4112x1024_S8x4112x8x128) from rfl) _).trans
    ((fromProj_at (proj (tokens X M) W b) z i p h d).trans (proj_at (tokens X M) W b i p ⟨2048 + (h.val * 128 + d.val), by omega⟩))

end Cert.Reference4Ideal.Qkv
-- ==== Proof.QkvEntry.lean ====
/-
The prompt's queries, keys and values (`Kernel4Ideal`, first launch): what the arrays the
launch reads hold, and the rows it is to leave.
-/
module

public import proofs.«01_k».proof.Proof.Gen.Kernel4Ideal.Frame
public import proofs.«01_k».proof.Proof.QkvTables
public import proofs.«01_k».proof.Proof.QkvRefAt
public import Idealize.ShloMosaic.Lib.Pipeline.ValueKit
public import Idealize.ShloMosaic.Lib.StableHlo.RunRead

@[expose] public section

set_option maxRecDepth 65536

noncomputable section

namespace Cert.Kernel4Ideal.Block

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen

/-- The positions of the prompt's tokens: after the sixteen meta tokens. -/
abbrev words : IVec S4096 32 :=
  addi (broadcastInDim S4096 ![] bcast_S_S4096 (constantI S_ 32 16#32)) (iotaInDim S4096 32 0)

theorem words_at (p : Fin 4096) : words (ix1 p) = Cert.Reference4Ideal.Qkv.word ⟨16 + p.val, by omega⟩ :=
  (BitVec.ofNat_add 16 p.val).symm

/-- Token `g` of the prompts laid one after another. -/
abbrev tok (X : FVec Ideal S8x4096x1024 .f32) (g : Fin 32768) : Fin 1024 → EReal :=
  fun k => X (ix3 ⟨g.val / 4096, by omega⟩ ⟨g.val % 4096, by omega⟩ k)
/-- Its position, after the sixteen meta tokens. -/
abbrev pos (g : Fin 32768) : BitVec 32 := Cert.Reference4Ideal.Qkv.word ⟨16 + g.val % 4096, by omega⟩
/-- The weights by row and column. -/
abbrev wts (W : FVec Ideal S1x1024x9224 .f32) : Fin 1024 → Fin 9224 → EReal := fun k n => W (ix3 0 k n)
/-- The bias by column. -/
abbrev bia (b : FVec Ideal S1x9224 .f32) : Fin 9224 → EReal := fun n => b (ix2 0 n)

/-- The rotated keys, one row per token. -/
def promptK (X : FVec Ideal S8x4096x1024 .f32) (W : FVec Ideal S1x1024x9224 .f32) (b : FVec Ideal S1x9224 .f32) : FVec Ideal S32768x1024 .f32 :=
  fun y => rotated (fun n => rowAt (tok X (y 0)) (wts W) (bia b) (1024 + n)) (pos (y 0)) (y 1).val
/-- The values, one row per token. -/
def promptV (X : FVec Ideal S8x4096x1024 .f32) (W : FVec Ideal S1x1024x9224 .f32) (b : FVec Ideal S1x9224 .f32) : FVec Ideal S32768x1024 .f32 :=
  fun y => rowAt (tok X (y 0)) (wts W) (bia b) (2048 + (y 1).val)

/-- A prompt's token among the meta tokens and the prompt. -/
theorem tokens_late (X : FVec Ideal S8x4096x1024 .f32) (M : FVec Ideal S16x1024 .f32) (i : Fin 8) (p : Fin 4096) (k : Fin 1024) :
    Cert.Reference4Ideal.Qkv.tokens X M (ix3 i ⟨16 + p.val, by omega⟩ k) = X (ix3 i p k) := by
  pointwise [Cert.Reference4Ideal.Qkv.tokens]

/-- The reference's row of a prompt's token. -/
theorem row_late (X : FVec Ideal S8x4096x1024 .f32) (M : FVec Ideal S16x1024 .f32) (W : FVec Ideal S1x1024x9224 .f32) (b : FVec Ideal S1x9224 .f32)
    (g : Fin 32768) : Cert.Reference4Ideal.Qkv.row (Cert.Reference4Ideal.Qkv.tokens X M) W b ⟨g.val / 4096, by omega⟩ ⟨16 + g.val % 4096, by omega⟩
      = rowAt (tok X g) (wts W) (bia b) := by
  unfold Cert.Reference4Ideal.Qkv.row
  exact congrArg (fun x => rowAt x _ _) (funext fun k => tokens_late X M _ ⟨g.val % 4096, by omega⟩ k)

variable (m : (ℓ : Loc nD τ sig) → Buf (Elt Ideal) ℓ) (ρ : Dev nD → PrngReg)

/-- Every window's block index at every point. -/
theorem idx : ∀ t : Fin cfg0.N, win0_0.index t = ![t.val, 0] ∧ win0_1.index t = ![0, 0] ∧ win0_2.index t = ![0, 0]
    ∧ win0_3.index t = ![t.val % 8, 0] ∧ win0_4.index t = ![t.val % 8, 0] ∧ win0_5.index t = ![0, t.val, 0] ∧ win0_6.index t = ![0, t.val, 0]
    ∧ win0_7.index t = ![t.val, 0] ∧ win0_9.index t = ![t.val, 0] :=
  (by decide +kernel : ∀ t : Fin grid0.N, _)

/-- The prompts' tokens, as launched. -/
abbrev argX (c : Dev nD) : FVec Ideal S8x4096x1024 .f32 := m ((c : Thread nD τ).loc main_arg0)
/-- The meta tokens, as launched. -/
abbrev argM (c : Dev nD) : FVec Ideal S16x1024 .f32 := m ((c : Thread nD τ).loc main_arg1)
/-- The weights, as launched. -/
abbrev argW (c : Dev nD) : FVec Ideal S1x1024x9224 .f32 := m ((c : Thread nD τ).loc main_arg2)
/-- The bias, as launched. -/
abbrev argB (c : Dev nD) : FVec Ideal S1x9224 .f32 := m ((c : Thread nD τ).loc main_arg3)

/-- The token rows the launch reads. -/
theorem entryX (c : Dev nD) : (V1 m ρ c main_v68 : FVec Ideal S32768x1024 .bf16)
    = truncf (F := Ideal) .bf16 (shapeCast S32768x1024 (argX m c) shapeCasts_S8x4096x1024_S32768x1024) bitsLt_bf16_f32 := by
  after_reads_simp
  rfl

/-- The weight columns the launch reads. -/
theorem entryW (c : Dev nD) : (V1 m ρ c main_v3 : FVec Ideal S1024x3072 .bf16)
    = truncf (F := Ideal) .bf16 (extractStridedSlice S1024x3072 ![0, 0] (shapeCast S1024x9224 (argW m c) shapeCasts_S1x1024x9224_S1024x9224) slices_S1024x9224_S1024x3072_0_0) bitsLt_bf16_f32 := by
  after_reads_simp
  rfl

/-- The bias columns the launch reads. -/
theorem entryB (c : Dev nD) : (V1 m ρ c main_v5 : FVec Ideal S1x3072 .f32)
    = broadcastInDim S1x3072 ![1] bcast_S3072_S1x3072_1 (extractStridedSlice S3072 ![0] (shapeCast S9224 (argB m c) shapeCasts_S1x9224_S9224) slices_S9224_S3072_0) := by
  after_reads_simp
  rfl

/-- The cosine table the launch reads. -/
theorem entryC (c : Dev nD) : (V1 m ρ c main_v36 : FVec Ideal S4096x128 .f32) = twice (cos64 words) := by
  after_reads_simp
  rfl

/-- The signed sine table the launch reads. -/
theorem entryS (c : Dev nD) : (V1 m ρ c main_v39 : FVec Ideal S4096x128 .f32) = twice (sin64 words) := by
  after_reads_simp
  rfl

end Cert.Kernel4Ideal.Block
-- ==== Proof.QkvValue.lean ====
/-
The prompt's queries, keys and values (`Kernel4Ideal`, first launch): each of the four arrays is, entry by entry, the
projection of the token's row, its queries and keys rotated by the token's position.
-/
module

public import proofs.«01_k».proof.Proof.Gen.Kernel4Ideal.Frame
public import proofs.«01_k».proof.Proof.QkvEntry
public import Idealize.ShloMosaic.Lib.Pipeline.ValueKit
public import Idealize.ShloMosaic.Lib.StableHlo.RunRead

@[expose] public section

set_option maxRecDepth 65536

noncomputable section

namespace Cert.Kernel4Ideal.Block

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen

variable (m : (ℓ : Loc nD τ sig) → Buf (Elt Ideal) ℓ) (ρ : Dev nD → PrngReg)

/-- The token of row `r` of point `t`. -/
abbrev gRow (t : Fin cfg0.N) (r : Fin 512) : Fin 32768 := ⟨t.val * 512 + r.val, by have ht : t.val < 64 := t.isLt; omega⟩

/-- The prompts laid one after another. -/
theorem laid_at (X : FVec Ideal S8x4096x1024 .f32) (g : Fin 32768) (k : Fin 1024) :
    truncf (F := Ideal) .bf16 (shapeCast S32768x1024 X shapeCasts_S8x4096x1024_S32768x1024) bitsLt_bf16_f32 (ix2 g k) = tok X g k := by
  pointwise
  blk_ext []

theorem blockX (c : Dev nD) (t : Fin cfg0.N) (r : Fin 512) (k : Fin 1024) :
    iblk0 (V1 m ρ) c 0 t (ix2 r k) = tok (argX m c) (gRow t r) k := by
  refine Eq.trans ?_ (laid_at (argX m c) (gRow t r) k)
  rw [← entryX m ρ c]
  blk_simp [iblk0]
  refine congrArg _ ?_
  blk_ext [idx t]

theorem blockW (c : Dev nD) (t : Fin cfg0.N) (k : Fin 1024) (n : Fin 3072) :
    iblk0 (V1 m ρ) c 1 t (ix2 k n) = wts (argW m c) k ⟨n.val, by omega⟩ := by
  blk_simp [iblk0]
  refine (congrFun (entryW m ρ c) _).trans ?_
  pointwise
  blk_ext [idx t]

theorem blockB (c : Dev nD) (t : Fin cfg0.N) (n : Fin 3072) :
    iblk0 (V1 m ρ) c 2 t (ix2 0 n) = bia (argB m c) ⟨n.val, by omega⟩ := by
  blk_simp [iblk0]
  refine (congrFun (entryB m ρ c) _).trans ?_
  pointwise
  blk_ext [idx t]

theorem pos_eq (t : Fin cfg0.N) (r : Fin 512) :
    words (ix1 ⟨t.val % 8 * 512 + r.val, by omega⟩) = pos (gRow t r) :=
  (words_at _).trans (congrArg (BitVec.ofNat 32) (show 16 + (t.val % 8 * 512 + r.val) = 16 + (t.val * 512 + r.val) % 4096 by omega))

theorem blockC (c : Dev nD) (t : Fin cfg0.N) (r : Fin 512) (l : Fin 128) :
    iblk0 (V1 m ρ) c 3 t (ix2 r l) = cosAt (pos (gRow t r)) l.val := by
  have ht : t.val < 64 := t.isLt
  blk_simp [iblk0]
  refine (congrFun (entryC m ρ c) _).trans ?_
  rw [← pos_eq t r, ← cos_at]
  refine congrArg _ ?_
  blk_ext [idx t]

theorem blockS (c : Dev nD) (t : Fin cfg0.N) (r : Fin 512) (l : Fin 128) :
    iblk0 (V1 m ρ) c 4 t (ix2 r l) = sinAt (pos (gRow t r)) l.val := by
  have ht : t.val < 64 := t.isLt
  blk_simp [iblk0]
  refine (congrFun (entryS m ρ c) _).trans ?_
  rw [← pos_eq t r, ← sin_at]
  refine congrArg _ ?_
  blk_ext [idx t]

/-- A row of the blocks is a token's row. -/
theorem rowOf (c : Dev nD) (t : Fin cfg0.N) (r : Fin 512) :
    RowOf (iblk0 (V1 m ρ) c 0 t) (iblk0 (V1 m ρ) c 1 t) (iblk0 (V1 m ρ) c 2 t) (iblk0 (V1 m ρ) c 3 t) (iblk0 (V1 m ρ) c 4 t) r
      (tok (argX m c) (gRow t r)) (wts (argW m c)) (bia (argB m c)) (pos (gRow t r)) :=
  ⟨blockX m ρ c t r, blockW m ρ c t, blockB m ρ c t, blockC m ρ c t r, blockS m ρ c t r⟩

theorem pointK (c : Dev nD) (t : Fin cfg0.N) (r : Fin 512) (n : Fin 1024) :
    keys (iblk0 (V1 m ρ) c 0 t) (iblk0 (V1 m ρ) c 1 t) (iblk0 (V1 m ρ) c 2 t) (iblk0 (V1 m ρ) c 3 t) (iblk0 (V1 m ρ) c 4 t) (ix2 r n)
      = promptK (argX m c) (argW m c) (argB m c) (ix2 (gRow t r) n) :=
  (rowOf m ρ c t r).turned 1024 n.val (by decide) n.isLt

theorem pointV (c : Dev nD) (t : Fin cfg0.N) (r : Fin 512) (n : Fin 1024) :
    vals (iblk0 (V1 m ρ) c 0 t) (iblk0 (V1 m ρ) c 1 t) (iblk0 (V1 m ρ) c 2 t) (ix2 r n)
      = promptV (argX m c) (argW m c) (argB m c) (ix2 (gRow t r) n) :=
  (rowOf m ρ c t r).zrow 2048 n.val (by omega)

open Cert.Reference4Ideal.Qkv in
/-- The reference's rotated queries at a token. -/
theorem rotQ_late (X : FVec Ideal S8x4096x1024 .f32) (M : FVec Ideal S16x1024 .f32) (W : FVec Ideal S1x1024x9224 .f32) (b : FVec Ideal S1x9224 .f32)
    (g : Fin 32768) (h : Fin 8) (s : Fin 2) (d : Fin 64) :
    rotQ (tokens X M) W b (ix5 ⟨g.val / 4096, by omega⟩ ⟨16 + g.val % 4096, by omega⟩ h s d)
      = rotated (rowAt (tok X g) (wts W) (bia b)) (pos g) (h.val * 128 + s.val * 64 + d.val) :=
  (rotQ_at _ _ _ _ _ _ _ _).trans (congrArg (fun z => rotated z _ _) (row_late X M W b g))

open Cert.Reference4Ideal.Qkv in
/-- The reference's first map's queries at a token. -/
theorem resLo_late (X : FVec Ideal S8x4096x1024 .f32) (M : FVec Ideal S16x1024 .f32) (W : FVec Ideal S1x1024x9224 .f32) (b : FVec Ideal S1x9224 .f32)
    (h : Fin 8) (g : Fin 32768) (l : Fin 128) :
    resLo X M W b (ix3 h g l) = if l.val < 64 then rotated (rowAt (tok X g) (wts W) (bia b)) (pos g) (h.val * 128 + l.val) * Ideal.ofBits FTy.f32 0x3E000000#32
      else 0 := by
  refine (resLo_at X M W b h g l).trans ?_
  by_cases hl : l.val < 64
  · refine (dif_pos hl).trans (Eq.trans ?_ (if_pos hl).symm)
    have e : h.val * 128 + (0 : Fin 2).val * 64 + l.val = h.val * 128 + l.val := by
      show h.val * 128 + 0 * 64 + l.val = h.val * 128 + l.val; omega
    exact congrArg (· * _) ((rotQ_late X M W b g h 0 ⟨l.val, hl⟩).trans (congrArg (rotated _ _) e))
  · exact (dif_neg hl).trans ((Ideal.ofBits_zero FTy.f32).trans (if_neg hl).symm)

open Cert.Reference4Ideal.Qkv in
/-- The reference's second map's queries at a token. -/
theorem resHi_late (X : FVec Ideal S8x4096x1024 .f32) (M : FVec Ideal S16x1024 .f32) (W : FVec Ideal S1x1024x9224 .f32) (b : FVec Ideal S1x9224 .f32)
    (h : Fin 8) (g : Fin 32768) (l : Fin 128) :
    resHi X M W b (ix3 h g l) = if l.val < 64 then 0 else
      rotated (rowAt (tok X g) (wts W) (bia b)) (pos g) (h.val * 128 + l.val) * Ideal.ofBits FTy.f32 0x3E000000#32 := by
  refine (resHi_at X M W b h g l).trans ?_
  by_cases hl : l.val < 64
  · exact (dif_pos hl).trans ((Ideal.ofBits_zero FTy.f32).trans (if_pos hl).symm)
  · refine (dif_neg hl).trans (Eq.trans ?_ (if_neg hl).symm)
    have e : h.val * 128 + (1 : Fin 2).val * 64 + (l.val - 64) = h.val * 128 + l.val := by
      show h.val * 128 + 1 * 64 + (l.val - 64) = h.val * 128 + l.val; omega
    exact congrArg (· * _) ((rotQ_late X M W b g h 1 ⟨l.val - 64, by omega⟩).trans (congrArg (rotated _ _) e))

theorem pointLo (c : Dev nD) (t : Fin cfg0.N) (h : Fin 8) (r : Fin 512) (l : Fin 128) :
    qLo (iblk0 (V1 m ρ) c 0 t) (iblk0 (V1 m ρ) c 1 t) (iblk0 (V1 m ρ) c 2 t) (iblk0 (V1 m ρ) c 3 t) (iblk0 (V1 m ρ) c 4 t) (ix3 h r l)
      = Cert.Reference4Ideal.Qkv.resLo (argX m c) (argM m c) (argW m c) (argB m c) (ix3 h (gRow t r) l) := by
  rw [resLo_late (argX m c) (argM m c) (argW m c) (argB m c) h (gRow t r) l]
  show (if l.val < 64 then turned (iblk0 (V1 m ρ) c 0 t) (iblk0 (V1 m ρ) c 1 t) (iblk0 (V1 m ρ) c 2 t) (iblk0 (V1 m ρ) c 3 t) (iblk0 (V1 m ρ) c 4 t) 0 r (h.val * 128 + l.val) * Ideal.ofBits FTy.f32 0x3E000000#32 else 0) = _
  rw [(rowOf m ρ c t r).turned 0 (h.val * 128 + l.val) (by decide) (by omega)]
  simp only [Nat.zero_add]

theorem pointHi (c : Dev nD) (t : Fin cfg0.N) (h : Fin 8) (r : Fin 512) (l : Fin 128) :
    qHi (iblk0 (V1 m ρ) c 0 t) (iblk0 (V1 m ρ) c 1 t) (iblk0 (V1 m ρ) c 2 t) (iblk0 (V1 m ρ) c 3 t) (iblk0 (V1 m ρ) c 4 t) (ix3 h r l)
      = Cert.Reference4Ideal.Qkv.resHi (argX m c) (argM m c) (argW m c) (argB m c) (ix3 h (gRow t r) l) := by
  rw [resHi_late (argX m c) (argM m c) (argW m c) (argB m c) h (gRow t r) l]
  show (if l.val < 64 then 0 else turned (iblk0 (V1 m ρ) c 0 t) (iblk0 (V1 m ρ) c 1 t) (iblk0 (V1 m ρ) c 2 t) (iblk0 (V1 m ρ) c 3 t) (iblk0 (V1 m ρ) c 4 t) 0 r (h.val * 128 + l.val) * Ideal.ofBits FTy.f32 0x3E000000#32) = _
  rw [(rowOf m ρ c t r).turned 0 (h.val * 128 + l.val) (by decide) (by omega)]
  simp only [Nat.zero_add]

theorem all2 {α : Type} (G H : S512x1024.Idx → α) (h : ∀ r n, G (ix2 r n) = H (ix2 r n)) (y : S512x1024.Idx) : G y = H y := by
  idx_vars y
  exact h _ _

theorem all3 {α : Type} (G H : S8x512x128.Idx → α) (h : ∀ a r n, G (ix3 a r n) = H (ix3 a r n)) (y : S8x512x128.Idx) : G y = H y := by
  idx_vars y
  exact h _ _ _

/-- After the first launch this array is that. -/
theorem finalK (c : Dev nD) : (dat0 (V1 m ρ) c).arrAt 7 cfg0.N = (promptK (argX m c) (argW m c) (argB m c) : FVec Ideal S32768x1024 .f32) := by
  refine (dat0 (V1 m ρ) c).arrAt_eq_of_covers 7 _ (by decide +kernel) fun t _ y => ?_
  have ht : t.val < 64 := t.isLt
  have hy0 : (y 0).val < 512 := (y 0).isLt
  have hy1 : (y 1).val < 1024 := (y 1).isLt
  blk_simp
  rw [after0_7]
  refine (keys_eq _ _ _ _ _ y).trans ?_
  refine (all2 _ (fun y => (promptK (argX m c) (argW m c) (argB m c)) (ix2 (gRow t (y 0)) (y 1))) (pointK m ρ c t) y).trans (congrArg _ ?_)
  blk_ext [idx t]

/-- After the first launch this array is that. -/
theorem finalV (c : Dev nD) : (dat0 (V1 m ρ) c).arrAt 9 cfg0.N = (promptV (argX m c) (argW m c) (argB m c) : FVec Ideal S32768x1024 .f32) := by
  refine (dat0 (V1 m ρ) c).arrAt_eq_of_covers 9 _ (by decide +kernel) fun t _ y => ?_
  have ht : t.val < 64 := t.isLt
  have hy0 : (y 0).val < 512 := (y 0).isLt
  have hy1 : (y 1).val < 1024 := (y 1).isLt
  blk_simp
  rw [after0_9]
  refine (vals_eq _ _ _ _ _ y).trans ?_
  refine (all2 _ (fun y => (promptV (argX m c) (argW m c) (argB m c)) (ix2 (gRow t (y 0)) (y 1))) (pointV m ρ c t) y).trans (congrArg _ ?_)
  blk_ext [idx t]

/-- After the first launch this array is that. -/
theorem finalLo (c : Dev nD) : (dat0 (V1 m ρ) c).arrAt 5 cfg0.N = (Cert.Reference4Ideal.Qkv.resLo (argX m c) (argM m c) (argW m c) (argB m c) : FVec Ideal S8x32768x128 .bf16) := by
  refine (dat0 (V1 m ρ) c).arrAt_eq_of_covers 5 _ (by decide +kernel) fun t _ y => ?_
  have ht : t.val < 64 := t.isLt
  have hy0 : (y 0).val < 8 := (y 0).isLt
  have hy1 : (y 1).val < 512 := (y 1).isLt
  have hy2 : (y 2).val < 128 := (y 2).isLt
  blk_simp
  rw [after0_5]
  refine (qLo_eq _ _ _ _ _ y).trans ?_
  refine (all3 _ (fun y => (Cert.Reference4Ideal.Qkv.resLo (argX m c) (argM m c) (argW m c) (argB m c)) (ix3 (y 0) (gRow t (y 1)) (y 2))) (pointLo m ρ c t) y).trans (congrArg _ ?_)
  blk_ext [idx t]

/-- After the first launch this array is that. -/
theorem finalHi (c : Dev nD) : (dat0 (V1 m ρ) c).arrAt 6 cfg0.N = (Cert.Reference4Ideal.Qkv.resHi (argX m c) (argM m c) (argW m c) (argB m c) : FVec Ideal S8x32768x128 .bf16) := by
  refine (dat0 (V1 m ρ) c).arrAt_eq_of_covers 6 _ (by decide +kernel) fun t _ y => ?_
  have ht : t.val < 64 := t.isLt
  have hy0 : (y 0).val < 8 := (y 0).isLt
  have hy1 : (y 1).val < 512 := (y 1).isLt
  have hy2 : (y 2).val < 128 := (y 2).isLt
  blk_simp
  rw [after0_6]
  refine (qHi_eq _ _ _ _ _ y).trans ?_
  refine (all3 _ (fun y => (Cert.Reference4Ideal.Qkv.resHi (argX m c) (argM m c) (argW m c) (argB m c)) (ix3 (y 0) (gRow t (y 1)) (y 2))) (pointHi m ρ c t) y).trans (congrArg _ ?_)
  blk_ext [idx t]

end Cert.Kernel4Ideal.Block
-- ==== Proof.QkvMetaValue.lean ====
/-
The meta tokens' keys and values (`Kernel4Ideal`, second launch): the two arrays are, entry by entry, the projection of the
padded token's row, its keys rotated by the token's position.
-/
module

public import proofs.«01_k».proof.Proof.QkvMetaTables
public import proofs.«01_k».proof.Proof.QkvPadded
public import proofs.«01_k».proof.Proof.QkvValue
public import Idealize.ShloMosaic.Lib.Pipeline.ValueKit
public import Idealize.ShloMosaic.Lib.StableHlo.RunRead

@[expose] public section

set_option maxRecDepth 65536

noncomputable section

namespace Cert.Kernel4Ideal.MetaBlock

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen
open Cert.Kernel4Ideal.Block (wts bia argX argM argW argB)

/-- The positions of the meta tokens. -/
abbrev words : IVec S128 32 := iotaInDim S128 32 0

/-- The rotated keys, one row per padded meta token. -/
def metaK (M : FVec Ideal S16x1024 .f32) (W : FVec Ideal S1x1024x9224 .f32) (b : FVec Ideal S1x9224 .f32) : FVec Ideal S128x1024 .f32 :=
  fun y => rotated (fun n => rowAt (fun k => padded M (ix2 (y 0) k)) (wts W) (bia b) (1024 + n)) (words (ix1 (y 0))) (y 1).val
/-- The values, one row per padded meta token. -/
def metaV (M : FVec Ideal S16x1024 .f32) (W : FVec Ideal S1x1024x9224 .f32) (b : FVec Ideal S1x9224 .f32) : FVec Ideal S128x1024 .f32 :=
  fun y => rowAt (fun k => padded M (ix2 (y 0) k)) (wts W) (bia b) (2048 + (y 1).val)

variable (m : (ℓ : Loc nD τ sig) → Buf (Elt Ideal) ℓ) (ρ : Dev nD → PrngReg)

/-- Every window's block index at the one point. -/
theorem idx : ∀ t : Fin cfg1.N, win1_0.index t = ![0, 0] ∧ win1_1.index t = ![0, 0] ∧ win1_2.index t = ![0, 0]
    ∧ win1_3.index t = ![0, 0] ∧ win1_4.index t = ![0, 0] ∧ win1_7.index t = ![0, 0] ∧ win1_9.index t = ![0, 0] :=
  (by decide +kernel : ∀ t : Fin grid1.N, _)

/-- The padded meta tokens, before the first launch. -/
theorem early9 (c : Dev nD) : (V1 m ρ c main_v9 : FVec Ideal S128x1024 .f32) = padded (argM m c) := by
  after_reads_simp

/-- The cosine table, before the first launch. -/
theorem early64 (c : Dev nD) : (V1 m ρ c main_v64 : FVec Ideal S128x128 .f32) = twice (cos64 words) := by
  after_reads_simp
  rfl

/-- The signed sine table, before the first launch. -/
theorem early67 (c : Dev nD) : (V1 m ρ c main_v67 : FVec Ideal S128x128 .f32) = twice (sin64 words) := by
  after_reads_simp
  rfl

/-- A buffer neither the first launch nor the line after it writes. -/
theorem kept (c : Dev nD) (r : Ref sig .tc) (h : r ∉ hostOps1_W) (h0 : ∀ w : Fin cfg0.W, Pipeline.arrRef spec0 w = r → (cfg0.win w).isOut = false) :
    V3 m ρ c r = V1 m ρ c r :=
  (W3_of m ρ c r h).trans (W2_of m ρ c r h0)

/-- The token rows the second launch reads. -/
theorem entryX (c : Dev nD) : (V3 m ρ c main_v70 : FVec Ideal S128x1024 .bf16) = truncf (F := Ideal) .bf16 (padded (argM m c)) bitsLt_bf16_f32 := by
  have h : (W2 m ρ c (Proc.devRef .tc main_v9) : FVec Ideal S128x1024 .f32) = padded (argM m c) :=
    (W2_of m ρ c main_v9 (by decide +kernel)).trans (early9 m ρ c)
  rw [← h]
  after_reads_simp

theorem narrow_at (x : FVec Ideal S128x1024 .f32) (r : Fin 128) (k : Fin 1024) :
    truncf (F := Ideal) .bf16 x bitsLt_bf16_f32 (ix2 r k) = x (ix2 r k) := rfl

theorem blockX (c : Dev nD) (t : Fin cfg1.N) (r : Fin 128) (k : Fin 1024) :
    iblk1 (V3 m ρ) c 0 t (ix2 r k) = padded (argM m c) (ix2 r k) := by
  refine Eq.trans ?_ (narrow_at (padded (argM m c)) r k)
  rw [← entryX m ρ c]
  blk_simp [iblk1]
  refine congrArg _ ?_
  blk_ext [idx t]

theorem blockW (c : Dev nD) (t : Fin cfg1.N) (k : Fin 1024) (n : Fin 3072) :
    iblk1 (V3 m ρ) c 1 t (ix2 k n) = wts (argW m c) k ⟨n.val, by omega⟩ := by
  blk_simp [iblk1]
  refine (congrFun ((kept m ρ c main_v3 (by decide +kernel) (by decide +kernel)).trans (Block.entryW m ρ c)) _).trans ?_
  pointwise
  blk_ext [idx t]

theorem blockB (c : Dev nD) (t : Fin cfg1.N) (n : Fin 3072) :
    iblk1 (V3 m ρ) c 2 t (ix2 0 n) = bia (argB m c) ⟨n.val, by omega⟩ := by
  blk_simp [iblk1]
  refine (congrFun ((kept m ρ c main_v5 (by decide +kernel) (by decide +kernel)).trans (Block.entryB m ρ c)) _).trans ?_
  pointwise
  blk_ext [idx t]

theorem blockC (c : Dev nD) (t : Fin cfg1.N) (r : Fin 128) (l : Fin 128) :
    iblk1 (V3 m ρ) c 3 t (ix2 r l) = cosAt (words (ix1 r)) l.val := by
  blk_simp [iblk1]
  refine (congrFun ((kept m ρ c main_v64 (by decide +kernel) (by decide +kernel)).trans (early64 m ρ c)) _).trans ?_
  rw [← cos_at]
  refine congrArg _ ?_
  blk_ext [idx t]

theorem blockS (c : Dev nD) (t : Fin cfg1.N) (r : Fin 128) (l : Fin 128) :
    iblk1 (V3 m ρ) c 4 t (ix2 r l) = sinAt (words (ix1 r)) l.val := by
  blk_simp [iblk1]
  refine (congrFun ((kept m ρ c main_v67 (by decide +kernel) (by decide +kernel)).trans (early67 m ρ c)) _).trans ?_
  rw [← sin_at]
  refine congrArg _ ?_
  blk_ext [idx t]

/-- A row of the blocks is a padded token's row. -/
theorem rowOf (c : Dev nD) (t : Fin cfg1.N) (r : Fin 128) :
    RowOf (iblk1 (V3 m ρ) c 0 t) (iblk1 (V3 m ρ) c 1 t) (iblk1 (V3 m ρ) c 2 t) (iblk1 (V3 m ρ) c 3 t) (iblk1 (V3 m ρ) c 4 t) r
      (fun k => padded (argM m c) (ix2 r k)) (wts (argW m c)) (bia (argB m c)) (words (ix1 r)) :=
  ⟨blockX m ρ c t r, blockW m ρ c t, blockB m ρ c t, blockC m ρ c t r, blockS m ρ c t r⟩

theorem pointK (c : Dev nD) (t : Fin cfg1.N) (r : Fin 128) (n : Fin 1024) :
    keys (iblk1 (V3 m ρ) c 0 t) (iblk1 (V3 m ρ) c 1 t) (iblk1 (V3 m ρ) c 2 t) (iblk1 (V3 m ρ) c 3 t) (iblk1 (V3 m ρ) c 4 t) (ix2 r n)
      = metaK (argM m c) (argW m c) (argB m c) (ix2 r n) :=
  (rowOf m ρ c t r).turned 1024 n.val (by decide) n.isLt

theorem pointV (c : Dev nD) (t : Fin cfg1.N) (r : Fin 128) (n : Fin 1024) :
    vals (iblk1 (V3 m ρ) c 0 t) (iblk1 (V3 m ρ) c 1 t) (iblk1 (V3 m ρ) c 2 t) (ix2 r n)
      = metaV (argM m c) (argW m c) (argB m c) (ix2 r n) :=
  (rowOf m ρ c t r).zrow 2048 n.val (by omega)

theorem all2 {α : Type} (G H : S128x1024.Idx → α) (h : ∀ r n, G (ix2 r n) = H (ix2 r n)) (y : S128x1024.Idx) : G y = H y := by
  idx_vars y
  exact h _ _

/-- After the second launch this array is that. -/
theorem finalK (c : Dev nD) : (dat1 (V3 m ρ) c).arrAt 7 cfg1.N = (metaK (argM m c) (argW m c) (argB m c) : FVec Ideal S128x1024 .f32) := by
  refine (dat1 (V3 m ρ) c).arrAt_eq_of_covers 7 _ (by decide +kernel) fun t _ y => ?_
  blk_simp
  rw [after1_7]
  refine (keys_eq _ _ _ _ _ y).trans ?_
  refine (all2 _ _ (pointK m ρ c t) y).trans (congrArg _ ?_)
  blk_ext [idx t]

/-- After the second launch this array is that. -/
theorem finalV (c : Dev nD) : (dat1 (V3 m ρ) c).arrAt 9 cfg1.N = (metaV (argM m c) (argW m c) (argB m c) : FVec Ideal S128x1024 .f32) := by
  refine (dat1 (V3 m ρ) c).arrAt_eq_of_covers 9 _ (by decide +kernel) fun t _ y => ?_
  blk_simp
  rw [after1_9]
  refine (vals_eq _ _ _ _ _ y).trans ?_
  refine (all2 _ _ (pointV m ρ c t) y).trans (congrArg _ ?_)
  blk_ext [idx t]

end Cert.Kernel4Ideal.MetaBlock
-- ==== Proof.QkvJoined.lean ====
/-
The meta tokens' keys and values before each prompt's are the reference's keys and values.
-/
module

public import proofs.«01_k».proof.Proof.QkvMetaValue
public import proofs.«01_k».proof.Proof.Gen.Kernel4Ideal.Frame
public import Idealize.ShloMosaic.Lib.Pipeline.ValueKit
public import Idealize.ShloMosaic.Lib.StableHlo.RunRead

@[expose] public section

set_option maxRecDepth 65536

noncomputable section

namespace Cert.Kernel4Ideal.Whole

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (cellOf)
open Cert.Kernel4Ideal.Block (wts bia tok pos argX argM argW argB promptK promptV)
open Cert.Kernel4Ideal.MetaBlock (padded metaK metaV)

/-- The meta tokens' rows before each prompt's rows, by head. -/
abbrev joined (A : FVec Ideal S128x1024 .f32) (B : FVec Ideal S32768x1024 .f32) : FVec Ideal S1x8x4112x8x128 .f32 :=
  shapeCast S1x8x4112x8x128 (concatenate S8x4112x1024 1 [⟨S8x16x1024, broadcastInDim S8x16x1024 ![0, 1, 2] bcast_S1x16x1024_S8x16x1024_0_1_2
      (broadcastInDim S1x16x1024 ![1, 2] bcast_S16x1024_S1x16x1024_1_2 (extractStridedSlice S16x1024 ![0, 0] A slices_S128x1024_S16x1024_0_0))⟩,
    ⟨S8x4096x1024, shapeCast S8x4096x1024 B shapeCasts_S32768x1024_S8x4096x1024⟩] concatenates_S8x16x1024_S8x4096x1024_S8x4112x1024_d1) shapeCasts_S8x4112x1024_S1x8x4112x8x128

theorem heads_at (x : FVec Ideal S8x4112x1024 .f32) (z : Fin 1) (i : Fin 8) (p : Fin 4112) (h : Fin 8) (d : Fin 128) :
    shapeCast S1x8x4112x8x128 x shapeCasts_S8x4112x1024_S1x8x4112x8x128 (ix5 z i p h d) = x (ix3 i p ⟨h.val * 128 + d.val, by omega⟩) := by
  pointwise []
  <;> blk_ext []

theorem both_at (A : FVec Ideal S8x16x1024 .f32) (B : FVec Ideal S8x4096x1024 .f32) (i : Fin 8) (p : Fin 4112) (n : Fin 1024) :
    concatenate S8x4112x1024 1 [⟨S8x16x1024, A⟩, ⟨S8x4096x1024, B⟩] concatenates_S8x16x1024_S8x4096x1024_S8x4112x1024_d1 (ix3 i p n)
      = if hp : p.val < 16 then A (ix3 i ⟨p.val, hp⟩ n) else B (ix3 i ⟨p.val - 16, by omega⟩ n) := by
  pointwise []

theorem early_at (A : FVec Ideal S128x1024 .f32) (i : Fin 8) (p : Fin 16) (n : Fin 1024) :
    broadcastInDim S8x16x1024 ![0, 1, 2] bcast_S1x16x1024_S8x16x1024_0_1_2
      (broadcastInDim S1x16x1024 ![1, 2] bcast_S16x1024_S1x16x1024_1_2 (extractStridedSlice S16x1024 ![0, 0] A slices_S128x1024_S16x1024_0_0)) (ix3 i p n)
      = A (ix2 ⟨p.val, by omega⟩ n) := by
  pointwise []
  <;> blk_ext []

theorem late_at (B : FVec Ideal S32768x1024 .f32) (i : Fin 8) (p : Fin 4096) (n : Fin 1024) :
    shapeCast S8x4096x1024 B shapeCasts_S32768x1024_S8x4096x1024 (ix3 i p n) = B (ix2 ⟨i.val * 4096 + p.val, by omega⟩ n) := by
  pointwise []
  <;> blk_ext []

/-- The joined rows at an index. -/
theorem joined_at (A : FVec Ideal S128x1024 .f32) (B : FVec Ideal S32768x1024 .f32) (z : Fin 1) (i : Fin 8) (p : Fin 4112) (h : Fin 8) (d : Fin 128) :
    joined A B (ix5 z i p h d) = if hp : p.val < 16 then A (ix2 ⟨p.val, by omega⟩ ⟨h.val * 128 + d.val, by omega⟩)
      else B (ix2 ⟨i.val * 4096 + (p.val - 16), by omega⟩ ⟨h.val * 128 + d.val, by omega⟩) := by
  refine (heads_at _ z i p h d).trans ((both_at _ _ i p _).trans ?_)
  by_cases hp : p.val < 16
  · rw [dif_pos hp, dif_pos hp]
    exact early_at A i ⟨p.val, hp⟩ _
  · rw [dif_neg hp, dif_neg hp]
    exact late_at B i ⟨p.val - 16, by omega⟩ _

/-- A meta token among the meta tokens and the prompt. -/
theorem tokens_early (X : FVec Ideal S8x4096x1024 .f32) (M : FVec Ideal S16x1024 .f32) (i : Fin 8) (p : Fin 16) (k : Fin 1024) :
    Cert.Reference4Ideal.Qkv.tokens X M (ix3 i ⟨p.val, by omega⟩ k) = M (ix2 p k) := by
  pointwise [Cert.Reference4Ideal.Qkv.tokens]

/-- The reference's row of a meta token. -/
theorem row_early (X : FVec Ideal S8x4096x1024 .f32) (M : FVec Ideal S16x1024 .f32) (W : FVec Ideal S1x1024x9224 .f32) (b : FVec Ideal S1x9224 .f32)
    (i : Fin 8) (p : Fin 16) (n : ℕ) : rowAt (fun k => padded M (ix2 ⟨p.val, by omega⟩ k)) (wts W) (bia b) n
      = Cert.Reference4Ideal.Qkv.row (Cert.Reference4Ideal.Qkv.tokens X M) W b i ⟨p.val, by omega⟩ n := by
  unfold Cert.Reference4Ideal.Qkv.row
  exact congrArg (fun x => rowAt x _ _ n) (funext fun k => (MetaBlock.padded_at M p k).trans (tokens_early X M i p k).symm)

/-- The reference's row of a prompt's token. -/
theorem row_late (X : FVec Ideal S8x4096x1024 .f32) (M : FVec Ideal S16x1024 .f32) (W : FVec Ideal S1x1024x9224 .f32) (b : FVec Ideal S1x9224 .f32)
    (i : Fin 8) (p : Fin 4112) (hp : ¬ p.val < 16) (n : ℕ) :
    rowAt (tok X ⟨i.val * 4096 + (p.val - 16), by omega⟩) (wts W) (bia b) n
      = Cert.Reference4Ideal.Qkv.row (Cert.Reference4Ideal.Qkv.tokens X M) W b i p n := by
  refine (congrFun (Block.row_late X M W b ⟨i.val * 4096 + (p.val - 16), by omega⟩) n).symm.trans ?_
  have e1 : (⟨(i.val * 4096 + (p.val - 16)) / 4096, by omega⟩ : Fin 8) = i := Fin.ext (show (i.val * 4096 + (p.val - 16)) / 4096 = i.val by omega)
  have e2 : (⟨16 + (i.val * 4096 + (p.val - 16)) % 4096, by omega⟩ : Fin 4112) = p :=
    Fin.ext (show 16 + (i.val * 4096 + (p.val - 16)) % 4096 = p.val by omega)
  exact congrArg₂ (fun a c => Cert.Reference4Ideal.Qkv.row (Cert.Reference4Ideal.Qkv.tokens X M) W b a c n) e1 e2

/-- The position of a prompt's token. -/
theorem pos_late (i : Fin 8) (p : Fin 4112) (hp : ¬ p.val < 16) :
    pos ⟨i.val * 4096 + (p.val - 16), by omega⟩ = Cert.Reference4Ideal.Qkv.word p :=
  congrArg (BitVec.ofNat 32) (show 16 + (i.val * 4096 + (p.val - 16)) % 4096 = p.val by omega)

/-- The joined keys are the reference's. -/
theorem joinedK (X : FVec Ideal S8x4096x1024 .f32) (M : FVec Ideal S16x1024 .f32) (W : FVec Ideal S1x1024x9224 .f32) (b : FVec Ideal S1x9224 .f32)
    (z : Fin 1) (i : Fin 8) (p : Fin 4112) (h : Fin 8) (d : Fin 128) :
    joined (metaK M W b) (promptK X W b) (ix5 z i p h d) = Cert.Reference4Ideal.Qkv.resK X M W b (ix5 z i p h d) := by
  refine (joined_at _ _ z i p h d).trans (Eq.trans ?_ (Cert.Reference4Ideal.Qkv.resK_at X M W b z i p h d).symm)
  by_cases hp : p.val < 16
  · refine (dif_pos hp).trans ?_
    exact congrArg (fun r => rotated r (Cert.Reference4Ideal.Qkv.word p) (h.val * 128 + d.val)) (funext fun n => row_early X M W b i ⟨p.val, hp⟩ (1024 + n))
  · refine (dif_neg hp).trans ?_
    exact congrArg₂ (fun r w => rotated r w (h.val * 128 + d.val)) (funext fun n => row_late X M W b i p hp (1024 + n)) (pos_late i p hp)

/-- The joined values are the reference's. -/
theorem joinedV (X : FVec Ideal S8x4096x1024 .f32) (M : FVec Ideal S16x1024 .f32) (W : FVec Ideal S1x1024x9224 .f32) (b : FVec Ideal S1x9224 .f32)
    (z : Fin 1) (i : Fin 8) (p : Fin 4112) (h : Fin 8) (d : Fin 128) :
    joined (metaV M W b) (promptV X W b) (ix5 z i p h d) = Cert.Reference4Ideal.Qkv.resV X M W b (ix5 z i p h d) := by
  refine (joined_at _ _ z i p h d).trans (Eq.trans ?_ (Cert.Reference4Ideal.Qkv.resV_at X M W b z i p h d).symm)
  by_cases hp : p.val < 16
  · exact (dif_pos hp).trans (row_early X M W b i ⟨p.val, hp⟩ (2048 + (h.val * 128 + d.val)))
  · exact (dif_neg hp).trans (row_late X M W b i p hp (2048 + (h.val * 128 + d.val)))

theorem all5 {α : Type} (G H : S1x8x4112x8x128.Idx → α) (h : ∀ z i p a d, G (ix5 z i p a d) = H (ix5 z i p a d)) : G = H := by
  funext y
  idx_vars y
  exact h _ _ _ _ _

end Cert.Kernel4Ideal.Whole
-- ==== Proof.QkvRun.lean ====
/-
The whole run of the prompt's projection (`Kernel4Ideal`): its four results are the reference's.
-/
module

public import proofs.«01_k».proof.Proof.QkvJoined
public import proofs.«01_k».proof.Proof.Gen.Kernel4Ideal.Frame
public import Idealize.ShloMosaic.Lib.Pipeline.ValueKit
public import Idealize.ShloMosaic.Lib.StableHlo.RunRead

@[expose] public section

set_option maxRecDepth 65536

noncomputable section

namespace Cert.Kernel4Ideal.Whole

open Idealize.ShloMosaic Idealize.ShloMosaic.StableHlo Idealize.ShloMosaic.TcCoe Idealize.SL.Sem Cert.Proof.Rope
open Idealize.ShloMosaic.Pipeline (Dat)
open Cert.Kernel4Ideal Cert.Kernel4Ideal.Gen
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (cellOf)
open Cert.Kernel4Ideal.Block (argX argM argW argB promptK promptV)
open Cert.Kernel4Ideal.MetaBlock (metaK metaV)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run ends with every buffer at the contents the two launches and the lines around them leave. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

theorem keptLo (c : Dev nD) : W4 m ρ c (Proc.devRef .tc main_v69_0) = (Cert.Reference4Ideal.Qkv.resLo (argX m c) (argM m c) (argW m c) (argB m c)) :=
  (W4_of m ρ c main_v69_0 (by decide +kernel)).trans ((W3_of m ρ c main_v69_0 (by decide +kernel)).trans ((W2_arr m ρ c 5).trans (Block.finalLo m ρ c)))

theorem keptHi (c : Dev nD) : W4 m ρ c (Proc.devRef .tc main_v69_1) = (Cert.Reference4Ideal.Qkv.resHi (argX m c) (argM m c) (argW m c) (argB m c)) :=
  (W4_of m ρ c main_v69_1 (by decide +kernel)).trans ((W3_of m ρ c main_v69_1 (by decide +kernel)).trans ((W2_arr m ρ c 6).trans (Block.finalHi m ρ c)))

theorem keptK (c : Dev nD) : W4 m ρ c (Proc.devRef .tc main_v69_2) = (promptK (argX m c) (argW m c) (argB m c)) :=
  (W4_of m ρ c main_v69_2 (by decide +kernel)).trans ((W3_of m ρ c main_v69_2 (by decide +kernel)).trans ((W2_arr m ρ c 7).trans (Block.finalK m ρ c)))

theorem keptV (c : Dev nD) : W4 m ρ c (Proc.devRef .tc main_v69_4) = (promptV (argX m c) (argW m c) (argB m c)) :=
  (W4_of m ρ c main_v69_4 (by decide +kernel)).trans ((W3_of m ρ c main_v69_4 (by decide +kernel)).trans ((W2_arr m ρ c 9).trans (Block.finalV m ρ c)))

/-- This result is the joined rows. -/
theorem readK (c : Dev nD) : (W5 m ρ c (Proc.devRef .tc main_v77) : FVec Ideal S1x8x4112x8x128 .f32)
    = joined (W4 m ρ c (Proc.devRef .tc main_v71_2)) (W4 m ρ c (Proc.devRef .tc main_v69_2)) := by
  after_reads_simp
  rfl

/-- And so the reference's. -/
theorem wholeK (c : Dev nD) : (W5 m ρ c (Proc.devRef .tc main_v77) : FVec Ideal S1x8x4112x8x128 .f32) = Cert.Reference4Ideal.Qkv.resK (argX m c) (argM m c) (argW m c) (argB m c) := by
  have hm : (W4 m ρ c (Proc.devRef .tc main_v71_2) : FVec Ideal S128x1024 .f32) = metaK (argM m c) (argW m c) (argB m c) :=
    (W4_arr m ρ c 7).trans (MetaBlock.finalK m ρ c)
  have hp : (W4 m ρ c (Proc.devRef .tc main_v69_2) : FVec Ideal S32768x1024 .f32) = promptK (argX m c) (argW m c) (argB m c) := keptK m ρ c
  exact (readK m ρ c).trans ((congrArg₂ joined hm hp).trans (all5 _ _ (joinedK (argX m c) (argM m c) (argW m c) (argB m c))))

/-- This result is the joined rows. -/
theorem readV (c : Dev nD) : (W5 m ρ c (Proc.devRef .tc main_v83) : FVec Ideal S1x8x4112x8x128 .f32)
    = joined (W4 m ρ c (Proc.devRef .tc main_v71_4)) (W4 m ρ c (Proc.devRef .tc main_v69_4)) := by
  after_reads_simp
  rfl

/-- And so the reference's. -/
theorem wholeV (c : Dev nD) : (W5 m ρ c (Proc.devRef .tc main_v83) : FVec Ideal S1x8x4112x8x128 .f32) = Cert.Reference4Ideal.Qkv.resV (argX m c) (argM m c) (argW m c) (argB m c) := by
  have hm : (W4 m ρ c (Proc.devRef .tc main_v71_4) : FVec Ideal S128x1024 .f32) = metaV (argM m c) (argW m c) (argB m c) :=
    (W4_arr m ρ c 9).trans (MetaBlock.finalV m ρ c)
  have hp : (W4 m ρ c (Proc.devRef .tc main_v69_4) : FVec Ideal S32768x1024 .f32) = promptV (argX m c) (argW m c) (argB m c) := keptV m ρ c
  exact (readV m ρ c).trans ((congrArg₂ joined hm hp).trans (all5 _ _ (joinedV (argX m c) (argM m c) (argW m c) (argB m c))))

/-- The program runs to the reference's four results and leaves its arguments. -/
theorem run_named :
    θ_run defs (onTc (τ := τ) (main (F := Ideal))) ⟨m, fun _ => 0, ρ⟩ fun r => ∀ c : Dev nD,
      r.2.mem ((c.tc : Thread nD τ).loc main_v69_0) = Cert.Reference4Ideal.Qkv.resLo (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v69_1) = Cert.Reference4Ideal.Qkv.resHi (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v77) = Cert.Reference4Ideal.Qkv.resK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v83) = Cert.Reference4Ideal.Qkv.resV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c _ (mem_uc main_v69_0 (by decide))).trans ((W5_of m ρ c main_v69_0 (by decide +kernel)).trans (keptLo m ρ c)),
     (h c _ (mem_uc main_v69_1 (by decide))).trans ((W5_of m ρ c main_v69_1 (by decide +kernel)).trans (keptHi m ρ c)),
     (h c _ (mem_uc main_v77 (by decide))).trans (wholeK m ρ c),
     (h c _ (mem_uc main_v83 (by decide))).trans (wholeV m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (ends m ρ)

end Cert.Kernel4Ideal.Whole
-- ==== Proof.QkvClaim.lean ====
/-
The prompt's queries, keys and values: the programs run, and the kernel's four results are the reference's.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.QkvRun
public import Idealize.ShloMosaic.Lib.Claim

@[expose] public section

set_option maxRecDepth 16384

noncomputable section

namespace Cert.Proof

open Idealize.ShloMosaic Idealize.SL.Sem

/-- The prompt's projection runs as compiled and leaves its arguments as they were. -/
theorem frame4 : Cert.quiescent_Kernel4 := fun m g _ => Cert.Kernel4.Gen.frame m g

/-- So does its ideal form. -/
theorem frame4Ideal : Cert.quiescent_Kernel4Ideal := fun m g _ => Cert.Kernel4Ideal.Gen.frame m g

/-- The reference of the prompt's projection runs. -/
theorem frame4Ref : Cert.quiescent_Reference4Ideal := fun m g _ =>
  (θ_run Cert.Reference4Ideal.defs _ _).mono (fun r h => ⟨fun c => (h c).2.2.2.2, sem_eq_zero_of_no_sems (by decide) r.2⟩)
    (Cert.Reference4Ideal.Value.run m g)

/-- The prompt's projection computes the reference's queries, keys and values. -/
theorem algebraic4 : Cert.algebraic_Kernel4Ideal_Reference4Ideal :=
  fun m g m' g' _ hag => ⟨_, _, _, _, Cert.Kernel4Ideal.Whole.run_named m g,
    (θ_run Cert.Reference4Ideal.defs _ _).mono (fun r h c => by
      obtain ⟨h0, h1, h2, h3, ha⟩ := h c
      obtain ⟨e0, e1, e2, e3⟩ := hag c
      rw [e0, e1, e2, e3] at h0 h1 h2 h3
      exact ⟨h0, h1, h2, h3, ha⟩) (Cert.Reference4Ideal.Qkv.run_named m' g')⟩

end Cert.Proof

end
-- ==== Proof.QkvSampleBlock.lean ====
/-
The block of the new tokens' queries, keys and values: what the body leaves in its query, key and value windows, column by column, from the blocks it reads.
-/
module

public import proofs.«01_k».proof.Proof.Gen.Kernel5Ideal.Frame
public import proofs.«01_k».proof.Proof.Rope
public import Idealize.ShloMosaic.Lib.Pipeline.ValueKit

@[expose] public section

set_option maxRecDepth 65536

noncomputable section

namespace Cert.Kernel5Ideal.Block

open Idealize.ShloMosaic Cert.Proof.Rope
open Cert.Kernel5Ideal Cert.Kernel5Ideal.Gen

variable (x0 : Vec Ideal S256x1024 .bf16) (x1 : Vec Ideal S1024x3072 .bf16) (x2 : Vec Ideal S1x3072 .f32)
  (x3 : Vec Ideal S256x128 .f32) (x4 : Vec Ideal S256x128 .f32)

/-- Column `off + n` of row `r` of `x · W + b` over the blocks. -/
def zrow (off : ℕ) (r : Fin 256) (n : ℕ) : EReal :=
  if h : off + n < 3072 then (∑ k : Fin 1024, x0 (ix2 r k) * x1 (ix2 k ⟨off + n, h⟩)) + x2 (ix2 0 ⟨off + n, h⟩) else 0

/-- The tables' rows. -/
abbrev co (r : Fin 256) : ℕ → EReal := lane fun l => x3 (ix2 r l)
/-- The signed sines' row. -/
abbrev si (r : Fin 256) : ℕ → EReal := lane fun l => x4 (ix2 r l)

/-- The turned row of the columns from `off`. -/
def turned (off : ℕ) (r : Fin 256) (n : ℕ) : EReal := turn (zrow x0 x1 x2 off r) (co x3 r) (si x4 r) n

/-- The keys of the block. -/
def keys : Vec Ideal S256x1024 .f32 := fun y => turned x0 x1 x2 x3 x4 1024 (y 0) (y 1).val
/-- The values of the block. -/
def vals : Vec Ideal S256x1024 .f32 := fun y => zrow x0 x1 x2 2048 (y 0) (y 1).val
/-- The scaled queries of the block, the first map's lanes. -/
def qLo : Vec Ideal S8x256x128 .bf16 := fun y =>
  if (y 2).val < 64 then turned x0 x1 x2 x3 x4 0 (y 1) ((y 0).val * 128 + (y 2).val) * Ideal.ofBits FTy.f32 0x3E000000#32 else 0
/-- The scaled queries of the block, the second map's lanes. -/
def qHi : Vec Ideal S8x256x128 .bf16 := fun y =>
  if (y 2).val < 64 then 0 else turned x0 x1 x2 x3 x4 0 (y 1) ((y 0).val * 128 + (y 2).val) * Ideal.ofBits FTy.f32 0x3E000000#32

/-- The body's query product. -/
abbrev zq : FVec Ideal S256x1024 .f32 := k0_pay7 (View.ld x0 r0_0) (View.ld x1 r0_2) (View.ld x2 r0_3)
/-- The body's key product. -/
abbrev zk : FVec Ideal S256x1024 .f32 := k0_pay41 (k0_pay2 (View.ld x0 r0_0)) (View.ld x1 r0_12) (View.ld x2 r0_13)

/-- The query product, before the turn. -/
theorem zq_at (r : Fin 256) (c : Fin 1024) :
    zq x0 x1 x2 (ix2 r c) = zrow x0 x1 x2 0 r c.val := by
  rw [zrow, dif_pos (show 0 + c.val < 3072 by omega)]
  pointwise [k0_pay7, k0_pay2]
  <;> simp only [Nat.zero_add]

/-- The key product, before the turn. -/
theorem zk_at (r : Fin 256) (c : Fin 1024) :
    zk x0 x1 x2 (ix2 r c) = zrow x0 x1 x2 1024 r c.val := by
  rw [zrow, dif_pos (show 1024 + c.val < 3072 by omega)]
  pointwise [k0_pay41, k0_pay2]

/-- The value product. -/
theorem zv_at (r : Fin 256) (c : Fin 1024) :
    k0_pay61 (k0_pay2 x0) (View.ld x1 r0_22) (View.ld x2 r0_23) (ix2 r c) = zrow x0 x1 x2 2048 r c.val := by
  rw [zrow, dif_pos (show 2048 + c.val < 3072 by omega)]
  pointwise [k0_pay61, k0_pay2]

/-- The body's test for a map's first eight lanes. -/
theorem first_at (r : Fin 256) (l : Fin 128) : k0_pay5 (ix2 r l) = if l.val % 64 < 8 then 1#1 else 0#1 := by
  pointwise [k0_pay5]
  revert l
  decide +kernel

/-- The body's test for the first map's lanes. -/
theorem half_at (r : Fin 256) (l : Fin 128) : k0_pay6 (ix2 r l) = if l.val < 64 then 1#1 else 0#1 := by
  pointwise [k0_pay6]
  revert l
  decide +kernel

/-- The turn at lane `l` of head `h`, the tables read at the lane. -/
theorem turned_at (off : ℕ) (r : Fin 256) (h : ℕ) (l : Fin 128) :
    turned x0 x1 x2 x3 x4 off r (h * 128 + l.val) = zrow x0 x1 x2 off r (h * 128 + l.val) * x3 (ix2 r l)
      + (if l.val % 64 < 8 then zrow x0 x1 x2 off r (h * 128 + (l.val + 8) % 128)
          else zrow x0 x1 x2 off r (h * 128 + (l.val + 120) % 128)) * x4 (ix2 r l) := by
  unfold turned
  rw [turn_at _ _ _ h l.val l.isLt, show co x3 r l.val = x3 (ix2 r l) from lane_val _ l, show si x4 r l.val = x4 (ix2 r l) from lane_val _ l]

/-- A key piece, as the body spells it, is the turned row. -/
theorem keys_of (h : ℕ) (r : Fin 256) (l : Fin 128) (y : S256x1024.Idx) (hy0 : y 0 = r) (hy1 : (y 1).val = h * 128 + l.val)
    (a u d : Fin 1024) (ha : a.val = h * 128 + l.val) (hu : u.val = h * 128 + (l.val + 8) % 128) (hd : d.val = h * 128 + (l.val + 120) % 128) :
    zk x0 x1 x2 (ix2 r a) * x3 (ix2 r l) + Scalar.select (k0_pay5 (ix2 r l)) (zk x0 x1 x2 (ix2 r u)) (zk x0 x1 x2 (ix2 r d)) * x4 (ix2 r l)
      = keys x0 x1 x2 x3 x4 y := by
  unfold keys
  rw [hy0, hy1, turned_at, first_at, select_ite, zk_at, zk_at, zk_at, ha, hu, hd]

/-- A query, as the body spells it, is the turned row times the scale. -/
theorem query_of (h : ℕ) (r : Fin 256) (l : Fin 128)
    (a u d : Fin 1024) (ha : a.val = h * 128 + l.val) (hu : u.val = h * 128 + (l.val + 8) % 128) (hd : d.val = h * 128 + (l.val + 120) % 128) :
    zq x0 x1 x2 (ix2 r a) * x3 (ix2 r l) + Scalar.select (k0_pay5 (ix2 r l)) (zq x0 x1 x2 (ix2 r u)) (zq x0 x1 x2 (ix2 r d)) * x4 (ix2 r l)
      = turned x0 x1 x2 x3 x4 0 r (h * 128 + l.val) := by
  rw [turned_at, first_at, select_ite, zq_at, zq_at, zq_at, ha, hu, hd]

/-- A piece of the first map's queries, as the body spells it. -/
theorem qLo_of (h : ℕ) (r : Fin 256) (l : Fin 128) (y : S8x256x128.Idx) (hy0 : (y 0).val = h) (hy1 : y 1 = r) (hy2 : (y 2).val = l.val)
    (a u d : Fin 1024) (ha : a.val = h * 128 + l.val) (hu : u.val = h * 128 + (l.val + 8) % 128) (hd : d.val = h * 128 + (l.val + 120) % 128) :
    Scalar.select (k0_pay6 (ix2 r l)) ((zq x0 x1 x2 (ix2 r a) * x3 (ix2 r l) + Scalar.select (k0_pay5 (ix2 r l)) (zq x0 x1 x2 (ix2 r u)) (zq x0 x1 x2 (ix2 r d)) * x4 (ix2 r l)) * Ideal.ofBits FTy.f32 0x3E000000#32) (Ideal.ofBits FTy.f32 0x00000000#32)
      = qLo x0 x1 x2 x3 x4 y := by
  unfold qLo
  rw [hy0, hy1, hy2, query_of x0 x1 x2 x3 x4 h r l a u d ha hu hd, half_at, select_ite, Ideal.ofBits_zero]

/-- A piece of the second map's queries, as the body spells it. -/
theorem qHi_of (h : ℕ) (r : Fin 256) (l : Fin 128) (y : S8x256x128.Idx) (hy0 : (y 0).val = h) (hy1 : y 1 = r) (hy2 : (y 2).val = l.val)
    (a u d : Fin 1024) (ha : a.val = h * 128 + l.val) (hu : u.val = h * 128 + (l.val + 8) % 128) (hd : d.val = h * 128 + (l.val + 120) % 128) :
    Scalar.select (k0_pay6 (ix2 r l)) (Ideal.ofBits FTy.f32 0x00000000#32) ((zq x0 x1 x2 (ix2 r a) * x3 (ix2 r l) + Scalar.select (k0_pay5 (ix2 r l)) (zq x0 x1 x2 (ix2 r u)) (zq x0 x1 x2 (ix2 r d)) * x4 (ix2 r l)) * Ideal.ofBits FTy.f32 0x3E000000#32)
      = qHi x0 x1 x2 x3 x4 y := by
  unfold qHi
  rw [hy0, hy1, hy2, query_of x0 x1 x2 x3 x4 h r l a u d ha hu hd, half_at, select_ite, Ideal.ofBits_zero]

/-- What the body leaves in the key window. -/
theorem keys_eq (y : S256x1024.Idx) : out0_7 x0 x1 x2 x3 x4 y = keys x0 x1 x2 x3 x4 y := by
  unfold_out out0_7
  refine View.canon_apply_of_pieces (keys x0 x1 x2 x3 x4) _ ?_ y (cover0_7 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (keys_of x0 x1 x2 x3 x4 7 w0 w1 _ (Fin.ext (by show 0 + 1 * w0.val = _; omega)) (by show 896 + 1 * w1.val = _; omega)
      ⟨896 + w1.val, by omega⟩ ⟨896 + (w1.val + 128 - 120) % 128, by omega⟩ ⟨896 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 6 w0 w1 _ (Fin.ext (by show 0 + 1 * w0.val = _; omega)) (by show 768 + 1 * w1.val = _; omega)
      ⟨768 + w1.val, by omega⟩ ⟨768 + (w1.val + 128 - 120) % 128, by omega⟩ ⟨768 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 5 w0 w1 _ (Fin.ext (by show 0 + 1 * w0.val = _; omega)) (by show 640 + 1 * w1.val = _; omega)
      ⟨640 + w1.val, by omega⟩ ⟨640 + (w1.val + 128 - 120) % 128, by omega⟩ ⟨640 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 4 w0 w1 _ (Fin.ext (by show 0 + 1 * w0.val = _; omega)) (by show 512 + 1 * w1.val = _; omega)
      ⟨512 + w1.val, by omega⟩ ⟨512 + (w1.val + 128 - 120) % 128, by omega⟩ ⟨512 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 3 w0 w1 _ (Fin.ext (by show 0 + 1 * w0.val = _; omega)) (by show 384 + 1 * w1.val = _; omega)
      ⟨384 + w1.val, by omega⟩ ⟨384 + (w1.val + 128 - 120) % 128, by omega⟩ ⟨384 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 2 w0 w1 _ (Fin.ext (by show 0 + 1 * w0.val = _; omega)) (by show 256 + 1 * w1.val = _; omega)
      ⟨256 + w1.val, by omega⟩ ⟨256 + (w1.val + 128 - 120) % 128, by omega⟩ ⟨256 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 1 w0 w1 _ (Fin.ext (by show 0 + 1 * w0.val = _; omega)) (by show 128 + 1 * w1.val = _; omega)
      ⟨128 + w1.val, by omega⟩ ⟨128 + (w1.val + 128 - 120) % 128, by omega⟩ ⟨128 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (keys_of x0 x1 x2 x3 x4 0 w0 w1 _ (Fin.ext (by show 0 + 1 * w0.val = _; omega)) (by show 0 + 1 * w1.val = _; omega)
      ⟨0 + w1.val, by omega⟩ ⟨0 + (w1.val + 128 - 120) % 128, by omega⟩ ⟨0 + (w1.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]

/-- What the body leaves in the value window. -/
theorem vals_eq (y : S256x1024.Idx) : out0_9 x0 x1 x2 x3 x4 y = vals x0 x1 x2 y := by
  idx_vars y
  unfold_out out0_9
  frame_out
  exact zv_at x0 x1 x2 y0 y1

/-- What the body leaves in the window of the first map's queries. -/
theorem qLo_eq (y : S8x256x128.Idx) : out0_5 x0 x1 x2 x3 x4 y = qLo x0 x1 x2 x3 x4 y := by
  unfold_out out0_5
  refine View.canon_apply_of_pieces (qLo x0 x1 x2 x3 x4) _ ?_ y (cover0_5 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (qLo_of x0 x1 x2 x3 x4 7 w1 w2 _ (by show 7 + 1 * w0.val = _; omega) (Fin.ext (by show 0 + 1 * w1.val = _; omega)) (by show 0 + 1 * w2.val = _; omega)
      ⟨896 + w2.val, by omega⟩ ⟨896 + (w2.val + 128 - 120) % 128, by omega⟩ ⟨896 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 6 w1 w2 _ (by show 6 + 1 * w0.val = _; omega) (Fin.ext (by show 0 + 1 * w1.val = _; omega)) (by show 0 + 1 * w2.val = _; omega)
      ⟨768 + w2.val, by omega⟩ ⟨768 + (w2.val + 128 - 120) % 128, by omega⟩ ⟨768 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 5 w1 w2 _ (by show 5 + 1 * w0.val = _; omega) (Fin.ext (by show 0 + 1 * w1.val = _; omega)) (by show 0 + 1 * w2.val = _; omega)
      ⟨640 + w2.val, by omega⟩ ⟨640 + (w2.val + 128 - 120) % 128, by omega⟩ ⟨640 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 4 w1 w2 _ (by show 4 + 1 * w0.val = _; omega) (Fin.ext (by show 0 + 1 * w1.val = _; omega)) (by show 0 + 1 * w2.val = _; omega)
      ⟨512 + w2.val, by omega⟩ ⟨512 + (w2.val + 128 - 120) % 128, by omega⟩ ⟨512 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 3 w1 w2 _ (by show 3 + 1 * w0.val = _; omega) (Fin.ext (by show 0 + 1 * w1.val = _; omega)) (by show 0 + 1 * w2.val = _; omega)
      ⟨384 + w2.val, by omega⟩ ⟨384 + (w2.val + 128 - 120) % 128, by omega⟩ ⟨384 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 2 w1 w2 _ (by show 2 + 1 * w0.val = _; omega) (Fin.ext (by show 0 + 1 * w1.val = _; omega)) (by show 0 + 1 * w2.val = _; omega)
      ⟨256 + w2.val, by omega⟩ ⟨256 + (w2.val + 128 - 120) % 128, by omega⟩ ⟨256 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 1 w1 w2 _ (by show 1 + 1 * w0.val = _; omega) (Fin.ext (by show 0 + 1 * w1.val = _; omega)) (by show 0 + 1 * w2.val = _; omega)
      ⟨128 + w2.val, by omega⟩ ⟨128 + (w2.val + 128 - 120) % 128, by omega⟩ ⟨128 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qLo_of x0 x1 x2 x3 x4 0 w1 w2 _ (by show 0 + 1 * w0.val = _; omega) (Fin.ext (by show 0 + 1 * w1.val = _; omega)) (by show 0 + 1 * w2.val = _; omega)
      ⟨0 + w2.val, by omega⟩ ⟨0 + (w2.val + 128 - 120) % 128, by omega⟩ ⟨0 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]

/-- What the body leaves in the window of the second map's queries. -/
theorem qHi_eq (y : S8x256x128.Idx) : out0_6 x0 x1 x2 x3 x4 y = qHi x0 x1 x2 x3 x4 y := by
  unfold_out out0_6
  refine View.canon_apply_of_pieces (qHi x0 x1 x2 x3 x4) _ ?_ y (cover0_6 _ _ _ _ _ _ _ _ y)
  intro pc hpc
  simp only [List.mem_cons, List.not_mem_nil, or_false] at hpc
  rcases hpc with rfl | rfl | rfl | rfl | rfl | rfl | rfl | rfl
  · intro w
    idx_vars w
    refine Eq.trans ?_ (qHi_of x0 x1 x2 x3 x4 7 w1 w2 _ (by show 7 + 1 * w0.val = _; omega) (Fin.ext (by show 0 + 1 * w1.val = _; omega)) (by show 0 + 1 * w2.val = _; omega)
      ⟨896 + w2.val, by omega⟩ ⟨896 + (w2.val + 128 - 120) % 128, by omega⟩ ⟨896 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 6 w1 w2 _ (by show 6 + 1 * w0.val = _; omega) (Fin.ext (by show 0 + 1 * w1.val = _; omega)) (by show 0 + 1 * w2.val = _; omega)
      ⟨768 + w2.val, by omega⟩ ⟨768 + (w2.val + 128 - 120) % 128, by omega⟩ ⟨768 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 5 w1 w2 _ (by show 5 + 1 * w0.val = _; omega) (Fin.ext (by show 0 + 1 * w1.val = _; omega)) (by show 0 + 1 * w2.val = _; omega)
      ⟨640 + w2.val, by omega⟩ ⟨640 + (w2.val + 128 - 120) % 128, by omega⟩ ⟨640 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 4 w1 w2 _ (by show 4 + 1 * w0.val = _; omega) (Fin.ext (by show 0 + 1 * w1.val = _; omega)) (by show 0 + 1 * w2.val = _; omega)
      ⟨512 + w2.val, by omega⟩ ⟨512 + (w2.val + 128 - 120) % 128, by omega⟩ ⟨512 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 3 w1 w2 _ (by show 3 + 1 * w0.val = _; omega) (Fin.ext (by show 0 + 1 * w1.val = _; omega)) (by show 0 + 1 * w2.val = _; omega)
      ⟨384 + w2.val, by omega⟩ ⟨384 + (w2.val + 128 - 120) % 128, by omega⟩ ⟨384 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 2 w1 w2 _ (by show 2 + 1 * w0.val = _; omega) (Fin.ext (by show 0 + 1 * w1.val = _; omega)) (by show 0 + 1 * w2.val = _; omega)
      ⟨256 + w2.val, by omega⟩ ⟨256 + (w2.val + 128 - 120) % 128, by omega⟩ ⟨256 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 1 w1 w2 _ (by show 1 + 1 * w0.val = _; omega) (Fin.ext (by show 0 + 1 * w1.val = _; omega)) (by show 0 + 1 * w2.val = _; omega)
      ⟨128 + w2.val, by omega⟩ ⟨128 + (w2.val + 128 - 120) % 128, by omega⟩ ⟨128 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]
  · intro w
    idx_vars w
    refine Eq.trans ?_ (qHi_of x0 x1 x2 x3 x4 0 w1 w2 _ (by show 0 + 1 * w0.val = _; omega) (Fin.ext (by show 0 + 1 * w1.val = _; omega)) (by show 0 + 1 * w2.val = _; omega)
      ⟨0 + w2.val, by omega⟩ ⟨0 + (w2.val + 128 - 120) % 128, by omega⟩ ⟨0 + (w2.val + 128 - 8) % 128, by omega⟩
      rfl (by show _ + _ = _; omega) (by show _ + _ = _; omega))
    pointwise [k0_pay1, k0_pay3, k0_pay4, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69]

end Cert.Kernel5Ideal.Block
-- ==== Proof.QkvSampleRef.lean ====
/-
New tokens: the reference's rotated queries and keys and its values, read at one index.
-/
module

public import proofs.«01_k».proof.Proof.Gen.Reference5Ideal.Run
public import proofs.«01_k».proof.Proof.Rope
public import Idealize.ShloMosaic.Lib.Pipeline.ValueKit

@[expose] public section

set_option maxRecDepth 65536

noncomputable section

namespace Cert.Reference5Ideal.Qkv

open Idealize.ShloMosaic Idealize.ShloMosaic.TcCoe Idealize.SL.Sem Cert.Proof.Rope
open Cert.Reference5Ideal Cert.Reference5Ideal.Gen Cert.Reference5Ideal.Value

/-- The frequencies. -/
abbrev inv : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

/-- The angle of every position and frequency. -/
abbrev ang : FVec Ideal S8x8 .f32 :=
  mulf (broadcastInDim S8x8 ![0, 1] bcast_S8x1_S8x8_0_1 (broadcastInDim S8x1 ![0] bcast_S8_S8x1_0
      (sitofp .f32 (addi (broadcastInDim S8 ![] bcast_S_S8 (constantI S_ 32 16384#32)) (iotaInDim S8 32 0)))))
    (broadcastInDim S8x8 ![0, 1] bcast_S1x8_S8x8_0_1 (broadcastInDim S1x8 ![1] bcast_S8_S1x8_1 inv))

/-- The cosines. -/
abbrev cosT : FVec Ideal S8x1x1x8 .f32 := broadcastInDim S8x1x1x8 ![0, 3] bcast_S8x8_S8x1x1x8_0_3 (Host.cos ang)
/-- The sines. -/
abbrev sinT : FVec Ideal S8x1x1x8 .f32 := broadcastInDim S8x1x1x8 ![0, 3] bcast_S8x8_S8x1x1x8_0_3 (Host.sin ang)

/-- A table spread over tokens, heads and maps. -/
abbrev spread (t : FVec Ideal S8x1x1x8 .f32) : FVec Ideal S32x8x8x2x8 .f32 :=
  broadcastInDim S32x8x8x2x8 ![0, 1, 2, 3, 4] bcast_S1x8x1x1x8_S32x8x8x2x8_0_1_2_3_4
    (broadcastInDim S1x8x1x1x8 ![1, 2, 3, 4] bcast_S8x1x1x8_S1x8x1x1x8_1_2_3_4 t)

/-- The reference's rotation of every map. -/
abbrev rot (x : FVec Ideal S32x8x8x2x64 .f32) (co si : FVec Ideal S8x1x1x8 .f32) : FVec Ideal S32x8x8x2x64 .f32 :=
  concatenate S32x8x8x2x64 4
    [⟨S32x8x8x2x8, subf (mulf (extractStridedSlice S32x8x8x2x8 ![0, 0, 0, 0, 0] x slices_S32x8x8x2x64_S32x8x8x2x8_0_0_0_0_0) (spread co))
        (mulf (extractStridedSlice S32x8x8x2x8 ![0, 0, 0, 0, 8] x slices_S32x8x8x2x64_S32x8x8x2x8_0_0_0_0_8) (spread si))⟩,
     ⟨S32x8x8x2x8, addf (mulf (extractStridedSlice S32x8x8x2x8 ![0, 0, 0, 0, 8] x slices_S32x8x8x2x64_S32x8x8x2x8_0_0_0_0_8) (spread co))
        (mulf (extractStridedSlice S32x8x8x2x8 ![0, 0, 0, 0, 0] x slices_S32x8x8x2x64_S32x8x8x2x8_0_0_0_0_0) (spread si))⟩,
     ⟨S32x8x8x2x48, extractStridedSlice S32x8x8x2x48 ![0, 0, 0, 0, 16] x slices_S32x8x8x2x64_S32x8x8x2x48_0_0_0_0_16⟩]
    concatenates_S32x8x8x2x8_S32x8x8x2x8_S32x8x8x2x48_S32x8x8x2x64_d4

/-- `x · W + b`. -/
abbrev proj (x : FVec Ideal S32x8x1024 .f32) (W : FVec Ideal S1x1024x9224 .f32) (b : FVec Ideal S1x9224 .f32) : FVec Ideal S32x8x9224 .f32 :=
  addf (Host.dotGeneral dot_S32x8x1024_S1024x9224_S32x8x9224_2_0_01_1_n_n none x (shapeCast _ W shapeCasts_S1x1024x9224_S1024x9224))
    (broadcastInDim S32x8x9224 ![0, 1, 2] bcast_S1x1x9224_S32x8x9224_0_1_2
      (broadcastInDim S1x1x9224 ![2] bcast_S9224_S1x1x9224_2 (shapeCast _ b shapeCasts_S1x9224_S9224)))

/-- The query columns as maps. -/
abbrev mapsQ (z : FVec Ideal S32x8x9224 .f32) : FVec Ideal S32x8x8x2x64 .f32 :=
  shapeCast S32x8x8x2x64 (extractStridedSlice S32x8x1024 ![0, 0, 0] z slices_S32x8x9224_S32x8x1024_0_0_0) shapeCasts_S32x8x1024_S32x8x8x2x64
/-- The key columns as maps. -/
abbrev mapsK (z : FVec Ideal S32x8x9224 .f32) : FVec Ideal S32x8x8x2x64 .f32 :=
  shapeCast S32x8x8x2x64 (extractStridedSlice S32x8x1024 ![0, 0, 1024] z slices_S32x8x9224_S32x8x1024_0_0_1024) shapeCasts_S32x8x1024_S32x8x8x2x64

/-- The word of a position. -/
abbrev word (p : Fin 8) : BitVec 32 := 16384#32 + BitVec.ofNat 32 p.val

theorem cos_at (p : Fin 8) (j : Fin 8) : cosT (ix4 p 0 0 j) = Ideal.cos (angle (word p) j.val) := by
  unfold angle
  pointwise [inv]
  rfl

theorem sin_at (p : Fin 8) (j : Fin 8) : sinT (ix4 p 0 0 j) = Ideal.sin (angle (word p) j.val) := by
  unfold angle
  pointwise [inv]
  rfl

/-- The rotation at an index, the tables still arrays. -/
theorem rot_at (x : FVec Ideal S32x8x8x2x64 .f32) (co si : FVec Ideal S8x1x1x8 .f32) (b : Fin 32) (p : Fin 8) (h : Fin 8) (s : Fin 2) (d : Fin 64) :
    rot x co si (ix5 b p h s d)
      = if h0 : d.val < 8 then
          x (ix5 b p h s d) * co (ix4 p 0 0 ⟨d.val, h0⟩) - x (ix5 b p h s ⟨8 + d.val, by omega⟩) * si (ix4 p 0 0 ⟨d.val, h0⟩)
        else if h1 : d.val - 8 < 8 then
          x (ix5 b p h s ⟨8 + (d.val - 8), by omega⟩) * co (ix4 p 0 0 ⟨d.val - 8, h1⟩)
            + x (ix5 b p h s ⟨d.val - 8, by omega⟩) * si (ix4 p 0 0 ⟨d.val - 8, h1⟩)
        else x (ix5 b p h s ⟨16 + (d.val - 8 - 8), by omega⟩) := by
  pointwise []

/-- The reference's rotation is `rotated`, over a token's row `z`. -/
theorem rot_eq (x : FVec Ideal S32x8x8x2x64 .f32) (z : ℕ → EReal) (b : Fin 32) (p : Fin 8)
    (hx : ∀ (h : Fin 8) (s : Fin 2) (d : Fin 64), x (ix5 b p h s d) = z (h.val * 128 + s.val * 64 + d.val))
    (h : Fin 8) (s : Fin 2) (d : Fin 64) :
    rot x cosT sinT (ix5 b p h s d) = rotated z (word p) (h.val * 128 + s.val * 64 + d.val) := by
  have hm : (h.val * 128 + s.val * 64 + d.val) % 64 = d.val := by omega
  rw [rot_at]
  unfold rotated
  rw [hm]
  by_cases h8 : d.val < 8
  · rw [dif_pos h8, if_pos h8, cos_at, sin_at, hx, hx]
    rw [show h.val * 128 + s.val * 64 + (8 + d.val) = h.val * 128 + s.val * 64 + d.val + 8 by omega]
  · rw [dif_neg h8, if_neg h8]
    by_cases h16 : d.val < 16
    · rw [dif_pos (show d.val - 8 < 8 by omega), if_pos h16, cos_at, sin_at, hx, hx]
      rw [show h.val * 128 + s.val * 64 + (8 + (d.val - 8)) = h.val * 128 + s.val * 64 + d.val by omega,
        show h.val * 128 + s.val * 64 + (d.val - 8) = h.val * 128 + s.val * 64 + d.val - 8 by omega]
    · rw [dif_neg (show ¬ d.val - 8 < 8 by omega), if_neg h16, hx]
      rw [show h.val * 128 + s.val * 64 + (16 + (d.val - 8 - 8)) = h.val * 128 + s.val * 64 + d.val by omega]

/-- A token's row of `x · W + b`. -/
abbrev row (x : FVec Ideal S32x8x1024 .f32) (W : FVec Ideal S1x1024x9224 .f32) (b : FVec Ideal S1x9224 .f32) (i : Fin 32) (p : Fin 8) : ℕ → EReal :=
  rowAt (fun k => x (ix3 i p k)) (fun k n => W (ix3 0 k n)) (fun n => b (ix2 0 n))

theorem proj_at (x : FVec Ideal S32x8x1024 .f32) (W : FVec Ideal S1x1024x9224 .f32) (b : FVec Ideal S1x9224 .f32) (i : Fin 32) (p : Fin 8) (n : Fin 9224) :
    proj x W b (ix3 i p n) = row x W b i p n.val := by
  unfold row rowAt
  rw [dif_pos n.isLt]
  pointwise []

theorem mapsQ_at (z : FVec Ideal S32x8x9224 .f32) (b : Fin 32) (p : Fin 8) (h : Fin 8) (s : Fin 2) (d : Fin 64) :
    mapsQ z (ix5 b p h s d) = z (ix3 b p ⟨h.val * 128 + s.val * 64 + d.val, by omega⟩) := by
  pointwise []
  <;> blk_ext []

theorem mapsK_at (z : FVec Ideal S32x8x9224 .f32) (b : Fin 32) (p : Fin 8) (h : Fin 8) (s : Fin 2) (d : Fin 64) :
    mapsK z (ix5 b p h s d) = z (ix3 b p ⟨1024 + (h.val * 128 + s.val * 64 + d.val), by omega⟩) := by
  pointwise []
  <;> blk_ext []

/-- The scaled queries. -/
abbrev scaled (r : FVec Ideal S32x8x8x2x64 .f32) : FVec Ideal S32x8x8x2x64 .f32 :=
  mulf (r) (broadcastInDim S32x8x8x2x64 ![] bcast_S_S32x8x8x2x64 (constant S_ .f32 0x3E000000#32))

/-- Heads first, one row per token. -/
abbrev headsFirst (q : FVec Ideal S32x8x8x128 .f32) : FVec Ideal S8x256x128 .bf16 :=
  truncf .bf16 (shapeCast S8x256x128 (transpose S8x32x8x128 [2, 0, 1, 3] q transposes_S32x8x8x128_S8x32x8x128_2_0_1_3)
    shapeCasts_S8x32x8x128_S8x256x128) bitsLt_bf16_f32

/-- The first map's queries. -/
abbrev loOf (r : FVec Ideal S32x8x8x2x64 .f32) : FVec Ideal S8x256x128 .bf16 :=
  headsFirst (concatenate S32x8x8x128 3 [⟨S32x8x8x64, shapeCast S32x8x8x64 (extractStridedSlice S32x8x8x1x64 ![0, 0, 0, 0, 0] (scaled r) slices_S32x8x8x2x64_S32x8x8x1x64_0_0_0_0_0) shapeCasts_S32x8x8x1x64_S32x8x8x64⟩,
    ⟨S32x8x8x64, broadcastInDim S32x8x8x64 ![] bcast_S_S32x8x8x64 (constant S_ .f32 0x00000000#32)⟩] concatenates_S32x8x8x64_S32x8x8x64_S32x8x8x128_d3)
/-- The second map's queries. -/
abbrev hiOf (r : FVec Ideal S32x8x8x2x64 .f32) : FVec Ideal S8x256x128 .bf16 :=
  headsFirst (concatenate S32x8x8x128 3 [⟨S32x8x8x64, broadcastInDim S32x8x8x64 ![] bcast_S_S32x8x8x64 (constant S_ .f32 0x00000000#32)⟩,
    ⟨S32x8x8x64, shapeCast S32x8x8x64 (extractStridedSlice S32x8x8x1x64 ![0, 0, 0, 1, 0] (scaled r) slices_S32x8x8x2x64_S32x8x8x1x64_0_0_0_1_0) shapeCasts_S32x8x8x1x64_S32x8x8x64⟩] concatenates_S32x8x8x64_S32x8x8x64_S32x8x8x128_d3)

theorem heads_at (q : FVec Ideal S32x8x8x128 .f32) (h : Fin 8) (n : Fin 256) (l : Fin 128) :
    headsFirst q (ix3 h n l) = q (ix4 ⟨n.val / 8, by omega⟩ ⟨n.val % 8, by omega⟩ h l) := by
  pointwise []

theorem scaled_at (r : FVec Ideal S32x8x8x2x64 .f32) (b : Fin 32) (p : Fin 8) (h : Fin 8) (s : Fin 2) (d : Fin 64) :
    scaled r (ix5 b p h s d) = r (ix5 b ⟨p.val, by omega⟩ h s d) * Ideal.ofBits FTy.f32 0x3E000000#32 := by
  pointwise []

/-- Two maps side by side. -/
abbrev pair (u v : FVec Ideal S32x8x8x64 .f32) : FVec Ideal S32x8x8x128 .f32 :=
  concatenate S32x8x8x128 3 [⟨S32x8x8x64, u⟩, ⟨S32x8x8x64, v⟩] concatenates_S32x8x8x64_S32x8x8x64_S32x8x8x128_d3

theorem pair_at (u v : FVec Ideal S32x8x8x64 .f32) (b : Fin 32) (p : Fin 8) (h : Fin 8) (l : Fin 128) :
    pair u v (ix4 b p h l) = if hl : l.val < 64 then u (ix4 b p h ⟨l.val, hl⟩) else v (ix4 b p h ⟨l.val - 64, by omega⟩) := by
  pointwise []

theorem map0_at (s : FVec Ideal S32x8x8x2x64 .f32) (b : Fin 32) (p : Fin 8) (h : Fin 8) (d : Fin 64) :
    shapeCast S32x8x8x64 (extractStridedSlice S32x8x8x1x64 ![0, 0, 0, 0, 0] s slices_S32x8x8x2x64_S32x8x8x1x64_0_0_0_0_0) shapeCasts_S32x8x8x1x64_S32x8x8x64 (ix4 b p h d)
      = s (ix5 b p h 0 d) := by
  pointwise []

theorem map1_at (s : FVec Ideal S32x8x8x2x64 .f32) (b : Fin 32) (p : Fin 8) (h : Fin 8) (d : Fin 64) :
    shapeCast S32x8x8x64 (extractStridedSlice S32x8x8x1x64 ![0, 0, 0, 1, 0] s slices_S32x8x8x2x64_S32x8x8x1x64_0_0_0_1_0) shapeCasts_S32x8x8x1x64_S32x8x8x64 (ix4 b p h d)
      = s (ix5 b p h 1 d) := by
  pointwise []

/-- The first map's queries at an index: the other map's lanes are zero. -/
theorem lo_at (r : FVec Ideal S32x8x8x2x64 .f32) (h : Fin 8) (n : Fin 256) (l : Fin 128) :
    loOf r (ix3 h n l) = if hl : l.val < 64 then
        r (ix5 ⟨n.val / 8, by omega⟩ ⟨n.val % 8, by omega⟩ h 0 ⟨l.val, hl⟩) * Ideal.ofBits FTy.f32 0x3E000000#32
      else Ideal.ofBits FTy.f32 0x00000000#32 := by
  refine (heads_at _ h n l).trans ((pair_at _ _ _ _ _ _).trans ?_)
  by_cases hl : l.val < 64
  · rw [dif_pos hl, dif_pos hl, map0_at, scaled_at]
  · rw [dif_neg hl, dif_neg hl]
    rfl

/-- The second map's queries at an index: the other map's lanes are zero. -/
theorem hi_at (r : FVec Ideal S32x8x8x2x64 .f32) (h : Fin 8) (n : Fin 256) (l : Fin 128) :
    hiOf r (ix3 h n l) = if hl : l.val < 64 then Ideal.ofBits FTy.f32 0x00000000#32
      else r (ix5 ⟨n.val / 8, by omega⟩ ⟨n.val % 8, by omega⟩ h 1 ⟨l.val - 64, by omega⟩) * Ideal.ofBits FTy.f32 0x3E000000#32 := by
  refine (heads_at _ h n l).trans ((pair_at _ _ _ _ _ _).trans ?_)
  by_cases hl : l.val < 64
  · rw [dif_pos hl, dif_pos hl]
    rfl
  · rw [dif_neg hl, dif_neg hl, map1_at, scaled_at]

/-- The whole row array, rotated queries. -/
abbrev rotQ (x : FVec Ideal S32x8x1024 .f32) (W : FVec Ideal S1x1024x9224 .f32) (b : FVec Ideal S1x9224 .f32) := rot (mapsQ (proj x W b)) cosT sinT
/-- The whole row array, rotated keys. -/
abbrev rotK (x : FVec Ideal S32x8x1024 .f32) (W : FVec Ideal S1x1024x9224 .f32) (b : FVec Ideal S1x9224 .f32) := rot (mapsK (proj x W b)) cosT sinT

theorem rotQ_at (x : FVec Ideal S32x8x1024 .f32) (W : FVec Ideal S1x1024x9224 .f32) (b : FVec Ideal S1x9224 .f32) (i : Fin 32) (p : Fin 8) (h : Fin 8) (s : Fin 2) (d : Fin 64) :
    rotQ x W b (ix5 i p h s d) = rotated (fun n => row x W b i p n) (word p) (h.val * 128 + s.val * 64 + d.val) :=
  rot_eq _ _ i p (fun h s d => (mapsQ_at _ i p h s d).trans (proj_at x W b i p _)) h s d

theorem rotK_at (x : FVec Ideal S32x8x1024 .f32) (W : FVec Ideal S1x1024x9224 .f32) (b : FVec Ideal S1x9224 .f32) (i : Fin 32) (p : Fin 8) (h : Fin 8) (s : Fin 2) (d : Fin 64) :
    rotK x W b (ix5 i p h s d) = rotated (fun n => row x W b i p (1024 + n)) (word p) (h.val * 128 + s.val * 64 + d.val) :=
  rot_eq _ (fun n => row x W b i p (1024 + n)) i p (fun h s d => (mapsK_at _ i p h s d).trans (proj_at x W b i p _)) h s d

/-- The reference's first result: the first map's queries. -/
def resLo (X : FVec Ideal S32x8x1024 .f32) (W : FVec Ideal S1x1024x9224 .f32) (b : FVec Ideal S1x9224 .f32) : FVec Ideal S8x256x128 .bf16 := loOf (rotQ X W b)
/-- The reference's second result: the second map's queries. -/
def resHi (X : FVec Ideal S32x8x1024 .f32) (W : FVec Ideal S1x1024x9224 .f32) (b : FVec Ideal S1x9224 .f32) : FVec Ideal S8x256x128 .bf16 := hiOf (rotQ X W b)
/-- The reference's third result: the keys. -/
def resK (X : FVec Ideal S32x8x1024 .f32) (W : FVec Ideal S1x1024x9224 .f32) (b : FVec Ideal S1x9224 .f32) : FVec Ideal S256x1024 .f32 := shapeCast S256x1024 (shapeCast S32x8x8x128 (rotK X W b) shapeCasts_S32x8x8x2x64_S32x8x8x128) shapeCasts_S32x8x8x128_S256x1024
/-- The reference's fourth result: the values. -/
def resV (X : FVec Ideal S32x8x1024 .f32) (W : FVec Ideal S1x1024x9224 .f32) (b : FVec Ideal S1x9224 .f32) : FVec Ideal S256x1024 .f32 :=
  shapeCast S256x1024 (shapeCast S32x8x8x128 (extractStridedSlice S32x8x1024 ![0, 0, 2048] (proj X W b) slices_S32x8x9224_S32x8x1024_0_0_2048) shapeCasts_S32x8x1024_S32x8x8x128) shapeCasts_S32x8x8x128_S256x1024

/-- The reference runs to the four named results and leaves its arguments. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v101) = resLo (m ((c.tc : Thread nD τ).loc main_arg0)) (m ((c.tc : Thread nD τ).loc main_arg1)) (m ((c.tc : Thread nD τ).loc main_arg2))
      ∧ r.2.mem ((c.tc : Thread nD τ).loc main_v104) = resHi (m ((c.tc : Thread nD τ).loc main_arg0)) (m ((c.tc : Thread nD τ).loc main_arg1)) (m ((c.tc : Thread nD τ).loc main_arg2))
      ∧ r.2.mem ((c.tc : Thread nD τ).loc main_v105) = resK (m ((c.tc : Thread nD τ).loc main_arg0)) (m ((c.tc : Thread nD τ).loc main_arg1)) (m ((c.tc : Thread nD τ).loc main_arg2))
      ∧ r.2.mem ((c.tc : Thread nD τ).loc main_v106) = resV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by unfold res_main_v101; rfl), (h c).2.1.trans (by unfold res_main_v104; rfl),
    (h c).2.2.1.trans (by unfold res_main_v105; rfl), (h c).2.2.2.1.trans rfl, (h c).2.2.2.2⟩) (run m ρ)

end Cert.Reference5Ideal.Qkv
-- ==== Proof.QkvSampleValue.lean ====
/-
The new tokens' queries, keys and values (`Kernel5Ideal`): each of the four result arrays of the launch is, entry by
entry, the reference's.
-/
module

public import proofs.«01_k».proof.Proof.Gen.Kernel5Ideal.Frame
public import proofs.«01_k».proof.Proof.QkvSampleBlock
public import proofs.«01_k».proof.Proof.QkvSampleRef
public import Idealize.ShloMosaic.Lib.Pipeline.ValueKit
public import Idealize.ShloMosaic.Lib.StableHlo.RunRead

@[expose] public section

set_option maxRecDepth 65536

noncomputable section

namespace Cert.Kernel5Ideal.Block

open Idealize.ShloMosaic Idealize.ShloMosaic.StableHlo Idealize.ShloMosaic.TcCoe Idealize.SL.Sem Cert.Proof.Rope
open Idealize.ShloMosaic.Pipeline (Dat)
open Cert.Kernel5Ideal Cert.Kernel5Ideal.Gen

/-- A row of the blocks: token `X`, weights `Wt`, bias `Bv`, at position `p`. -/
structure RowOf (x0 : Vec Ideal S256x1024 .bf16) (x1 : Vec Ideal S1024x3072 .bf16) (x2 : Vec Ideal S1x3072 .f32)
    (x3 x4 : Vec Ideal S256x128 .f32) (r : Fin 256) (X : Fin 1024 → EReal) (Wt : Fin 1024 → Fin 9224 → EReal) (Bv : Fin 9224 → EReal)
    (p : BitVec 32) : Prop where
  hx : ∀ k, x0 (ix2 r k) = X k
  hw : ∀ k (n : Fin 3072), x1 (ix2 k n) = Wt k ⟨n.val, by omega⟩
  hb : ∀ n : Fin 3072, x2 (ix2 0 n) = Bv ⟨n.val, by omega⟩
  hc : ∀ l : Fin 128, x3 (ix2 r l) = cosAt p l.val
  hs : ∀ l : Fin 128, x4 (ix2 r l) = sinAt p l.val

section
variable {x0 : Vec Ideal S256x1024 .bf16} {x1 : Vec Ideal S1024x3072 .bf16} {x2 : Vec Ideal S1x3072 .f32}
    {x3 x4 : Vec Ideal S256x128 .f32} {r : Fin 256} {X : Fin 1024 → EReal} {Wt : Fin 1024 → Fin 9224 → EReal} {Bv : Fin 9224 → EReal}
    {p : BitVec 32}

theorem RowOf.zrow (h : RowOf x0 x1 x2 x3 x4 r X Wt Bv p) (off n : ℕ) (hn : off + n < 3072) :
    zrow x0 x1 x2 off r n = rowAt X Wt Bv (off + n) := by
  unfold Block.zrow rowAt
  rw [dif_pos hn, dif_pos (show off + n < 9224 by omega), h.hb]
  refine congrArg (· + _) (Finset.sum_congr rfl fun k _ => ?_)
  rw [h.hx, h.hw]

theorem RowOf.turned (h : RowOf x0 x1 x2 x3 x4 r X Wt Bv p) (off n : ℕ) (hoff : off + 1024 ≤ 3072) (hn : n < 1024) :
    turned x0 x1 x2 x3 x4 off r n = rotated (fun n => rowAt X Wt Bv (off + n)) p n := by
  unfold Block.turned
  rw [turn_eq _ _ _ p (fun l hl => (lane_val _ ⟨l, hl⟩).trans (h.hc ⟨l, hl⟩)) (fun l hl => (lane_val _ ⟨l, hl⟩).trans (h.hs ⟨l, hl⟩))]
  exact rotated_congr _ _ p n 1024 hn (by decide) fun k hk => h.zrow off k (by omega)
end

/-- The frequencies. -/
abbrev inv : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

/-- The angles of the rows' positions `w`. -/
abbrev ang (w : IVec S256 32) : FVec Ideal S256x8 .f32 :=
  mulf (broadcastInDim S256x8 ![0, 1] bcast_S256x1_S256x8_0_1 (broadcastInDim S256x1 ![0] bcast_S256_S256x1_0 (sitofp .f32 w)))
    (broadcastInDim S256x8 ![0, 1] bcast_S1x8_S256x8_0_1 (broadcastInDim S1x8 ![1] bcast_S8_S1x8_1 inv))

/-- A table of 64 lanes laid twice side by side. -/
abbrev twice (t : FVec Ideal S256x64 .f32) : FVec Ideal S256x128 .f32 :=
  shapeCast S256x128 (broadcastInDim S1x256x2x64 ![0, 1, 2, 3] bcast_S1x256x1x64_S1x256x2x64_0_1_2_3
    (shapeCast S1x256x1x64 t shapeCasts_S256x64_S1x256x1x64)) shapeCasts_S1x256x2x64_S256x128

/-- The cosine table of 64 lanes. -/
abbrev cos64 (w : IVec S256 32) : FVec Ideal S256x64 .f32 :=
  concatenate S256x64 1 [⟨S256x8, Host.cos (ang w)⟩, ⟨S256x8, Host.cos (ang w)⟩,
    ⟨S256x48, broadcastInDim S256x48 ![] bcast_S_S256x48 (constant S_ .f32 0x3F800000#32)⟩]
    concatenates_S256x8_S256x8_S256x48_S256x64_d1

/-- The signed sine table of 64 lanes. -/
abbrev sin64 (w : IVec S256 32) : FVec Ideal S256x64 .f32 :=
  concatenate S256x64 1 [⟨S256x8, Host.negf (Host.sin (ang w))⟩, ⟨S256x8, Host.sin (ang w)⟩,
    ⟨S256x48, broadcastInDim S256x48 ![] bcast_S_S256x48 (constant S_ .f32 0x00000000#32)⟩]
    concatenates_S256x8_S256x8_S256x48_S256x64_d1

theorem ang_at (w : IVec S256 32) (r : Fin 256) (j : Fin 8) : ang w (ix2 r j) = angle (w (ix1 r)) j.val := by
  unfold angle
  pointwise [inv]

theorem twice_at (t : FVec Ideal S256x64 .f32) (r : Fin 256) (l : Fin 128) :
    twice t (ix2 r l) = t (ix2 r ⟨l.val % 64, by omega⟩) := by
  pointwise []
  <;> blk_ext []

theorem parts_at (u v : FVec Ideal S256x8 .f32) (o : FVec Ideal S256x48 .f32) (r : Fin 256) (l : Fin 64) :
    concatenate S256x64 1 [⟨S256x8, u⟩, ⟨S256x8, v⟩, ⟨S256x48, o⟩] concatenates_S256x8_S256x8_S256x48_S256x64_d1 (ix2 r l)
      = if h0 : l.val < 8 then u (ix2 r ⟨l.val, h0⟩) else if h1 : l.val - 8 < 8 then v (ix2 r ⟨l.val - 8, h1⟩)
        else o (ix2 r ⟨l.val - 8 - 8, by omega⟩) := by
  pointwise []

/-- The cosine table at a lane. -/
theorem cos_at (w : IVec S256 32) (r : Fin 256) (l : Fin 128) : twice (cos64 w) (ix2 r l) = cosAt (w (ix1 r)) l.val := by
  rw [twice_at]
  refine (parts_at _ _ _ r _).trans ?_
  unfold cosAt
  by_cases h8 : l.val % 64 < 8
  · rw [dif_pos h8, if_pos h8]
    exact congrArg Ideal.cos (ang_at w r _)
  · rw [dif_neg h8, if_neg h8]
    by_cases h16 : l.val % 64 < 16
    · rw [dif_pos (show l.val % 64 - 8 < 8 by omega), if_pos h16]
      exact congrArg Ideal.cos (ang_at w r _)
    · rw [dif_neg (show ¬ l.val % 64 - 8 < 8 by omega), if_neg h16]
      exact Ideal.ofBits_one_f32

/-- The signed sine table at a lane. -/
theorem sin_at (w : IVec S256 32) (r : Fin 256) (l : Fin 128) : twice (sin64 w) (ix2 r l) = sinAt (w (ix1 r)) l.val := by
  rw [twice_at]
  refine (parts_at _ _ _ r _).trans ?_
  unfold sinAt
  by_cases h8 : l.val % 64 < 8
  · rw [dif_pos h8, if_pos h8]
    exact congrArg (fun a => -Ideal.sin a) (ang_at w r _)
  · rw [dif_neg h8, if_neg h8]
    by_cases h16 : l.val % 64 < 16
    · rw [dif_pos (show l.val % 64 - 8 < 8 by omega), if_pos h16]
      exact congrArg Ideal.sin (ang_at w r _)
    · rw [dif_neg (show ¬ l.val % 64 - 8 < 8 by omega), if_neg h16]
      exact Ideal.ofBits_zero FTy.f32

/-- The rows' positions. -/
abbrev words : IVec S256 32 :=
  shapeCast S256 (broadcastInDim S32x8 ![0, 1] bcast_S1x8_S32x8_0_1 (shapeCast S1x8
    (addi (broadcastInDim S8 ![] bcast_S_S8 (constantI S_ 32 16384#32)) (iotaInDim S8 32 0)) shapeCasts_S8_S1x8)) shapeCasts_S32x8_S256

theorem words_at (r : Fin 256) : words (ix1 r) = Cert.Reference5Ideal.Qkv.word ⟨r.val % 8, by omega⟩ := by
  pointwise []
  <;> rfl

variable (m : (ℓ : Loc nD τ sig) → Buf (Elt Ideal) ℓ)

/-- Every window's block index at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0] ∧ win0_9.index t = ![0, 0] :=
  (by decide +kernel : ∀ t : Fin grid0.N, _)

/-- The tokens, as launched. -/
abbrev argX (c : Dev nD) : FVec Ideal S32x8x1024 .f32 := m ((c : Thread nD τ).loc main_arg0)
/-- The weights, as launched. -/
abbrev argW (c : Dev nD) : FVec Ideal S1x1024x9224 .f32 := m ((c : Thread nD τ).loc main_arg1)
/-- The bias, as launched. -/
abbrev argB (c : Dev nD) : FVec Ideal S1x9224 .f32 := m ((c : Thread nD τ).loc main_arg2)

/-- The token rows the launch reads. -/
theorem entryX (c : Dev nD) : (V m c main_v40 : FVec Ideal S256x1024 .bf16)
    = truncf (F := Ideal) .bf16 (shapeCast S256x1024 (argX m c) shapeCasts_S32x8x1024_S256x1024) bitsLt_bf16_f32 := by
  entry_read <;> rfl

/-- The weight columns the launch reads. -/
theorem entryW (c : Dev nD) : (V m c main_v3 : FVec Ideal S1024x3072 .bf16)
    = truncf (F := Ideal) .bf16 (extractStridedSlice S1024x3072 ![0, 0] (shapeCast S1024x9224 (argW m c) shapeCasts_S1x1024x9224_S1024x9224) slices_S1024x9224_S1024x3072_0_0) bitsLt_bf16_f32 := by
  entry_read <;> rfl

/-- The bias columns the launch reads. -/
theorem entryB (c : Dev nD) : (V m c main_v5 : FVec Ideal S1x3072 .f32)
    = broadcastInDim S1x3072 ![1] bcast_S3072_S1x3072_1 (extractStridedSlice S3072 ![0] (shapeCast S9224 (argB m c) shapeCasts_S1x9224_S9224) slices_S9224_S3072_0) := by
  entry_read <;> rfl

/-- The cosine table the launch reads. -/
theorem entryC (c : Dev nD) : (V m c main_v36 : FVec Ideal S256x128 .f32) = twice (cos64 words) := by
  after_reads_simp
  rfl

/-- The signed sine table the launch reads. -/
theorem entryS (c : Dev nD) : (V m c main_v39 : FVec Ideal S256x128 .f32) = twice (sin64 words) := by
  after_reads_simp
  rfl

theorem blockX (c : Dev nD) (t : Fin cfg0.N) (r : Fin 256) (k : Fin 1024) :
    iblk m c 0 t (ix2 r k) = argX m c (ix3 ⟨r.val / 8, by omega⟩ ⟨r.val % 8, by omega⟩ k) := by
  blk_simp [iblk]
  refine (congrFun (entryX m c) _).trans ?_
  pointwise
  blk_ext [idx t]

theorem blockW (c : Dev nD) (t : Fin cfg0.N) (k : Fin 1024) (n : Fin 3072) :
    iblk m c 1 t (ix2 k n) = argW m c (ix3 0 k ⟨n.val, by omega⟩) := by
  blk_simp [iblk]
  refine (congrFun (entryW m c) _).trans ?_
  pointwise
  blk_ext [idx t]

theorem blockB (c : Dev nD) (t : Fin cfg0.N) (n : Fin 3072) :
    iblk m c 2 t (ix2 0 n) = argB m c (ix2 0 ⟨n.val, by omega⟩) := by
  blk_simp [iblk]
  refine (congrFun (entryB m c) _).trans ?_
  pointwise
  blk_ext [idx t]

theorem blockC (c : Dev nD) (t : Fin cfg0.N) (r : Fin 256) (l : Fin 128) :
    iblk m c 3 t (ix2 r l) = cosAt (Cert.Reference5Ideal.Qkv.word ⟨r.val % 8, by omega⟩) l.val := by
  blk_simp [iblk]
  refine (congrFun (entryC m c) _).trans ?_
  rw [← words_at r, ← cos_at]
  refine congrArg _ ?_
  blk_ext [idx t]

theorem blockS (c : Dev nD) (t : Fin cfg0.N) (r : Fin 256) (l : Fin 128) :
    iblk m c 4 t (ix2 r l) = sinAt (Cert.Reference5Ideal.Qkv.word ⟨r.val % 8, by omega⟩) l.val := by
  blk_simp [iblk]
  refine (congrFun (entryS m c) _).trans ?_
  rw [← words_at r, ← sin_at]
  refine congrArg _ ?_
  blk_ext [idx t]

/-- A row of the blocks is a token's row. -/
theorem rowOf (c : Dev nD) (t : Fin cfg0.N) (r : Fin 256) :
    RowOf (iblk m c 0 t) (iblk m c 1 t) (iblk m c 2 t) (iblk m c 3 t) (iblk m c 4 t) r
      (fun k => argX m c (ix3 ⟨r.val / 8, by omega⟩ ⟨r.val % 8, by omega⟩ k)) (fun k n => argW m c (ix3 0 k n)) (fun n => argB m c (ix2 0 n))
      (Cert.Reference5Ideal.Qkv.word ⟨r.val % 8, by omega⟩) :=
  ⟨blockX m c t r, blockW m c t, blockB m c t, blockC m c t r, blockS m c t r⟩

open Cert.Reference5Ideal.Qkv in
/-- The reference's keys, one row per token. -/
abbrev refK (c : Dev nD) : FVec Ideal S256x1024 .f32 :=
  shapeCast S256x1024 (shapeCast Cert.Reference5Ideal.S32x8x8x128 (rotK (argX m c) (argW m c) (argB m c)) Cert.Reference5Ideal.Gen.shapeCasts_S32x8x8x2x64_S32x8x8x128)
    Cert.Reference5Ideal.Gen.shapeCasts_S32x8x8x128_S256x1024

open Cert.Reference5Ideal.Qkv in
/-- The reference's values, one row per token. -/
abbrev refV (c : Dev nD) : FVec Ideal S256x1024 .f32 :=
  shapeCast S256x1024 (shapeCast Cert.Reference5Ideal.S32x8x8x128 (extractStridedSlice Cert.Reference5Ideal.S32x8x1024 ![0, 0, 2048] (proj (argX m c) (argW m c) (argB m c)) Cert.Reference5Ideal.Gen.slices_S32x8x9224_S32x8x1024_0_0_2048)
    Cert.Reference5Ideal.Gen.shapeCasts_S32x8x1024_S32x8x8x128) Cert.Reference5Ideal.Gen.shapeCasts_S32x8x8x128_S256x1024

open Cert.Reference5Ideal in
theorem flatK (x : FVec Ideal Cert.Reference5Ideal.S32x8x8x2x64 .f32) (r : Fin 256) (n : Fin 1024) :
    shapeCast Cert.Reference5Ideal.S256x1024 (shapeCast Cert.Reference5Ideal.S32x8x8x128 x Cert.Reference5Ideal.Gen.shapeCasts_S32x8x8x2x64_S32x8x8x128)
      Cert.Reference5Ideal.Gen.shapeCasts_S32x8x8x128_S256x1024 (ix2 r n)
      = x (ix5 ⟨r.val / 8, by omega⟩ ⟨r.val % 8, by omega⟩ ⟨n.val / 128, by omega⟩ ⟨n.val % 128 / 64, by omega⟩ ⟨n.val % 64, by omega⟩) := by
  pointwise []
  <;> blk_ext []

theorem flatV (x : FVec Ideal Cert.Reference5Ideal.S32x8x9224 .f32) (r : Fin 256) (n : Fin 1024) :
    shapeCast Cert.Reference5Ideal.S256x1024 (shapeCast Cert.Reference5Ideal.S32x8x8x128 (extractStridedSlice Cert.Reference5Ideal.S32x8x1024 ![0, 0, 2048] x Cert.Reference5Ideal.Gen.slices_S32x8x9224_S32x8x1024_0_0_2048)
    Cert.Reference5Ideal.Gen.shapeCasts_S32x8x1024_S32x8x8x128) Cert.Reference5Ideal.Gen.shapeCasts_S32x8x8x128_S256x1024 (ix2 r n)
      = x (ix3 ⟨r.val / 8, by omega⟩ ⟨r.val % 8, by omega⟩ ⟨2048 + n.val, by omega⟩) := by
  pointwise []
  <;> blk_ext []

theorem pointK (c : Dev nD) (t : Fin cfg0.N) (r : Fin 256) (n : Fin 1024) :
    keys (iblk m c 0 t) (iblk m c 1 t) (iblk m c 2 t) (iblk m c 3 t) (iblk m c 4 t) (ix2 r n) = refK m c (ix2 r n) := by
  refine ((rowOf m c t r).turned 1024 n.val (by decide) n.isLt).trans ?_
  refine Eq.trans ?_ ((flatK _ r n).trans (Cert.Reference5Ideal.Qkv.rotK_at (argX m c) (argW m c) (argB m c) _ _ _ _ _)).symm
  rw [show (n.val / 128) * 128 + (n.val % 128 / 64) * 64 + n.val % 64 = n.val by omega]

theorem pointV (c : Dev nD) (t : Fin cfg0.N) (r : Fin 256) (n : Fin 1024) :
    vals (iblk m c 0 t) (iblk m c 1 t) (iblk m c 2 t) (ix2 r n) = refV m c (ix2 r n) := by
  refine ((rowOf m c t r).zrow 2048 n.val (by omega)).trans ?_
  exact ((flatV _ r n).trans (Cert.Reference5Ideal.Qkv.proj_at (argX m c) (argW m c) (argB m c) _ _ _)).symm

theorem pointLo (c : Dev nD) (t : Fin cfg0.N) (h : Fin 8) (r : Fin 256) (l : Fin 128) :
    qLo (iblk m c 0 t) (iblk m c 1 t) (iblk m c 2 t) (iblk m c 3 t) (iblk m c 4 t) (ix3 h r l)
      = Cert.Reference5Ideal.Qkv.loOf (Cert.Reference5Ideal.Qkv.rotQ (argX m c) (argW m c) (argB m c)) (ix3 h r l) := by
  refine Eq.trans ?_ (Cert.Reference5Ideal.Qkv.lo_at _ h r l).symm
  show (if l.val < 64 then turned (iblk m c 0 t) (iblk m c 1 t) (iblk m c 2 t) (iblk m c 3 t) (iblk m c 4 t) 0 r (h.val * 128 + l.val) * Ideal.ofBits FTy.f32 0x3E000000#32 else 0) = _
  by_cases hl : l.val < 64
  · rw [if_pos hl, dif_pos hl, Cert.Reference5Ideal.Qkv.rotQ_at]
    refine congrArg (· * _) (((rowOf m c t r).turned 0 (h.val * 128 + l.val) (by decide) (by omega)).trans ?_)
    simp only [Nat.zero_add, Fin.val_zero, Nat.zero_mul, Nat.add_zero]
  · rw [if_neg hl, dif_neg hl]
    exact (Ideal.ofBits_zero FTy.f32).symm

theorem pointHi (c : Dev nD) (t : Fin cfg0.N) (h : Fin 8) (r : Fin 256) (l : Fin 128) :
    qHi (iblk m c 0 t) (iblk m c 1 t) (iblk m c 2 t) (iblk m c 3 t) (iblk m c 4 t) (ix3 h r l)
      = Cert.Reference5Ideal.Qkv.hiOf (Cert.Reference5Ideal.Qkv.rotQ (argX m c) (argW m c) (argB m c)) (ix3 h r l) := by
  refine Eq.trans ?_ (Cert.Reference5Ideal.Qkv.hi_at _ h r l).symm
  show (if l.val < 64 then 0 else turned (iblk m c 0 t) (iblk m c 1 t) (iblk m c 2 t) (iblk m c 3 t) (iblk m c 4 t) 0 r (h.val * 128 + l.val) * Ideal.ofBits FTy.f32 0x3E000000#32) = _
  by_cases hl : l.val < 64
  · rw [if_pos hl, dif_pos hl]
    exact (Ideal.ofBits_zero FTy.f32).symm
  · rw [if_neg hl, dif_neg hl, Cert.Reference5Ideal.Qkv.rotQ_at]
    refine congrArg (· * _) (((rowOf m c t r).turned 0 (h.val * 128 + l.val) (by decide) (by omega)).trans ?_)
    have hn : h.val * 128 + l.val = h.val * 128 + (1 : Fin 2).val * 64 + (l.val - 64) := by
      show h.val * 128 + l.val = h.val * 128 + 1 * 64 + (l.val - 64); omega
    simp only [Nat.zero_add]
    rw [← hn]

theorem all2 {α : Type} (G H : S256x1024.Idx → α) (h : ∀ r n, G (ix2 r n) = H (ix2 r n)) (y : S256x1024.Idx) : G y = H y := by
  idx_vars y
  exact h _ _

theorem all3 {α : Type} (G H : S8x256x128.Idx → α) (h : ∀ a r n, G (ix3 a r n) = H (ix3 a r n)) (y : S8x256x128.Idx) : G y = H y := by
  idx_vars y
  exact h _ _ _

/-- After the run this result array is the reference's. -/
theorem finalK (c : Dev nD) : (dats m 0 c).arrAt 7 (cfgs 0).N = (refK m c : FVec Ideal S256x1024 .f32) := by
  refine (dats m 0 c).arrAt_eq_of_covers 7 _ (by decide +kernel) fun t _ y => ?_
  blk_simp
  rw [after0_7]
  refine (keys_eq _ _ _ _ _ y).trans ?_
  refine (all2 _ _ (pointK m c t) y).trans (congrArg _ ?_)
  blk_ext [idx t]

/-- After the run this result array is the reference's. -/
theorem finalV (c : Dev nD) : (dats m 0 c).arrAt 9 (cfgs 0).N = (refV m c : FVec Ideal S256x1024 .f32) := by
  refine (dats m 0 c).arrAt_eq_of_covers 9 _ (by decide +kernel) fun t _ y => ?_
  blk_simp
  rw [after0_9]
  refine (vals_eq _ _ _ _ _ y).trans ?_
  refine (all2 _ _ (pointV m c t) y).trans (congrArg _ ?_)
  blk_ext [idx t]

/-- After the run this result array is the reference's. -/
theorem finalLo (c : Dev nD) : (dats m 0 c).arrAt 5 (cfgs 0).N = (Cert.Reference5Ideal.Qkv.loOf (Cert.Reference5Ideal.Qkv.rotQ (argX m c) (argW m c) (argB m c)) : FVec Ideal S8x256x128 .bf16) := by
  refine (dats m 0 c).arrAt_eq_of_covers 5 _ (by decide +kernel) fun t _ y => ?_
  blk_simp
  rw [after0_5]
  refine (qLo_eq _ _ _ _ _ y).trans ?_
  refine (all3 _ _ (pointLo m c t) y).trans (congrArg _ ?_)
  blk_ext [idx t]

/-- After the run this result array is the reference's. -/
theorem finalHi (c : Dev nD) : (dats m 0 c).arrAt 6 (cfgs 0).N = (Cert.Reference5Ideal.Qkv.hiOf (Cert.Reference5Ideal.Qkv.rotQ (argX m c) (argW m c) (argB m c)) : FVec Ideal S8x256x128 .bf16) := by
  refine (dats m 0 c).arrAt_eq_of_covers 6 _ (by decide +kernel) fun t _ y => ?_
  blk_simp
  rw [after0_6]
  refine (qHi_eq _ _ _ _ _ y).trans ?_
  refine (all3 _ _ (pointHi m c t) y).trans (congrArg _ ?_)
  blk_ext [idx t]

/-- The launch runs to the reference's four results and leaves its arguments. -/
theorem run_named (ρ : Dev nD → PrngReg) :
    θ_run defs (onTc (τ := τ) (main (F := Ideal))) ⟨m, fun _ => 0, ρ⟩ fun r => ∀ c : Dev nD,
      r.2.mem ((c.tc : Thread nD τ).loc main_v41_0) = Cert.Reference5Ideal.Qkv.resLo (m ((c.tc : Thread nD τ).loc main_arg0)) (m ((c.tc : Thread nD τ).loc main_arg1)) (m ((c.tc : Thread nD τ).loc main_arg2))
      ∧ r.2.mem ((c.tc : Thread nD τ).loc main_v41_1) = Cert.Reference5Ideal.Qkv.resHi (m ((c.tc : Thread nD τ).loc main_arg0)) (m ((c.tc : Thread nD τ).loc main_arg1)) (m ((c.tc : Thread nD τ).loc main_arg2))
      ∧ r.2.mem ((c.tc : Thread nD τ).loc main_v41_2) = Cert.Reference5Ideal.Qkv.resK (m ((c.tc : Thread nD τ).loc main_arg0)) (m ((c.tc : Thread nD τ).loc main_arg1)) (m ((c.tc : Thread nD τ).loc main_arg2))
      ∧ r.2.mem ((c.tc : Thread nD τ).loc main_v41_4) = Cert.Reference5Ideal.Qkv.resV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 5).trans (finalLo m c), ((h.1 c).1 6).trans (finalHi m c),
      ((h.1 c).1 7).trans (finalK m c), ((h.1 c).1 9).trans (finalV m c), h.2 c⟩)
    (θ_run_and (run_main m ρ) (unchanged m ρ))

end Cert.Kernel5Ideal.Block
-- ==== Proof.QkvSampleClaim.lean ====
/-
The new tokens' queries, keys and values: the programs run, and the kernel's four results are the reference's.
-/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.QkvSampleValue
public import Idealize.ShloMosaic.Lib.Claim

@[expose] public section

set_option maxRecDepth 16384

noncomputable section

namespace Cert.Proof

open Idealize.ShloMosaic Idealize.SL.Sem

/-- The new tokens' projection runs as compiled and leaves its arguments as they were. -/
theorem frame5 : Cert.quiescent_Kernel5 := fun m g _ => Cert.Kernel5.Gen.frame m g

/-- So does its ideal form. -/
theorem frame5Ideal : Cert.quiescent_Kernel5Ideal := fun m g _ => Cert.Kernel5Ideal.Gen.frame m g

/-- The reference of the new tokens' projection runs. -/
theorem frame5Ref : Cert.quiescent_Reference5Ideal := fun m g _ =>
  (θ_run Cert.Reference5Ideal.defs _ _).mono (fun r h => ⟨fun c => (h c).2.2.2.2, sem_eq_zero_of_no_sems (by decide) r.2⟩)
    (Cert.Reference5Ideal.Value.run m g)

/-- The new tokens' projection computes the reference's queries, keys and values. -/
theorem algebraic5 : Cert.algebraic_Kernel5Ideal_Reference5Ideal :=
  fun m g m' g' _ hag => ⟨_, _, _, _, Cert.Kernel5Ideal.Block.run_named m g,
    (θ_run Cert.Reference5Ideal.defs _ _).mono (fun r h c => by
      obtain ⟨h0, h1, h2, h3, ha⟩ := h c
      obtain ⟨e0, e1, e2⟩ := hag c
      rw [e0, e1, e2] at h0 h1 h2 h3
      exact ⟨h0, h1, h2, h3, ha⟩) (Cert.Reference5Ideal.Qkv.run_named m' g')⟩

end Cert.Proof

end
-- ==== Proof.AttnStack.lean ====
/-
A stack of planes, written plane by plane: what a counted loop leaves that stores plane `k` on trip `k`.
-/
module

public import Idealize.ShloMosaic.Lib.VecWindow
public import Idealize.ShloMosaic.Lib.Pipeline.ValueKit

@[expose] public section

noncomputable section

namespace Cert.Stack

open Idealize.ShloMosaic

variable {α : Type} {n a b : ℕ}

/-- Plane `r` of a stack, as a stack of one. -/
def plane (X : (⟨3, ![n, a, b]⟩ : Shape).Idx → α) (r : Fin n) : (⟨3, ![1, a, b]⟩ : Shape).Idx → α :=
  fun y => X (ix3 r (y 1) (y 2))

/-- The stack whose plane `r` is `f r`. -/
def stack (f : Fin n → (⟨3, ![1, a, b]⟩ : Shape).Idx → α) : (⟨3, ![n, a, b]⟩ : Shape).Idx → α :=
  fun y => f (y 0) (ix3 0 (y 1) (y 2))

theorem plane_stack (f : Fin n → (⟨3, ![1, a, b]⟩ : Shape).Idx → α) (r : Fin n) : plane (stack f) r = f r := by
  funext y
  refine congrArg (f r) (funext fun c => ?_)
  match c with
  | 0 => exact Subsingleton.elim (α := Fin 1) _ _
  | 1 => rfl
  | 2 => rfl

/-- A window one plane thick is that plane. -/
theorem window_plane (X : (⟨3, ![n, a, b]⟩ : Shape).Idx → α) (r : Fin n) (inb) :
    VecWindow.window X ![r.val, 0, 0] ![1, a, b] inb = plane X r := by
  funext y
  refine congrArg X (funext fun c => Fin.ext ?_)
  match c with
  | 0 =>
    have h : (y 0).val = 0 := by have := (y 0).isLt; change (y 0).val < 1 at this; omega
    show r.val + 1 * (y 0).val = r.val
    omega
  | 1 => show 0 + 1 * (y 1).val = (y 1).val; omega
  | 2 => show 0 + 1 * (y 2).val = (y 2).val; omega

/-- The first `k` planes those of `M'`, the others those of `M`. -/
def upTo (k : ℕ) (M M' : (⟨3, ![n, a, b]⟩ : Shape).Idx → α) : (⟨3, ![n, a, b]⟩ : Shape).Idx → α :=
  fun y => if (y 0).val < k then M' y else M y

theorem upTo_zero (M M' : (⟨3, ![n, a, b]⟩ : Shape).Idx → α) : upTo 0 M M' = M := by
  funext y; exact if_neg (Nat.not_lt_zero _)

theorem upTo_all (M M' : (⟨3, ![n, a, b]⟩ : Shape).Idx → α) : upTo n M M' = M' := by
  funext y; exact if_pos (y 0).isLt

theorem plane_upTo (k : ℕ) (M M' : (⟨3, ![n, a, b]⟩ : Shape).Idx → α) (r : Fin n) (h : k ≤ r.val) :
    plane (upTo k M M') r = plane M r := by
  funext y; exact if_neg (Nat.not_lt.mpr h)

/-- Putting plane `k` extends the planes already done by one. -/
theorem put_upTo (k : Fin n) (M M' : (⟨3, ![n, a, b]⟩ : Shape).Idx → α) (w : (⟨3, ![1, a, b]⟩ : Shape).Idx → α)
    (hw : w = plane M' k) :
    VecWindow.put (upTo k.val M M') ![k.val, 0, 0] ![1, a, b] w = upTo (k.val + 1) M M' := by
  subst hw
  funext y
  unfold VecWindow.put
  by_cases hy : (y 0).val = k.val
  · have h : ∀ c, (![k.val, 0, 0] : Fin 3 → ℕ) c ≤ (y c).val ∧ (y c).val < (![k.val, 0, 0] : Fin 3 → ℕ) c + (![1, a, b] : Fin 3 → ℕ) c := by
      intro c
      match c with
      | 0 => show k.val ≤ (y 0).val ∧ (y 0).val < k.val + 1; omega
      | 1 => exact ⟨Nat.zero_le _, by show (y 1).val < 0 + a; have := (y 1).isLt; change (y 1).val < a at this; omega⟩
      | 2 => exact ⟨Nat.zero_le _, by show (y 2).val < 0 + b; have := (y 2).isLt; change (y 2).val < b at this; omega⟩
    rw [dif_pos h]
    show _ = if (y 0).val < k.val + 1 then M' y else M y
    rw [if_pos (by omega)]
    refine congrArg M' (funext fun c => Fin.ext ?_)
    match c with
    | 0 => exact hy.symm
    | 1 => show (y 1).val - 0 = (y 1).val; omega
    | 2 => show (y 2).val - 0 = (y 2).val; omega
  · rw [dif_neg fun h => hy (by have := h 0; change k.val ≤ (y 0).val ∧ (y 0).val < k.val + 1 at this; omega)]
    show (if (y 0).val < k.val then M' y else M y) = if (y 0).val < k.val + 1 then M' y else M y
    by_cases h : (y 0).val < k.val
    · rw [if_pos h, if_pos (by omega)]
    · rw [if_neg h, if_neg (by omega)]

end Cert.Stack

end
-- ==== Proof.AttnTrips.lean ====
/-
What the attention's three counted loops leave in the running maximum, the running sum, the accumulator and the output
block: one step of the streaming softmax per head and per half of the differential pair.
-/
module

public import proofs.«01_k».proof.Proof.Gen.KernelIdeal.Loops
public import proofs.«01_k».proof.Proof.AttnStack
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

open Cert.Stack

/-! ## One step of the streaming softmax, over one tile of queries and one tile of keys

Three forms of it: against the meta tokens (a mask on the columns), against a whole tile, against the diagonal tile (a
causal mask). Each gives the running maximum, the running sum and the accumulator after the step. -/

section Steps
variable (q : Vec F S1x512x128 .bf16)

/-- The running maximum after a step against the meta tokens' keys `k`. -/
def maxMeta (k : Vec F S1x128x128 .bf16) (m : Vec F S1x512x128 .f32) : Vec F S1x512x128 .f32 :=
  k0_pay7 (k0_pay26 k0_pay4 q k m)
/-- The running sum after a step against the meta tokens' keys `k`. -/
def sumMeta (k : Vec F S1x128x128 .bf16) (m l : Vec F S1x512x128 .f32) : Vec F S1x512x128 .f32 :=
  k0_pay5 (k0_pay27 k0_pay4 q k m) (k0_pay28 k0_pay4 q k m) l
/-- The accumulator after a step against the meta tokens' keys `k` and values `v`. -/
def accMeta (k v : Vec F S1x128x128 .bf16) (m a : Vec F S1x512x128 .f32) : Vec F S1x512x128 .f32 :=
  k0_pay6 (k0_pay23 v) (k0_pay27 k0_pay4 q k m) (k0_pay28 k0_pay4 q k m) a

/-- The running maximum after a step against a whole tile of keys `k`. -/
def maxFull (k : Vec F S1x512x128 .bf16) (m : Vec F S1x512x128 .f32) : Vec F S1x512x128 .f32 :=
  k0_pay10 (k0_pay43 q k m)
/-- The running sum after a step against a whole tile of keys `k`. -/
def sumFull (k : Vec F S1x512x128 .bf16) (m l : Vec F S1x512x128 .f32) : Vec F S1x512x128 .f32 :=
  k0_pay8 (k0_pay45 q k m) (k0_pay46 q k m l)
/-- The accumulator after a step against a whole tile of keys `k` and values `v`. -/
def accFull (k v : Vec F S1x512x128 .bf16) (m a : Vec F S1x512x128 .f32) : Vec F S1x512x128 .f32 :=
  k0_pay9 (k0_pay40 v) (k0_pay44 q k m) (k0_pay45 q k m) a

/-- The running maximum after a step against the diagonal tile of keys `k`. -/
def maxDiag (k : Vec F S1x512x128 .bf16) (m : Vec F S1x512x128 .f32) : Vec F S1x512x128 .f32 :=
  k0_pay64 (k0_pay59 k0_pay11 q k m)
/-- The running sum after a step against the diagonal tile of keys `k`. -/
def sumDiag (k : Vec F S1x512x128 .bf16) (m l : Vec F S1x512x128 .f32) : Vec F S1x512x128 .f32 :=
  k0_pay62 (k0_pay60 k0_pay11 q k m) (k0_pay61 k0_pay11 q k m) l
/-- The accumulator after a step against the diagonal tile of keys `k` and values `v`. -/
def accDiag (k v : Vec F S1x512x128 .bf16) (m a : Vec F S1x512x128 .f32) : Vec F S1x512x128 .f32 :=
  k0_pay63 (k0_pay56 v) (k0_pay60 k0_pay11 q k m) (k0_pay61 k0_pay11 q k m) a

end Steps

/-- The output tile of one head from the two halves' accumulators and sums, the lambda row and the weight row. -/
def outTile (lam g : Vec F S1x128 .f32) (a0 l0 a1 l1 : Vec F S1x512x128 .f32) : Vec F S1x512x128 .bf16 :=
  k0_pay12 lam g (k0_pay65 a0 l0) a1 l1

/-! ## The loops' offsets -/

theorem off2_eq : ∀ k : Fin k0_t1_loop.trips, k0_off2 k = ![k.val, 0, 0] := by decide +kernel
theorem off3_eq : ∀ k : Fin k0_t1_loop.trips, k0_off3 k = ![k.val, 0, 0] := by decide +kernel
theorem off4_eq : ∀ k : Fin k0_t1_loop.trips, k0_off4 k = ![2 * k.val, 0, 0] := by decide +kernel
theorem off5_eq : ∀ k : Fin k0_t1_loop.trips, k0_off5 k = ![2 * k.val + 1, 0, 0] := by decide +kernel
theorem off6_eq : ∀ k : Fin k0_t2_loop.trips, k0_off6 k = ![k.val, 0, 0] := by decide +kernel
theorem off7_eq : ∀ k : Fin k0_t2_loop.trips, k0_off7 k = ![2 * k.val, 0, 0] := by decide +kernel
theorem off8_eq : ∀ k : Fin k0_t2_loop.trips, k0_off8 k = ![2 * k.val + 1, 0, 0] := by decide +kernel
theorem off9_eq : ∀ k : Fin k0_t3_loop.trips, k0_off9 k = ![k.val, 0, 0] := by decide +kernel
theorem off10_eq : ∀ k : Fin k0_t3_loop.trips, k0_off10 k = ![2 * k.val, 0, 0] := by decide +kernel
theorem off11_eq : ∀ k : Fin k0_t3_loop.trips, k0_off11 k = ![2 * k.val + 1, 0, 0] := by decide +kernel

/-- The planes of the two halves of a head are apart. -/
theorem pair_disjoint (k : Fin k0_t3_loop.trips) :
    Disjoint (Rect.unit (s := S16x512x128) (k0_off11 k) S1x512x128.size (k0_off11_inb k)).set
      (Rect.unit (s := S16x512x128) (k0_off10 k) S1x512x128.size (k0_off10_inb k)).toLoadRect.set :=
  Rect.unit_disjoint 0 (.inr (by rw [off10_eq, off11_eq]; exact Nat.le_refl _))

/-- A load of the first half's plane after a store of each half's reads the first half's. -/
theorem readCov_pair {sp : Space} (v : View sig .tc sp S16x512x128 .f32) (k : Fin k0_t3_loop.trips)
    (w : (Rect.unit (s := S16x512x128) (k0_off11 k) S1x512x128.size (k0_off11_inb k)).shape.Idx → Elt F .f32)
    (w' : (Rect.unit (s := S16x512x128) (k0_off10 k) S1x512x128.size (k0_off10_inb k)).shape.Idx → Elt F .f32) :
    v.readCov (Val := Elt F) [⟨Rect.unit (s := S16x512x128) (k0_off11 k) S1x512x128.size (k0_off11_inb k), w⟩,
      ⟨Rect.unit (s := S16x512x128) (k0_off10 k) S1x512x128.size (k0_off10_inb k), w'⟩]
      (Rect.unit (s := S16x512x128) (k0_off10 k) S1x512x128.size (k0_off10_inb k)).toLoadRect = w' := by
  refine (View.readCov_cons_of_disjoint v ⟨_, w⟩ _ _ (pair_disjoint k)).trans ?_
  exact View.readCov_cons_toLoadRect _ _ _ _

/-! ## One trip of each loop -/

section Trips
variable (𝒱 : Variants) (c : Dev nD) (bd : Option 𝒱.V) (i : grid0.Coords)
  (arg2 : Memref sig .tc .smem S44 .i32) (harg2 : arg2.IsWhole)
  (arg3 : Memref sig .tc .smem S44 .i32) (harg3 : arg3.IsWhole)
  (arg4 : Memref sig .tc .vmem S8x512x128 .bf16) (harg4 : arg4.IsWhole)
  (arg5 : Memref sig .tc .vmem S8x512x128 .bf16) (harg5 : arg5.IsWhole)
  (arg6 : Memref sig .tc .vmem S8x512x128 .bf16) (harg6 : arg6.IsWhole)
  (arg7 : Memref sig .tc .vmem S8x512x128 .bf16) (harg7 : arg7.IsWhole)
  (arg8 : Memref sig .tc .vmem S8x128x128 .bf16) (harg8 : arg8.IsWhole)
  (arg9 : Memref sig .tc .vmem S8x128x128 .bf16) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S8x512x128 .bf16) (harg12 : arg12.IsWhole)
  (arg13 : Memref sig .tc .vmem S16x512x128 .f32) (harg13 : arg13.IsWhole)
  (arg14 : Memref sig .tc .vmem S16x512x128 .f32) (harg14 : arg14.IsWhole)
  (arg15 : Memref sig .tc .vmem S16x512x128 .f32) (harg15 : arg15.IsWhole)

theorem trip1_max
  (X4 : BufTy.Contents (Elt F) arg4.view.ty)
  (X5 : BufTy.Contents (Elt F) arg5.view.ty)
  (X8 : BufTy.Contents (Elt F) arg8.view.ty)
  (X9 : BufTy.Contents (Elt F) arg9.view.ty) (k : Fin k0_t1_loop.trips)
  (X13 : BufTy.Contents (Elt F) arg13.view.ty)
  (X14 : BufTy.Contents (Elt F) arg14.view.ty)
  (X15 : BufTy.Contents (Elt F) arg15.view.ty) :
    arg13.view.read (Elt F) (arg13.view.writes (Elt F) X13 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 k X13 X14 X15).1)
      = VecWindow.put (VecWindow.put (arg13.view.read (Elt F) X13) ![2 * k.val, 0, 0] ![1, 512, 128]
          (maxMeta (arg4.view.readAt (Elt F) (Rect.unit (s := S8x512x128) (k0_off2 k) S1x512x128.size (k0_off2_inb k)).toLoadRect X4) (arg8.view.readAt (Elt F) (Rect.unit (s := S8x128x128) (k0_off3 k) S1x128x128.size (k0_off3_inb k)).toLoadRect X8) (arg13.view.readAt (Elt F) (Rect.unit (s := S16x512x128) (k0_off4 k) S1x512x128.size (k0_off4_inb k)).toLoadRect X13)))
          ![2 * k.val + 1, 0, 0] ![1, 512, 128]
          (maxMeta (arg5.view.readAt (Elt F) (Rect.unit (s := S8x512x128) (k0_off2 k) S1x512x128.size (k0_off2_inb k)).toLoadRect X5) (arg8.view.readAt (Elt F) (Rect.unit (s := S8x128x128) (k0_off3 k) S1x128x128.size (k0_off3_inb k)).toLoadRect X8) (arg13.view.readAt (Elt F) (Rect.unit (s := S16x512x128) (k0_off5 k) S1x512x128.size (k0_off5_inb k)).toLoadRect X13)) := by
  unfold tripL_k0_t1 trip_k0_t1
  dsimp only

  rw [View.read_writes_cons_put _ _ _ _ _ (off5_eq k), View.read_writes_cons_put _ _ _ _ _ (off4_eq k), View.writes_nil]
  rfl

theorem trip1_sum
  (X4 : BufTy.Contents (Elt F) arg4.view.ty)
  (X5 : BufTy.Contents (Elt F) arg5.view.ty)
  (X8 : BufTy.Contents (Elt F) arg8.view.ty)
  (X9 : BufTy.Contents (Elt F) arg9.view.ty) (k : Fin k0_t1_loop.trips)
  (X13 : BufTy.Contents (Elt F) arg13.view.ty)
  (X14 : BufTy.Contents (Elt F) arg14.view.ty)
  (X15 : BufTy.Contents (Elt F) arg15.view.ty) :
    arg14.view.read (Elt F) (arg14.view.writes (Elt F) X14 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 k X13 X14 X15).2.1)
      = VecWindow.put (VecWindow.put (arg14.view.read (Elt F) X14) ![2 * k.val, 0, 0] ![1, 512, 128]
          (sumMeta (arg4.view.readAt (Elt F) (Rect.unit (s := S8x512x128) (k0_off2 k) S1x512x128.size (k0_off2_inb k)).toLoadRect X4) (arg8.view.readAt (Elt F) (Rect.unit (s := S8x128x128) (k0_off3 k) S1x128x128.size (k0_off3_inb k)).toLoadRect X8) (arg13.view.readAt (Elt F) (Rect.unit (s := S16x512x128) (k0_off4 k) S1x512x128.size (k0_off4_inb k)).toLoadRect X13) (arg14.view.readAt (Elt F) (Rect.unit (s := S16x512x128) (k0_off4 k) S1x512x128.size (k0_off4_inb k)).toLoadRect X14)))
          ![2 * k.val + 1, 0, 0] ![1, 512, 128]
          (sumMeta (arg5.view.readAt (Elt F) (Rect.unit (s := S8x512x128) (k0_off2 k) S1x512x128.size (k0_off2_inb k)).toLoadRect X5) (arg8.view.readAt (Elt F) (Rect.unit (s := S8x128x128) (k0_off3 k) S1x128x128.size (k0_off3_inb k)).toLoadRect X8) (arg13.view.readAt (Elt F) (Rect.unit (s := S16x512x128) (k0_off5 k) S1x512x128.size (k0_off5_inb k)).toLoadRect X13) (arg14.view.readAt (Elt F) (Rect.unit (s := S16x512x128) (k0_off5 k) S1x512x128.size (k0_off5_inb k)).toLoadRect X14)) := by
  unfold tripL_k0_t1 trip_k0_t1
  dsimp only

  rw [View.read_writes_cons_put _ _ _ _ _ (off5_eq k), View.read_writes_cons_put _ _ _ _ _ (off4_eq k), View.writes_nil]
  rfl

theorem trip1_acc
  (X4 : BufTy.Contents (Elt F) arg4.view.ty)
  (X5 : BufTy.Contents (Elt F) arg5.view.ty)
  (X8 : BufTy.Contents (Elt F) arg8.view.ty)
  (X9 : BufTy.Contents (Elt F) arg9.view.ty) (k : Fin k0_t1_loop.trips)
  (X13 : BufTy.Contents (Elt F) arg13.view.ty)
  (X14 : BufTy.Contents (Elt F) arg14.view.ty)
  (X15 : BufTy.Contents (Elt F) arg15.view.ty) :
    arg15.view.read (Elt F) (arg15.view.writes (Elt F) X15 (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 k X13 X14 X15).2.2)
      = VecWindow.put (VecWindow.put (arg15.view.read (Elt F) X15) ![2 * k.val, 0, 0] ![1, 512, 128]
          (accMeta (arg4.view.readAt (Elt F) (Rect.unit (s := S8x512x128) (k0_off2 k) S1x512x128.size (k0_off2_inb k)).toLoadRect X4) (arg8.view.readAt (Elt F) (Rect.unit (s := S8x128x128) (k0_off3 k) S1x128x128.size (k0_off3_inb k)).toLoadRect X8) (arg9.view.readAt (Elt F) (Rect.unit (s := S8x128x128) (k0_off3 k) S1x128x128.size (k0_off3_inb k)).toLoadRect X9) (arg13.view.readAt (Elt F) (Rect.unit (s := S16x512x128) (k0_off4 k) S1x512x128.size (k0_off4_inb k)).toLoadRect X13) (arg15.view.readAt (Elt F) (Rect.unit (s := S16x512x128) (k0_off4 k) S1x512x128.size (k0_off4_inb k)).toLoadRect X15)))
          ![2 * k.val + 1, 0, 0] ![1, 512, 128]
          (accMeta (arg5.view.readAt (Elt F) (Rect.unit (s := S8x512x128) (k0_off2 k) S1x512x128.size (k0_off2_inb k)).toLoadRect X5) (arg8.view.readAt (Elt F) (Rect.unit (s := S8x128x128) (k0_off3 k) S1x128x128.size (k0_off3_inb k)).toLoadRect X8) (arg9.view.readAt (Elt F) (Rect.unit (s := S8x128x128) (k0_off3 k) S1x128x128.size (k0_off3_inb k)).toLoadRect X9) (arg13.view.readAt (Elt F) (Rect.unit (s := S16x512x128) (k0_off5 k) S1x512x128.size (k0_off5_inb k)).toLoadRect X13) (arg15.view.readAt (Elt F) (Rect.unit (s := S16x512x128) (k0_off5 k) S1x512x128.size (k0_off5_inb k)).toLoadRect X15)) := by
  unfold tripL_k0_t1 trip_k0_t1
  dsimp only

  rw [View.read_writes_cons_put _ _ _ _ _ (off5_eq k), View.read_writes_cons_put _ _ _ _ _ (off4_eq k), View.writes_nil]
  rfl

theorem trip2_max
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t2_loop.trips)
  (X13 : BufTy.Contents (Elt F) arg13.view.ty)
  (X14 : BufTy.Contents (Elt F) arg14.view.ty)
  (X15 : BufTy.Contents (Elt F) arg15.view.ty) :
    arg13.view.read (Elt F) (arg13.view.writes (Elt F) X13 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 k X13 X14 X15).1)
      = VecWindow.put (VecWindow.put (arg13.view.read (Elt F) X13) ![2 * k.val, 0, 0] ![1, 512, 128]
          (maxFull (arg4.view.readAt (Elt F) (Rect.unit (s := S8x512x128) (k0_off6 k) S1x512x128.size (k0_off6_inb k)).toLoadRect X4) (arg6.view.readAt (Elt F) (Rect.unit (s := S8x512x128) (k0_off6 k) S1x512x128.size (k0_off6_inb k)).toLoadRect X6) (arg13.view.readAt (Elt F) (Rect.unit (s := S16x512x128) (k0_off7 k) S1x512x128.size (k0_off7_inb k)).toLoadRect X13)))
          ![2 * k.val + 1, 0, 0] ![1, 512, 128]
          (maxFull (arg5.view.readAt (Elt F) (Rect.unit (s := S8x512x128) (k0_off6 k) S1x512x128.size (k0_off6_inb k)).toLoadRect X5) (arg6.view.readAt (Elt F) (Rect.unit (s := S8x512x128) (k0_off6 k) S1x512x128.size (k0_off6_inb k)).toLoadRect X6) (arg13.view.readAt (Elt F) (Rect.unit (s := S16x512x128) (k0_off8 k) S1x512x128.size (k0_off8_inb k)).toLoadRect X13)) := by
  unfold tripL_k0_t2 trip_k0_t2
  dsimp only

  rw [View.read_writes_cons_put _ _ _ _ _ (off8_eq k), View.read_writes_cons_put _ _ _ _ _ (off7_eq k), View.writes_nil]
  rfl

theorem trip2_sum
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t2_loop.trips)
  (X13 : BufTy.Contents (Elt F) arg13.view.ty)
  (X14 : BufTy.Contents (Elt F) arg14.view.ty)
  (X15 : BufTy.Contents (Elt F) arg15.view.ty) :
    arg14.view.read (Elt F) (arg14.view.writes (Elt F) X14 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 k X13 X14 X15).2.1)
      = VecWindow.put (VecWindow.put (arg14.view.read (Elt F) X14) ![2 * k.val, 0, 0] ![1, 512, 128]
          (sumFull (arg4.view.readAt (Elt F) (Rect.unit (s := S8x512x128) (k0_off6 k) S1x512x128.size (k0_off6_inb k)).toLoadRect X4) (arg6.view.readAt (Elt F) (Rect.unit (s := S8x512x128) (k0_off6 k) S1x512x128.size (k0_off6_inb k)).toLoadRect X6) (arg13.view.readAt (Elt F) (Rect.unit (s := S16x512x128) (k0_off7 k) S1x512x128.size (k0_off7_inb k)).toLoadRect X13) (arg14.view.readAt (Elt F) (Rect.unit (s := S16x512x128) (k0_off7 k) S1x512x128.size (k0_off7_inb k)).toLoadRect X14)))
          ![2 * k.val + 1, 0, 0] ![1, 512, 128]
          (sumFull (arg5.view.readAt (Elt F) (Rect.unit (s := S8x512x128) (k0_off6 k) S1x512x128.size (k0_off6_inb k)).toLoadRect X5) (arg6.view.readAt (Elt F) (Rect.unit (s := S8x512x128) (k0_off6 k) S1x512x128.size (k0_off6_inb k)).toLoadRect X6) (arg13.view.readAt (Elt F) (Rect.unit (s := S16x512x128) (k0_off8 k) S1x512x128.size (k0_off8_inb k)).toLoadRect X13) (arg14.view.readAt (Elt F) (Rect.unit (s := S16x512x128) (k0_off8 k) S1x512x128.size (k0_off8_inb k)).toLoadRect X14)) := by
  unfold tripL_k0_t2 trip_k0_t2
  dsimp only

  rw [View.read_writes_cons_put _ _ _ _ _ (off8_eq k), View.read_writes_cons_put _ _ _ _ _ (off7_eq k), View.writes_nil]
  rfl

theorem trip2_acc
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t2_loop.trips)
  (X13 : BufTy.Contents (Elt F) arg13.view.ty)
  (X14 : BufTy.Contents (Elt F) arg14.view.ty)
  (X15 : BufTy.Contents (Elt F) arg15.view.ty) :
    arg15.view.read (Elt F) (arg15.view.writes (Elt F) X15 (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 k X13 X14 X15).2.2)
      = VecWindow.put (VecWindow.put (arg15.view.read (Elt F) X15) ![2 * k.val, 0, 0] ![1, 512, 128]
          (accFull (arg4.view.readAt (Elt F) (Rect.unit (s := S8x512x128) (k0_off6 k) S1x512x128.size (k0_off6_inb k)).toLoadRect X4) (arg6.view.readAt (Elt F) (Rect.unit (s := S8x512x128) (k0_off6 k) S1x512x128.size (k0_off6_inb k)).toLoadRect X6) (arg7.view.readAt (Elt F) (Rect.unit (s := S8x512x128) (k0_off6 k) S1x512x128.size (k0_off6_inb k)).toLoadRect X7) (arg13.view.readAt (Elt F) (Rect.unit (s := S16x512x128) (k0_off7 k) S1x512x128.size (k0_off7_inb k)).toLoadRect X13) (arg15.view.readAt (Elt F) (Rect.unit (s := S16x512x128) (k0_off7 k) S1x512x128.size (k0_off7_inb k)).toLoadRect X15)))
          ![2 * k.val + 1, 0, 0] ![1, 512, 128]
          (accFull (arg5.view.readAt (Elt F) (Rect.unit (s := S8x512x128) (k0_off6 k) S1x512x128.size (k0_off6_inb k)).toLoadRect X5) (arg6.view.readAt (Elt F) (Rect.unit (s := S8x512x128) (k0_off6 k) S1x512x128.size (k0_off6_inb k)).toLoadRect X6) (arg7.view.readAt (Elt F) (Rect.unit (s := S8x512x128) (k0_off6 k) S1x512x128.size (k0_off6_inb k)).toLoadRect X7) (arg13.view.readAt (Elt F) (Rect.unit (s := S16x512x128) (k0_off8 k) S1x512x128.size (k0_off8_inb k)).toLoadRect X13) (arg15.view.readAt (Elt F) (Rect.unit (s := S16x512x128) (k0_off8 k) S1x512x128.size (k0_off8_inb k)).toLoadRect X15)) := by
  unfold tripL_k0_t2 trip_k0_t2
  dsimp only

  rw [View.read_writes_cons_put _ _ _ _ _ (off8_eq k), View.read_writes_cons_put _ _ _ _ _ (off7_eq k), View.writes_nil]
  rfl

theorem trip3_max
  (v18 v20 : Vec F S1x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t3_loop.trips)
  (X12 : BufTy.Contents (Elt F) arg12.view.ty)
  (X13 : BufTy.Contents (Elt F) arg13.view.ty)
  (X14 : BufTy.Contents (Elt F) arg14.view.ty)
  (X15 : BufTy.Contents (Elt F) arg15.view.ty) :
    arg13.view.read (Elt F) (arg13.view.writes (Elt F) X13 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 k X12 X13 X14 X15).2.1)
      = VecWindow.put (VecWindow.put (arg13.view.read (Elt F) X13) ![2 * k.val, 0, 0] ![1, 512, 128]
          (maxDiag (arg4.view.readAt (Elt F) (Rect.unit (s := S8x512x128) (k0_off9 k) S1x512x128.size (k0_off9_inb k)).toLoadRect X4) (arg6.view.readAt (Elt F) (Rect.unit (s := S8x512x128) (k0_off9 k) S1x512x128.size (k0_off9_inb k)).toLoadRect X6) (arg13.view.readAt (Elt F) (Rect.unit (s := S16x512x128) (k0_off10 k) S1x512x128.size (k0_off10_inb k)).toLoadRect X13)))
          ![2 * k.val + 1, 0, 0] ![1, 512, 128]
          (maxDiag (arg5.view.readAt (Elt F) (Rect.unit (s := S8x512x128) (k0_off9 k) S1x512x128.size (k0_off9_inb k)).toLoadRect X5) (arg6.view.readAt (Elt F) (Rect.unit (s := S8x512x128) (k0_off9 k) S1x512x128.size (k0_off9_inb k)).toLoadRect X6) (arg13.view.readAt (Elt F) (Rect.unit (s := S16x512x128) (k0_off11 k) S1x512x128.size (k0_off11_inb k)).toLoadRect X13)) := by
  unfold tripL_k0_t3 trip_k0_t3
  dsimp only
  try unfold trip_k0_t3.sl.HW_arg13_2
  rw [View.read_writes_cons_put _ _ _ _ _ (off11_eq k), View.read_writes_cons_put _ _ _ _ _ (off10_eq k), View.writes_nil]
  rfl

theorem trip3_sum
  (v18 v20 : Vec F S1x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t3_loop.trips)
  (X12 : BufTy.Contents (Elt F) arg12.view.ty)
  (X13 : BufTy.Contents (Elt F) arg13.view.ty)
  (X14 : BufTy.Contents (Elt F) arg14.view.ty)
  (X15 : BufTy.Contents (Elt F) arg15.view.ty) :
    arg14.view.read (Elt F) (arg14.view.writes (Elt F) X14 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 k X12 X13 X14 X15).2.2.1)
      = VecWindow.put (VecWindow.put (arg14.view.read (Elt F) X14) ![2 * k.val, 0, 0] ![1, 512, 128]
          (sumDiag (arg4.view.readAt (Elt F) (Rect.unit (s := S8x512x128) (k0_off9 k) S1x512x128.size (k0_off9_inb k)).toLoadRect X4) (arg6.view.readAt (Elt F) (Rect.unit (s := S8x512x128) (k0_off9 k) S1x512x128.size (k0_off9_inb k)).toLoadRect X6) (arg13.view.readAt (Elt F) (Rect.unit (s := S16x512x128) (k0_off10 k) S1x512x128.size (k0_off10_inb k)).toLoadRect X13) (arg14.view.readAt (Elt F) (Rect.unit (s := S16x512x128) (k0_off10 k) S1x512x128.size (k0_off10_inb k)).toLoadRect X14)))
          ![2 * k.val + 1, 0, 0] ![1, 512, 128]
          (sumDiag (arg5.view.readAt (Elt F) (Rect.unit (s := S8x512x128) (k0_off9 k) S1x512x128.size (k0_off9_inb k)).toLoadRect X5) (arg6.view.readAt (Elt F) (Rect.unit (s := S8x512x128) (k0_off9 k) S1x512x128.size (k0_off9_inb k)).toLoadRect X6) (arg13.view.readAt (Elt F) (Rect.unit (s := S16x512x128) (k0_off11 k) S1x512x128.size (k0_off11_inb k)).toLoadRect X13) (arg14.view.readAt (Elt F) (Rect.unit (s := S16x512x128) (k0_off11 k) S1x512x128.size (k0_off11_inb k)).toLoadRect X14)) := by
  unfold tripL_k0_t3 trip_k0_t3
  dsimp only
  try unfold trip_k0_t3.sl.HW_arg14_2
  rw [View.read_writes_cons_put _ _ _ _ _ (off11_eq k), View.read_writes_cons_put _ _ _ _ _ (off10_eq k), View.writes_nil]
  rfl

theorem trip3_acc
  (v18 v20 : Vec F S1x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t3_loop.trips)
  (X12 : BufTy.Contents (Elt F) arg12.view.ty)
  (X13 : BufTy.Contents (Elt F) arg13.view.ty)
  (X14 : BufTy.Contents (Elt F) arg14.view.ty)
  (X15 : BufTy.Contents (Elt F) arg15.view.ty) :
    arg15.view.read (Elt F) (arg15.view.writes (Elt F) X15 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 k X12 X13 X14 X15).2.2.2)
      = VecWindow.put (VecWindow.put (arg15.view.read (Elt F) X15) ![2 * k.val, 0, 0] ![1, 512, 128]
          (accDiag (arg4.view.readAt (Elt F) (Rect.unit (s := S8x512x128) (k0_off9 k) S1x512x128.size (k0_off9_inb k)).toLoadRect X4) (arg6.view.readAt (Elt F) (Rect.unit (s := S8x512x128) (k0_off9 k) S1x512x128.size (k0_off9_inb k)).toLoadRect X6) (arg7.view.readAt (Elt F) (Rect.unit (s := S8x512x128) (k0_off9 k) S1x512x128.size (k0_off9_inb k)).toLoadRect X7) (arg13.view.readAt (Elt F) (Rect.unit (s := S16x512x128) (k0_off10 k) S1x512x128.size (k0_off10_inb k)).toLoadRect X13) (arg15.view.readAt (Elt F) (Rect.unit (s := S16x512x128) (k0_off10 k) S1x512x128.size (k0_off10_inb k)).toLoadRect X15)))
          ![2 * k.val + 1, 0, 0] ![1, 512, 128]
          (accDiag (arg5.view.readAt (Elt F) (Rect.unit (s := S8x512x128) (k0_off9 k) S1x512x128.size (k0_off9_inb k)).toLoadRect X5) (arg6.view.readAt (Elt F) (Rect.unit (s := S8x512x128) (k0_off9 k) S1x512x128.size (k0_off9_inb k)).toLoadRect X6) (arg7.view.readAt (Elt F) (Rect.unit (s := S8x512x128) (k0_off9 k) S1x512x128.size (k0_off9_inb k)).toLoadRect X7) (arg13.view.readAt (Elt F) (Rect.unit (s := S16x512x128) (k0_off11 k) S1x512x128.size (k0_off11_inb k)).toLoadRect X13) (arg15.view.readAt (Elt F) (Rect.unit (s := S16x512x128) (k0_off11 k) S1x512x128.size (k0_off11_inb k)).toLoadRect X15)) := by
  unfold tripL_k0_t3 trip_k0_t3
  dsimp only
  try unfold trip_k0_t3.sl.HW_arg15_2
  rw [View.read_writes_cons_put _ _ _ _ _ (off11_eq k), View.read_writes_cons_put _ _ _ _ _ (off10_eq k), View.writes_nil]
  rfl

theorem trip3_out
  (v18 v20 : Vec F S1x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty) (k : Fin k0_t3_loop.trips)
  (X12 : BufTy.Contents (Elt F) arg12.view.ty)
  (X13 : BufTy.Contents (Elt F) arg13.view.ty)
  (X14 : BufTy.Contents (Elt F) arg14.view.ty)
  (X15 : BufTy.Contents (Elt F) arg15.view.ty) :
    arg12.view.read (Elt F) (arg12.view.writes (Elt F) X12 (tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 k X12 X13 X14 X15).1)
      = VecWindow.put (arg12.view.read (Elt F) X12) ![k.val, 0, 0] ![1, 512, 128]
          (outTile v18 v20 (accDiag (arg4.view.readAt (Elt F) (Rect.unit (s := S8x512x128) (k0_off9 k) S1x512x128.size (k0_off9_inb k)).toLoadRect X4) (arg6.view.readAt (Elt F) (Rect.unit (s := S8x512x128) (k0_off9 k) S1x512x128.size (k0_off9_inb k)).toLoadRect X6) (arg7.view.readAt (Elt F) (Rect.unit (s := S8x512x128) (k0_off9 k) S1x512x128.size (k0_off9_inb k)).toLoadRect X7) (arg13.view.readAt (Elt F) (Rect.unit (s := S16x512x128) (k0_off10 k) S1x512x128.size (k0_off10_inb k)).toLoadRect X13) (arg15.view.readAt (Elt F) (Rect.unit (s := S16x512x128) (k0_off10 k) S1x512x128.size (k0_off10_inb k)).toLoadRect X15)) (sumDiag (arg4.view.readAt (Elt F) (Rect.unit (s := S8x512x128) (k0_off9 k) S1x512x128.size (k0_off9_inb k)).toLoadRect X4) (arg6.view.readAt (Elt F) (Rect.unit (s := S8x512x128) (k0_off9 k) S1x512x128.size (k0_off9_inb k)).toLoadRect X6) (arg13.view.readAt (Elt F) (Rect.unit (s := S16x512x128) (k0_off10 k) S1x512x128.size (k0_off10_inb k)).toLoadRect X13) (arg14.view.readAt (Elt F) (Rect.unit (s := S16x512x128) (k0_off10 k) S1x512x128.size (k0_off10_inb k)).toLoadRect X14)) (accDiag (arg5.view.readAt (Elt F) (Rect.unit (s := S8x512x128) (k0_off9 k) S1x512x128.size (k0_off9_inb k)).toLoadRect X5) (arg6.view.readAt (Elt F) (Rect.unit (s := S8x512x128) (k0_off9 k) S1x512x128.size (k0_off9_inb k)).toLoadRect X6) (arg7.view.readAt (Elt F) (Rect.unit (s := S8x512x128) (k0_off9 k) S1x512x128.size (k0_off9_inb k)).toLoadRect X7) (arg13.view.readAt (Elt F) (Rect.unit (s := S16x512x128) (k0_off11 k) S1x512x128.size (k0_off11_inb k)).toLoadRect X13) (arg15.view.readAt (Elt F) (Rect.unit (s := S16x512x128) (k0_off11 k) S1x512x128.size (k0_off11_inb k)).toLoadRect X15)) (sumDiag (arg5.view.readAt (Elt F) (Rect.unit (s := S8x512x128) (k0_off9 k) S1x512x128.size (k0_off9_inb k)).toLoadRect X5) (arg6.view.readAt (Elt F) (Rect.unit (s := S8x512x128) (k0_off9 k) S1x512x128.size (k0_off9_inb k)).toLoadRect X6) (arg13.view.readAt (Elt F) (Rect.unit (s := S16x512x128) (k0_off11 k) S1x512x128.size (k0_off11_inb k)).toLoadRect X13) (arg14.view.readAt (Elt F) (Rect.unit (s := S16x512x128) (k0_off11 k) S1x512x128.size (k0_off11_inb k)).toLoadRect X14))) := by
  unfold tripL_k0_t3 trip_k0_t3
  dsimp only
  rw [View.read_writes_cons_put _ _ _ _ _ (off9_eq k), View.writes_nil]
  unfold trip_k0_t3.sl.v138 trip_k0_t3.sl.v142 trip_k0_t3.sl.v147
  unfold trip_k0_t3.sl.v133 trip_k0_t3.sl.v137 trip_k0_t3.sl.v132 trip_k0_t3.sl.v136 trip_k0_t3.sl.HW_arg15_2 trip_k0_t3.sl.HW_arg14_2
  rw [readCov_pair, readCov_pair, View.readCov_cons_toLoadRect, View.readCov_cons_toLoadRect]
  rfl

end Trips

end Cert.KernelIdeal.Attn

end
-- ==== Proof.AttnLoops.lean ====
/-
What the attention's three counted loops leave, whole: every plane of the three running arrays one step further, and on
the diagonal the output block.
-/
module

public import proofs.«01_k».proof.Proof.Gen.KernelIdeal.Loops
public import proofs.«01_k».proof.Proof.AttnTrips
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

open Cert.Stack

/-! ## The stacks after a step -/

/-- The head of plane `r`: planes `2 h` and `2 h + 1` belong to head `h`. -/
def headOf (r : Fin 16) : Fin 8 := ⟨r.val / 2, by omega⟩

/-- The queries of plane `r`: the first half's on even planes, the second half's on odd ones. -/
def queries (Q0 Q1 : Vec F S8x512x128 .bf16) (r : Fin 16) : Vec F S1x512x128 .bf16 :=
  if r.val % 2 = 0 then plane Q0 (headOf r) else plane Q1 (headOf r)

theorem queries_even (Q0 Q1 : Vec F S8x512x128 .bf16) (k : Fin 8) (h : 2 * k.val < 16) :
    queries Q0 Q1 ⟨2 * k.val, h⟩ = plane Q0 k := by
  have e : headOf ⟨2 * k.val, h⟩ = k := Fin.ext (by show 2 * k.val / 2 = k.val; omega)
  unfold queries
  rw [if_pos (by show 2 * k.val % 2 = 0; omega), e]

theorem queries_odd (Q0 Q1 : Vec F S8x512x128 .bf16) (k : Fin 8) (h : 2 * k.val + 1 < 16) :
    queries Q0 Q1 ⟨2 * k.val + 1, h⟩ = plane Q1 k := by
  have e : headOf ⟨2 * k.val + 1, h⟩ = k := Fin.ext (by show (2 * k.val + 1) / 2 = k.val; omega)
  unfold queries
  rw [if_neg (by show ¬ (2 * k.val + 1) % 2 = 0; omega), e]

theorem headOf_even (k : Fin 8) (h : 2 * k.val < 16) : headOf ⟨2 * k.val, h⟩ = k :=
  Fin.ext (by show 2 * k.val / 2 = k.val; omega)

theorem headOf_odd (k : Fin 8) (h : 2 * k.val + 1 < 16) : headOf ⟨2 * k.val + 1, h⟩ = k :=
  Fin.ext (by show (2 * k.val + 1) / 2 = k.val; omega)

theorem plane_upTo_even {α : Type} (k : ℕ) (h : 2 * k < 16) (M M' : S16x512x128.Idx → α) :
    plane (n := 16) (a := 512) (b := 128) (upTo (n := 16) (a := 512) (b := 128) (2 * k) M M') ⟨2 * k, h⟩
      = plane (n := 16) (a := 512) (b := 128) M ⟨2 * k, h⟩ :=
  plane_upTo _ _ _ _ (Nat.le_refl _)

theorem plane_upTo_odd {α : Type} (k : ℕ) (h : 2 * k + 1 < 16) (M M' : S16x512x128.Idx → α) :
    plane (n := 16) (a := 512) (b := 128) (upTo (n := 16) (a := 512) (b := 128) (2 * k) M M') ⟨2 * k + 1, h⟩
      = plane (n := 16) (a := 512) (b := 128) M ⟨2 * k + 1, h⟩ :=
  plane_upTo _ _ _ _ (Nat.le_succ _)

/-- Putting the two planes of head `k`. -/
theorem put_pair {α : Type} (k : ℕ) (hk : k < 8) (M : S16x512x128.Idx → α) (f : Fin 16 → S1x512x128.Idx → α)
    (w w' : S1x512x128.Idx → α) (hw : w = f ⟨2 * k, by omega⟩) (hw' : w' = f ⟨2 * k + 1, by omega⟩) :
    VecWindow.put (VecWindow.put (upTo (2 * k) M (stack f)) ![2 * k, 0, 0] ![1, 512, 128] w) ![2 * k + 1, 0, 0] ![1, 512, 128] w'
      = upTo (2 * (k + 1)) M (stack f) := by
  have h1 := put_upTo (⟨2 * k, by omega⟩ : Fin 16) M (stack f) w (by rw [plane_stack, hw])
  have h2 := put_upTo (⟨2 * k + 1, by omega⟩ : Fin 16) M (stack f) w' (by rw [plane_stack, hw'])
  exact (congrArg (fun Z => VecWindow.put Z ![2 * k + 1, 0, 0] ![1, 512, 128] w') h1).trans h2

/-- The running maxima after a step against the meta tokens. -/
def stackMaxMeta (Q0 Q1 : Vec F S8x512x128 .bf16) (K : Vec F S8x128x128 .bf16) (M : Vec F S16x512x128 .f32) : Vec F S16x512x128 .f32 :=
  stack fun r : Fin 16 => maxMeta (queries Q0 Q1 r) (plane K (headOf r)) (plane M r)
/-- The running sums after a step against the meta tokens. -/
def stackSumMeta (Q0 Q1 : Vec F S8x512x128 .bf16) (K : Vec F S8x128x128 .bf16) (M L : Vec F S16x512x128 .f32) : Vec F S16x512x128 .f32 :=
  stack fun r : Fin 16 => sumMeta (queries Q0 Q1 r) (plane K (headOf r)) (plane M r) (plane L r)
/-- The accumulators after a step against the meta tokens. -/
def stackAccMeta (Q0 Q1 : Vec F S8x512x128 .bf16) (K V : Vec F S8x128x128 .bf16) (M A : Vec F S16x512x128 .f32) : Vec F S16x512x128 .f32 :=
  stack fun r : Fin 16 => accMeta (queries Q0 Q1 r) (plane K (headOf r)) (plane V (headOf r)) (plane M r) (plane A r)

/-- The running maxima after a step against a whole tile. -/
def stackMaxFull (Q0 Q1 : Vec F S8x512x128 .bf16) (K : Vec F S8x512x128 .bf16) (M : Vec F S16x512x128 .f32) : Vec F S16x512x128 .f32 :=
  stack fun r : Fin 16 => maxFull (queries Q0 Q1 r) (plane K (headOf r)) (plane M r)
/-- The running sums after a step against a whole tile. -/
def stackSumFull (Q0 Q1 : Vec F S8x512x128 .bf16) (K : Vec F S8x512x128 .bf16) (M L : Vec F S16x512x128 .f32) : Vec F S16x512x128 .f32 :=
  stack fun r : Fin 16 => sumFull (queries Q0 Q1 r) (plane K (headOf r)) (plane M r) (plane L r)
/-- The accumulators after a step against a whole tile. -/
def stackAccFull (Q0 Q1 : Vec F S8x512x128 .bf16) (K V : Vec F S8x512x128 .bf16) (M A : Vec F S16x512x128 .f32) : Vec F S16x512x128 .f32 :=
  stack fun r : Fin 16 => accFull (queries Q0 Q1 r) (plane K (headOf r)) (plane V (headOf r)) (plane M r) (plane A r)

/-- The running maxima after a step against the diagonal tile. -/
def stackMaxDiag (Q0 Q1 : Vec F S8x512x128 .bf16) (K : Vec F S8x512x128 .bf16) (M : Vec F S16x512x128 .f32) : Vec F S16x512x128 .f32 :=
  stack fun r : Fin 16 => maxDiag (queries Q0 Q1 r) (plane K (headOf r)) (plane M r)
/-- The running sums after a step against the diagonal tile. -/
def stackSumDiag (Q0 Q1 : Vec F S8x512x128 .bf16) (K : Vec F S8x512x128 .bf16) (M L : Vec F S16x512x128 .f32) : Vec F S16x512x128 .f32 :=
  stack fun r : Fin 16 => sumDiag (queries Q0 Q1 r) (plane K (headOf r)) (plane M r) (plane L r)
/-- The accumulators after a step against the diagonal tile. -/
def stackAccDiag (Q0 Q1 : Vec F S8x512x128 .bf16) (K V : Vec F S8x512x128 .bf16) (M A : Vec F S16x512x128 .f32) : Vec F S16x512x128 .f32 :=
  stack fun r : Fin 16 => accDiag (queries Q0 Q1 r) (plane K (headOf r)) (plane V (headOf r)) (plane M r) (plane A r)

/-- The output block from the accumulators and the sums. -/
def stackOut (lam g : Vec F S1x128 .f32) (A L : Vec F S16x512x128 .f32) : Vec F S8x512x128 .bf16 :=
  stack fun h : Fin 8 => outTile lam g (plane A (⟨2 * h.val, by omega⟩ : Fin 16)) (plane L (⟨2 * h.val, by omega⟩ : Fin 16))
    (plane A (⟨2 * h.val + 1, by omega⟩ : Fin 16)) (plane L (⟨2 * h.val + 1, by omega⟩ : Fin 16))

/-! ## Loads of one plane -/

theorem ld_off2 {sp : Space} {e : EltTy} (v : View sig .tc sp S8x512x128 e) (f : v.ty.Contents (Elt F)) (k : Fin k0_t1_loop.trips) :
    v.readAt (Elt F) (Rect.unit (s := S8x512x128) (k0_off2 k) ![1, 512, 128] (k0_off2_inb k)).toLoadRect f
      = plane (v.read (Elt F) f) (⟨k.val, by have := Nat.lt_of_lt_of_le k.isLt k0_t1_abs.2.1; omega⟩ : Fin 8) := by
  refine (View.readAt_unit v f (k0_off2_inb k) (off2_eq k) (fun c => by rw [← off2_eq k]; exact k0_off2_inb k c)).trans ?_
  exact window_plane (v.read (Elt F) f) (⟨k.val, _⟩ : Fin 8) _

theorem ld_off3 {sp : Space} {e : EltTy} (v : View sig .tc sp S8x128x128 e) (f : v.ty.Contents (Elt F)) (k : Fin k0_t1_loop.trips) :
    v.readAt (Elt F) (Rect.unit (s := S8x128x128) (k0_off3 k) ![1, 128, 128] (k0_off3_inb k)).toLoadRect f
      = plane (v.read (Elt F) f) (⟨k.val, by have := Nat.lt_of_lt_of_le k.isLt k0_t1_abs.2.1; omega⟩ : Fin 8) := by
  refine (View.readAt_unit v f (k0_off3_inb k) (off3_eq k) (fun c => by rw [← off3_eq k]; exact k0_off3_inb k c)).trans ?_
  exact window_plane (v.read (Elt F) f) (⟨k.val, _⟩ : Fin 8) _

theorem ld_off4 {sp : Space} {e : EltTy} (v : View sig .tc sp S16x512x128 e) (f : v.ty.Contents (Elt F)) (k : Fin k0_t1_loop.trips) :
    v.readAt (Elt F) (Rect.unit (s := S16x512x128) (k0_off4 k) ![1, 512, 128] (k0_off4_inb k)).toLoadRect f
      = plane (v.read (Elt F) f) (⟨2 * k.val, by have := Nat.lt_of_lt_of_le k.isLt k0_t1_abs.2.1; omega⟩ : Fin 16) := by
  refine (View.readAt_unit v f (k0_off4_inb k) (off4_eq k) (fun c => by rw [← off4_eq k]; exact k0_off4_inb k c)).trans ?_
  exact window_plane (v.read (Elt F) f) (⟨2 * k.val, _⟩ : Fin 16) _

theorem ld_off5 {sp : Space} {e : EltTy} (v : View sig .tc sp S16x512x128 e) (f : v.ty.Contents (Elt F)) (k : Fin k0_t1_loop.trips) :
    v.readAt (Elt F) (Rect.unit (s := S16x512x128) (k0_off5 k) ![1, 512, 128] (k0_off5_inb k)).toLoadRect f
      = plane (v.read (Elt F) f) (⟨2 * k.val + 1, by have := Nat.lt_of_lt_of_le k.isLt k0_t1_abs.2.1; omega⟩ : Fin 16) := by
  refine (View.readAt_unit v f (k0_off5_inb k) (off5_eq k) (fun c => by rw [← off5_eq k]; exact k0_off5_inb k c)).trans ?_
  exact window_plane (v.read (Elt F) f) (⟨2 * k.val + 1, _⟩ : Fin 16) _

theorem ld_off6 {sp : Space} {e : EltTy} (v : View sig .tc sp S8x512x128 e) (f : v.ty.Contents (Elt F)) (k : Fin k0_t2_loop.trips) :
    v.readAt (Elt F) (Rect.unit (s := S8x512x128) (k0_off6 k) ![1, 512, 128] (k0_off6_inb k)).toLoadRect f
      = plane (v.read (Elt F) f) (⟨k.val, by have := Nat.lt_of_lt_of_le k.isLt k0_t2_abs.2.1; omega⟩ : Fin 8) := by
  refine (View.readAt_unit v f (k0_off6_inb k) (off6_eq k) (fun c => by rw [← off6_eq k]; exact k0_off6_inb k c)).trans ?_
  exact window_plane (v.read (Elt F) f) (⟨k.val, _⟩ : Fin 8) _

theorem ld_off7 {sp : Space} {e : EltTy} (v : View sig .tc sp S16x512x128 e) (f : v.ty.Contents (Elt F)) (k : Fin k0_t2_loop.trips) :
    v.readAt (Elt F) (Rect.unit (s := S16x512x128) (k0_off7 k) ![1, 512, 128] (k0_off7_inb k)).toLoadRect f
      = plane (v.read (Elt F) f) (⟨2 * k.val, by have := Nat.lt_of_lt_of_le k.isLt k0_t2_abs.2.1; omega⟩ : Fin 16) := by
  refine (View.readAt_unit v f (k0_off7_inb k) (off7_eq k) (fun c => by rw [← off7_eq k]; exact k0_off7_inb k c)).trans ?_
  exact window_plane (v.read (Elt F) f) (⟨2 * k.val, _⟩ : Fin 16) _

theorem ld_off8 {sp : Space} {e : EltTy} (v : View sig .tc sp S16x512x128 e) (f : v.ty.Contents (Elt F)) (k : Fin k0_t2_loop.trips) :
    v.readAt (Elt F) (Rect.unit (s := S16x512x128) (k0_off8 k) ![1, 512, 128] (k0_off8_inb k)).toLoadRect f
      = plane (v.read (Elt F) f) (⟨2 * k.val + 1, by have := Nat.lt_of_lt_of_le k.isLt k0_t2_abs.2.1; omega⟩ : Fin 16) := by
  refine (View.readAt_unit v f (k0_off8_inb k) (off8_eq k) (fun c => by rw [← off8_eq k]; exact k0_off8_inb k c)).trans ?_
  exact window_plane (v.read (Elt F) f) (⟨2 * k.val + 1, _⟩ : Fin 16) _

theorem ld_off9 {sp : Space} {e : EltTy} (v : View sig .tc sp S8x512x128 e) (f : v.ty.Contents (Elt F)) (k : Fin k0_t3_loop.trips) :
    v.readAt (Elt F) (Rect.unit (s := S8x512x128) (k0_off9 k) ![1, 512, 128] (k0_off9_inb k)).toLoadRect f
      = plane (v.read (Elt F) f) (⟨k.val, by have := Nat.lt_of_lt_of_le k.isLt k0_t3_abs.2.1; omega⟩ : Fin 8) := by
  refine (View.readAt_unit v f (k0_off9_inb k) (off9_eq k) (fun c => by rw [← off9_eq k]; exact k0_off9_inb k c)).trans ?_
  exact window_plane (v.read (Elt F) f) (⟨k.val, _⟩ : Fin 8) _

theorem ld_off10 {sp : Space} {e : EltTy} (v : View sig .tc sp S16x512x128 e) (f : v.ty.Contents (Elt F)) (k : Fin k0_t3_loop.trips) :
    v.readAt (Elt F) (Rect.unit (s := S16x512x128) (k0_off10 k) ![1, 512, 128] (k0_off10_inb k)).toLoadRect f
      = plane (v.read (Elt F) f) (⟨2 * k.val, by have := Nat.lt_of_lt_of_le k.isLt k0_t3_abs.2.1; omega⟩ : Fin 16) := by
  refine (View.readAt_unit v f (k0_off10_inb k) (off10_eq k) (fun c => by rw [← off10_eq k]; exact k0_off10_inb k c)).trans ?_
  exact window_plane (v.read (Elt F) f) (⟨2 * k.val, _⟩ : Fin 16) _

theorem ld_off11 {sp : Space} {e : EltTy} (v : View sig .tc sp S16x512x128 e) (f : v.ty.Contents (Elt F)) (k : Fin k0_t3_loop.trips) :
    v.readAt (Elt F) (Rect.unit (s := S16x512x128) (k0_off11 k) ![1, 512, 128] (k0_off11_inb k)).toLoadRect f
      = plane (v.read (Elt F) f) (⟨2 * k.val + 1, by have := Nat.lt_of_lt_of_le k.isLt k0_t3_abs.2.1; omega⟩ : Fin 16) := by
  refine (View.readAt_unit v f (k0_off11_inb k) (off11_eq k) (fun c => by rw [← off11_eq k]; exact k0_off11_inb k c)).trans ?_
  exact window_plane (v.read (Elt F) f) (⟨2 * k.val + 1, _⟩ : Fin 16) _

/-! ## The loops -/

section Loops
variable (𝒱 : Variants) (c : Dev nD) (bd : Option 𝒱.V) (i : grid0.Coords)
  (arg2 : Memref sig .tc .smem S44 .i32) (harg2 : arg2.IsWhole)
  (arg3 : Memref sig .tc .smem S44 .i32) (harg3 : arg3.IsWhole)
  (arg4 : Memref sig .tc .vmem S8x512x128 .bf16) (harg4 : arg4.IsWhole)
  (arg5 : Memref sig .tc .vmem S8x512x128 .bf16) (harg5 : arg5.IsWhole)
  (arg6 : Memref sig .tc .vmem S8x512x128 .bf16) (harg6 : arg6.IsWhole)
  (arg7 : Memref sig .tc .vmem S8x512x128 .bf16) (harg7 : arg7.IsWhole)
  (arg8 : Memref sig .tc .vmem S8x128x128 .bf16) (harg8 : arg8.IsWhole)
  (arg9 : Memref sig .tc .vmem S8x128x128 .bf16) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S8x512x128 .bf16) (harg12 : arg12.IsWhole)
  (arg13 : Memref sig .tc .vmem S16x512x128 .f32) (harg13 : arg13.IsWhole)
  (arg14 : Memref sig .tc .vmem S16x512x128 .f32) (harg14 : arg14.IsWhole)
  (arg15 : Memref sig .tc .vmem S16x512x128 .f32) (harg15 : arg15.IsWhole)

/-- The meta loop after `k` trips: the planes of the first `k` heads are one step further. -/
theorem loop1_upTo
  (X4 : BufTy.Contents (Elt F) arg4.view.ty)
  (X5 : BufTy.Contents (Elt F) arg5.view.ty)
  (X8 : BufTy.Contents (Elt F) arg8.view.ty)
  (X9 : BufTy.Contents (Elt F) arg9.view.ty)
  (G13 : BufTy.Contents (Elt F) arg13.view.ty)
  (G14 : BufTy.Contents (Elt F) arg14.view.ty)
  (G15 : BufTy.Contents (Elt F) arg15.view.ty) : ∀ k : ℕ, k ≤ 8 →
    arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 k).1)
      = upTo (2 * k) (arg13.view.read (Elt F) G13) (stackMaxMeta (arg4.view.read (Elt F) X4) (arg5.view.read (Elt F) X5) (arg8.view.read (Elt F) X8) (arg13.view.read (Elt F) G13))
    ∧ arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 k).2.1)
      = upTo (2 * k) (arg14.view.read (Elt F) G14) (stackSumMeta (arg4.view.read (Elt F) X4) (arg5.view.read (Elt F) X5) (arg8.view.read (Elt F) X8) (arg13.view.read (Elt F) G13) (arg14.view.read (Elt F) G14))
    ∧ arg15.view.read (Elt F) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 k).2.2)
      = upTo (2 * k) (arg15.view.read (Elt F) G15) (stackAccMeta (arg4.view.read (Elt F) X4) (arg5.view.read (Elt F) X5) (arg8.view.read (Elt F) X8) (arg9.view.read (Elt F) X9) (arg13.view.read (Elt F) G13) (arg15.view.read (Elt F) G15)) := by
  intro k
  induction k with
  | zero =>
    intro _
    rw [pb_k0_t1.eq_1]
    exact ⟨(upTo_zero _ _).symm, (upTo_zero _ _).symm, (upTo_zero _ _).symm⟩
  | succ k ih =>
    intro hk
    have hlt : k < k0_t1_loop.trips := by
      have e : k0_t1_loop.trips = 8 := by decide
      omega
    have ih := ih (by omega)
    rw [show k + 1 = (⟨k, hlt⟩ : Fin k0_t1_loop.trips).val + 1 from rfl, pb_k0_t1_succ]
    obtain ⟨i13, i14, i15⟩ := ih
    refine ⟨?_, ?_, ?_⟩
    · rw [View.writes_append, trip1_max]
      simp only [ld_off2, ld_off3, ld_off4, ld_off5]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]
    · rw [View.writes_append, trip1_sum]
      simp only [ld_off2, ld_off3, ld_off4, ld_off5]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]
    · rw [View.writes_append, trip1_acc]
      simp only [ld_off2, ld_off3, ld_off4, ld_off5]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]

/-- The meta loop, whole. -/
theorem loop1_all
  (X4 : BufTy.Contents (Elt F) arg4.view.ty)
  (X5 : BufTy.Contents (Elt F) arg5.view.ty)
  (X8 : BufTy.Contents (Elt F) arg8.view.ty)
  (X9 : BufTy.Contents (Elt F) arg9.view.ty)
  (G13 : BufTy.Contents (Elt F) arg13.view.ty)
  (G14 : BufTy.Contents (Elt F) arg14.view.ty)
  (G15 : BufTy.Contents (Elt F) arg15.view.ty) :
    arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 k0_t1_loop.trips).1)
      = (stackMaxMeta (arg4.view.read (Elt F) X4) (arg5.view.read (Elt F) X5) (arg8.view.read (Elt F) X8) (arg13.view.read (Elt F) G13))
    ∧ arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 k0_t1_loop.trips).2.1)
      = (stackSumMeta (arg4.view.read (Elt F) X4) (arg5.view.read (Elt F) X5) (arg8.view.read (Elt F) X8) (arg13.view.read (Elt F) G13) (arg14.view.read (Elt F) G14))
    ∧ arg15.view.read (Elt F) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 k0_t1_loop.trips).2.2)
      = (stackAccMeta (arg4.view.read (Elt F) X4) (arg5.view.read (Elt F) X5) (arg8.view.read (Elt F) X8) (arg9.view.read (Elt F) X9) (arg13.view.read (Elt F) G13) (arg15.view.read (Elt F) G15)) := by
  have h := loop1_upTo (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X8 X9 G13 G14 G15 8 (Nat.le_refl _)
  have e : k0_t1_loop.trips = 8 := by decide
  rw [e]
  exact ⟨(h.1).trans (upTo_all _ _), (h.2.1).trans (upTo_all _ _), (h.2.2).trans (upTo_all _ _)⟩

/-- The full loop after `k` trips: the planes of the first `k` heads are one step further. -/
theorem loop2_upTo
  (X4 : BufTy.Contents (Elt F) arg4.view.ty)
  (X5 : BufTy.Contents (Elt F) arg5.view.ty)
  (X6 : BufTy.Contents (Elt F) arg6.view.ty)
  (X7 : BufTy.Contents (Elt F) arg7.view.ty)
  (G13 : BufTy.Contents (Elt F) arg13.view.ty)
  (G14 : BufTy.Contents (Elt F) arg14.view.ty)
  (G15 : BufTy.Contents (Elt F) arg15.view.ty) : ∀ k : ℕ, k ≤ 8 →
    arg13.view.read (Elt F) (arg13.view.writes (Elt F) G13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 k).1)
      = upTo (2 * k) (arg13.view.read (Elt F) G13) (stackMaxFull (arg4.view.read (Elt F) X4) (arg5.view.read (Elt F) X5) (arg6.view.read (Elt F) X6) (arg13.view.read (Elt F) G13))
    ∧ arg14.view.read (Elt F) (arg14.view.writes (Elt F) G14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 k).2.1)
      = upTo (2 * k) (arg14.view.read (Elt F) G14) (stackSumFull (arg4.view.read (Elt F) X4) (arg5.view.read (Elt F) X5) (arg6.view.read (Elt F) X6) (arg13.view.read (Elt F) G13) (arg14.view.read (Elt F) G14))
    ∧ arg15.view.read (Elt F) (arg15.view.writes (Elt F) G15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 k).2.2)
      = upTo (2 * k) (arg15.view.read (Elt F) G15) (stackAccFull (arg4.view.read (Elt F) X4) (arg5.view.read (Elt F) X5) (arg6.view.read (Elt F) X6) (arg7.view.read (Elt F) X7) (arg13.view.read (Elt F) G13) (arg15.view.read (Elt F) G15)) := by
  intro k
  induction k with
  | zero =>
    intro _
    rw [pb_k0_t2.eq_1]
    exact ⟨(upTo_zero _ _).symm, (upTo_zero _ _).symm, (upTo_zero _ _).symm⟩
  | succ k ih =>
    intro hk
    have hlt : k < k0_t2_loop.trips := by
      have e : k0_t2_loop.trips = 8 := by decide
      omega
    have ih := ih (by omega)
    rw [show k + 1 = (⟨k, hlt⟩ : Fin k0_t2_loop.trips).val + 1 from rfl, pb_k0_t2_succ]
    obtain ⟨i13, i14, i15⟩ := ih
    refine ⟨?_, ?_, ?_⟩
    · rw [View.writes_append, trip2_max]
      simp only [ld_off6, ld_off7, ld_off8]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]
    · rw [View.writes_append, trip2_sum]
      simp only [ld_off6, ld_off7, ld_off8]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]
    · rw [View.writes_append, trip2_acc]
      simp only [ld_off6, ld_off7, ld_off8]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]

/-- The full loop, whole. -/
theorem loop2_all
  (X4 : BufTy.Contents (Elt F) arg4.view.ty)
  (X5 : BufTy.Contents (Elt F) arg5.view.ty)
  (X6 : BufTy.Contents (Elt F) arg6.view.ty)
  (X7 : BufTy.Contents (Elt F) arg7.view.ty)
  (G13 : BufTy.Contents (Elt F) arg13.view.ty)
  (G14 : BufTy.Contents (Elt F) arg14.view.ty)
  (G15 : BufTy.Contents (Elt F) arg15.view.ty) :
    arg13.view.read (Elt F) (arg13.view.writes (Elt F) G13 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 k0_t2_loop.trips).1)
      = (stackMaxFull (arg4.view.read (Elt F) X4) (arg5.view.read (Elt F) X5) (arg6.view.read (Elt F) X6) (arg13.view.read (Elt F) G13))
    ∧ arg14.view.read (Elt F) (arg14.view.writes (Elt F) G14 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 k0_t2_loop.trips).2.1)
      = (stackSumFull (arg4.view.read (Elt F) X4) (arg5.view.read (Elt F) X5) (arg6.view.read (Elt F) X6) (arg13.view.read (Elt F) G13) (arg14.view.read (Elt F) G14))
    ∧ arg15.view.read (Elt F) (arg15.view.writes (Elt F) G15 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 k0_t2_loop.trips).2.2)
      = (stackAccFull (arg4.view.read (Elt F) X4) (arg5.view.read (Elt F) X5) (arg6.view.read (Elt F) X6) (arg7.view.read (Elt F) X7) (arg13.view.read (Elt F) G13) (arg15.view.read (Elt F) G15)) := by
  have h := loop2_upTo (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 X4 X5 X6 X7 G13 G14 G15 8 (Nat.le_refl _)
  have e : k0_t2_loop.trips = 8 := by decide
  rw [e]
  exact ⟨(h.1).trans (upTo_all _ _), (h.2.1).trans (upTo_all _ _), (h.2.2).trans (upTo_all _ _)⟩

/-- The diag loop after `k` trips: the planes of the first `k` heads are one step further. -/
theorem loop3_upTo
  (v18 v20 : Vec F S1x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty)
  (G12 : BufTy.Contents (Elt F) arg12.view.ty)
  (G13 : BufTy.Contents (Elt F) arg13.view.ty)
  (G14 : BufTy.Contents (Elt F) arg14.view.ty)
  (G15 : BufTy.Contents (Elt F) arg15.view.ty) : ∀ k : ℕ, k ≤ 8 →
    arg12.view.read (Elt F) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k).1)
      = upTo (k) (arg12.view.read (Elt F) G12) (stackOut v18 v20 (stackAccDiag (arg4.view.read (Elt F) X4) (arg5.view.read (Elt F) X5) (arg6.view.read (Elt F) X6) (arg7.view.read (Elt F) X7) (arg13.view.read (Elt F) G13) (arg15.view.read (Elt F) G15)) (stackSumDiag (arg4.view.read (Elt F) X4) (arg5.view.read (Elt F) X5) (arg6.view.read (Elt F) X6) (arg13.view.read (Elt F) G13) (arg14.view.read (Elt F) G14)))
    ∧ arg13.view.read (Elt F) (arg13.view.writes (Elt F) G13 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k).2.1)
      = upTo (2 * k) (arg13.view.read (Elt F) G13) (stackMaxDiag (arg4.view.read (Elt F) X4) (arg5.view.read (Elt F) X5) (arg6.view.read (Elt F) X6) (arg13.view.read (Elt F) G13))
    ∧ arg14.view.read (Elt F) (arg14.view.writes (Elt F) G14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k).2.2.1)
      = upTo (2 * k) (arg14.view.read (Elt F) G14) (stackSumDiag (arg4.view.read (Elt F) X4) (arg5.view.read (Elt F) X5) (arg6.view.read (Elt F) X6) (arg13.view.read (Elt F) G13) (arg14.view.read (Elt F) G14))
    ∧ arg15.view.read (Elt F) (arg15.view.writes (Elt F) G15 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k).2.2.2)
      = upTo (2 * k) (arg15.view.read (Elt F) G15) (stackAccDiag (arg4.view.read (Elt F) X4) (arg5.view.read (Elt F) X5) (arg6.view.read (Elt F) X6) (arg7.view.read (Elt F) X7) (arg13.view.read (Elt F) G13) (arg15.view.read (Elt F) G15)) := by
  intro k
  induction k with
  | zero =>
    intro _
    rw [pb_k0_t3.eq_1]
    exact ⟨(upTo_zero _ _).symm, (upTo_zero _ _).symm, (upTo_zero _ _).symm, (upTo_zero _ _).symm⟩
  | succ k ih =>
    intro hk
    have hlt : k < k0_t3_loop.trips := by
      have e : k0_t3_loop.trips = 8 := by decide
      omega
    have ih := ih (by omega)
    rw [show k + 1 = (⟨k, hlt⟩ : Fin k0_t3_loop.trips).val + 1 from rfl, pb_k0_t3_succ]
    obtain ⟨i12, i13, i14, i15⟩ := ih
    refine ⟨?_, ?_, ?_, ?_⟩
    · rw [View.writes_append, trip3_out]
      simp only [ld_off9, ld_off10, ld_off11]
      simp only [i12, i13, i14, i15]
      refine put_upTo (⟨k, by omega⟩ : Fin 8) _ _ _ ?_
      unfold stackOut
      rw [plane_stack]
      dsimp only
      unfold stackAccDiag stackSumDiag
      simp only [plane_stack]
      rw [queries_even _ _ (⟨k, by omega⟩ : Fin 8), headOf_even (⟨k, by omega⟩ : Fin 8), queries_odd _ _ (⟨k, by omega⟩ : Fin 8), headOf_odd (⟨k, by omega⟩ : Fin 8)]
      simp only [plane_upTo_even, plane_upTo_odd]
    · rw [View.writes_append, trip3_max]
      simp only [ld_off9, ld_off10, ld_off11]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]
    · rw [View.writes_append, trip3_sum]
      simp only [ld_off9, ld_off10, ld_off11]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]
    · rw [View.writes_append, trip3_acc]
      simp only [ld_off9, ld_off10, ld_off11]
      simp only [i13, i14, i15]
      refine put_pair k (by omega) _ _ _ _ ?_ ?_
      · rw [queries_even _ _ (⟨k, by omega⟩ : Fin 8), headOf_even (⟨k, by omega⟩ : Fin 8)]
        simp only [plane_upTo_even, plane_upTo_odd]
      · rw [queries_odd _ _ (⟨k, by omega⟩ : Fin 8), headOf_odd (⟨k, by omega⟩ : Fin 8)]
        simp only [plane_upTo_even, plane_upTo_odd]

/-- The diag loop, whole. -/
theorem loop3_all
  (v18 v20 : Vec F S1x128 .f32)
  (X4 : BufTy.Contents (Elt F) arg4.view.ty)
  (X5 : BufTy.Contents (Elt F) arg5.view.ty)
  (X6 : BufTy.Contents (Elt F) arg6.view.ty)
  (X7 : BufTy.Contents (Elt F) arg7.view.ty)
  (G12 : BufTy.Contents (Elt F) arg12.view.ty)
  (G13 : BufTy.Contents (Elt F) arg13.view.ty)
  (G14 : BufTy.Contents (Elt F) arg14.view.ty)
  (G15 : BufTy.Contents (Elt F) arg15.view.ty) :
    arg12.view.read (Elt F) (arg12.view.writes (Elt F) G12 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k0_t3_loop.trips).1)
      = (stackOut v18 v20 (stackAccDiag (arg4.view.read (Elt F) X4) (arg5.view.read (Elt F) X5) (arg6.view.read (Elt F) X6) (arg7.view.read (Elt F) X7) (arg13.view.read (Elt F) G13) (arg15.view.read (Elt F) G15)) (stackSumDiag (arg4.view.read (Elt F) X4) (arg5.view.read (Elt F) X5) (arg6.view.read (Elt F) X6) (arg13.view.read (Elt F) G13) (arg14.view.read (Elt F) G14)))
    ∧ arg13.view.read (Elt F) (arg13.view.writes (Elt F) G13 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k0_t3_loop.trips).2.1)
      = (stackMaxDiag (arg4.view.read (Elt F) X4) (arg5.view.read (Elt F) X5) (arg6.view.read (Elt F) X6) (arg13.view.read (Elt F) G13))
    ∧ arg14.view.read (Elt F) (arg14.view.writes (Elt F) G14 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k0_t3_loop.trips).2.2.1)
      = (stackSumDiag (arg4.view.read (Elt F) X4) (arg5.view.read (Elt F) X5) (arg6.view.read (Elt F) X6) (arg13.view.read (Elt F) G13) (arg14.view.read (Elt F) G14))
    ∧ arg15.view.read (Elt F) (arg15.view.writes (Elt F) G15 (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 k0_t3_loop.trips).2.2.2)
      = (stackAccDiag (arg4.view.read (Elt F) X4) (arg5.view.read (Elt F) X5) (arg6.view.read (Elt F) X6) (arg7.view.read (Elt F) X7) (arg13.view.read (Elt F) G13) (arg15.view.read (Elt F) G15)) := by
  have h := loop3_upTo (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v18 v20 X4 X5 X6 X7 G12 G13 G14 G15 8 (Nat.le_refl _)
  have e : k0_t3_loop.trips = 8 := by decide
  rw [e]
  exact ⟨(h.1).trans (upTo_all _ _), (h.2.1).trans (upTo_all _ _), (h.2.2.1).trans (upTo_all _ _), (h.2.2.2).trans (upTo_all _ _)⟩

end Loops

end Cert.KernelIdeal.Attn

end
-- ==== Proof.AttnBody.lean ====
module

public import proofs.«01_k».proof.Proof.Gen.KernelIdeal.Loops
public import proofs.«01_k».proof.Proof.AttnLoops
public import Idealize.ShloMosaic.Lib.Pipeline.FrameBody
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

open Cert.Stack
open Idealize.SL.BI.BIBase Idealize.SL.BI.Laws Idealize.SL.ProofMode Idealize.SL.Sem
open scoped Idealize.SL.BI
local notation "𝕄" => MT nD τ sig Unit (Elt F) ℕ (UR sig nD τ) ℕ

/-- The word of a table that a grid point reads. -/
def word (i : grid0.Coords) (t : Vec F S44 .i32) : BitVec 32 :=
  t ((Rect.unit (s := S44) (k0_off1 i) S1.size (k0_off1_inb i)).point numel1_S1)

/-- Whether the tile is the one of the meta tokens, from the word of its number. -/
def isMeta (w3 : BitVec 32) : BitVec 1 := Scalar.cmpi CmpIPredicate.ne (Scalar.extui (Scalar.cmpi CmpIPredicate.slt w3 0#32) : BitVec 32) 0#32

/-- Whether the tile lies wholly before the queries. -/
def isFull (w2 w3 : BitVec 32) : BitVec 1 :=
  Scalar.cmpi CmpIPredicate.ne (Scalar.extui (Scalar.andi (Scalar.cmpi CmpIPredicate.sge w3 0#32) (Scalar.cmpi CmpIPredicate.slt w3 w2)) : BitVec 32) 0#32

set_option maxHeartbeats 4000000 in
/-- At the tile of the meta tokens the body leaves in its three scratch arrays one pass over that tile from the starting values. -/
theorem body_meta (c : Dev nD) (E : Set ℕ) (i : grid0.Coords)
  (arg2 : Memref sig .tc .smem S44 .i32) (harg2 : arg2.IsWhole)
  (arg3 : Memref sig .tc .smem S44 .i32) (harg3 : arg3.IsWhole)
  (arg4 : Memref sig .tc .vmem S8x512x128 .bf16) (harg4 : arg4.IsWhole)
  (arg5 : Memref sig .tc .vmem S8x512x128 .bf16) (harg5 : arg5.IsWhole)
  (arg6 : Memref sig .tc .vmem S8x512x128 .bf16) (harg6 : arg6.IsWhole)
  (arg7 : Memref sig .tc .vmem S8x512x128 .bf16) (harg7 : arg7.IsWhole)
  (arg8 : Memref sig .tc .vmem S8x128x128 .bf16) (harg8 : arg8.IsWhole)
  (arg9 : Memref sig .tc .vmem S8x128x128 .bf16) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S8x512x128 .bf16) (harg12 : arg12.IsWhole)
  (arg13 : Memref sig .tc .vmem S16x512x128 .f32) (harg13 : arg13.IsWhole)
  (arg14 : Memref sig .tc .vmem S16x512x128 .f32) (harg14 : arg14.IsWhole)
  (arg15 : Memref sig .tc .vmem S16x512x128 .f32) (harg15 : arg15.IsWhole)
    (q2 q3 : PosShare TreeShare) (t2 t3 : Vec F S44 .i32)
    (x4 x5 x6 x7 : Vec F S8x512x128 .bf16) (x8 x9 : Vec F S8x128x128 .bf16) (x10 x11 : Vec F S1x128 .f32) (x12 : Vec F S8x512x128 .bf16)
    (M L A : Vec F S16x512x128 .f32)
    (h1 : isMeta (word i t3) = 1#1) (h2 : ¬ isFull (word i t2) (word i t3) = 1#1) (h3 : ¬ k0_cond3 (word i t2) (word i t3) = 1#1)
    (K : PUnit → sProp 𝕄) :
    iprop(owns (c : Thread nD τ) arg2 q2 t2 ∗ owns (c : Thread nD τ) arg3 q3 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 q2 t2 ∗ owns (c : Thread nD τ) arg3 q3 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ owns (c : Thread nD τ) arg13 fullShare (stackMaxMeta x4 x5 x8 k0_pay1) ∗ owns (c : Thread nD τ) arg14 fullShare (stackSumMeta x4 x5 x8 k0_pay1 k0_pay2) ∗ owns (c : Thread nD τ) arg15 fullShare (stackAccMeta x4 x5 x8 x9 k0_pay1 k0_pay3)) -∗ K ⟨⟩))
      ⊢ wp frame (wpE (defs₀ (F := F)) Variants.none c none) E (cc0_prompt_attention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_prompt_attention_eq_skeleton]; unfold cc0_prompt_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, Hk⟩
  subst hf2 hf3 hf4 hf5 hf6 hf7 hf8 hf9 hf10 hf11 hf12
  sl_exec
  have R13 : arg13.view.read (Elt F) (arg13.view.writes (Elt F) arg13.view.junk body_meta.sl.H13_1) = k0_pay1 := View.read_writes_full _ _ _ _ _
  have R14 : arg14.view.read (Elt F) (arg14.view.writes (Elt F) arg14.view.junk body_meta.sl.H14_1) = k0_pay2 := View.read_writes_full _ _ _ _ _
  have R15 : arg15.view.read (Elt F) (arg15.view.writes (Elt F) arg15.view.junk body_meta.sl.H15_1) = k0_pay3 := View.read_writes_full _ _ _ _ _
  have hl := loop1_all (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 f4 f5 f8 f9
    (arg13.view.writes (Elt F) arg13.view.junk body_meta.sl.H13_1) (arg14.view.writes (Elt F) arg14.view.junk body_meta.sl.H14_1) (arg15.view.writes (Elt F) arg15.view.junk body_meta.sl.H15_1)
  rw [R13, R14, R15] at hl
  rw [View.writes_append, View.writes_append, View.writes_append]
  rw [wp_ret]
  imodintro
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr; swap; · iexact H13
    ipureintro; exact hl.1
  isplitl [H14]
  · iexists _; isplitr; swap; · iexact H14
    ipureintro; exact hl.2.1
  · iexists _; isplitr; swap; · iexact H15
    ipureintro; exact hl.2.2

set_option maxHeartbeats 4000000 in
/-- At a tile wholly before the queries the body leaves in its three scratch arrays one more pass over that tile. -/
theorem body_full (c : Dev nD) (E : Set ℕ) (i : grid0.Coords)
  (arg2 : Memref sig .tc .smem S44 .i32) (harg2 : arg2.IsWhole)
  (arg3 : Memref sig .tc .smem S44 .i32) (harg3 : arg3.IsWhole)
  (arg4 : Memref sig .tc .vmem S8x512x128 .bf16) (harg4 : arg4.IsWhole)
  (arg5 : Memref sig .tc .vmem S8x512x128 .bf16) (harg5 : arg5.IsWhole)
  (arg6 : Memref sig .tc .vmem S8x512x128 .bf16) (harg6 : arg6.IsWhole)
  (arg7 : Memref sig .tc .vmem S8x512x128 .bf16) (harg7 : arg7.IsWhole)
  (arg8 : Memref sig .tc .vmem S8x128x128 .bf16) (harg8 : arg8.IsWhole)
  (arg9 : Memref sig .tc .vmem S8x128x128 .bf16) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S8x512x128 .bf16) (harg12 : arg12.IsWhole)
  (arg13 : Memref sig .tc .vmem S16x512x128 .f32) (harg13 : arg13.IsWhole)
  (arg14 : Memref sig .tc .vmem S16x512x128 .f32) (harg14 : arg14.IsWhole)
  (arg15 : Memref sig .tc .vmem S16x512x128 .f32) (harg15 : arg15.IsWhole)
    (q2 q3 : PosShare TreeShare) (t2 t3 : Vec F S44 .i32)
    (x4 x5 x6 x7 : Vec F S8x512x128 .bf16) (x8 x9 : Vec F S8x128x128 .bf16) (x10 x11 : Vec F S1x128 .f32) (x12 : Vec F S8x512x128 .bf16)
    (M L A : Vec F S16x512x128 .f32)
    (h1 : ¬ isMeta (word i t3) = 1#1) (h2 : isFull (word i t2) (word i t3) = 1#1) (h3 : ¬ k0_cond3 (word i t2) (word i t3) = 1#1)
    (K : PUnit → sProp 𝕄) :
    iprop(owns (c : Thread nD τ) arg2 q2 t2 ∗ owns (c : Thread nD τ) arg3 q3 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ owns (c : Thread nD τ) arg13 fullShare M ∗ owns (c : Thread nD τ) arg14 fullShare L ∗ owns (c : Thread nD τ) arg15 fullShare A
        ∗ (iprop(owns (c : Thread nD τ) arg2 q2 t2 ∗ owns (c : Thread nD τ) arg3 q3 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
            ∗ owns (c : Thread nD τ) arg13 fullShare (stackMaxFull x4 x5 x6 M) ∗ owns (c : Thread nD τ) arg14 fullShare (stackSumFull x4 x5 x6 M L) ∗ owns (c : Thread nD τ) arg15 fullShare (stackAccFull x4 x5 x6 x7 M A)) -∗ K ⟨⟩))
      ⊢ wp frame (wpE (defs₀ (F := F)) Variants.none c none) E (cc0_prompt_attention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_prompt_attention_eq_skeleton]; unfold cc0_prompt_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  subst hf2 hf3 hf4 hf5 hf6 hf7 hf8 hf9 hf10 hf11 hf12 hf13 hf14 hf15
  sl_exec
  have hl := loop2_all (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 f4 f5 f6 f7 f13 f14 f15
  rw [wp_ret]
  imodintro
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr; swap; · iexact H13
    ipureintro; exact hl.1
  isplitl [H14]
  · iexists _; isplitr; swap; · iexact H14
    ipureintro; exact hl.2.1
  · iexists _; isplitr; swap; · iexact H15
    ipureintro; exact hl.2.2

set_option maxHeartbeats 4000000 in
/-- At the tile of the queries themselves the body makes the masked pass over that tile and leaves in the output window the normalised difference of the two maps. -/
theorem body_diag (c : Dev nD) (E : Set ℕ) (i : grid0.Coords)
  (arg2 : Memref sig .tc .smem S44 .i32) (harg2 : arg2.IsWhole)
  (arg3 : Memref sig .tc .smem S44 .i32) (harg3 : arg3.IsWhole)
  (arg4 : Memref sig .tc .vmem S8x512x128 .bf16) (harg4 : arg4.IsWhole)
  (arg5 : Memref sig .tc .vmem S8x512x128 .bf16) (harg5 : arg5.IsWhole)
  (arg6 : Memref sig .tc .vmem S8x512x128 .bf16) (harg6 : arg6.IsWhole)
  (arg7 : Memref sig .tc .vmem S8x512x128 .bf16) (harg7 : arg7.IsWhole)
  (arg8 : Memref sig .tc .vmem S8x128x128 .bf16) (harg8 : arg8.IsWhole)
  (arg9 : Memref sig .tc .vmem S8x128x128 .bf16) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S8x512x128 .bf16) (harg12 : arg12.IsWhole)
  (arg13 : Memref sig .tc .vmem S16x512x128 .f32) (harg13 : arg13.IsWhole)
  (arg14 : Memref sig .tc .vmem S16x512x128 .f32) (harg14 : arg14.IsWhole)
  (arg15 : Memref sig .tc .vmem S16x512x128 .f32) (harg15 : arg15.IsWhole)
    (q2 q3 : PosShare TreeShare) (t2 t3 : Vec F S44 .i32)
    (x4 x5 x6 x7 : Vec F S8x512x128 .bf16) (x8 x9 : Vec F S8x128x128 .bf16) (x10 x11 : Vec F S1x128 .f32) (x12 : Vec F S8x512x128 .bf16)
    (M L A : Vec F S16x512x128 .f32)
    (h1 : ¬ isMeta (word i t3) = 1#1) (h2 : ¬ isFull (word i t2) (word i t3) = 1#1) (h3 : k0_cond3 (word i t2) (word i t3) = 1#1)
    (K : PUnit → sProp 𝕄) :
    iprop(owns (c : Thread nD τ) arg2 q2 t2 ∗ owns (c : Thread nD τ) arg3 q3 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12
        ∗ owns (c : Thread nD τ) arg13 fullShare M ∗ owns (c : Thread nD τ) arg14 fullShare L ∗ owns (c : Thread nD τ) arg15 fullShare A
        ∗ (iprop(owns (c : Thread nD τ) arg2 q2 t2 ∗ owns (c : Thread nD τ) arg3 q3 t3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (stackOut x10 x11 (stackAccDiag x4 x5 x6 x7 M A) (stackSumDiag x4 x5 x6 M L))
            ∗ owns (c : Thread nD τ) arg13 fullShare (stackMaxDiag x4 x5 x6 M) ∗ owns (c : Thread nD τ) arg14 fullShare (stackSumDiag x4 x5 x6 M L) ∗ owns (c : Thread nD τ) arg15 fullShare (stackAccDiag x4 x5 x6 x7 M A)) -∗ K ⟨⟩))
      ⊢ wp frame (wpE (defs₀ (F := F)) Variants.none c none) E (cc0_prompt_attention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_prompt_attention_eq_skeleton]; unfold cc0_prompt_attention_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  subst hf2 hf3 hf4 hf5 hf6 hf7 hf8 hf9 hf10 hf11 hf12 hf13 hf14 hf15
  sl_exec
  have hl := loop3_all (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (View.readAt (Elt F) arg10.view (Rect.unit ![0, 0] S1x128.size inb_S1x128_S1x128_0_0).toLoadRect f10)
    (View.readAt (Elt F) arg11.view (Rect.unit ![0, 0] S1x128.size inb_S1x128_S1x128_0_0).toLoadRect f11) f4 f5 f6 f7 f12 f13 f14 f15
  rw [wp_ret]
  imodintro
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr; swap; · iexact H12
    ipureintro; exact hl.1.trans (by rw [View.readAt_full, View.readAt_full])
  isplitl [H13]
  · iexists _; isplitr; swap; · iexact H13
    ipureintro; exact hl.2.1
  isplitl [H14]
  · iexists _; isplitr; swap; · iexact H14
    ipureintro; exact hl.2.2.1
  · iexists _; isplitr; swap; · iexact H15
    ipureintro; exact hl.2.2.2

end Cert.KernelIdeal.Attn
-- ==== Proof.AttnTables.lean ====
module

public import proofs.«01_k».proof.Proof.Gen.KernelIdeal.Loops
public import proofs.«01_k».proof.Proof.AttnBody
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

/-- The two tables: for each of the 44 pairs of tiles, the number of the query tile and the number of the key tile (−1 for the meta tokens). -/
def tabs : pre0.Contents (Elt F) := fun
  | ⟨0, _⟩ => fun x => lit0 (S44.rowMajor x)
  | ⟨1, _⟩ => fun x => lit1 (S44.rowMajor x)
  | ⟨_ + 2, h⟩ => absurd h (Nat.not_lt.2 (Nat.le_add_left _ _))

/-- The pair of tiles of a grid point. -/
def pair (i : grid0.Coords) : Fin 44 := ⟨(i 1).val, (i 1).isLt⟩
/-- The sequence of a grid point. -/
def seq (i : grid0.Coords) : Fin 8 := ⟨(i 0).val, (i 0).isLt⟩

/-- The number of a pair's query tile. -/
def qTile (j : Fin 44) : ℕ := (lit0 j).toNat
/-- The number of a pair's key tile, 0 for the meta tokens. -/
def kTile (j : Fin 44) : ℕ := (Scalar.maxsi (lit1 j) 0#32).toNat

theorem qTile_lt : ∀ j, qTile j < 8 := by decide +kernel
theorem kTile_lt : ∀ j, kTile j < 8 := by decide +kernel

/-- Entry `j` of a table. -/
def entry (j : Fin 44) : S44.Idx := fun a => ⟨j.val, by rw [Subsingleton.elim a 0]; exact j.isLt⟩

theorem rowMajor_val : ∀ j : Fin 44, (S44.rowMajor (entry j)).val = j.val := by decide +kernel
theorem rowMajor_const (j : Fin 44) : S44.rowMajor (entry j) = j := Fin.ext (rowMajor_val j)

theorem pair_word : ∀ j : Fin 44, (Scalar.indexCast (BitVec.ofNat 32 j.val) : Index).toNat = j.val := by decide +kernel

theorem off1_eq (i : grid0.Coords) : k0_off1 i = ![(i 1).val] := by
  have h := (i 1).isLt
  have h' : (i 1).val < 44 := h
  unfold k0_off1
  have e : (Scalar.indexCast (BitVec.ofNat 32 (i 1).val) : Index).toNat = (i 1).val := by
    have := pair_word (pair i)
    exact this
  exact congrArg (fun n => ![n]) e

theorem point_eq (i : grid0.Coords) : (Rect.unit (s := S44) (k0_off1 i) S1.size (k0_off1_inb i)).point numel1_S1 = entry (pair i) := by
  funext a
  apply Fin.ext
  have ha : a = 0 := Subsingleton.elim _ _
  subst ha
  have e : k0_off1 i 0 = (i 1).val := congrFun (off1_eq i) 0
  exact (Nat.add_zero _).trans e

theorem word_q (i : grid0.Coords) : word (F := F) i (tabs 0) = lit0 (pair i) := by
  unfold word
  rw [point_eq]
  show lit0 (S44.rowMajor _) = _
  rw [rowMajor_const]

theorem word_k (i : grid0.Coords) : word (F := F) i (tabs 1) = lit1 (pair i) := by
  unfold word
  rw [point_eq]
  show lit1 (S44.rowMajor _) = _
  rw [rowMajor_const]

theorem q_row : ∀ (b : Fin 8) (j : Fin 44), (Scalar.addi (Scalar.muli (BitVec.ofNat 32 b.val) 8#32) (lit0 j)).toNat = b.val * 8 + qTile j := by
  decide +kernel
theorem k_row : ∀ (b : Fin 8) (j : Fin 44),
    (Scalar.addi (Scalar.muli (BitVec.ofNat 32 b.val) 8#32) (Scalar.maxsi (lit1 j) 0#32)).toNat = b.val * 8 + kTile j := by
  decide +kernel

theorem at_q (i : grid0.Coords) : cc0_transform_0 (F := F) k0_off1_inb numel1_S1 tabs i = ![0, (seq i).val * 8 + qTile (pair i), 0] := by
  have e := word_q (F := F) i
  show ![0, (Scalar.addi (Scalar.muli (BitVec.ofNat 32 (seq i).val) 8#32) (word (F := F) i (tabs 0))).toNat, 0] = _
  rw [e, q_row]

theorem at_qhi (i : grid0.Coords) : cc0_transform_1 (F := F) k0_off1_inb numel1_S1 tabs i = ![0, (seq i).val * 8 + qTile (pair i), 0] := at_q i
theorem at_out (i : grid0.Coords) : cc0_transform_8 (F := F) k0_off1_inb numel1_S1 tabs i = ![0, (seq i).val * 8 + qTile (pair i), 0] := at_q i

theorem at_k (i : grid0.Coords) : cc0_transform_2 (F := F) k0_off1_inb numel1_S1 tabs i = ![0, (seq i).val * 8 + kTile (pair i), 0] := by
  have e := word_k (F := F) i
  show ![0, (Scalar.addi (Scalar.muli (BitVec.ofNat 32 (seq i).val) 8#32) (Scalar.maxsi (word (F := F) i (tabs 1)) 0#32)).toNat, 0] = _
  rw [e, k_row]

theorem at_v (i : grid0.Coords) : cc0_transform_3 (F := F) k0_off1_inb numel1_S1 tabs i = ![0, (seq i).val * 8 + kTile (pair i), 0] := at_k i

theorem inside (b : Fin 8) (t : ℕ) (ht : t < 8) (a : Fin 3) :
    ((![0, b.val * 8 + t, 0] : Fin 3 → ℕ) a + 1) * S8x512x128.size a ≤ S8x32768x128.size a := by
  have hb := b.isLt
  fin_cases a
  · show (0 + 1) * 8 ≤ 8; omega
  · show (b.val * 8 + t + 1) * 512 ≤ 32768; omega
  · show (0 + 1) * 128 ≤ 128; omega

theorem ok_tabs : ok0 (F := F) tabs := by
  unfold ok0
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · rw [at_q]; exact inside _ _ (qTile_lt _)
  · rw [at_qhi]; exact inside _ _ (qTile_lt _)
  · rw [at_k]; exact inside _ _ (kTile_lt _)
  · rw [at_v]; exact inside _ _ (kTile_lt _)
  · rw [at_out]; exact inside _ _ (qTile_lt _)

/-- The tables as the pipeline admits them. -/
def adm : (p : Fin 1) → (pcfgs (F := F) p).Adm := fun _ => ⟨tabs, ok_tabs⟩

/-- At a pair of the meta tokens. -/
theorem case_meta : ∀ j : Fin 44, isMeta (lit1 j) = 1#1 → ¬ isFull (lit0 j) (lit1 j) = 1#1 ∧ ¬ k0_cond3 (lit0 j) (lit1 j) = 1#1 := by decide +kernel
theorem case_full : ∀ j : Fin 44, isFull (lit0 j) (lit1 j) = 1#1 → ¬ isMeta (lit1 j) = 1#1 ∧ ¬ k0_cond3 (lit0 j) (lit1 j) = 1#1 := by decide +kernel
theorem case_diag : ∀ j : Fin 44, ¬ isMeta (lit1 j) = 1#1 → ¬ isFull (lit0 j) (lit1 j) = 1#1 → k0_cond3 (lit0 j) (lit1 j) = 1#1 := by decide +kernel

end Cert.KernelIdeal.Attn
-- ==== Proof.AttnData.lean ====
module

public import proofs.«01_k».proof.Proof.Gen.KernelIdeal.Loops
public import proofs.«01_k».proof.Proof.AttnTables
public import proofs.«01_k».proof.Proof.Gen.KernelIdeal.Launch
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

open Cert.Stack
open Idealize.SL.BI.BIBase Idealize.SL.BI.Laws Idealize.SL.ProofMode Idealize.SL.Sem
open scoped Idealize.SL.BI
open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (ρ : Dev nD → PrngReg)

/-- The pipeline at the two tables. -/
abbrev cfgA : Pipeline.Cfg sig Λ₀ := (pcfg0 (F := F)).at (adm 0)

/-- The buffers of core `c` when the pipeline is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Window `w`'s block at point `t`, read off its array as the pipeline finds it. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The three scratch arrays: the running maxima, the running sums and the accumulated values of the 16 maps. -/
abbrev St (F : FTy → Type) : Type := Vec F S16x512x128 .f32 × Vec F S16x512x128 .f32 × Vec F S16x512x128 .f32

/-- One pass over the key tile of a pair of tiles. -/
def pass (j : Fin 44) (x4 x5 x6 x7 : Vec F S8x512x128 .bf16) (x8 x9 : Vec F S8x128x128 .bf16) (S : St F) : St F :=
  if isMeta (lit1 j) = 1#1 then
    (stackMaxMeta x4 x5 x8 k0_pay1, stackSumMeta x4 x5 x8 k0_pay1 k0_pay2, stackAccMeta x4 x5 x8 x9 k0_pay1 k0_pay3)
  else if isFull (lit0 j) (lit1 j) = 1#1 then
    (stackMaxFull x4 x5 x6 S.1, stackSumFull x4 x5 x6 S.1 S.2.1, stackAccFull x4 x5 x6 x7 S.1 S.2.2)
  else
    (stackMaxDiag x4 x5 x6 S.1, stackSumDiag x4 x5 x6 S.1 S.2.1, stackAccDiag x4 x5 x6 x7 S.1 S.2.2)

/-- The grid's coordinates at point `t`. -/
abbrev crd (t : Fin (cfgA (F := F)).N) : grid0.Coords := grid0.coords t

/-- The scratch arrays after the pass of point `t` from contents `S`. -/
def passAt (c : Dev nD) (t : Fin (cfgA (F := F)).N) (S : St F) : St F :=
  pass (pair (crd t)) (iblk m c 0 t) (iblk m c 1 t) (iblk m c 2 t) (iblk m c 3 t) (iblk m c 4 t) (iblk m c 5 t) S

/-- The scratch arrays after the first `n` points. -/
def st (c : Dev nD) : ℕ → St F
  | 0 => (k0_pay1, k0_pay2, k0_pay3)
  | n + 1 => if h : n < grid0.N then passAt m c ⟨n, h⟩ (st c n) else st c n

theorem st_succ (c : Dev nD) (t : Fin (cfgA (F := F)).N) : st m c (t.val + 1) = passAt m c t (st m c t.val) := by
  conv_lhs => unfold st
  rw [dif_pos t.isLt]

/-- The output block of point `t`, at a point of a query tile with itself. -/
def outAt (c : Dev nD) (t : Fin (cfgA (F := F)).N) : Vec F S8x512x128 .bf16 :=
  stackOut (iblk m c 6 t) (iblk m c 7 t) (st m c (t.val + 1)).2.2 (st m c (t.val + 1)).2.1

/-- What is held between the points: the scratch arrays, from the first point on at the contents the points so far leave, and the tables. -/
def held (c : Dev nD) (n : ℕ) : sProp 𝕄 :=
  iprop((∃ M L A, ⌜0 < n → (M, L, A) = st m c n⌝ ∗ owns (c : Thread nD τ) (Memref.whole cc0_scratch0) fullShare M
      ∗ owns (c : Thread nD τ) (Memref.whole cc0_scratch1) fullShare L ∗ owns (c : Thread nD τ) (Memref.whole cc0_scratch2) fullShare A)
    ∗ (∃ r, prngReg c r)
    ∗ owns (c : Thread nD τ) (Memref.whole main_c) fullShare.right (tabs (F := F) 0)
    ∗ owns (c : Thread nD τ) (Memref.whole main_c_0) fullShare.right (tabs (F := F) 1))

/-- The proof data of the pipeline. -/
def dats (p : Fin 1) (c : Dev nD) : Dat τ (Elt F) Unit ℕ (UR sig nD τ) ℕ (Pipeline.pin (pcfgs (F := F)) adm p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := held m c t.val
  q _ := fullShare
  owed _ := 0

theorem A_eq (c : Dev nD) (w : Fin (cfgA (F := F)).W) : (dats m 0 c).A w = V m c (Pipeline.arrRef spec0 w) := by
  rfl

theorem inv_eq (c : Dev nD) (k : Fin ((cfgA (F := F)).N + 1)) : (dats m 0 c).Φ k = held m c k.val := rfl
theorem after_0 (c : Dev nD) (t : Fin (cfgA (F := F)).N) : (dats m 0 c).after 0 t = iblk m c 0 t := rfl
theorem after_1 (c : Dev nD) (t : Fin (cfgA (F := F)).N) : (dats m 0 c).after 1 t = iblk m c 1 t := rfl
theorem after_2 (c : Dev nD) (t : Fin (cfgA (F := F)).N) : (dats m 0 c).after 2 t = iblk m c 2 t := rfl
theorem after_3 (c : Dev nD) (t : Fin (cfgA (F := F)).N) : (dats m 0 c).after 3 t = iblk m c 3 t := rfl
theorem after_4 (c : Dev nD) (t : Fin (cfgA (F := F)).N) : (dats m 0 c).after 4 t = iblk m c 4 t := rfl
theorem after_5 (c : Dev nD) (t : Fin (cfgA (F := F)).N) : (dats m 0 c).after 5 t = iblk m c 5 t := rfl
theorem after_6 (c : Dev nD) (t : Fin (cfgA (F := F)).N) : (dats m 0 c).after 6 t = iblk m c 6 t := rfl
theorem after_7 (c : Dev nD) (t : Fin (cfgA (F := F)).N) : (dats m 0 c).after 7 t = iblk m c 7 t := rfl
theorem after_8 (c : Dev nD) (t : Fin (cfgA (F := F)).N) : (dats m 0 c).after 8 t = outAt m c t := rfl
theorem before_0 (c : Dev nD) (t : Fin (cfgA (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgA (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgA (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgA (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgA (F := F)).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin (cfgA (F := F)).N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin (cfgA (F := F)).N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin (cfgA (F := F)).N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

end Cert.KernelIdeal.Attn
-- ==== Proof.AttnFrame.lean ====
module

public import proofs.«01_k».proof.Proof.Gen.KernelIdeal.Loops
public import proofs.«01_k».proof.Proof.AttnData
public import proofs.«01_k».proof.Proof.Gen.KernelIdeal.Launch
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

open Cert.Stack
open Idealize.SL.BI.BIBase Idealize.SL.BI.Laws Idealize.SL.ProofMode Idealize.SL.Sem
open scoped Idealize.SL.BI
open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (ρ : Dev nD → PrngReg)

/-! ## Facts of the two tables along the grid -/

theorem off1_inside (i : grid0.Coords) (a : Fin S44.rank) : k0_off1 i a + 1 ≤ S44.size a := by
  have ha : a = 0 := Subsingleton.elim _ _
  subst ha
  have e : k0_off1 i 0 = (i 1).val := congrFun (off1_eq i) 0
  rw [e]
  exact (i 1).isLt

theorem off1_entry (i : grid0.Coords) : (fun a => ⟨k0_off1 i a, off1_inside i a⟩ : S44.Idx) = entry (pair i) := by
  funext a
  apply Fin.ext
  have ha : a = 0 := Subsingleton.elim _ _
  subst ha
  have e : k0_off1 i 0 = (i 1).val := congrFun (off1_eq i) 0
  exact e

theorem atD_q (i : grid0.Coords) : (tabs (F := F)).atD 0 (k0_off1 i) = lit0 (pair i) := by
  refine (dif_pos (off1_inside i)).trans ?_
  show tabs (F := F) 0 (fun a => ⟨k0_off1 i a, off1_inside i a⟩ : S44.Idx) = _
  rw [off1_entry]
  show lit0 (S44.rowMajor _) = _
  rw [rowMajor_const]

theorem atD_k (i : grid0.Coords) : (tabs (F := F)).atD 1 (k0_off1 i) = lit1 (pair i) := by
  refine (dif_pos (off1_inside i)).trans ?_
  show tabs (F := F) 1 (fun a => ⟨k0_off1 i a, off1_inside i a⟩ : S44.Idx) = _
  rw [off1_entry]
  show lit1 (S44.rowMajor _) = _
  rw [rowMajor_const]

/-- The output is idle at a point exactly where the pair is not a query tile with itself. -/
theorem idle_8 (i : grid0.Coords) : (cfgA (F := F)).idle 8 i = !(k0_cond3 (lit0 (pair i)) (lit1 (pair i)) == 1#1) := by
  show (!(k0_cond3 ((tabs (F := F)).atD 0 (k0_off1 i)) ((tabs (F := F)).atD 1 (k0_off1 i)) == 1#1)) = _
  rw [atD_q, atD_k]

theorem not_meta_pos : ∀ t : Fin grid0.N, ¬ isMeta (lit1 (pair (grid0.coords t))) = 1#1 → 0 < t.val := by decide +kernel

theorem not_diag_next : ∀ t : Fin grid0.N, ¬ k0_cond3 (lit0 (pair (grid0.coords t))) (lit1 (pair (grid0.coords t))) = 1#1 →
    t.val + 1 ≠ grid0.N ∧ ∀ h : t.val + 1 < grid0.N, (seq (grid0.coords ⟨t.val + 1, h⟩)).val = (seq (grid0.coords t)).val
      ∧ qTile (pair (grid0.coords ⟨t.val + 1, h⟩)) = qTile (pair (grid0.coords t)) := by decide +kernel

/-- The output's block at a point that is not of a query tile with itself is not written back. -/
theorem no_flush (t : Fin (cfgA (F := F)).N) (h : ¬ k0_cond3 (lit0 (pair (crd (F := F) t))) (lit1 (pair (crd (F := F) t))) = 1#1) :
    ((cfgA (F := F)).win 8).flush t = false := by
  obtain ⟨h1, h2⟩ := not_diag_next t h
  unfold Window.flush
  rw [Bool.and_eq_false_iff]
  right
  rw [Bool.or_eq_false_iff]
  refine ⟨decide_eq_false h1, decide_eq_false ?_⟩
  rintro ⟨h3, h4⟩
  apply h4
  obtain ⟨e1, e2⟩ := h2 h3
  show cc0_transform_8 (F := F) k0_off1_inb numel1_S1 tabs (grid0.coords ⟨t.val + 1, h3⟩) = cc0_transform_8 (F := F) k0_off1_inb numel1_S1 tabs (grid0.coords t)
  rw [at_out, at_out, e1, e2]

/-! ## The body obligation -/

/-- The staging memref of window `w` at point `t`. -/
abbrev stg (t : Fin (cfgA (F := F)).N) (w : Fin (cfgA (F := F)).W) := ((cfgA (F := F)).win w).stage ((cfgA (F := F)).slots t w)

/-- The body's program at point `t`. -/
abbrev bodyAt (t : Fin (cfgA (F := F)).N) : Prog (TpuEff nD τ sig (Elt F) Λ₀ .tc) PUnit :=
  cc0_prompt_attention (grid0.coords t) (Memref.whole main_c) (Memref.isWhole_whole _) (Memref.whole main_c_0) (Memref.isWhole_whole _)
    (spec0_0.stage ((cfgA (F := F)).slots t 0)) (hstage0_0 (((cfgA (F := F)).slots t 0).cast nbuf0_0))
    (spec0_1.stage ((cfgA (F := F)).slots t 1)) (hstage0_1 (((cfgA (F := F)).slots t 1).cast nbuf0_1))
    (spec0_2.stage ((cfgA (F := F)).slots t 2)) (hstage0_2 (((cfgA (F := F)).slots t 2).cast nbuf0_2))
    (spec0_3.stage ((cfgA (F := F)).slots t 3)) (hstage0_3 (((cfgA (F := F)).slots t 3).cast nbuf0_3))
    (spec0_4.stage ((cfgA (F := F)).slots t 4)) (hstage0_4 (((cfgA (F := F)).slots t 4).cast nbuf0_4))
    (spec0_5.stage ((cfgA (F := F)).slots t 5)) (hstage0_5 (((cfgA (F := F)).slots t 5).cast nbuf0_5))
    (spec0_6.stage ((cfgA (F := F)).slots t 6)) (hstage0_6 (((cfgA (F := F)).slots t 6).cast nbuf0_6))
    (spec0_7.stage ((cfgA (F := F)).slots t 7)) (hstage0_7 (((cfgA (F := F)).slots t 7).cast nbuf0_7))
    (spec0_8.stage ((cfgA (F := F)).slots t 8)) (hstage0_8 (((cfgA (F := F)).slots t 8).cast nbuf0_8))
    (Memref.whole cc0_scratch0) (Memref.isWhole_whole _) (Memref.whole cc0_scratch1) (Memref.isWhole_whole _) (Memref.whole cc0_scratch2) (Memref.isWhole_whole _)

theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

/-- What the output's staging buffer holds after the body: its block where the pair is a query tile with itself, and what it held elsewhere. -/
def outPost (c : Dev nD) (t : Fin (cfgA (F := F)).N) : sProp 𝕄 :=
  match (cfgA (F := F)).idle 8 (crd t) with
  | true => match ((cfgA (F := F)).win 8).flush t with
    | false => iprop(∃ d, owns (c : Thread nD τ) (stg t 8) fullShare ((dats m 0 c).before 8 t d))
    | true => owns (c : Thread nD τ) (stg t 8) fullShare ((dats m 0 c).after 8 t)
  | false => owns (c : Thread nD τ) (stg t 8) fullShare ((dats m 0 c).after 8 t)

theorem outPost_idle (c : Dev nD) (t : Fin (cfgA (F := F)).N) (h : ¬ k0_cond3 (lit0 (pair (crd (F := F) t))) (lit1 (pair (crd (F := F) t))) = 1#1) :
    outPost m c t = iprop(∃ d, owns (c : Thread nD τ) (stg t 8) fullShare ((dats m 0 c).before 8 t d)) := by
  have e : (cfgA (F := F)).idle 8 (crd t) = true := by
    rw [idle_8, Bool.not_eq_true', beq_eq_false_iff_ne]; exact h
  unfold outPost
  rw [e, no_flush t h]

theorem outPost_diag (c : Dev nD) (t : Fin (cfgA (F := F)).N) (h : k0_cond3 (lit0 (pair (crd (F := F) t))) (lit1 (pair (crd (F := F) t))) = 1#1) :
    outPost m c t = owns (c : Thread nD τ) (stg t 8) fullShare (outAt m c t) := by
  have e : (cfgA (F := F)).idle 8 (crd t) = false := by
    rw [idle_8, h]; rfl
  unfold outPost
  rw [e, after_8]

def bodyPre (c : Dev nD) (t : Fin (cfgA (F := F)).N) : sProp 𝕄 :=
  iprop((dats m 0 c).Φ t.castSucc ∗ (dats m 0 c).owesAt () t.castSucc
    ∗ (∃ d, owns (c : Thread nD τ) (stg t 0) fullShare ((dats m 0 c).before 0 t d))
    ∗ (∃ d, owns (c : Thread nD τ) (stg t 1) fullShare ((dats m 0 c).before 1 t d))
    ∗ (∃ d, owns (c : Thread nD τ) (stg t 2) fullShare ((dats m 0 c).before 2 t d))
    ∗ (∃ d, owns (c : Thread nD τ) (stg t 3) fullShare ((dats m 0 c).before 3 t d))
    ∗ (∃ d, owns (c : Thread nD τ) (stg t 4) fullShare ((dats m 0 c).before 4 t d))
    ∗ (∃ d, owns (c : Thread nD τ) (stg t 5) fullShare ((dats m 0 c).before 5 t d))
    ∗ (∃ d, owns (c : Thread nD τ) (stg t 6) fullShare ((dats m 0 c).before 6 t d))
    ∗ (∃ d, owns (c : Thread nD τ) (stg t 7) fullShare ((dats m 0 c).before 7 t d))
    ∗ (∃ d, owns (c : Thread nD τ) (stg t 8) fullShare ((dats m 0 c).before 8 t d)))

def bodyPost (c : Dev nD) (t : Fin (cfgA (F := F)).N) : sProp 𝕄 :=
  iprop((dats m 0 c).Φ t.succ ∗ (dats m 0 c).owesAt () t.succ
    ∗ owns (c : Thread nD τ) (stg t 0) fullShare ((dats m 0 c).after 0 t)
    ∗ owns (c : Thread nD τ) (stg t 1) fullShare ((dats m 0 c).after 1 t)
    ∗ owns (c : Thread nD τ) (stg t 2) fullShare ((dats m 0 c).after 2 t)
    ∗ owns (c : Thread nD τ) (stg t 3) fullShare ((dats m 0 c).after 3 t)
    ∗ owns (c : Thread nD τ) (stg t 4) fullShare ((dats m 0 c).after 4 t)
    ∗ owns (c : Thread nD τ) (stg t 5) fullShare ((dats m 0 c).after 5 t)
    ∗ owns (c : Thread nD τ) (stg t 6) fullShare ((dats m 0 c).after 6 t)
    ∗ owns (c : Thread nD τ) (stg t 7) fullShare ((dats m 0 c).after 7 t)
    ∗ outPost m c t)

set_option maxHeartbeats 1600000 in
/-- The body at a point of kind `meta`. -/
theorem sound_meta (c : Dev nD) (t : Fin (cfgA (F := F)).N) (h1 : isMeta (lit1 (pair (crd (F := F) t))) = 1#1) :
    bodyPre m c t ⊢ wp frame (wpE (defs₀ (F := F)) Variants.none c none) Set.univ (bodyAt t) (fun _ => bodyPost m c t) := by
  obtain ⟨h2, h3⟩ := case_meta _ h1
  have h1' :  isMeta (word (F := F) (grid0.coords t) (tabs 1)) = 1#1 := by rw [word_k]; exact h1
  have h2' : ¬ isFull (word (F := F) (grid0.coords t) (tabs 0)) (word (F := F) (grid0.coords t) (tabs 1)) = 1#1 := by rw [word_k, word_q]; exact h2
  have h3' : ¬ k0_cond3 (word (F := F) (grid0.coords t) (tabs 0)) (word (F := F) (grid0.coords t) (tabs 1)) = 1#1 := by rw [word_k, word_q]; exact h3
  unfold bodyPre bodyPost
  simp only [before_0, before_1, before_2, before_3, before_4, before_5, before_6, before_7]
  rw [inv_eq, inv_eq, Fin.val_succ, Fin.val_castSucc,
    show (dats m 0 c).owesAt () t.succ = (dats m 0 c).owesAt () t.castSucc from rfl,
    after_0, after_1, after_2, after_3, after_4, after_5, after_6, after_7, outPost_idle m c t h3]
  unfold held
  iintro ⟨⟨⟨%M, %L, %A, %hS, HM, HL, HA⟩, Hr, Hq, Hk⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_meta c Set.univ (grid0.coords t) _ _ _ _ _ _ _ _ _ _ _ _ _ _ _ _ _ _ _ _ _ _ _ _ _ _ _ _ fullShare.right fullShare.right (tabs 0) (tabs 1)
    (iblk m c 0 t) (iblk m c 1 t) (iblk m c 2 t) (iblk m c 3 t) (iblk m c 4 t) (iblk m c 5 t) (iblk m c 6 t) (iblk m c 7 t) ((dats m 0 c).before 8 t d8) M L A h1' h2' h3' _)
  isplitl [Hq]; · iexact Hq
  isplitl [Hk]; · iexact Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HM]; · iexists _; iexact HM
  isplitl [HL]; · iexists _; iexact HL
  isplitl [HA]; · iexists _; iexact HA
  iintro ⟨Hq, Hk, H0, H1, H2, H3, H4, H5, H6, H7, H8, HM, HL, HA⟩
  isplitl [HM HL HA Hr Hq Hk]
  · isplitl [HM HL HA]
    · iexists _; iexists _; iexists _
      isplitr
      rotate_left
      · isplitl [HM]; · iexact HM
        isplitl [HL]; · iexact HL
        iexact HA
      · ipureintro
        intro _
        rw [st_succ]; unfold passAt pass
        rw [if_pos h1]
    isplitl [Hr]; · iexact Hr
    isplitl [Hq]; · iexact Hq
    iexact Hk
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 1600000 in
/-- The body at a point of kind `full`. -/
theorem sound_full (c : Dev nD) (t : Fin (cfgA (F := F)).N) (h2 : isFull (lit0 (pair (crd (F := F) t))) (lit1 (pair (crd (F := F) t))) = 1#1) :
    bodyPre m c t ⊢ wp frame (wpE (defs₀ (F := F)) Variants.none c none) Set.univ (bodyAt t) (fun _ => bodyPost m c t) := by
  obtain ⟨h1, h3⟩ := case_full _ h2
  have h1' : ¬ isMeta (word (F := F) (grid0.coords t) (tabs 1)) = 1#1 := by rw [word_k]; exact h1
  have h2' :  isFull (word (F := F) (grid0.coords t) (tabs 0)) (word (F := F) (grid0.coords t) (tabs 1)) = 1#1 := by rw [word_k, word_q]; exact h2
  have h3' : ¬ k0_cond3 (word (F := F) (grid0.coords t) (tabs 0)) (word (F := F) (grid0.coords t) (tabs 1)) = 1#1 := by rw [word_k, word_q]; exact h3
  unfold bodyPre bodyPost
  simp only [before_0, before_1, before_2, before_3, before_4, before_5, before_6, before_7]
  rw [inv_eq, inv_eq, Fin.val_succ, Fin.val_castSucc,
    show (dats m 0 c).owesAt () t.succ = (dats m 0 c).owesAt () t.castSucc from rfl,
    after_0, after_1, after_2, after_3, after_4, after_5, after_6, after_7, outPost_idle m c t h3]
  unfold held
  iintro ⟨⟨⟨%M, %L, %A, %hS, HM, HL, HA⟩, Hr, Hq, Hk⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hSt : (M, L, A) = st m c t.val := hS (not_meta_pos t h1)
  iapply (body_full c Set.univ (grid0.coords t) _ _ _ _ _ _ _ _ _ _ _ _ _ _ _ _ _ _ _ _ _ _ _ _ _ _ _ _ fullShare.right fullShare.right (tabs 0) (tabs 1)
    (iblk m c 0 t) (iblk m c 1 t) (iblk m c 2 t) (iblk m c 3 t) (iblk m c 4 t) (iblk m c 5 t) (iblk m c 6 t) (iblk m c 7 t) ((dats m 0 c).before 8 t d8) M L A h1' h2' h3' _)
  isplitl [Hq]; · iexact Hq
  isplitl [Hk]; · iexact Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HM]; · iexact HM
  isplitl [HL]; · iexact HL
  isplitl [HA]; · iexact HA
  iintro ⟨Hq, Hk, H0, H1, H2, H3, H4, H5, H6, H7, H8, HM, HL, HA⟩
  isplitl [HM HL HA Hr Hq Hk]
  · isplitl [HM HL HA]
    · iexists _; iexists _; iexists _
      isplitr
      rotate_left
      · isplitl [HM]; · iexact HM
        isplitl [HL]; · iexact HL
        iexact HA
      · ipureintro
        intro _
        rw [st_succ]; unfold passAt pass
        rw [if_neg h1, if_pos h2, ← hSt]
    isplitl [Hr]; · iexact Hr
    isplitl [Hq]; · iexact Hq
    iexact Hk
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 1600000 in
/-- The body at a point of kind `diag`. -/
theorem sound_diag (c : Dev nD) (t : Fin (cfgA (F := F)).N) (h1 : ¬ isMeta (lit1 (pair (crd (F := F) t))) = 1#1) (h2 : ¬ isFull (lit0 (pair (crd (F := F) t))) (lit1 (pair (crd (F := F) t))) = 1#1) :
    bodyPre m c t ⊢ wp frame (wpE (defs₀ (F := F)) Variants.none c none) Set.univ (bodyAt t) (fun _ => bodyPost m c t) := by
  have h3 := case_diag _ h1 h2
  have h1' : ¬ isMeta (word (F := F) (grid0.coords t) (tabs 1)) = 1#1 := by rw [word_k]; exact h1
  have h2' : ¬ isFull (word (F := F) (grid0.coords t) (tabs 0)) (word (F := F) (grid0.coords t) (tabs 1)) = 1#1 := by rw [word_k, word_q]; exact h2
  have h3' :  k0_cond3 (word (F := F) (grid0.coords t) (tabs 0)) (word (F := F) (grid0.coords t) (tabs 1)) = 1#1 := by rw [word_k, word_q]; exact h3
  unfold bodyPre bodyPost
  simp only [before_0, before_1, before_2, before_3, before_4, before_5, before_6, before_7]
  rw [inv_eq, inv_eq, Fin.val_succ, Fin.val_castSucc,
    show (dats m 0 c).owesAt () t.succ = (dats m 0 c).owesAt () t.castSucc from rfl,
    after_0, after_1, after_2, after_3, after_4, after_5, after_6, after_7, outPost_diag m c t h3]
  unfold held
  iintro ⟨⟨⟨%M, %L, %A, %hS, HM, HL, HA⟩, Hr, Hq, Hk⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hSt : (M, L, A) = st m c t.val := hS (not_meta_pos t h1)
  iapply (body_diag c Set.univ (grid0.coords t) _ _ _ _ _ _ _ _ _ _ _ _ _ _ _ _ _ _ _ _ _ _ _ _ _ _ _ _ fullShare.right fullShare.right (tabs 0) (tabs 1)
    (iblk m c 0 t) (iblk m c 1 t) (iblk m c 2 t) (iblk m c 3 t) (iblk m c 4 t) (iblk m c 5 t) (iblk m c 6 t) (iblk m c 7 t) ((dats m 0 c).before 8 t d8) M L A h1' h2' h3' _)
  isplitl [Hq]; · iexact Hq
  isplitl [Hk]; · iexact Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HM]; · iexact HM
  isplitl [HL]; · iexact HL
  isplitl [HA]; · iexact HA
  iintro ⟨Hq, Hk, H0, H1, H2, H3, H4, H5, H6, H7, H8, HM, HL, HA⟩
  isplitl [HM HL HA Hr Hq Hk]
  · isplitl [HM HL HA]
    · iexists _; iexists _; iexists _
      isplitr
      rotate_left
      · isplitl [HM]; · iexact HM
        isplitl [HL]; · iexact HL
        iexact HA
      · ipureintro
        intro _
        rw [st_succ]; unfold passAt pass
        rw [if_neg h1, if_neg h2, ← hSt]
    isplitl [Hr]; · iexact Hr
    isplitl [Hq]; · iexact Hq
    iexact Hk
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have hout : outAt m c t = stackOut (iblk m c 6 t) (iblk m c 7 t) (stackAccDiag (iblk m c 0 t) (iblk m c 1 t) (iblk m c 2 t) (iblk m c 3 t) M A)
      (stackSumDiag (iblk m c 0 t) (iblk m c 1 t) (iblk m c 2 t) M L) := by
    unfold outAt
    rw [st_succ]; unfold passAt pass
    rw [if_neg h1, if_neg h2, ← hSt]
  rw [hout]
  iexact H8

/-- The body at every point. -/
theorem sound_body (c : Dev nD) (t : Fin (cfgA (F := F)).N) :
    bodyPre m c t ⊢ wp frame (wpE (defs₀ (F := F)) Variants.none c none) Set.univ (bodyAt t) (fun _ => bodyPost m c t) := by
  by_cases h1 : isMeta (lit1 (pair (crd (F := F) t))) = 1#1
  · exact sound_meta m c t h1
  · by_cases h2 : isFull (lit0 (pair (crd (F := F) t))) (lit1 (pair (crd (F := F) t))) = 1#1
    · exact sound_full m c t h2
    · exact sound_diag m c t h1 h2

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Attn
-- ==== Proof.AttnRun.lean ====
module

public import proofs.«01_k».proof.Proof.Gen.KernelIdeal.Loops
public import proofs.«01_k».proof.Proof.AttnFrame
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Pipeline.ValueKit

@[expose] public section

set_option maxRecDepth 16384
set_option maxHeartbeats 1000000

noncomputable section

namespace Cert.KernelIdeal.Attn

open Idealize.ShloMosaic Idealize.ShloMosaic.TcCoe Idealize.ShloMosaic.Tactic
open Idealize.SL Idealize.SL.RA Idealize.SL.BI
open Cert.KernelIdeal.Gen

variable {F : FTy → Type} [FloatOps F] [Named F]

open Idealize.SL.BI.BIBase Idealize.SL.BI.Laws Idealize.SL.ProofMode Idealize.SL.Sem
open scoped Idealize.SL.BI
open Idealize.ShloMosaic.Rounds
open Idealize.ShloMosaic.Pipeline (Dat Cfg Window BodyObligation cellOf)
local notation "𝕄" => MT nD τ sig Unit (Elt F) ℕ (UR sig nD τ) ℕ

variable (m : (ℓ : Loc nD τ sig) → Buf (Elt F) ℓ) (ρ : Dev nD → PrngReg)

/-- The host operations leave the two tables in their buffers. -/
theorem tables_held (c : Dev nD) (k : Fin pre0.K) : V (F := F) m c (pre0.ref k) = tabs k := by
  have h0 : V (F := F) m c main_c = tabs (F := F) 0 := by
    unfold V; entry_read <;> rfl
  have h1 : V (F := F) m c main_c_0 = tabs (F := F) 1 := by
    unfold V; entry_read <;> rfl
  match k with
  | ⟨0, _⟩ => exact h0
  | ⟨1, _⟩ => exact h1

theorem tables_owned (c : Dev nD) : (Pipeline.ΦT pre0 (tabs (F := F)) c : sProp 𝕄)
    = iprop(owns (c : Thread nD τ) (Memref.whole main_c) fullShare.right (tabs (F := F) 0)
      ∗ owns (c : Thread nD τ) (Memref.whole main_c_0) fullShare.right (tabs (F := F) 1)) := by
  unfold Pipeline.ΦT Pipeline.prefHeld
  have e0 : (owns (c : Thread nD τ) (Memref.whole main_c) fullShare.right (tabs (F := F) 0) : sProp 𝕄)
      = (((c : Thread nD τ).loc (pre0.ref 0)) ↦{fullShare.right} tabs (F := F) 0) := owns_whole (c : Thread nD τ) main_c fullShare.right _
  have e1 : (owns (c : Thread nD τ) (Memref.whole main_c_0) fullShare.right (tabs (F := F) 1) : sProp 𝕄)
      = (((c : Thread nD τ).loc (pre0.ref 1)) ↦{fullShare.right} tabs (F := F) 1) := owns_whole (c : Thread nD τ) main_c_0 fullShare.right _
  rw [e0, e1]
  exact bigSep_fin_two (M := 𝕄) (fun k : Fin 2 => (((c : Thread nD τ).loc (pre0.ref k)) ↦{fullShare.right} tabs (F := F) k : sProp 𝕄))

/-- What the launch hands to the pipeline starts the invariant, -/
theorem start (c : Dev nD) : iprop(Pipeline.ΦA spec0 c ∗ Pipeline.ΦT pre0 (tabs (F := F)) c) ⊢ (held m c 0 : sProp 𝕄) := by
  rw [tables_owned]
  unfold Pipeline.ΦA held
  rw [scopedRest0_eq]
  iintro ⟨⟨⟨⟨%f0, H0⟩, ⟨%f1, H1⟩, ⟨%f2, H2⟩⟩, Hr⟩, Hq, Hk⟩
  isplitl [H0 H1 H2]
  · iexists f0; iexists f1; iexists f2
    isplitr
    rotate_left
    · rw [owns_whole, owns_whole, owns_whole]
      isplitl [H0]; · iexact H0
      isplitl [H1]; · iexact H1
      iexact H2
    · ipureintro
      intro h
      exact absurd h (lt_irrefl 0)
  isplitl [Hr]; · iexact Hr
  isplitl [Hq]; · iexact Hq
  iexact Hk

/-- and the invariant hands back what the scope returns. -/
theorem finish (c : Dev nD) (n : ℕ) : (held m c n : sProp 𝕄) ⊢ Pipeline.ΦA spec0 c := by
  unfold Pipeline.ΦA held
  rw [scopedRest0_eq]
  simp only [owns_whole]
  iintro ⟨⟨%M, %L, %A, %hS, HM, HL, HA⟩, Hr, Hq, Hk⟩
  isplitl [HM HL HA]
  · isplitl [HM]; · iexists M; iexact HM
    isplitl [HL]; · iexists L; iexact HL
    iexists A; iexact HA
  iexact Hr

set_option backward.isDefEq.respectTransparency.types false in
set_option maxHeartbeats 1600000 in
/-- Every run of `main` ends, with every array of the pipeline at what its proof data says, the other buffers as the pipeline found them, and every counter at zero. -/
theorem run_main_quiescent : θ_run defs (onTc (τ := τ) (main (F := F))) (s₀ m ρ)
    (fun r => (Pipeline.FramePost (Pipeline.pin (pcfgs (F := F)) adm) (dats m) 0 (V m)) r ∧ r.2.sem = fun _ => 0) :=
  Pipeline.θ_run_frameP_track (Q' := _) pcfgs adm (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := tables_held m)
    (hin := start m) (hout := fun c => finish m c _)

theorem run_main : θ_run defs (onTc (τ := τ) (main (F := F))) (s₀ m ρ) (Pipeline.FramePost (Pipeline.pin (pcfgs (F := F)) adm) (dats m) 0 (V m)) :=
  (θ_run defs _ _).mono (fun _ h => h.1) (run_main_quiescent m ρ)

theorem V_arg0 (c : Dev nD) : V m c main_arg0 = m ((c.tc : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c.tc : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c.tc : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg3 (c : Dev nD) : V m c main_arg3 = m ((c.tc : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg4 (c : Dev nD) : V m c main_arg4 = m ((c.tc : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg5 (c : Dev nD) : V m c main_arg5 = m ((c.tc : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg6 (c : Dev nD) : V m c main_arg6 = m ((c.tc : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg7 (c : Dev nD) : V m c main_arg7 = m ((c.tc : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg8 (c : Dev nD) : V m c main_arg8 = m ((c.tc : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg9 (c : Dev nD) : V m c main_arg9 = m ((c.tc : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg10 (c : Dev nD) : V m c main_arg10 = m ((c.tc : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_main m ρ)
  refine ⟨((h c).1 0).trans (((dats m 0 c).arrAt_in 0 rfl _).trans ((A_eq m c 0).trans (V_arg0 m c))), ?_⟩
  refine ⟨((h c).1 1).trans (((dats m 0 c).arrAt_in 1 rfl _).trans ((A_eq m c 1).trans (V_arg1 m c))), ?_⟩
  refine ⟨((h c).1 2).trans (((dats m 0 c).arrAt_in 2 rfl _).trans ((A_eq m c 2).trans (V_arg2 m c))), ?_⟩
  refine ⟨((h c).1 3).trans (((dats m 0 c).arrAt_in 3 rfl _).trans ((A_eq m c 3).trans (V_arg3 m c))), ?_⟩
  refine ⟨((h c).1 4).trans (((dats m 0 c).arrAt_in 4 rfl _).trans ((A_eq m c 4).trans (V_arg4 m c))), ?_⟩
  refine ⟨((h c).1 5).trans (((dats m 0 c).arrAt_in 5 rfl _).trans ((A_eq m c 5).trans (V_arg5 m c))), ?_⟩
  refine ⟨((h c).2 main_arg6 (Pipeline.mem_restRefs_of main_arg6 (by decide) (show ∀ w : Fin 9, (spec0 w).arr.view.ref ≠ main_arg6 from by decide))).trans (V_arg6 m c), ?_⟩
  refine ⟨((h c).2 main_arg7 (Pipeline.mem_restRefs_of main_arg7 (by decide) (show ∀ w : Fin 9, (spec0 w).arr.view.ref ≠ main_arg7 from by decide))).trans (V_arg7 m c), ?_⟩
  refine ⟨((h c).2 main_arg8 (Pipeline.mem_restRefs_of main_arg8 (by decide) (show ∀ w : Fin 9, (spec0 w).arr.view.ref ≠ main_arg8 from by decide))).trans (V_arg8 m c), ?_⟩
  refine ⟨((h c).2 main_arg9 (Pipeline.mem_restRefs_of main_arg9 (by decide) (show ∀ w : Fin 9, (spec0 w).arr.view.ref ≠ main_arg9 from by decide))).trans (V_arg9 m c), ?_⟩
  exact ((h c).2 main_arg10 (Pipeline.mem_restRefs_of main_arg10 (by decide) (show ∀ w : Fin 9, (spec0 w).arr.view.ref ≠ main_arg10 from by decide))).trans (V_arg10 m c)

/-- The frame: every run ends, the argument arrays unchanged and every counter at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Attn
-- ==== Proof.AttnMath.lean ====
/-
The streaming softmax over the extended reals, one row of queries at a time: a pass over a tile of keys keeps the running
maximum, the running sum and the accumulator in step with the plain sums of exponentials; and the plain softmax is the
quotient of these sums.
-/
module

public import Idealize.ShloMosaic.PureOps.Ideal

@[expose] public section

noncomputable section

namespace Cert.Attn

open Idealize.ShloMosaic

theorem exp_coe (r : ℝ) : Ideal.exp (r : EReal) = (Real.exp r : EReal) := rfl
theorem exp_bot : Ideal.exp ⊥ = 0 := rfl

/-- A sum of reals, taken among the extended reals. -/
theorem coe_sum {n : ℕ} (f : Fin n → ℝ) : ((∑ j, f j : ℝ) : EReal) = ∑ j, (f j : EReal) := by
  have h : ∀ s : Finset (Fin n), ((∑ j ∈ s, f j : ℝ) : EReal) = ∑ j ∈ s, (f j : EReal) := by
    intro s
    induction s using Finset.induction with
    | empty => simp
    | insert a s ha ih => rw [Finset.sum_insert ha, Finset.sum_insert ha, EReal.coe_add, ih]
  exact h _

/-- The score of a query row against a key: a sum of products of reals. -/
theorem coe_dot {n : ℕ} (x y : Fin n → EReal) (a b : Fin n → ℝ) (hx : ∀ d, x d = (a d : EReal)) (hy : ∀ d, y d = (b d : EReal)) :
    ∑ d, x d * y d = ((∑ d, a d * b d : ℝ) : EReal) := by
  rw [coe_sum]
  exact Finset.sum_congr rfl fun d _ => by rw [hx, hy, EReal.coe_mul]

/-- A quotient of reals with a positive divisor. -/
theorem div_coe_pos (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

section Tile
variable {n : ℕ} (S : Fin n → EReal) (p : Fin n → Prop) [DecidablePred p] (s : Fin n → ℝ)
  (hS : ∀ j, S j = if p j then (s j : EReal) else ⊥)

include hS

/-- The largest of some scores, at least one of them not masked, is real. -/
theorem max_real (m0 : EReal) (h0 : m0 ≠ ⊤) (hp : ∃ j, p j) : ∃ μ : ℝ, max m0 (Finset.univ.fold max ⊥ S) = (μ : EReal) := by
  obtain ⟨j, hj⟩ := hp
  have h1 : Finset.univ.fold max ⊥ S < ⊤ := by
    rw [Finset.fold_max_lt]
    refine ⟨bot_lt_top, fun k _ => ?_⟩
    rw [hS]
    by_cases hk : p k
    · rw [if_pos hk]; exact EReal.coe_lt_top _
    · rw [if_neg hk]; exact bot_lt_top
  have h2 : ⊥ < Finset.univ.fold max ⊥ S := by
    rw [Finset.lt_fold_max]
    refine .inr ⟨j, Finset.mem_univ _, ?_⟩
    rw [hS, if_pos hj]; exact EReal.bot_lt_coe _
  have h3 : max m0 (Finset.univ.fold max ⊥ S) ≠ ⊤ := (max_lt (lt_top_iff_ne_top.mpr h0) h1).ne
  have h4 : max m0 (Finset.univ.fold max ⊥ S) ≠ ⊥ := (lt_of_lt_of_le h2 (le_max_right _ _)).ne'
  exact ⟨_, (EReal.coe_toReal h3 h4).symm⟩

/-- The exponential of a score less a real: nought where masked. -/
theorem exp_score (μ : ℝ) (j : Fin n) :
    Ideal.exp (S j - (μ : EReal)) = (((if p j then Real.exp (s j) else 0) * Real.exp (-μ) : ℝ) : EReal) := by
  rw [hS]
  by_cases hj : p j
  · rw [if_pos hj, if_pos hj, ← EReal.coe_sub, exp_coe, ← Real.exp_add, sub_eq_add_neg]
  · rw [if_neg hj, if_neg hj, zero_mul, EReal.bot_sub, exp_bot]; rfl

/-- The sum of the exponentials. -/
theorem sum_exp (μ : ℝ) : ∑ j, Ideal.exp (S j - (μ : EReal)) = (((∑ j, if p j then Real.exp (s j) else 0) * Real.exp (-μ) : ℝ) : EReal) := by
  rw [Finset.sum_mul, coe_sum]
  exact Finset.sum_congr rfl fun j _ => exp_score S p s hS μ j

/-- The sum of the exponentials times values; the values need be real only where not masked. -/
theorem sum_exp_mul (μ : ℝ) (V : Fin n → EReal) (v : Fin n → ℝ) (hV : ∀ j, p j → V j = (v j : EReal)) :
    ∑ j, Ideal.exp (S j - (μ : EReal)) * V j = (((∑ j, if p j then Real.exp (s j) * v j else 0) * Real.exp (-μ) : ℝ) : EReal) := by
  rw [Finset.sum_mul, coe_sum]
  refine Finset.sum_congr rfl fun j _ => ?_
  rw [exp_score S p s hS]
  by_cases hj : p j
  · rw [if_pos hj, if_pos hj, hV j hj, ← EReal.coe_mul]; congr 1; ring
  · rw [if_neg hj, if_neg hj, zero_mul, EReal.coe_zero, zero_mul]

end Tile

/-- The running maximum `M`, sum `L` and accumulator `A` of a row stand for the sum `e` of exponentials and the sums `f` of exponentials times values. -/
def Row (M L A : Fin 128 → EReal) (e : ℝ) (f : Fin 128 → ℝ) : Prop :=
  ∃ μ : ℝ, ∀ c, M c = (μ : EReal) ∧ L c = ((e * Real.exp (-μ) : ℝ) : EReal) ∧ A c = ((f c * Real.exp (-μ) : ℝ) : EReal)

/-- The same, or the row as it starts. -/
def Start (M L A : Fin 128 → EReal) (e : ℝ) (f : Fin 128 → ℝ) : Prop :=
  ∃ m0 : EReal, m0 ≠ ⊤ ∧ (∀ c, M c = m0) ∧ ∀ (μ : ℝ) (c), Ideal.exp (m0 - (μ : EReal)) * L c = ((e * Real.exp (-μ) : ℝ) : EReal)
    ∧ Ideal.exp (m0 - (μ : EReal)) * A c = ((f c * Real.exp (-μ) : ℝ) : EReal)

theorem Row.start {M L A : Fin 128 → EReal} {e : ℝ} {f : Fin 128 → ℝ} (h : Row M L A e f) : Start M L A e f := by
  obtain ⟨ν, h⟩ := h
  refine ⟨(ν : EReal), EReal.coe_ne_top _, fun c => (h c).1, fun μ c => ?_⟩
  rw [(h c).2.1, (h c).2.2, ← EReal.coe_sub, exp_coe, ← EReal.coe_mul, ← EReal.coe_mul]
  have e1 : Real.exp (ν - μ) * Real.exp (-ν) = Real.exp (-μ) := by rw [← Real.exp_add]; congr 1; ring
  constructor
  · congr 1; rw [← e1]; ring
  · congr 1; rw [← e1]; ring

/-- A row starts at nothing. -/
theorem start_zero (M L A : Fin 128 → EReal) (hM : ∀ c, M c = ⊥) (hL : ∀ c, L c = 0) (hA : ∀ c, A c = 0) : Start M L A 0 (fun _ => 0) := by
  refine ⟨⊥, bot_ne_top, hM, fun μ c => ?_⟩
  rw [hL, hA, mul_zero, zero_mul, EReal.coe_zero]
  exact ⟨rfl, rfl⟩

/-- One pass over a tile of keys adds the tile's exponentials to the sums. -/
theorem step {n : ℕ} (M L A M' L' A' : Fin 128 → EReal) (e : ℝ) (f : Fin 128 → ℝ) (h : Start M L A e f)
    (S : Fin n → EReal) (p : Fin n → Prop) [DecidablePred p] (s : Fin n → ℝ) (hS : ∀ j, S j = if p j then (s j : EReal) else ⊥) (hp : ∃ j, p j)
    (V : Fin n → Fin 128 → EReal) (v : Fin n → Fin 128 → ℝ) (hV : ∀ j c, p j → V j c = (v j c : EReal))
    (lane : Fin n → Fin 128)
    (hM' : ∀ c, M' c = max (M c) (Finset.univ.fold max ⊥ S))
    (hL' : ∀ c, L' c = Ideal.exp (M c - M' c) * L c + ∑ j, Ideal.exp (S j - M' (lane j)))
    (hA' : ∀ c, A' c = Ideal.exp (M c - M' c) * A c + ∑ j, Ideal.exp (S j - M' (lane j)) * V j c) :
    Row M' L' A' (e + ∑ j, if p j then Real.exp (s j) else 0) (fun c => f c + ∑ j, if p j then Real.exp (s j) * v j c else 0) := by
  obtain ⟨m0, h0, hM, hw⟩ := h
  obtain ⟨μ, hμ⟩ := max_real S p s hS m0 h0 hp
  have hm : ∀ c, M' c = (μ : EReal) := fun c => by rw [hM', hM, hμ]
  refine ⟨μ, fun c => ⟨hm c, ?_, ?_⟩⟩
  · rw [hL', hM, hm, (hw μ c).1]
    simp only [hm]
    rw [sum_exp S p s hS, ← EReal.coe_add, add_mul]
  · rw [hA', hM, hm, (hw μ c).2]
    simp only [hm]
    rw [sum_exp_mul S p s hS μ (fun j => V j c) (fun j => v j c) (fun j => hV j c), ← EReal.coe_add, add_mul]

/-- At the end the accumulator over the sum is the quotient of the sums. -/
theorem Row.quotient {M L A : Fin 128 → EReal} {e : ℝ} {f : Fin 128 → ℝ} (h : Row M L A e f) (he : 0 < e) (c : Fin 128) :
    Ideal.div (A c) (L c) = ((f c / e : ℝ) : EReal) := by
  obtain ⟨μ, h⟩ := h
  rw [(h c).2.1, (h c).2.2, div_coe_pos _ _ (mul_pos he (Real.exp_pos _))]
  congr 1
  rw [mul_div_mul_right _ _ (Real.exp_pos _).ne']

/-- The plain softmax of a row, at a key. -/
theorem softmax {n : ℕ} (S : Fin n → EReal) (p : Fin n → Prop) [DecidablePred p] (s : Fin n → ℝ)
    (hS : ∀ j, S j = if p j then (s j : EReal) else ⊥) (hp : ∃ j, p j) (k : Fin n) :
    Ideal.div (Ideal.exp (S k - max ⊥ (Finset.univ.fold max ⊥ S))) (∑ j, Ideal.exp (S j - max ⊥ (Finset.univ.fold max ⊥ S)))
      = (((if p k then Real.exp (s k) else 0) / (∑ j, if p j then Real.exp (s j) else 0) : ℝ) : EReal) := by
  obtain ⟨μ, hμ⟩ := max_real S p s hS ⊥ bot_ne_top hp
  obtain ⟨i, hi⟩ := hp
  rw [hμ, exp_score S p s hS, sum_exp S p s hS]
  have hpos : 0 < ∑ j, if p j then Real.exp (s j) else 0 :=
    Finset.sum_pos' (fun j _ => by by_cases hj : p j <;> simp [hj, Real.exp_nonneg]) ⟨i, Finset.mem_univ _, by rw [if_pos hi]; exact Real.exp_pos _⟩
  rw [div_coe_pos _ _ (mul_pos hpos (Real.exp_pos _)), mul_div_mul_right _ _ (Real.exp_pos _).ne']

/-- The difference of two maps, applied to values. -/
theorem apply_maps {n : ℕ} (P1 P2 : Fin n → EReal) (lam : EReal) (V : Fin n → EReal) (w1 w2 : Fin n → ℝ) (e1 e2 l : ℝ) (v : Fin n → ℝ)
    (h1 : ∀ j, P1 j = ((w1 j / e1 : ℝ) : EReal)) (h2 : ∀ j, P2 j = ((w2 j / e2 : ℝ) : EReal)) (hl : lam = (l : EReal)) (hV : ∀ j, V j = (v j : EReal)) :
    ∑ j, (P1 j - lam * P2 j) * V j = (((∑ j, w1 j * v j) / e1 : ℝ) : EReal) - lam * (((∑ j, w2 j * v j) / e2 : ℝ) : EReal) := by
  rw [hl, ← EReal.coe_mul, ← EReal.coe_sub]
  have e : ∀ j, (P1 j - (l : EReal) * P2 j) * V j = (((w1 j / e1 - l * (w2 j / e2)) * v j : ℝ) : EReal) := fun j => by
    rw [h1, h2, hV, ← EReal.coe_mul, ← EReal.coe_sub, ← EReal.coe_mul]
  rw [Finset.sum_congr rfl fun j _ => e j, ← coe_sum]
  congr 1
  rw [Finset.sum_div, Finset.sum_div, Finset.mul_sum, ← Finset.sum_sub_distrib]
  exact Finset.sum_congr rfl fun j _ => by ring

/-! ## Sums over the first keys -/

/-- A sum over a masked range is the sum up to the mask. -/
theorem sum_upto (n k : ℕ) (hk : k ≤ n) (f : ℕ → ℝ) : (∑ j : Fin n, if j.val < k then f j.val else 0) = ∑ j ∈ Finset.range k, f j := by
  rw [Fin.sum_univ_eq_sum_range (fun j => if j < k then f j else 0) n, ← Finset.sum_filter]
  refine Finset.sum_congr ?_ fun _ _ => rfl
  ext j
  rw [Finset.mem_filter, Finset.mem_range, Finset.mem_range]
  omega

/-- A longer range adds the keys after the shorter one. -/
theorem range_add (a n k : ℕ) (hk : k ≤ n) (f : ℕ → ℝ) :
    (∑ j ∈ Finset.range a, f j) + (∑ j : Fin n, if j.val < k then f (a + j.val) else 0) = ∑ j ∈ Finset.range (a + k), f j := by
  rw [sum_upto n k hk (fun j => f (a + j)), Finset.sum_range_add]

end Cert.Attn

end
-- ==== Proof.AttnSteps.lean ====
module

public import proofs.«01_k».proof.Proof.AttnTrips
public import proofs.«01_k».proof.Proof.AttnMath
public import Idealize.ShloMosaic.Lib.Pipeline.ValueKit
public import Idealize.ShloMosaic.Lib.WordCmp

/-!
What one tile of the attention does to the running maximum, the running sum and the running weighted sum of a query row,
over exact values, entry by entry.
-/

@[expose] public section

set_option maxRecDepth 16384

noncomputable section

namespace Cert.KernelIdeal.Attn

open Idealize.ShloMosaic Idealize.ShloMosaic.TcCoe Idealize.SL.Sem
open Cert.KernelIdeal Cert.KernelIdeal.Gen

/-- The score of query row `i` and key row `j` of two tiles. -/
def dot {n : ℕ} (q : Vec Ideal S1x512x128 .bf16) (k : Vec Ideal { rank := 3, size := ![1, n, 128] } .bf16) (i : Fin 512)
    (j : Fin n) : EReal :=
  ∑ d : Fin 128, (q (ix3 0 i d) * k (ix3 0 j d) : EReal)

/-- The score of a key of the diagonal tile: minus infinity after the query's own position. -/
def diagScore (q k : Vec Ideal S1x512x128 .bf16) (i j : Fin 512) : EReal := if j.val ≤ i.val then dot q k i j else ⊥

/-- The score of a row of the meta tile: minus infinity from row sixteen on. -/
def metaScore (q : Vec Ideal S1x512x128 .bf16) (k : Vec Ideal S1x128x128 .bf16) (i : Fin 512) (j : Fin 128) : EReal :=
  if j.val < 16 then dot q k i j else ⊥

/-- The lane that holds the maximum which is subtracted from the score of key `j`. -/
def lane (j : Fin 512) : Fin 128 := ⟨j.val % 128, Nat.mod_lt _ (by decide)⟩

/-- The named mask value reads minus infinity over exact values. -/
theorem mask_bot : (Named.named κ "mask" 0xF149F2CA#32 : Ideal .f32) = (⊥ : EReal) := rfl

theorem ofBits_bot : (Ideal.ofBits .f32 0xFF800000#32 : EReal) = ⊥ := by
  simp [Ideal.ofBits, Ideal.ieee]

theorem select_lt (n : ℕ) (hn : n < 2 ^ 31) (a b : EReal) :
    Scalar.select (IntOp.cmpi CmpIPredicate.slt (BitVec.ofNat 32 n) 16#32) a b = if n < 16 then a else b := by
  rw [WordCmp.cmpi_slt_ofNat (by omega) (by decide)]
  by_cases h : n < 16 <;> simp [Scalar.select, h]

theorem select_le (n k : ℕ) (hn : n < 2 ^ 31) (hk : k < 2 ^ 31) (a b : EReal) :
    Scalar.select (IntOp.cmpi CmpIPredicate.sle (BitVec.ofNat 32 n) (BitVec.ofNat 32 k)) a b = if n ≤ k then a else b := by
  rw [WordCmp.cmpi_sle_ofNat (by omega) (by omega)]
  by_cases h : n ≤ k <;> simp [Scalar.select, h]

/-- The lanes of the row maxima, tiled four times, read at column `j`. -/
theorem tiled (f : Fin 128 → EReal) (x : Fin 512) :
    (if h : x.val < 128 then f ⟨x.val, h⟩ else if h2 : x.val - 128 < 128 then f ⟨x.val - 128, h2⟩
      else if h3 : x.val - 128 - 128 < 128 then f ⟨x.val - 128 - 128, h3⟩
      else f ⟨x.val - 128 - 128 - 128, by omega⟩) = f (lane x) := by
  split_ifs <;> exact congrArg f (Fin.ext (by simp only [lane]; omega))

variable (q : Vec Ideal S1x512x128 .bf16) (m l a : Vec Ideal S1x512x128 .f32)

section full
variable (k v : Vec Ideal S1x512x128 .bf16) (i : Fin 512) (c : Fin 128)

theorem maxFull_at : (maxFull q k m (ix3 0 i c) : EReal)
    = max (m (ix3 0 i c) : EReal) (Finset.univ.fold max ⊥ (fun j : Fin 512 => dot q k i j)) := by
  pointwise [maxFull, k0_pay10, k0_pay43, k0_pay42, k0_pay41]
  rw [ofBits_bot]
  rfl

theorem row43_at (c : Fin 128) : (k0_pay43 q k m (ix2 i c) : EReal) = maxFull q k m (ix3 0 i c) := by
  pointwise [maxFull, k0_pay10]

theorem sumFull_at : (sumFull q k m l (ix3 0 i c) : EReal)
    = Ideal.exp ((m (ix3 0 i c) : EReal) - maxFull q k m (ix3 0 i c)) * (l (ix3 0 i c) : EReal)
      + ∑ j : Fin 512, Ideal.exp (dot q k i j - maxFull q k m (ix3 0 i (lane j))) := by
  pointwise [sumFull, k0_pay8, k0_pay46, k0_pay45, k0_pay44, k0_pay42, k0_pay41]
  simp only [row43_at]
  refine congrArg₂ (fun x y : EReal => x + y) rfl (Finset.sum_congr rfl fun x _ => ?_)
  rw [tiled (fun y => (maxFull q k m (ix3 0 i y) : EReal)) x]
  rfl

theorem accFull_at : (accFull q k v m a (ix3 0 i c) : EReal)
    = Ideal.exp ((m (ix3 0 i c) : EReal) - maxFull q k m (ix3 0 i c)) * (a (ix3 0 i c) : EReal)
      + ∑ j : Fin 512, Ideal.exp (dot q k i j - maxFull q k m (ix3 0 i (lane j))) * (v (ix3 0 j c) : EReal) := by
  pointwise [accFull, k0_pay9, k0_pay40, k0_pay45, k0_pay44, k0_pay42, k0_pay41]
  simp only [row43_at]
  refine congrArg₂ (fun x y : EReal => x + y) rfl (Finset.sum_congr rfl fun x _ => ?_)
  rw [tiled (fun y => (maxFull q k m (ix3 0 i y) : EReal)) x]
  rfl

end full

section diag
variable (k v : Vec Ideal S1x512x128 .bf16) (i : Fin 512) (c : Fin 128)

theorem maxDiag_at : (maxDiag q k m (ix3 0 i c) : EReal)
    = max (m (ix3 0 i c) : EReal) (Finset.univ.fold max ⊥ (fun j : Fin 512 => diagScore q k i j)) := by
  pointwise [maxDiag, k0_pay64, k0_pay59, k0_pay58, k0_pay57, k0_pay11]
  rw [ofBits_bot]
  simp only [mask_bot]
  refine congrArg (fun f => max (m (ix3 0 i c) : EReal) (Finset.univ.fold max ⊥ f)) (funext fun j => ?_)
  exact select_le _ _ (by omega) (by omega) _ _

theorem mask11_at (i j : Fin 512) : (k0_pay11 : IVec S512x512 1) (ix2 i j)
    = IntOp.cmpi CmpIPredicate.sle (BitVec.ofNat 32 j.val) (BitVec.ofNat 32 i.val) := by
  pointwise [k0_pay11]

theorem row59_at (c : Fin 128) : (k0_pay59 k0_pay11 q k m (ix2 i c) : EReal) = maxDiag q k m (ix3 0 i c) := by
  pointwise [maxDiag, k0_pay64]

theorem sumDiag_at : (sumDiag q k m l (ix3 0 i c) : EReal)
    = Ideal.exp ((m (ix3 0 i c) : EReal) - maxDiag q k m (ix3 0 i c)) * (l (ix3 0 i c) : EReal)
      + ∑ j : Fin 512, Ideal.exp (diagScore q k i j - maxDiag q k m (ix3 0 i (lane j))) := by
  pointwise [sumDiag, k0_pay62, k0_pay61, k0_pay60, k0_pay58, k0_pay57]
  simp only [row59_at, mask11_at]
  refine congrArg₂ (fun x y : EReal => x + y) rfl (Finset.sum_congr rfl fun x _ => ?_)
  rw [tiled (fun y => (maxDiag q k m (ix3 0 i y) : EReal)) x, diagScore, ← select_le x.val i.val (by omega) (by omega)]
  rfl

theorem accDiag_at : (accDiag q k v m a (ix3 0 i c) : EReal)
    = Ideal.exp ((m (ix3 0 i c) : EReal) - maxDiag q k m (ix3 0 i c)) * (a (ix3 0 i c) : EReal)
      + ∑ j : Fin 512, Ideal.exp (diagScore q k i j - maxDiag q k m (ix3 0 i (lane j)))
          * (v (ix3 0 j c) : EReal) := by
  pointwise [accDiag, k0_pay63, k0_pay56, k0_pay61, k0_pay60, k0_pay58, k0_pay57]
  simp only [row59_at, mask11_at]
  refine congrArg₂ (fun x y : EReal => x + y) rfl (Finset.sum_congr rfl fun x _ => ?_)
  rw [tiled (fun y => (maxDiag q k m (ix3 0 i y) : EReal)) x, diagScore, ← select_le x.val i.val (by omega) (by omega)]
  rfl

end diag

section metaTile
variable (k v : Vec Ideal S1x128x128 .bf16) (i : Fin 512) (c : Fin 128)

theorem maxMeta_at : (maxMeta q k m (ix3 0 i c) : EReal)
    = max (m (ix3 0 i c) : EReal) (Finset.univ.fold max ⊥ (fun j : Fin 128 => metaScore q k i j)) := by
  pointwise [maxMeta, k0_pay7, k0_pay26, k0_pay25, k0_pay24, k0_pay4]
  rw [ofBits_bot]
  simp only [mask_bot]
  refine congrArg (fun f => max (m (ix3 0 i c) : EReal) (Finset.univ.fold max ⊥ f)) (funext fun j => ?_)
  exact select_lt _ (by omega) _ _

theorem mask4_at (i : Fin 512) (j : Fin 128) : (k0_pay4 : IVec S512x128 1) (ix2 i j)
    = IntOp.cmpi CmpIPredicate.slt (BitVec.ofNat 32 j.val) 16#32 := by
  pointwise [k0_pay4]

theorem row26_at (c : Fin 128) : (k0_pay26 k0_pay4 q k m (ix2 i c) : EReal) = maxMeta q k m (ix3 0 i c) := by
  pointwise [maxMeta, k0_pay7]

theorem sumMeta_at : (sumMeta q k m l (ix3 0 i c) : EReal)
    = Ideal.exp ((m (ix3 0 i c) : EReal) - maxMeta q k m (ix3 0 i c)) * (l (ix3 0 i c) : EReal)
      + ∑ j : Fin 128, Ideal.exp (metaScore q k i j - maxMeta q k m (ix3 0 i j)) := by
  pointwise [sumMeta, k0_pay5, k0_pay28, k0_pay27, k0_pay25, k0_pay24]
  simp only [row26_at, mask4_at]
  refine congrArg₂ (fun x y : EReal => x + y) rfl (Finset.sum_congr rfl fun x _ => ?_)
  rw [metaScore, ← select_lt x.val (by omega)]
  rfl

theorem accMeta_at : (accMeta q k v m a (ix3 0 i c) : EReal)
    = Ideal.exp ((m (ix3 0 i c) : EReal) - maxMeta q k m (ix3 0 i c)) * (a (ix3 0 i c) : EReal)
      + ∑ j : Fin 128, Ideal.exp (metaScore q k i j - maxMeta q k m (ix3 0 i j))
          * (v (ix3 0 j c) : EReal) := by
  pointwise [accMeta, k0_pay6, k0_pay23, k0_pay28, k0_pay27, k0_pay25, k0_pay24]
  simp only [row26_at, mask4_at]
  refine congrArg₂ (fun x y : EReal => x + y) rfl (Finset.sum_congr rfl fun x _ => ?_)
  rw [metaScore, ← select_lt x.val (by omega)]
  rfl

end metaTile

end Cert.KernelIdeal.Attn
-- ==== Proof.AttnKeys.lean ====
module

public import proofs.«01_k».proof.Proof.AttnMath
public import Idealize.ShloMosaic.Lib.Pipeline.ValueKit

/-!
The real numbers the attention is made of. The keys a query of sequence `b` sees are numbered from 0: the sixteen meta
tokens first, then the sequence's own tokens in order.
-/

@[expose] public section

set_option maxRecDepth 16384

noncomputable section

namespace Cert.Attn

open Idealize.ShloMosaic

/-- An array of the tokens' heads. -/
abbrev Tok : Type := FVec Ideal { rank := 3, size := ![8, 32768, 128] } .bf16
/-- An array of the meta tokens' heads, padded to a tile. -/
abbrev MetaTok : Type := FVec Ideal { rank := 3, size := ![8, 128, 128] } .bf16

/-- The number of token `p`, kept inside the array. -/
def tok (p : ℕ) : Fin 32768 := ⟨p % 32768, Nat.mod_lt _ (by decide)⟩

/-- Head `h` of token `p`, as real numbers. -/
def rowR (X : Tok) (h : Fin 8) (p : ℕ) (d : Fin 128) : ℝ := (X (ix3 h (tok p) d) : EReal).toReal

/-- Head `h` of key number `n` of sequence `b`, as real numbers. -/
def keyR (X : Tok) (XM : MetaTok) (h : Fin 8) (b n : ℕ) (d : Fin 128) : ℝ :=
  if hn : n < 16 then (XM (ix3 h (⟨n, by omega⟩ : Fin 128) d) : EReal).toReal else rowR X h (b * 4096 + (n - 16)) d

/-- The score of token `p` at key `n`. -/
def score (Q K : Tok) (KM : MetaTok) (h : Fin 8) (b p n : ℕ) : ℝ := ∑ d : Fin 128, rowR Q h p d * keyR K KM h b n d

/-- The sum of the exponentials of the scores of the first `n` keys. -/
def esum (Q K : Tok) (KM : MetaTok) (h : Fin 8) (b p n : ℕ) : ℝ := ∑ k ∈ Finset.range n, Real.exp (score Q K KM h b p k)

/-- The sum of the exponentials of the scores of the first `n` keys, times the keys' values. -/
def fsum (Q K V : Tok) (KM VM : MetaTok) (h : Fin 8) (b p n : ℕ) (c : Fin 128) : ℝ :=
  ∑ k ∈ Finset.range n, Real.exp (score Q K KM h b p k) * keyR V VM h b k c

theorem esum_pos (Q K : Tok) (KM : MetaTok) (h : Fin 8) (b p n : ℕ) (hn : 0 < n) : 0 < esum Q K KM h b p n :=
  Finset.sum_pos (fun _ _ => Real.exp_pos _) ⟨0, Finset.mem_range.mpr hn⟩

/-- A number that is neither infinity is the real number it reads as. -/
def Finite (x : EReal) : Prop := x = (x.toReal : EReal)

/-- Every entry of a token array is finite. -/
def FiniteTok (X : Tok) : Prop := ∀ h p d, Finite (X (ix3 h p d))
/-- Every entry of the meta tokens is finite. -/
def FiniteMeta (X : MetaTok) : Prop := ∀ h (n : ℕ) (hn : n < 16) d, Finite (X (ix3 h (⟨n, by omega⟩ : Fin 128) d))

theorem FiniteTok.row {X : Tok} (hX : FiniteTok X) (h : Fin 8) (p : ℕ) (d : Fin 128) : (X (ix3 h (tok p) d) : EReal) = (rowR X h p d : EReal) :=
  hX h (tok p) d

theorem keyR_meta {X : Tok} {XM : MetaTok} (hM : FiniteMeta XM) (h : Fin 8) (b n : ℕ) (hn : n < 16) (d : Fin 128) :
    (XM (ix3 h (⟨n, by omega⟩ : Fin 128) d) : EReal) = (keyR X XM h b n d : EReal) := by
  rw [keyR, dif_pos hn]
  exact hM h n hn d

theorem keyR_tok {X : Tok} {XM : MetaTok} (hX : FiniteTok X) (h : Fin 8) (b n : ℕ) (d : Fin 128) :
    (X (ix3 h (tok (b * 4096 + n)) d) : EReal) = (keyR X XM h b (16 + n) d : EReal) := by
  rw [keyR, dif_neg (by omega), Nat.add_sub_cancel_left]
  exact hX.row h _ d

/-- The weight of the second map: `exp (q1 · k1) - exp (q2 · k2) + 0.2`. -/
def lamOf (a b c d : FVec Ideal { rank := 2, size := ![1, 64] } .f32) : EReal :=
  Ideal.exp (∑ i : Fin 64, (a (ix2 0 i) * b (ix2 0 i) : EReal)) - Ideal.exp (∑ i : Fin 64, (c (ix2 0 i) * d (ix2 0 i) : EReal))
    + Ideal.ofBits .f32 0x3E4CCCCD#32

/-- The difference of the two maps of token `p`, over its first `n` keys, applied to the values. -/
def att (Q0 Q1 K V : Tok) (KM VM : MetaTok) (lam : EReal) (h : Fin 8) (b p n : ℕ) (c : Fin 128) : EReal :=
  ((fsum Q0 K V KM VM h b p n c / esum Q0 K KM h b p n : ℝ) : EReal)
    - lam * ((fsum Q1 K V KM VM h b p n c / esum Q1 K KM h b p n : ℝ) : EReal)

/-- A head divided by its root mean square, times the gain and 0.8. -/
def normed (o : Fin 128 → EReal) (g : EReal) (c : Fin 128) : EReal :=
  o c * Ideal.rsqrt (Ideal.div (∑ x : Fin 128, o x * o x) (Ideal.ofBits .f32 0x43000000#32) + Ideal.ofBits .f32 0x3727C5AC#32)
    * (g * Ideal.ofBits .f32 0x3F4CCCCD#32)

/-- The attention's output at head `h` of token `p`: the keys are the sixteen meta tokens and the sequence's tokens up to `p`. -/
def outE (Q0 Q1 K V : Tok) (KM VM : MetaTok) (lam : EReal) (g : Fin 128 → EReal) (h : Fin 8) (p : ℕ) (c : Fin 128) : EReal :=
  normed (fun x => att Q0 Q1 K V KM VM lam h (p / 4096) p (16 + (p % 4096 + 1)) x) (g c) c

end Cert.Attn

end
-- ==== Proof.AttnPass.lean ====
module

public import proofs.«01_k».proof.Proof.AttnSteps
public import proofs.«01_k».proof.Proof.AttnKeys

/-!
One tile's step on the sums a query row stands for: after the step the row stands for the sums over the keys of the tile, too.
-/

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.Attn

/-- Row `i` of a tile. -/
abbrev row {n : ℕ} (X : Vec Ideal { rank := 3, size := ![1, n, 128] } .f32) (i : Fin n) : Fin 128 → EReal := fun c => X (ix3 0 i c)

variable (Q K V : Tok) (KM VM : MetaTok) (h : Fin 8) (b p : ℕ)
variable (q : Vec Ideal S1x512x128 .bf16) (m l a : Vec Ideal S1x512x128 .f32) (i : Fin 512)

theorem score_dot {n : ℕ} (k : Vec Ideal { rank := 3, size := ![1, n, 128] } .bf16) (j : Fin n) (t : ℕ)
    (hq : ∀ d, (q (ix3 0 i d) : EReal) = (rowR Q h p d : EReal))
    (hk : ∀ d, (k (ix3 0 j d) : EReal) = (keyR K KM h b t d : EReal)) :
    dot q k i j = (score Q K KM h b p t : EReal) :=
  coe_dot _ _ _ _ hq hk

theorem row_full (k v : Vec Ideal S1x512x128 .bf16) (n0 : ℕ)
    (hs : Start (row m i) (row l i) (row a i) (esum Q K KM h b p n0) (fsum Q K V KM VM h b p n0))
    (hq : ∀ d, (q (ix3 0 i d) : EReal) = (rowR Q h p d : EReal))
    (hk : ∀ j d, (k (ix3 0 j d) : EReal) = (keyR K KM h b (n0 + j.val) d : EReal))
    (hv : ∀ j d, (v (ix3 0 j d) : EReal) = (keyR V VM h b (n0 + j.val) d : EReal)) :
    Row (row (maxFull q k m) i) (row (sumFull q k m l) i) (row (accFull q k v m a) i)
      (esum Q K KM h b p (n0 + 512)) (fsum Q K V KM VM h b p (n0 + 512)) := by
  have r := step (row m i) (row l i) (row a i) (row (maxFull q k m) i) (row (sumFull q k m l) i) (row (accFull q k v m a) i) _ _ hs
    (fun j : Fin 512 => dot q k i j) (fun j => j.val < 512) (fun j => score Q K KM h b p (n0 + j.val))
    (fun j => by rw [if_pos j.isLt]; exact score_dot Q K KM h b p q i k j _ hq (hk j)) ⟨0, by decide⟩
    (fun j c => v (ix3 0 j c)) (fun j c => keyR V VM h b (n0 + j.val) c) (fun j c _ => hv j c) lane
    (fun c => maxFull_at q m k i c) (fun c => sumFull_at q m l k i c) (fun c => accFull_at q m a k v i c)
  rw [show esum Q K KM h b p (n0 + 512) = _ from (range_add n0 512 512 (le_refl _) fun n => Real.exp (score Q K KM h b p n)).symm]
  rw [show fsum Q K V KM VM h b p (n0 + 512) = _ from funext fun c =>
    (range_add n0 512 512 (le_refl _) fun n => Real.exp (score Q K KM h b p n) * keyR V VM h b n c).symm]
  exact r

theorem row_diag (k v : Vec Ideal S1x512x128 .bf16) (n0 : ℕ)
    (hs : Start (row m i) (row l i) (row a i) (esum Q K KM h b p n0) (fsum Q K V KM VM h b p n0))
    (hq : ∀ d, (q (ix3 0 i d) : EReal) = (rowR Q h p d : EReal))
    (hk : ∀ j d, (k (ix3 0 j d) : EReal) = (keyR K KM h b (n0 + j.val) d : EReal))
    (hv : ∀ j d, (v (ix3 0 j d) : EReal) = (keyR V VM h b (n0 + j.val) d : EReal)) :
    Row (row (maxDiag q k m) i) (row (sumDiag q k m l) i) (row (accDiag q k v m a) i)
      (esum Q K KM h b p (n0 + (i.val + 1))) (fsum Q K V KM VM h b p (n0 + (i.val + 1))) := by
  have r := step (row m i) (row l i) (row a i) (row (maxDiag q k m) i) (row (sumDiag q k m l) i) (row (accDiag q k v m a) i) _ _ hs
    (fun j : Fin 512 => diagScore q k i j) (fun j => j.val < i.val + 1) (fun j => score Q K KM h b p (n0 + j.val))
    (fun j => by
      rw [diagScore, score_dot Q K KM h b p q i k j _ hq (hk j)]
      exact if_congr Nat.lt_succ_iff.symm rfl rfl) ⟨0, Nat.succ_pos _⟩
    (fun j c => v (ix3 0 j c)) (fun j c => keyR V VM h b (n0 + j.val) c) (fun j c _ => hv j c) lane
    (fun c => maxDiag_at q m k i c) (fun c => sumDiag_at q m l k i c) (fun c => accDiag_at q m a k v i c)
  have hi : i.val + 1 ≤ 512 := i.isLt
  rw [show esum Q K KM h b p (n0 + (i.val + 1)) = _ from (range_add n0 512 (i.val + 1) hi fun n => Real.exp (score Q K KM h b p n)).symm]
  rw [show fsum Q K V KM VM h b p (n0 + (i.val + 1)) = _ from funext fun c =>
    (range_add n0 512 (i.val + 1) hi fun n => Real.exp (score Q K KM h b p n) * keyR V VM h b n c).symm]
  exact r

theorem row_meta (k v : Vec Ideal S1x128x128 .bf16)
    (hs : Start (row m i) (row l i) (row a i) 0 (fun _ => 0))
    (hq : ∀ d, (q (ix3 0 i d) : EReal) = (rowR Q h p d : EReal))
    (hk : ∀ (j : Fin 128) d, j.val < 16 → (k (ix3 0 j d) : EReal) = (keyR K KM h b j.val d : EReal))
    (hv : ∀ (j : Fin 128) d, j.val < 16 → (v (ix3 0 j d) : EReal) = (keyR V VM h b j.val d : EReal)) :
    Row (row (maxMeta q k m) i) (row (sumMeta q k m l) i) (row (accMeta q k v m a) i)
      (esum Q K KM h b p 16) (fsum Q K V KM VM h b p 16) := by
  have r := step (row m i) (row l i) (row a i) (row (maxMeta q k m) i) (row (sumMeta q k m l) i) (row (accMeta q k v m a) i) _ _ hs
    (fun j : Fin 128 => metaScore q k i j) (fun j => j.val < 16) (fun j => score Q K KM h b p j.val)
    (fun j => by
      unfold metaScore
      split_ifs with hj
      · exact score_dot Q K KM h b p q i k j _ hq (fun d => hk j d hj)
      · rfl) ⟨0, by decide⟩
    (fun j c => v (ix3 0 j c)) (fun j c => keyR V VM h b j.val c) (fun j c hj => hv j c hj) id
    (fun c => maxMeta_at q m k i c) (fun c => sumMeta_at q m l k i c) (fun c => accMeta_at q m a k v i c)
  rw [sum_upto 128 16 (by decide) fun n => Real.exp (score Q K KM h b p n), zero_add] at r
  rw [show fsum Q K V KM VM h b p 16 = _ from funext fun c =>
    (sum_upto 128 16 (by decide) fun n => Real.exp (score Q K KM h b p n) * keyR V VM h b n c).symm]
  simp only [zero_add] at r
  exact r

end Cert.KernelIdeal.Attn

end
-- ==== Proof.AttnBlocks.lean ====
module

public import proofs.«01_k».proof.Proof.AttnRun
public import proofs.«01_k».proof.Proof.AttnPass

/-!
What the launch's windows hold at a point of the grid, entry by entry, as entries of the arguments.
-/

@[expose] public section

set_option maxRecDepth 16384

noncomputable section

namespace Cert.KernelIdeal.Attn

open Idealize.ShloMosaic Idealize.ShloMosaic.TcCoe Idealize.SL.Sem
open Idealize.ShloMosaic.Pipeline (Dat Window)
open Cert.KernelIdeal Cert.KernelIdeal.Gen
open Cert.Attn Cert.Stack

variable (m : (ℓ : Loc nD τ sig) → Buf (Elt Ideal) ℓ)

/-- The points of the grid. -/
abbrev Pt : Type := Fin (cfgA (F := Ideal)).N

/-- The sequence of a point. -/
abbrev sq (t : Pt) : ℕ := (seq (crd (F := Ideal) t)).val
/-- The pair of tiles of a point. -/
abbrev pr (t : Pt) : Fin 44 := pair (crd (F := Ideal) t)

/-- The first halves of the queries, as launched. -/
abbrev argQ0 (c : Dev nD) : Tok := m ((c : Thread nD τ).loc main_arg0)
/-- The second halves of the queries, as launched. -/
abbrev argQ1 (c : Dev nD) : Tok := m ((c : Thread nD τ).loc main_arg1)
/-- The keys, as launched. -/
abbrev argK (c : Dev nD) : Tok := m ((c : Thread nD τ).loc main_arg2)
/-- The values, as launched. -/
abbrev argV (c : Dev nD) : Tok := m ((c : Thread nD τ).loc main_arg3)
/-- The meta tokens' keys, as launched. -/
abbrev argKM (c : Dev nD) : MetaTok := m ((c : Thread nD τ).loc main_arg4)
/-- The meta tokens' values, as launched. -/
abbrev argVM (c : Dev nD) : MetaTok := m ((c : Thread nD τ).loc main_arg5)

theorem tok_val (p : ℕ) (h : p < 32768) : (tok p).val = p := Nat.mod_eq_of_lt h

theorem idx0 (t : Pt) : ((cfgA (F := Ideal)).win 0).index t = ![0, sq t * 8 + qTile (pr t), 0] := at_q _
theorem idx1 (t : Pt) : ((cfgA (F := Ideal)).win 1).index t = ![0, sq t * 8 + qTile (pr t), 0] := at_qhi _
theorem idx2 (t : Pt) : ((cfgA (F := Ideal)).win 2).index t = ![0, sq t * 8 + kTile (pr t), 0] := at_k _
theorem idx3 (t : Pt) : ((cfgA (F := Ideal)).win 3).index t = ![0, sq t * 8 + kTile (pr t), 0] := at_v _

theorem block0 (c : Dev nD) (t : Pt) (h : Fin 8) (i : Fin 512) (d : Fin 128) :
    iblk m c 0 t (ix3 h i d) = argQ0 m c (ix3 h (tok ((sq t * 8 + qTile (pr t)) * 512 + i.val)) d) := by
  have hq := qTile_lt (pr t)
  have hs : sq t < 8 := (seq (crd (F := Ideal) t)).isLt
  blk_simp [iblk]
  refine (congrFun (V_arg0 m c) _).trans ?_
  blk_ext [idx0 t]
  exact (tok_val _ (by omega)).symm

theorem block1 (c : Dev nD) (t : Pt) (h : Fin 8) (i : Fin 512) (d : Fin 128) :
    iblk m c 1 t (ix3 h i d) = argQ1 m c (ix3 h (tok ((sq t * 8 + qTile (pr t)) * 512 + i.val)) d) := by
  have hq := qTile_lt (pr t)
  have hs : sq t < 8 := (seq (crd (F := Ideal) t)).isLt
  blk_simp [iblk]
  refine (congrFun (V_arg1 m c) _).trans ?_
  blk_ext [idx1 t]
  exact (tok_val _ (by omega)).symm

theorem block2 (c : Dev nD) (t : Pt) (h : Fin 8) (i : Fin 512) (d : Fin 128) :
    iblk m c 2 t (ix3 h i d) = argK m c (ix3 h (tok ((sq t * 8 + kTile (pr t)) * 512 + i.val)) d) := by
  have hq := kTile_lt (pr t)
  have hs : sq t < 8 := (seq (crd (F := Ideal) t)).isLt
  blk_simp [iblk]
  refine (congrFun (V_arg2 m c) _).trans ?_
  blk_ext [idx2 t]
  exact (tok_val _ (by omega)).symm

theorem block3 (c : Dev nD) (t : Pt) (h : Fin 8) (i : Fin 512) (d : Fin 128) :
    iblk m c 3 t (ix3 h i d) = argV m c (ix3 h (tok ((sq t * 8 + kTile (pr t)) * 512 + i.val)) d) := by
  have hq := kTile_lt (pr t)
  have hs : sq t < 8 := (seq (crd (F := Ideal) t)).isLt
  blk_simp [iblk]
  refine (congrFun (V_arg3 m c) _).trans ?_
  blk_ext [idx3 t]
  exact (tok_val _ (by omega)).symm

theorem idx4 (t : Pt) : ((cfgA (F := Ideal)).win 4).index t = ![0, 0, 0] := rfl
theorem idx5 (t : Pt) : ((cfgA (F := Ideal)).win 5).index t = ![0, 0, 0] := rfl
theorem idx6 (t : Pt) : ((cfgA (F := Ideal)).win 6).index t = ![0, 0] := rfl
theorem idx7 (t : Pt) : ((cfgA (F := Ideal)).win 7).index t = ![0, 0] := rfl

theorem block4 (c : Dev nD) (t : Pt) (h : Fin 8) (i : Fin 128) (d : Fin 128) :
    iblk m c 4 t (ix3 h i d) = argKM m c (ix3 h i d) := by
  blk_simp [iblk]
  refine (congrFun (V_arg4 m c) _).trans ?_
  blk_ext [idx4 t]

theorem block5 (c : Dev nD) (t : Pt) (h : Fin 8) (i : Fin 128) (d : Fin 128) :
    iblk m c 5 t (ix3 h i d) = argVM m c (ix3 h i d) := by
  blk_simp [iblk]
  refine (congrFun (V_arg5 m c) _).trans ?_
  blk_ext [idx5 t]

/-- The four lambda vectors and the gains, as launched. -/
abbrev argL (c : Dev nD) (b : Ref sig .tc) : Buf (Elt Ideal) ((c : Thread nD τ).loc b) := m ((c : Thread nD τ).loc b)

theorem entryLam (c : Dev nD) : (V m c main_v12 : FVec Ideal S1x128 .f32)
    = broadcastInDim S1x128 ![] bcast_S_S1x128 (addf (F := Ideal) (subf (F := Ideal) (Host.exp (F := Ideal) (Host.reduceAdd (F := Ideal) (mulf (F := Ideal) (shapeCast S64 (argL m c main_arg6 : FVec Ideal S1x64 .f32) shapeCasts_S1x64_S64)
        (shapeCast S64 (argL m c main_arg7 : FVec Ideal S1x64 .f32) shapeCasts_S1x64_S64)) (constant S_ .f32 0x00000000#32) reducesTo_S64_S_d0 h_S_))
      (Host.exp (F := Ideal) (Host.reduceAdd (F := Ideal) (mulf (F := Ideal) (shapeCast S64 (argL m c main_arg8 : FVec Ideal S1x64 .f32) shapeCasts_S1x64_S64)
        (shapeCast S64 (argL m c main_arg9 : FVec Ideal S1x64 .f32) shapeCasts_S1x64_S64)) (constant S_ .f32 0x00000000#32) reducesTo_S64_S_d0 h_S_)))
      (constant S_ .f32 0x3E4CCCCD#32)) := by
  entry_read <;> rfl

theorem entryG (c : Dev nD) : (V m c main_v14 : FVec Ideal S1x128 .f32)
    = shapeCast S1x128 (shapeCast S128 (argL m c main_arg10 : FVec Ideal S1x128 .f32) shapeCasts_S1x128_S128) shapeCasts_S128_S1x128 := by
  entry_read <;> rfl

theorem block6 (c : Dev nD) (t : Pt) (d : Fin 128) :
    iblk m c 6 t (ix2 0 d) = lamOf (argL m c main_arg6) (argL m c main_arg7) (argL m c main_arg8) (argL m c main_arg9) := by
  blk_simp [iblk]
  refine (congrFun (entryLam m c) _).trans ?_
  pointwise [lamOf]

theorem block7 (c : Dev nD) (t : Pt) (d : Fin 128) :
    iblk m c 7 t (ix2 0 d) = (argL m c main_arg10 : FVec Ideal S1x128 .f32) (ix2 0 d) := by
  blk_simp [iblk]
  refine (congrFun (entryG m c) _).trans ?_
  pointwise
  blk_ext [idx7 t]

end Cert.KernelIdeal.Attn

end
-- ==== Proof.AttnInv.lean ====
module

public import proofs.«01_k».proof.Proof.AttnBlocks

/-!
What the scratch arrays stand for after each point of the grid: each row of each map, for the sums over the keys its tiles
so far hold.
-/

@[expose] public section

set_option maxRecDepth 16384

noncomputable section

namespace Cert.KernelIdeal.Attn

open Idealize.ShloMosaic Idealize.ShloMosaic.TcCoe Idealize.SL.Sem
open Idealize.ShloMosaic.Pipeline (Dat Window)
open Cert.KernelIdeal Cert.KernelIdeal.Gen
open Cert.Attn Cert.Stack

/-- The queries of map `r`: the first halves on even maps, the second halves on odd ones. -/
def half (Q0 Q1 : Tok) (r : Fin 16) : Tok := if r.val % 2 = 0 then Q0 else Q1

/-- The number of keys a row has seen after the pass over pair `j`. -/
def count (j : Fin 44) (i : Fin 512) : ℕ :=
  if isMeta (lit1 j) = 1#1 then 16
  else if isFull (lit0 j) (lit1 j) = 1#1 then 16 + 512 * kTile j + 512 else 16 + 512 * kTile j + (i.val + 1)

/-- Row `i` of map `r` of the scratch arrays stands for the sums over the first `n` keys of token `p` of sequence `b`. -/
def Holds (Q0 Q1 K V : Tok) (KM VM : MetaTok) (S : St Ideal) (r : Fin 16) (i : Fin 512) (b p n : ℕ) : Prop :=
  Row (fun c => S.1 (ix3 r i c)) (fun c => S.2.1 (ix3 r i c)) (fun c => S.2.2 (ix3 r i c))
    (esum (half Q0 Q1 r) K KM (headOf r) b p n) (fsum (half Q0 Q1 r) K V KM VM (headOf r) b p n)

theorem pay1_at (r : Fin 16) (i : Fin 512) (c : Fin 128) : (k0_pay1 (F := Ideal) (ix3 r i c) : EReal) = ⊥ := by
  pointwise [k0_pay1]
  exact mask_bot
theorem pay2_at (r : Fin 16) (i : Fin 512) (c : Fin 128) : (k0_pay2 (F := Ideal) (ix3 r i c) : EReal) = 0 := by
  pointwise [k0_pay2]
theorem pay3_at (r : Fin 16) (i : Fin 512) (c : Fin 128) : (k0_pay3 (F := Ideal) (ix3 r i c) : EReal) = 0 := by
  pointwise [k0_pay3]

section pass
variable (Q0 Q1 K V : Tok) (KM VM : MetaTok) (j : Fin 44) (b p0 : ℕ)
variable (x4 x5 x6 x7 : Vec Ideal S8x512x128 .bf16) (x8 x9 : Vec Ideal S8x128x128 .bf16) (S : St Ideal)
variable (f0 : FiniteTok Q0) (f1 : FiniteTok Q1) (fK : FiniteTok K) (fV : FiniteTok V) (fKM : FiniteMeta KM) (fVM : FiniteMeta VM)
variable (h4 : ∀ h i d, x4 (ix3 h i d) = Q0 (ix3 h (tok (p0 + i.val)) d)) (h5 : ∀ h i d, x5 (ix3 h i d) = Q1 (ix3 h (tok (p0 + i.val)) d))
variable (h6 : ∀ h i d, x6 (ix3 h i d) = K (ix3 h (tok (b * 4096 + (512 * kTile j + i.val))) d))
variable (h7 : ∀ h i d, x7 (ix3 h i d) = V (ix3 h (tok (b * 4096 + (512 * kTile j + i.val))) d))
variable (h8 : ∀ h i d, x8 (ix3 h i d) = KM (ix3 h i d)) (h9 : ∀ h i d, x9 (ix3 h i d) = VM (ix3 h i d))

include f0 f1 h4 h5 in
theorem query_real (r : Fin 16) (i : Fin 512) (d : Fin 128) :
    (queries x4 x5 r (ix3 0 i d) : EReal) = (rowR (half Q0 Q1 r) (headOf r) (p0 + i.val) d : EReal) := by
  unfold queries half
  split_ifs
  · exact (h4 (headOf r) i d).trans (f0.row _ _ _)
  · exact (h5 (headOf r) i d).trans (f1.row _ _ _)

include f0 f1 fK fV fKM fVM h4 h5 h6 h7 h8 h9 in
/-- A pass adds its tile's keys. -/
theorem pass_holds (hS : ¬ isMeta (lit1 j) = 1#1 → ∀ r i, Holds Q0 Q1 K V KM VM S r i b (p0 + i.val) (16 + 512 * kTile j))
    (r : Fin 16) (i : Fin 512) :
    Holds Q0 Q1 K V KM VM (pass j x4 x5 x6 x7 x8 x9 S) r i b (p0 + i.val) (count j i) := by
  have hq := query_real Q0 Q1 p0 x4 x5 f0 f1 h4 h5 r i
  have hk : ∀ (n : Fin 512) d, (plane x6 (headOf r) (ix3 0 n d) : EReal) = (keyR K KM (headOf r) b (16 + 512 * kTile j + n.val) d : EReal) := fun n d => by
    rw [Nat.add_assoc]; exact (h6 (headOf r) n d).trans (keyR_tok fK _ _ _ _)
  have hv : ∀ (n : Fin 512) d, (plane x7 (headOf r) (ix3 0 n d) : EReal) = (keyR V VM (headOf r) b (16 + 512 * kTile j + n.val) d : EReal) := fun n d => by
    rw [Nat.add_assoc]; exact (h7 (headOf r) n d).trans (keyR_tok fV _ _ _ _)
  unfold pass count
  split_ifs with c1 c2
  · exact row_meta (half Q0 Q1 r) K V KM VM (headOf r) b (p0 + i.val) (queries x4 x5 r) (plane (k0_pay1 (F := Ideal)) r) (plane (k0_pay2 (F := Ideal)) r) (plane (k0_pay3 (F := Ideal)) r) i
      (plane x8 (headOf r)) (plane x9 (headOf r))
      (start_zero _ _ _ (fun c => pay1_at r i c) (fun c => pay2_at r i c) (fun c => pay3_at r i c)) hq
      (fun n d hn => (h8 (headOf r) n d).trans (keyR_meta fKM _ _ _ hn _)) (fun n d hn => (h9 (headOf r) n d).trans (keyR_meta fVM _ _ _ hn _))
  · exact row_full (half Q0 Q1 r) K V KM VM (headOf r) b (p0 + i.val) (queries x4 x5 r) (plane S.1 r) (plane S.2.1 r) (plane S.2.2 r) i
      (plane x6 (headOf r)) (plane x7 (headOf r)) _ (Row.start (hS c1 r i)) hq hk hv
  · exact row_diag (half Q0 Q1 r) K V KM VM (headOf r) b (p0 + i.val) (queries x4 x5 r) (plane S.1 r) (plane S.2.1 r) (plane S.2.2 r) i
      (plane x6 (headOf r)) (plane x7 (headOf r)) _ (Row.start (hS c1 r i)) hq hk hv

end pass

/-- Before a point that is not of the meta tokens, the point before is of the same queries and leaves off where it begins. -/
theorem previous : ∀ t : Fin grid0.N, ¬ isMeta (lit1 (pair (grid0.coords t))) = 1#1 → ∀ h : t.val - 1 < grid0.N,
    (seq (grid0.coords ⟨t.val - 1, h⟩)).val = (seq (grid0.coords t)).val
    ∧ qTile (pair (grid0.coords ⟨t.val - 1, h⟩)) = qTile (pair (grid0.coords t))
    ∧ (isMeta (lit1 (pair (grid0.coords ⟨t.val - 1, h⟩))) = 1#1 ∧ kTile (pair (grid0.coords t)) = 0
      ∨ ¬ isMeta (lit1 (pair (grid0.coords ⟨t.val - 1, h⟩))) = 1#1
        ∧ isFull (lit0 (pair (grid0.coords ⟨t.val - 1, h⟩))) (lit1 (pair (grid0.coords ⟨t.val - 1, h⟩))) = 1#1
        ∧ kTile (pair (grid0.coords t)) = kTile (pair (grid0.coords ⟨t.val - 1, h⟩)) + 1) := by decide +kernel

variable (m : (ℓ : Loc nD τ sig) → Buf (Elt Ideal) ℓ)

/-- The arguments the precondition speaks of are finite. -/
structure Fine (c : Dev nD) : Prop where
  q0 : FiniteTok (argQ0 m c)
  q1 : FiniteTok (argQ1 m c)
  k : FiniteTok (argK m c)
  v : FiniteTok (argV m c)
  km : FiniteMeta (argKM m c)
  vm : FiniteMeta (argVM m c)

/-- After a point the scratch arrays stand for the sums over the keys so far. -/
theorem held_sums (c : Dev nD) (hf : Fine m c) (n : ℕ) : ∀ hn : n < grid0.N, ∀ r i,
    Holds (argQ0 m c) (argQ1 m c) (argK m c) (argV m c) (argKM m c) (argVM m c) (st m c (n + 1)) r i (sq ⟨n, hn⟩)
      ((sq ⟨n, hn⟩ * 8 + qTile (pr ⟨n, hn⟩)) * 512 + i.val) (count (pr ⟨n, hn⟩) i) := by
  induction n using Nat.strongRecOn with
  | ind n ih =>
    intro hn r i
    rw [show st m c (n + 1) = _ from st_succ m c ⟨n, hn⟩]
    refine pass_holds (argQ0 m c) (argQ1 m c) (argK m c) (argV m c) (argKM m c) (argVM m c) (pr ⟨n, hn⟩) (sq ⟨n, hn⟩)
      ((sq ⟨n, hn⟩ * 8 + qTile (pr ⟨n, hn⟩)) * 512) _ _ _ _ _ _ _ hf.q0 hf.q1 hf.k hf.v hf.km hf.vm
      (block0 m c ⟨n, hn⟩) (block1 m c ⟨n, hn⟩) (fun h i d => ?_) (fun h i d => ?_) (block4 m c ⟨n, hn⟩) (block5 m c ⟨n, hn⟩) (fun hm r i => ?_) r i
    · rw [show sq ⟨n, hn⟩ * 4096 + (512 * kTile (pr ⟨n, hn⟩) + i.val) = (sq ⟨n, hn⟩ * 8 + kTile (pr ⟨n, hn⟩)) * 512 + i.val by omega]
      exact block2 m c ⟨n, hn⟩ h i d
    · rw [show sq ⟨n, hn⟩ * 4096 + (512 * kTile (pr ⟨n, hn⟩) + i.val) = (sq ⟨n, hn⟩ * 8 + kTile (pr ⟨n, hn⟩)) * 512 + i.val by omega]
      exact block3 m c ⟨n, hn⟩ h i d
    · have h0 : 0 < n := not_meta_pos ⟨n, hn⟩ hm
      have hn' : n - 1 < grid0.N := by omega
      obtain ⟨e1, e2, e3⟩ := previous ⟨n, hn⟩ hm hn'
      have key := ih (n - 1) (by omega) hn' r i
      have hc : count (pr ⟨n - 1, hn'⟩) i = 16 + 512 * kTile (pr ⟨n, hn⟩) := by
        unfold count
        rcases e3 with ⟨a, b⟩ | ⟨a, b, d⟩
        · rw [if_pos a, show kTile (pr ⟨n, hn⟩) = 0 from b]
        · rw [if_neg a, if_pos b, show kTile (pr ⟨n, hn⟩) = _ from d]
          show 16 + 512 * kTile (pr ⟨n - 1, hn'⟩) + 512 = 16 + 512 * (kTile (pr ⟨n - 1, hn'⟩) + 1)
          omega
      rw [hc, show sq ⟨n - 1, hn'⟩ = sq ⟨n, hn⟩ from e1, show qTile (pr ⟨n - 1, hn'⟩) = qTile (pr ⟨n, hn⟩) from e2, Nat.sub_add_cancel h0] at key
      exact key

end Cert.KernelIdeal.Attn

end
-- ==== Proof.AttnFinal.lean ====
module

public import proofs.«01_k».proof.Proof.AttnInv

/-!
The array the attention leaves, entry by entry.
-/

@[expose] public section

set_option maxRecDepth 16384

noncomputable section

namespace Cert.KernelIdeal.Attn

open Idealize.ShloMosaic Idealize.ShloMosaic.TcCoe Idealize.SL.Sem
open Idealize.ShloMosaic.Pipeline (Dat Window)
open Cert.KernelIdeal Cert.KernelIdeal.Gen
open Cert.Attn Cert.Stack

/-- A row of the output tile from the two maps' quotients. -/
theorem outTile_at (lam g : Vec Ideal S1x128 .f32) (a0 l0 a1 l1 : Vec Ideal S1x512x128 .f32) (i : Fin 512) (c : Fin 128) :
    (outTile lam g a0 l0 a1 l1 (ix3 0 i c) : EReal)
      = normed (fun x => Ideal.div (a0 (ix3 0 i x)) (l0 (ix3 0 i x)) - (lam (ix2 0 x) : EReal) * Ideal.div (a1 (ix3 0 i x)) (l1 (ix3 0 i x)))
          (g (ix2 0 c)) c := by
  pointwise [outTile, k0_pay12, k0_pay65, normed]

variable (m : (ℓ : Loc nD τ sig) → Buf (Elt Ideal) ℓ)

/-- The weight of the second map, of the launch's arguments. -/
abbrev argLam (c : Dev nD) : EReal := lamOf (argL m c main_arg6) (argL m c main_arg7) (argL m c main_arg8) (argL m c main_arg9)
/-- The gains, of the launch's arguments. -/
abbrev argG (c : Dev nD) (d : Fin 128) : EReal := (argL m c main_arg10 : FVec Ideal S1x128 .f32) (ix2 0 d)

/-- The output array. -/
def result (c : Dev nD) : FVec Ideal S8x32768x128 .bf16 := fun y =>
  outE (argQ0 m c) (argQ1 m c) (argK m c) (argV m c) (argKM m c) (argVM m c) (argLam m c) (argG m c) (y 0) (y 1).val (y 2)

theorem diag_tile : ∀ j : Fin 44, k0_cond3 (lit0 j) (lit1 j) = 1#1 →
    ¬ isMeta (lit1 j) = 1#1 ∧ ¬ isFull (lit0 j) (lit1 j) = 1#1 ∧ kTile j = qTile j := by decide +kernel

/-- The output block at the end of a query tile, at an entry. -/
theorem out_at (c : Dev nD) (hf : Fine m c) (t : Pt) (hd : k0_cond3 (lit0 (pr t)) (lit1 (pr t)) = 1#1) (h : Fin 8) (i : Fin 512) (d : Fin 128) :
    (outAt m c t (ix3 h i d) : EReal)
      = outE (argQ0 m c) (argQ1 m c) (argK m c) (argV m c) (argKM m c) (argVM m c) (argLam m c) (argG m c) h
          ((sq t * 8 + qTile (pr t)) * 512 + i.val) d := by
  have hq := qTile_lt (pr t)
  have hs : sq t < 8 := (seq (crd (F := Ideal) t)).isLt
  have hi := i.isLt
  obtain ⟨d1, d2, d3⟩ := diag_tile (pr t) hd
  have hc : count (pr t) i = 16 + (((sq t * 8 + qTile (pr t)) * 512 + i.val) % 4096 + 1) := by
    unfold count
    rw [if_neg d1, if_neg d2, d3]
    omega
  have hb : sq t = ((sq t * 8 + qTile (pr t)) * 512 + i.val) / 4096 := by omega
  have key := held_sums m c hf t.val t.isLt
  have even : ((⟨2 * h.val, by omega⟩ : Fin 16).val) % 2 = 0 := by show 2 * h.val % 2 = 0; omega
  have odd : ¬ ((⟨2 * h.val + 1, by omega⟩ : Fin 16).val) % 2 = 0 := by show ¬ (2 * h.val + 1) % 2 = 0; omega
  have r0 := key (⟨2 * h.val, by omega⟩ : Fin 16) i
  have r1 := key (⟨2 * h.val + 1, by omega⟩ : Fin 16) i
  unfold Holds half at r0 r1
  rw [if_pos even, headOf_even] at r0
  rw [if_neg odd, headOf_odd] at r1
  have pos : ∀ Q : Tok, 0 < esum Q (argK m c) (argKM m c) h (sq t) ((sq t * 8 + qTile (pr t)) * 512 + i.val) (count (pr t) i) :=
    fun Q => esum_pos _ _ _ _ _ _ _ (by rw [hc]; omega)
  refine (outTile_at _ _ _ _ _ _ i d).trans ?_
  unfold outE
  rw [← hc, ← hb, show (iblk m c 7 t (ix2 0 d) : EReal) = argG m c d from block7 m c t d]
  refine congrArg (fun o => normed o (argG m c d) d) (funext fun x => ?_)
  unfold att
  rw [show (iblk m c 6 t (ix2 0 x) : EReal) = argLam m c from block6 m c t x]
  exact congrArg₂ (fun u v : EReal => u - argLam m c * v) (r0.quotient (pos _) x) (r1.quotient (pos _) x)

theorem idx8 (t : Pt) : ((cfgA (F := Ideal)).win 8).index t = ![0, sq t * 8 + qTile (pr t), 0] := at_out _

/-- The last point of a query tile. -/
theorem last_of : ∀ b q : Fin 8, ∃ h : b.val * 44 + q.val * (q.val + 3) / 2 + q.val + 1 < grid0.N,
    (seq (grid0.coords ⟨_, h⟩)).val = b.val ∧ qTile (pair (grid0.coords ⟨_, h⟩)) = q.val
    ∧ (b.val * 44 + q.val * (q.val + 3) / 2 + q.val + 1 + 1 = grid0.N
      ∨ ∃ h' : b.val * 44 + q.val * (q.val + 3) / 2 + q.val + 1 + 1 < grid0.N,
          (seq (grid0.coords ⟨_, h'⟩)).val * 8 + qTile (pair (grid0.coords ⟨_, h'⟩)) ≠ b.val * 8 + q.val) := by decide +kernel

theorem flush_last (t : Pt) (h : t.val + 1 = grid0.N ∨ ∃ h' : t.val + 1 < grid0.N, sq ⟨t.val + 1, h'⟩ * 8 + qTile (pr ⟨t.val + 1, h'⟩) ≠ sq t * 8 + qTile (pr t)) :
    ((cfgA (F := Ideal)).win 8).flush t = true := by
  unfold Window.flush
  rw [Bool.and_eq_true]
  refine ⟨rfl, ?_⟩
  rw [Bool.or_eq_true, decide_eq_true_iff, decide_eq_true_iff]
  rcases h with h | ⟨h', hne⟩
  · exact Or.inl h
  · refine Or.inr ⟨h', fun e => hne ?_⟩
    have e' : ((cfgA (F := Ideal)).win 8).index ⟨t.val + 1, h'⟩ = ((cfgA (F := Ideal)).win 8).index t := e
    rw [idx8, idx8] at e'
    exact congrFun e' 1

/-- After the run the output array is `result`. -/
theorem final (c : Dev nD) (hf : Fine m c) : (dats m 0 c).arrAt 8 (cfgA (F := Ideal)).N = result m c := by
  refine (dats m 0 c).arrAt_eq_of_emb 8 (result m c) (fun t ht y => ?_) (fun y => ?_)
  · blk_simp
    rw [after_8]
    have hd : k0_cond3 (lit0 (pr t)) (lit1 (pr t)) = 1#1 := by
      by_contra hn
      rw [no_flush t hn] at ht
      exact Bool.false_ne_true ht
    idx_vars y
    refine (out_at m c hf t hd _ _ _).trans ?_
    unfold result
    blk_simp [idx8 t]
    refine congrArg₂ (fun u v => outE (argQ0 m c) (argQ1 m c) (argK m c) (argV m c) (argKM m c) (argVM m c) (argLam m c) (argG m c) u
      ((sq t * 8 + qTile (pr t)) * 512 + y1.val) v) (Fin.ext ?_) (Fin.ext ?_)
    · blk_simp [idx8 t]
    · blk_simp [idx8 t]
  · have h0 : (y 0).val < 8 := (y 0).isLt
    have h1 : (y 1).val < 32768 := (y 1).isLt
    have h2 : (y 2).val < 128 := (y 2).isLt
    obtain ⟨t, e1, e2, e3⟩ : ∃ t : Pt, sq t = (y 1).val / 4096 ∧ qTile (pr t) = (y 1).val % 4096 / 512 ∧ ((cfgA (F := Ideal)).win 8).flush t = true := by
      obtain ⟨h, e1, e2, e3⟩ := last_of ⟨(y 1).val / 4096, by omega⟩ ⟨(y 1).val % 4096 / 512, by omega⟩
      refine ⟨⟨_, h⟩, e1, e2, flush_last ⟨_, h⟩ ?_⟩
      rcases e3 with e3 | ⟨h', e3⟩
      · exact Or.inl e3
      · exact Or.inr ⟨h', by rw [show sq ⟨_, h⟩ = _ from e1, show qTile (pr ⟨_, h⟩) = _ from e2]; exact e3⟩
    refine ⟨t, e3, ?_⟩
    mem_blk
    have i0 : ((Pipeline.pin (pcfgs (F := Ideal)) adm 0).win 8).index t 0 = 0 := congrFun (idx8 t) 0
    have i1 : ((Pipeline.pin (pcfgs (F := Ideal)) adm 0).win 8).index t 1 = sq t * 8 + qTile (pr t) := congrFun (idx8 t) 1
    have i2 : ((Pipeline.pin (pcfgs (F := Ideal)) adm 0).win 8).index t 2 = 0 := congrFun (idx8 t) 2
    rw [i0, i1, i2, e1, e2]
    omega

end Cert.KernelIdeal.Attn

end
-- ==== Proof.AttnPre.lean ====
module

public import proofs.«01_k».proof.Defs
public import proofs.«01_k».proof.Proof.AttnKeys

/-!
What the precondition says of the arguments: the entries the attention reads are finite.
-/

@[expose] public section

set_option maxRecDepth 16384

noncomputable section

namespace Cert.Attn

open Idealize.ShloMosaic Idealize.ShloMosaic.TcCoe
open Cert.Pre_finite

theorem and_one (a b : BitVec 1) (h : IntOp.andi a b = 1#1) : a = 1#1 ∧ b = 1#1 := by
  revert a b; decide

/-- A conjunction along a list is true only if each of its terms is. -/
theorem foldl_and {α : Type} (l : List α) (f : α → BitVec 1) (z : BitVec 1) (h : l.foldl (fun r n => IntOp.andi r (f n)) z = 1#1) :
    z = 1#1 ∧ ∀ n ∈ l, f n = 1#1 := by
  induction l generalizing z with
  | nil => exact ⟨h, by simp⟩
  | cons a l ih =>
    obtain ⟨h1, h2⟩ := ih _ h
    obtain ⟨h3, h4⟩ := and_one _ _ h1
    refine ⟨h3, fun n hn => ?_⟩
    rcases List.mem_cons.mp hn with rfl | hn
    · exact h4
    · exact h2 n hn

theorem top_bits : (Ideal.ofBits .f32 0x7F800000#32 : EReal) = ⊤ := by
  simp [Ideal.ofBits, Ideal.ieee]

/-- A number whose absolute value is less than `⊤` is finite. -/
theorem finite_of_abs (x : EReal) (h : Ideal.cmp .olt (max x (-x)) ⊤ = 1#1) : Finite x := by
  have h' : max x (-x) < ⊤ := by
    by_contra hn
    simp [Ideal.cmp, hn] at h
  induction x with
  | bot => simp at h'
  | top => simp at h'
  | coe r => rfl

section Whole
variable {s : Shape} {axes : List (Fin s.rank)} (x : FVec Ideal s .f32) (hb : S_.BroadcastsInDim s ![]) (hr : s.ReducesTo axes S_) (hu : 0 < S_.numel)

/-- The test that every entry of an array is finite. -/
def allFinite : IVec S_ 1 :=
  Host.reduce IntOp.andi (cmpf .olt (Host.absf x) (broadcastInDim s ![] hb (constant S_ .f32 0x7F800000#32))) (constantI S_ 1 1#1) hr hu

theorem allFinite_at (h : allFinite x hb hr hu ix0 = 1#1) (i : s.Idx) : Finite (x i) := by
  obtain ⟨_, h2⟩ := foldl_and _ _ _ h
  have hi := h2 (s.rowMajor i) (by
    refine List.mem_filter.mpr ⟨List.mem_finRange _, ?_⟩
    have e : hr.drop (s.rowMajor.symm (s.rowMajor i)) = ix0 := funext fun a => a.elim0
    simpa using e)
  rw [Equiv.symm_apply_apply] at hi
  refine finite_of_abs _ ?_
  rw [← top_bits]
  exact hi

end Whole

theorem andi_ix (a b : IVec S_ 1) (h : andi a b ix0 = 1#1) : a ix0 = 1#1 ∧ b ix0 = 1#1 := and_one _ _ h

variable [Cert.Pre_finite.Facts]
open Cert.Pre_finite.Facts

/-- What the precondition says. -/
structure Args (q0 q1 k v : Tok) (km vm : MetaTok) (a b c d : FVec Ideal S1x64 .f32) : Prop where
  q0 : FiniteTok q0
  q1 : FiniteTok q1
  k : FiniteTok k
  v : FiniteTok v
  km : FiniteMeta km
  vm : FiniteMeta vm
  a : ∀ i, Finite (a (ix2 0 i))
  b : ∀ i, Finite (b (ix2 0 i))
  c : ∀ i, Finite (c (ix2 0 i))
  d : ∀ i, Finite (d (ix2 0 i))

/-- The test of a token array. -/
def tokTest (x : Tok) : IVec S_ 1 := allFinite (extf .f32 (x : FVec Ideal S8x32768x128 .bf16) bitsLt_bf16_f32) bcast_S_S8x32768x128 reducesTo_S8x32768x128_S_d0_1_2 h_S_
/-- The test of the first sixteen meta tokens. -/
def metaTest (x : MetaTok) : IVec S_ 1 :=
  allFinite (extf .f32 (extractStridedSlice S8x16x128 ![0, 0, 0] (x : FVec Ideal S8x128x128 .bf16) slices_S8x128x128_S8x16x128_0_0_0) bitsLt_bf16_f32) bcast_S_S8x16x128 reducesTo_S8x16x128_S_d0_1_2 h_S_
/-- The test of a vector. -/
def vecTest (x : FVec Ideal S1x64 .f32) : IVec S_ 1 := allFinite x bcast_S_S1x64 reducesTo_S1x64_S_d0_1 h_S_

theorem tokTest_at {x : Tok} (h : tokTest x ix0 = 1#1) : FiniteTok x := fun a p d => allFinite_at _ _ _ _ h (ix3 a p d)

theorem metaTest_at {x : MetaTok} (h : metaTest x ix0 = 1#1) : FiniteMeta x := fun a n hn d => by
  have e := allFinite_at _ _ _ _ h (ix3 a (⟨n, hn⟩ : Fin 16) d)
  have e' : (extf .f32 (extractStridedSlice S8x16x128 ![0, 0, 0] (x : FVec Ideal S8x128x128 .bf16) slices_S8x128x128_S8x16x128_0_0_0) bitsLt_bf16_f32
      (ix3 a (⟨n, hn⟩ : Fin 16) d) : EReal) = x (ix3 a (⟨n, by omega⟩ : Fin 128) d) := by
    pointwise
  rwa [e'] at e

theorem vecTest_at {x : FVec Ideal S1x64 .f32} (h : vecTest x ix0 = 1#1) (i : Fin 64) : Finite (x (ix2 0 i)) := allFinite_at _ _ _ _ h (ix2 0 i)

/-- The precondition is the conjunction of the tests. -/
theorem fn_eq (q0 q1 k v : Tok) (km vm : MetaTok) (a b c d : FVec Ideal S1x64 .f32) (g : FVec Ideal S1x128 .f32) :
    Cert.Pre_finite.fn (F := Ideal) q0 q1 k v km vm a b c d g
      = andi (andi (andi (andi (andi (andi (andi (andi (andi (tokTest q0) (tokTest q1)) (tokTest k)) (tokTest v)) (metaTest km)) (metaTest vm)) (vecTest a)) (vecTest b)) (vecTest c)) (vecTest d) := rfl

/-- So where it holds the arguments are finite. -/
theorem args_of_pre (q0 q1 k v : Tok) (km vm : MetaTok) (a b c d : FVec Ideal S1x64 .f32) (g : FVec Ideal S1x128 .f32)
    (h : Cert.Pre_finite.fn (F := Ideal) q0 q1 k v km vm a b c d g ix0 = 1#1) : Args q0 q1 k v km vm a b c d := by
  rw [fn_eq] at h
  obtain ⟨h, hd⟩ := andi_ix _ _ h
  obtain ⟨h, hc⟩ := andi_ix _ _ h
  obtain ⟨h, hb⟩ := andi_ix _ _ h
  obtain ⟨h, ha⟩ := andi_ix _ _ h
  obtain ⟨h, hvm⟩ := andi_ix _ _ h
  obtain ⟨h, hkm⟩ := andi_ix _ _ h
  obtain ⟨h, hv⟩ := andi_ix _ _ h
  obtain ⟨h, hk⟩ := andi_ix _ _ h
  obtain ⟨h0, h1⟩ := andi_ix _ _ h
  exact ⟨tokTest_at h0, tokTest_at h1, tokTest_at hk, tokTest_at hv, metaTest_at hkm, metaTest_at hvm, vecTest_at ha, vecTest_at hb, vecTest_at hc, vecTest_at hd⟩

/-- The product of two finite vectors is real. -/
theorem dot_real (a b : FVec Ideal S1x64 .f32) (ha : ∀ i, Finite (a (ix2 0 i))) (hb : ∀ i, Finite (b (ix2 0 i))) :
    ∑ i : Fin 64, (a (ix2 0 i) * b (ix2 0 i) : EReal) = ((∑ i : Fin 64, (a (ix2 0 i) : EReal).toReal * (b (ix2 0 i) : EReal).toReal : ℝ) : EReal) :=
  coe_dot _ _ _ _ ha hb

theorem fifth_real : ∃ r : ℝ, (Ideal.ofBits .f32 0x3E4CCCCD#32 : EReal) = (r : EReal) := by
  refine ⟨(13421773 : ℝ) * ((2 : ℝ) ^ 26)⁻¹, ?_⟩
  rw [EReal.coe_mul]
  simp [Ideal.ofBits, Ideal.ieee]

/-- The weight of the second map is real. -/
theorem lam_real (a b c d : FVec Ideal S1x64 .f32) (ha : ∀ i, Finite (a (ix2 0 i))) (hb : ∀ i, Finite (b (ix2 0 i)))
    (hc : ∀ i, Finite (c (ix2 0 i))) (hd : ∀ i, Finite (d (ix2 0 i))) : ∃ r : ℝ, lamOf a b c d = (r : EReal) := by
  obtain ⟨r, hr⟩ := fifth_real
  refine ⟨Real.exp (∑ i : Fin 64, (a (ix2 0 i) : EReal).toReal * (b (ix2 0 i) : EReal).toReal)
    - Real.exp (∑ i : Fin 64, (c (ix2 0 i) : EReal).toReal * (d (ix2 0 i) : EReal).toReal) + r, ?_⟩
  rw [lamOf, dot_real a b ha hb, dot_real c d hc hd, hr, exp_coe, exp_coe, ← EReal.coe_sub, ← EReal.coe_add]

end Cert.Attn

end
-- ==== Proof.AttnRef.lean ====
module

public import proofs.«01_k».proof.Proof.AttnKeys
public import proofs.«01_k».proof.Proof.Gen.ReferenceIdeal.Run
public import Idealize.ShloMosaic.Lib.WordCmp
public import Idealize.ShloMosaic.Lib.MatmulPlain

/-!
What the reference computes, entry by entry.
-/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
open Cert.Attn

/-- The meta tokens and the sequences' own tokens, one after the other. -/
def keysAll (X : Tok) (XM : MetaTok) : FVec Ideal S8x8x4112x128 .f32 :=
  extf .f32 (concatenate S8x8x4112x128 2 [⟨S8x8x16x128, (broadcastInDim S8x8x16x128 ![0, 1, 2, 3] bcast_S8x1x16x128_S8x8x16x128_0_1_2_3
      (broadcastInDim S8x1x16x128 ![0, 2, 3] bcast_S8x16x128_S8x1x16x128_0_2_3
        (extractStridedSlice S8x16x128 ![0, 0, 0] XM slices_S8x128x128_S8x16x128_0_0_0)))⟩,
    ⟨S8x8x4096x128, (shapeCast _ X shapeCasts_S8x32768x128_S8x8x4096x128)⟩]
    concatenates_S8x8x16x128_S8x8x4096x128_S8x8x4112x128_d2) bitsLt_bf16_f32

/-- Which keys a query sees. -/
def seen : IVec S4096x4112 1 :=
  cmpi .sle (broadcastInDim S4096x4112 ![0, 1] bcast_S1x4112_S4096x4112_0_1 (broadcastInDim S1x4112 ![1] bcast_S4112_S1x4112_1 (iotaInDim S4112 32 0)))
    (broadcastInDim S4096x4112 ![0, 1] bcast_S4096x1_S4096x4112_0_1 (broadcastInDim S4096x1 ![0] bcast_S4096_S4096x1_0
      (addi (broadcastInDim S4096 ![] bcast_S_S4096 (constantI S_ 32 16#32)) (iotaInDim S4096 32 0))))

/-- The masked scores of one half of the queries. -/
def scores (Q K : Tok) (KM : MetaTok) : FVec Ideal S8x8x4096x4112 .f32 :=
  select (broadcastInDim S8x8x4096x4112 ![2, 3] bcast_S4096x4112_S8x8x4096x4112_2_3 seen)
    (Host.dotGeneral dot_S8x8x4096x128_S8x8x4112x128_S8x8x4096x4112_3_3_2_2_01_01 none
      (extf .f32 (shapeCast _ Q shapeCasts_S8x32768x128_S8x8x4096x128) bitsLt_bf16_f32) (keysAll K KM))
    (broadcastInDim S8x8x4096x4112 ![] bcast_S_S8x8x4096x4112 (id (constant S_ .f32 0xFF800000#32)))

/-- The exponentials of the scores less their maximum. -/
def exps (S : FVec Ideal S8x8x4096x4112 .f32) : FVec Ideal S8x8x4096x4112 .f32 :=
  Host.exp (subf S (broadcastInDim S8x8x4096x4112 ![0, 1, 2, 3] bcast_S8x8x4096x1_S8x8x4096x4112_0_1_2_3
    (broadcastInDim S8x8x4096x1 ![0, 1, 2] bcast_S8x8x4096_S8x8x4096x1_0_1_2
      (maximumf (broadcastInDim S8x8x4096 ![] bcast_S_S8x8x4096 (constant S_ .f32 0xFF800000#32))
        (Host.reduce FloatOps.maximumf S (constant S_ .f32 0xFF800000#32) reducesTo_S8x8x4096x4112_S8x8x4096_d3 h_S_)))))

/-- The softmax over the keys. -/
def probs (S : FVec Ideal S8x8x4096x4112 .f32) : FVec Ideal S8x8x4096x4112 .f32 :=
  Host.divf (exps S) (broadcastInDim S8x8x4096x4112 ![0, 1, 2, 3] bcast_S8x8x4096x1_S8x8x4096x4112_0_1_2_3
    (broadcastInDim S8x8x4096x1 ![0, 1, 2] bcast_S8x8x4096_S8x8x4096x1_0_1_2
      (Host.reduceAdd (exps S) (constant S_ .f32 0x00000000#32) reducesTo_S8x8x4096x4112_S8x8x4096_d3 h_S_)))

/-- The weight of the second map. -/
def lam (a b c d : FVec Ideal S1x64 .f32) : FVec Ideal S_ .f32 :=
  addf (subf (Host.exp (Host.reduceAdd (mulf (shapeCast _ a shapeCasts_S1x64_S64) (shapeCast _ b shapeCasts_S1x64_S64)) (constant S_ .f32 0x00000000#32) reducesTo_S64_S_d0 h_S_))
      (Host.exp (Host.reduceAdd (mulf (shapeCast _ c shapeCasts_S1x64_S64) (shapeCast _ d shapeCasts_S1x64_S64)) (constant S_ .f32 0x00000000#32) reducesTo_S64_S_d0 h_S_)))
    (constant S_ .f32 0x3E4CCCCD#32)

/-- The difference of the two maps, applied to the values. -/
def heads (P1 P2 : FVec Ideal S8x8x4096x4112 .f32) (l : FVec Ideal S_ .f32) (V : Tok) (VM : MetaTok) : FVec Ideal S8x8x4096x128 .f32 :=
  Host.dotGeneral dot_S8x8x4096x4112_S8x8x4112x128_S8x8x4096x128_3_2_2_3_01_01 none
    (subf P1 (mulf (broadcastInDim S8x8x4096x4112 ![] bcast_S_S8x8x4096x4112 l) P2)) (keysAll V VM)

/-- The heads divided by their root mean square, times the gains and 0.8. -/
def out (O : FVec Ideal S8x8x4096x128 .f32) (g : FVec Ideal S1x128 .f32) : FVec Ideal S8x32768x128 .bf16 :=
  truncf .bf16 (shapeCast _ (mulf (mulf (mulf O (broadcastInDim S8x8x4096x128 ![0, 1, 2, 3] bcast_S8x8x4096x1_S8x8x4096x128_0_1_2_3
      (Host.rsqrt (addf (Host.divf (broadcastInDim S8x8x4096x1 ![0, 1, 2] bcast_S8x8x4096_S8x8x4096x1_0_1_2
          (Host.reduceAdd (mulf O O) (constant S_ .f32 0x00000000#32) reducesTo_S8x8x4096x128_S8x8x4096_d3 h_S_))
        (broadcastInDim S8x8x4096x1 ![] bcast_S_S8x8x4096x1 (constant S_ .f32 0x43000000#32)))
        (broadcastInDim S8x8x4096x1 ![] bcast_S_S8x8x4096x1 (constant S_ .f32 0x3727C5AC#32))))))
    (broadcastInDim S8x8x4096x128 ![0, 1, 2, 3] bcast_S1x1x1x128_S8x8x4096x128_0_1_2_3
      (broadcastInDim S1x1x1x128 ![3] bcast_S128_S1x1x1x128_3 (shapeCast _ g shapeCasts_S1x128_S128))))
    (broadcastInDim S8x8x4096x128 ![] bcast_S_S8x8x4096x128 (constant S_ .f32 0x3F4CCCCD#32))) shapeCasts_S8x8x4096x128_S8x32768x128) bitsLt_bf16_f32

/-- The reference's result, by these steps. -/
theorem result_eq (m : (ℓ : Loc nD τ sig) → Buf (Elt Ideal) ℓ) (c : Dev nD) :
    Value.res_out0 m c
      = out (heads (probs (scores (m ((c.tc : Thread nD τ).loc main_arg0)) (m ((c.tc : Thread nD τ).loc main_arg2)) (m ((c.tc : Thread nD τ).loc main_arg4))))
          (probs (scores (m ((c.tc : Thread nD τ).loc main_arg1)) (m ((c.tc : Thread nD τ).loc main_arg2)) (m ((c.tc : Thread nD τ).loc main_arg4))))
          (lam (m ((c.tc : Thread nD τ).loc main_arg6)) (m ((c.tc : Thread nD τ).loc main_arg7)) (m ((c.tc : Thread nD τ).loc main_arg8)) (m ((c.tc : Thread nD τ).loc main_arg9)))
          (m ((c.tc : Thread nD τ).loc main_arg3)) (m ((c.tc : Thread nD τ).loc main_arg5)))
        (m ((c.tc : Thread nD τ).loc main_arg10)) := rfl

/-- The product over the last axis of the weights and the keys' axis of the values, under two batch axes. -/
def applyDims (B H N M D : ℕ) (wf : DotDims.WF ⟨4, ![B, H, N, M]⟩ ⟨4, ![B, H, M, D]⟩ ⟨4, ![B, H, N, D]⟩ [3] [2] [2] [3] [0, 1] [0, 1]) :
    DotDims ⟨4, ![B, H, N, M]⟩ ⟨4, ![B, H, M, D]⟩ ⟨4, ![B, H, N, D]⟩ where
  lhsContracting := [3]
  rhsContracting := [2]
  lhsNonContracting := [2]
  rhsNonContracting := [3]
  lhsBatch := [0, 1]
  rhsBatch := [0, 1]
  wf := wf

/-- That product at an entry. -/
theorem applyDims_at (B H N M D : ℕ) (wf) (sched : HostSchedule) (L : FVec Ideal ⟨4, ![B, H, N, M]⟩ .f32) (R : FVec Ideal ⟨4, ![B, H, M, D]⟩ .f32)
    (b : Fin B) (h : Fin H) (q : Fin N) (d : Fin D) :
    (FloatOps.dotGeneral (applyDims B H N M D wf) none sched L R (ix4 b h q d) : EReal) = ∑ k : Fin M, (L (ix4 b h q k) * R (ix4 b h k d) : EReal) := by
  have hr : (applyDims B H N M D wf).contr.rank = 1 := rfl
  have hs : (applyDims B H N M D wf).contr.size ⟨0, by rw [hr]; omega⟩ = M := rfl
  rw [Ideal.dotGeneral_apply, ← Equiv.sum_comp (ValueIdx.contrEquiv1 _ M hr hs).symm]
  refine Finset.sum_congr rfl fun k _ => ?_
  have hk := ValueIdx.contrEquiv1_symm_val _ M hr hs k
  have el : (applyDims B H N M D wf).lhsIdx (ix4 b h q d) ((ValueIdx.contrEquiv1 _ M hr hs).symm k) = ix4 b h q k := by
    funext a; apply Fin.ext
    match a with
    | ⟨0, _⟩ => rfl
    | ⟨1, _⟩ => rfl
    | ⟨2, _⟩ => rfl
    | ⟨3, _⟩ => exact hk
  have er : (applyDims B H N M D wf).rhsIdx (ix4 b h q d) ((ValueIdx.contrEquiv1 _ M hr hs).symm k) = ix4 b h k d := by
    funext a; apply Fin.ext
    match a with
    | ⟨0, _⟩ => rfl
    | ⟨1, _⟩ => rfl
    | ⟨2, _⟩ => exact hk
    | ⟨3, _⟩ => rfl
  rw [el, er]

theorem heads_at (P1 P2 : FVec Ideal S8x8x4096x4112 .f32) (l : FVec Ideal S_ .f32) (V : Tok) (VM : MetaTok) (h b : Fin 8) (i : Fin 4096) (d : Fin 128) :
    (heads P1 P2 l V VM (ix4 h b i d) : EReal)
      = ∑ n : Fin 4112, ((P1 (ix4 h b i n) - l ix0 * P2 (ix4 h b i n)) * keysAll V VM (ix4 h b n d) : EReal) := by
  unfold heads
  refine (applyDims_at 8 8 4096 4112 128 Facts₀.dot_S8x8x4096x4112_S8x8x4112x128_S8x8x4096x128_3_2_2_3_01_01_wf _ _ _ h b i d).trans ?_
  refine Finset.sum_congr rfl fun n _ => ?_
  pointwise

theorem keysAll_at {X : Tok} {XM : MetaTok} (hX : FiniteTok X) (hM : FiniteMeta XM) (h b : Fin 8) (n : Fin 4112) (d : Fin 128) :
    (keysAll X XM (ix4 h b n d) : EReal) = (keyR X XM h b n d : EReal) := by
  by_cases hn : n.val < 16
  · rw [← keyR_meta hM h b n hn d]
    pointwise [keysAll]
    rw [dif_pos hn]
  · have e := keyR_tok (XM := XM) hX h b (n.val - 16) d
    rw [show 16 + (n.val - 16) = n.val by omega] at e
    rw [← e]
    have ht : tok (b.val * 4096 + (n.val - 16)) = ⟨b.val * 4096 + (n.val - 16), by omega⟩ := Fin.ext (Nat.mod_eq_of_lt (by omega))
    rw [ht]
    pointwise [keysAll]
    rw [dif_neg hn]

theorem seen_at (i : Fin 4096) (n : Fin 4112) : seen (ix2 i n) = IntOp.cmpi .sle (BitVec.ofNat 32 n.val) (BitVec.ofNat 32 (16 + i.val)) := by
  have e : IntOp.addi 16#32 (BitVec.ofNat 32 i.val) = BitVec.ofNat 32 (16 + i.val) := by
    rw [BitVec.ofNat_add]; rfl
  rw [← e]
  pointwise [seen]

theorem bot_bits : (Ideal.ofBits .f32 0xFF800000#32 : EReal) = ⊥ := by
  simp [Ideal.ofBits, Ideal.ieee]

/-- A score: the real one where the query sees the key, `⊥` elsewhere. -/
theorem scores_at {Q K : Tok} {KM : MetaTok} (hQ : FiniteTok Q) (hK : FiniteTok K) (hM : FiniteMeta KM) (h b : Fin 8) (i : Fin 4096) (n : Fin 4112) :
    (scores Q K KM (ix4 h b i n) : EReal)
      = if n.val < 16 + (i.val + 1) then (score Q K KM h b (b.val * 4096 + i.val) n.val : EReal) else ⊥ := by
  have e : (scores Q K KM (ix4 h b i n) : EReal)
      = Scalar.select (seen (ix2 i n)) (∑ x : Fin 128, (Q (ix3 h ⟨b.val * 4096 + i.val, by omega⟩ x) * keysAll K KM (ix4 h b n x) : EReal))
        (Ideal.ofBits .f32 0xFF800000#32) := by
    pointwise [scores]
    rfl
  have ht : (⟨b.val * 4096 + i.val, by omega⟩ : Fin 32768) = tok (b.val * 4096 + i.val) := Fin.ext (Nat.mod_eq_of_lt (by omega)).symm
  rw [e, seen_at, bot_bits, ht, coe_dot _ _ _ _ (fun x => hQ.row h (b.val * 4096 + i.val) x) (fun x => keysAll_at hK hM h b n x)]
  rw [WordCmp.cmpi_sle_ofNat (by omega) (by omega)]
  by_cases hn : n.val < 16 + (i.val + 1)
  · rw [if_pos hn]
    simp only [Scalar.select, show n.val ≤ 16 + i.val by omega]
    rfl
  · rw [if_neg hn]
    simp only [Scalar.select, show ¬ n.val ≤ 16 + i.val by omega]
    rfl

theorem out_at (O : FVec Ideal S8x8x4096x128 .f32) (g : FVec Ideal S1x128 .f32) (h : Fin 8) (p : Fin 32768) (d : Fin 128) :
    (out O g (ix3 h p d) : EReal)
      = normed (fun x => (O (ix4 h (⟨p.val / 4096, by omega⟩ : Fin 8) (⟨p.val % 4096, by omega⟩ : Fin 4096) x) : EReal)) (g (ix2 0 d)) d := by
  rw [normed, ← mul_assoc]
  pointwise [out]

theorem lam_at (a b c d : FVec Ideal S1x64 .f32) : (lam a b c d ix0 : EReal) = lamOf a b c d := by
  pointwise [lam, lamOf]

end Cert.ReferenceIdeal.Attn

end
-- ==== Proof.AttnRefSum.lean ====
module

public import proofs.«01_k».proof.Proof.AttnRef

/-!
The softmax over the keys, and the reference's result at an entry.
-/

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen
open Cert.Attn

/-- A reduction to the maximum over the last axis, at an entry. -/
theorem rowMax_at (B H N M : ℕ) (S : FVec Ideal ⟨4, ![B, H, N, M]⟩ .f32) (z : FVec Ideal S_ .f32)
    (hr : (⟨4, ![B, H, N, M]⟩ : Shape).ReducesTo [3] ⟨3, ![B, H, N]⟩) (hu : 0 < S_.numel) (b : Fin B) (h : Fin H) (i : Fin N) :
    (Host.reduce (α := Ideal .f32) FloatOps.maximumf S z hr hu (ix3 b h i) : EReal) = Finset.univ.fold max (z ix0) (fun x : Fin M => (S (ix4 b h i x) : EReal)) := by
  have e : Shape.Idx.first hu = ix0 := funext fun a => a.elim0
  rw [← e]
  pointwise

/-- The exponentials of the scores less given row maxima. -/
def expsOf (S : FVec Ideal S8x8x4096x4112 .f32) (R : FVec Ideal S8x8x4096 .f32) : FVec Ideal S8x8x4096x4112 .f32 :=
  Host.exp (subf S (broadcastInDim S8x8x4096x4112 ![0, 1, 2, 3] bcast_S8x8x4096x1_S8x8x4096x4112_0_1_2_3
    (broadcastInDim S8x8x4096x1 ![0, 1, 2] bcast_S8x8x4096_S8x8x4096x1_0_1_2
      (maximumf (broadcastInDim S8x8x4096 ![] bcast_S_S8x8x4096 (constant S_ .f32 0xFF800000#32)) R))))

theorem expsOf_at (S : FVec Ideal S8x8x4096x4112 .f32) (R : FVec Ideal S8x8x4096 .f32) (h b : Fin 8) (i : Fin 4096) (n : Fin 4112) :
    (expsOf S R (ix4 h b i n) : EReal) = Ideal.exp (S (ix4 h b i n) - max ⊥ (R (ix3 h b i))) := by
  rw [← bot_bits]
  pointwise [expsOf]

theorem exps_at (S : FVec Ideal S8x8x4096x4112 .f32) (h b : Fin 8) (i : Fin 4096) (n : Fin 4112) : (exps S (ix4 h b i n) : EReal)
      = Ideal.exp (S (ix4 h b i n) - max ⊥ (Finset.univ.fold max ⊥ (fun x : Fin 4112 => (S (ix4 h b i x) : EReal)))) := by
  have e := rowMax_at 8 8 4096 4112 S (constant S_ .f32 0xFF800000#32) reducesTo_S8x8x4096x4112_S8x8x4096_d3 h_S_ h b i
  have z : (constant (F := Ideal) S_ .f32 0xFF800000#32 ix0 : EReal) = ⊥ := bot_bits
  rw [z] at e
  rw [← e]
  exact expsOf_at S _ h b i n

theorem probs_exps (S : FVec Ideal S8x8x4096x4112 .f32) (h b : Fin 8) (i : Fin 4096) (n : Fin 4112) : (probs S (ix4 h b i n) : EReal)
      = Ideal.div (exps S (ix4 h b i n)) (∑ x : Fin 4112, (exps S (ix4 h b i x) : EReal)) := by
  pointwise [probs]

/-- A weight of the softmax. -/
theorem probs_at {Q K : Tok} {KM : MetaTok} (hQ : FiniteTok Q) (hK : FiniteTok K) (hM : FiniteMeta KM) (h b : Fin 8) (i : Fin 4096) (n : Fin 4112) :
    (probs (scores Q K KM) (ix4 h b i n) : EReal)
      = (((if n.val < 16 + (i.val + 1) then Real.exp (score Q K KM h b (b.val * 4096 + i.val) n.val) else 0)
          / esum Q K KM h b (b.val * 4096 + i.val) (16 + (i.val + 1)) : ℝ) : EReal) := by
  rw [probs_exps, exps_at, Finset.sum_congr rfl fun x _ => exps_at (scores Q K KM) h b i x]
  refine (softmax (fun x : Fin 4112 => (scores Q K KM (ix4 h b i x) : EReal)) (fun x => x.val < 16 + (i.val + 1))
    (fun x => score Q K KM h b (b.val * 4096 + i.val) x.val) (fun x => scores_at hQ hK hM h b i x) ⟨⟨0, by omega⟩, by simp⟩ n).trans ?_
  rw [sum_upto 4112 (16 + (i.val + 1)) (by omega) (fun x => Real.exp (score Q K KM h b (b.val * 4096 + i.val) x))]
  rfl

/-- The two maps applied to the values. -/
theorem heads_eq {Q0 Q1 K V : Tok} {KM VM : MetaTok} (hQ0 : FiniteTok Q0) (hQ1 : FiniteTok Q1) (hK : FiniteTok K) (hV : FiniteTok V)
    (hKM : FiniteMeta KM) (hVM : FiniteMeta VM) (l : FVec Ideal S_ .f32) (r : ℝ) (hl : (l ix0 : EReal) = (r : EReal)) (h b : Fin 8) (i : Fin 4096) (d : Fin 128) :
    (heads (probs (scores Q0 K KM)) (probs (scores Q1 K KM)) l V VM (ix4 h b i d) : EReal)
      = att Q0 Q1 K V KM VM (l ix0) h b (b.val * 4096 + i.val) (16 + (i.val + 1)) d := by
  rw [heads_at]
  refine (apply_maps _ _ _ _ _ _ _ _ r _ (fun n => probs_at hQ0 hK hKM h b i n) (fun n => probs_at hQ1 hK hKM h b i n) hl (fun n => keysAll_at hV hVM h b n d)).trans ?_
  have e : ∀ Q : Tok, (∑ n : Fin 4112, (if n.val < 16 + (i.val + 1) then Real.exp (score Q K KM h b (b.val * 4096 + i.val) n.val) else 0) * keyR V VM h b n.val d)
      = fsum Q K V KM VM h b (b.val * 4096 + i.val) (16 + (i.val + 1)) d := by
    intro Q
    refine Eq.trans (Finset.sum_congr rfl fun n _ => ?_)
      (sum_upto 4112 (16 + (i.val + 1)) (by omega) (fun n => Real.exp (score Q K KM h b (b.val * 4096 + i.val) n) * keyR V VM h b n d))
    by_cases hn : n.val < 16 + (i.val + 1)
    · rw [if_pos hn, if_pos hn]
    · rw [if_neg hn, if_neg hn, zero_mul]
  rw [e, e]
  rfl

/-- The reference's output at an entry. -/
theorem result_at {Q0 Q1 K V : Tok} {KM VM : MetaTok} (hQ0 : FiniteTok Q0) (hQ1 : FiniteTok Q1) (hK : FiniteTok K) (hV : FiniteTok V)
    (hKM : FiniteMeta KM) (hVM : FiniteMeta VM) (w x y z : FVec Ideal S1x64 .f32) (r : ℝ) (hl : lamOf w x y z = (r : EReal)) (g : FVec Ideal S1x128 .f32)
    (h : Fin 8) (p : Fin 32768) (d : Fin 128) :
    (out (heads (probs (scores Q0 K KM)) (probs (scores Q1 K KM)) (lam w x y z) V VM) g (ix3 h p d) : EReal)
      = outE Q0 Q1 K V KM VM (lamOf w x y z) (fun c => g (ix2 0 c)) h p.val d := by
  rw [out_at, outE]
  have hp : p.val / 4096 * 4096 + p.val % 4096 = p.val := by omega
  have e : ∀ x' : Fin 128, (heads (probs (scores Q0 K KM)) (probs (scores Q1 K KM)) (lam w x y z) V VM
      (ix4 h (⟨p.val / 4096, by omega⟩ : Fin 8) (⟨p.val % 4096, by omega⟩ : Fin 4096) x') : EReal)
      = att Q0 Q1 K V KM VM (lamOf w x y z) h (p.val / 4096) p.val (16 + (p.val % 4096 + 1)) x' := by
    intro x'
    rw [heads_eq hQ0 hQ1 hK hV hKM hVM (lam w x y z) r ((lam_at w x y z).trans hl), lam_at]
    exact congrArg (fun q => att Q0 Q1 K V KM VM (lamOf w x y z) h (p.val / 4096) q (16 + (p.val % 4096 + 1)) x') hp
  rw [show (fun x' : Fin 128 => (heads (probs (scores Q0 K KM)) (probs (scores Q1 K KM)) (lam w x y z) V VM
      (ix4 h (⟨p.val / 4096, by omega⟩ : Fin 8) (⟨p.val % 4096, by omega⟩ : Fin 4096) x') : EReal)) = _ from funext e]

end Cert.ReferenceIdeal.Attn

end
-- ==== Proof.AttnValue.lean ====
module

public import proofs.«01_k».proof.Defs
public import proofs.«01_k».proof.Proof.AttnFinal
public import proofs.«01_k».proof.Proof.AttnPre
public import proofs.«01_k».proof.Proof.AttnRefSum
public import proofs.«01_k».proof.Proof.AttnRun
public import proofs.«01_k».proof.Proof.CodeRun
public import proofs.«01_k».proof.Proof.Gen.Pre_finite

/-!
The claims about the attention: the frames and the value equation.
-/

@[expose] public section

set_option maxRecDepth 16384

noncomputable section

namespace Cert.Proof

open Idealize.ShloMosaic Idealize.ShloMosaic.TcCoe Idealize.SL.Sem
open Cert.Attn

/-- The attention runs as compiled and leaves its arguments as they were. -/
theorem frame1 : Cert.quiescent_Kernel := fun m g _ => Cert.Kernel.Attn.frame_attn m g

/-- So does its ideal form. -/
theorem frame1Ideal : Cert.quiescent_KernelIdeal := fun m g _ => Cert.KernelIdeal.Attn.frame_attn m g

/-- The reference of the attention runs. -/
theorem frame1Ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The mask constant of the attention stands for `⊥`. -/
theorem preserves1 : Cert.preserves_Kernel_KernelIdeal :=
  IdealRules.named_const.statement Cert.KernelIdeal.κ "mask" .f32 0xF149F2CA#32 ⊥ rfl

section Value
variable (m : (ℓ : Loc Cert.KernelIdeal.nD Cert.KernelIdeal.τ Cert.KernelIdeal.sig) → Buf (Elt Ideal) ℓ)

/-- What the precondition says of the launch's arguments. -/
theorem args (hpre : Cert.Pre_KernelIdeal m) (c : Dev Cert.KernelIdeal.nD) :
    Args (Cert.KernelIdeal.Attn.argQ0 m c) (Cert.KernelIdeal.Attn.argQ1 m c) (Cert.KernelIdeal.Attn.argK m c) (Cert.KernelIdeal.Attn.argV m c)
      (Cert.KernelIdeal.Attn.argKM m c) (Cert.KernelIdeal.Attn.argVM m c)
      (Cert.KernelIdeal.Attn.argL m c Cert.KernelIdeal.main_arg6) (Cert.KernelIdeal.Attn.argL m c Cert.KernelIdeal.main_arg7)
      (Cert.KernelIdeal.Attn.argL m c Cert.KernelIdeal.main_arg8) (Cert.KernelIdeal.Attn.argL m c Cert.KernelIdeal.main_arg9) :=
  args_of_pre _ _ _ _ _ _ _ _ _ _ _ (congrFun (hpre c) ix0)

/-- The arguments are as the kernel's value asks. -/
theorem fine (hpre : Cert.Pre_KernelIdeal m) (c : Dev Cert.KernelIdeal.nD) : Cert.KernelIdeal.Attn.Fine m c :=
  have h := args m hpre c
  ⟨h.q0, h.q1, h.k, h.v, h.km, h.vm⟩

variable (m' : (ℓ : Loc Cert.ReferenceIdeal.nD Cert.ReferenceIdeal.τ Cert.ReferenceIdeal.sig) → Buf (Elt Ideal) ℓ)

/-- From finite arguments the reference's result is the kernel's. -/
theorem same {q0 q1 k v : Tok} {km vm : MetaTok} {a b c d : FVec Ideal { rank := 2, size := ![1, 64] } .f32} (h : Args q0 q1 k v km vm a b c d)
    (g : FVec Ideal { rank := 2, size := ![1, 128] } .f32) :
    Cert.ReferenceIdeal.Attn.out (Cert.ReferenceIdeal.Attn.heads (Cert.ReferenceIdeal.Attn.probs (Cert.ReferenceIdeal.Attn.scores q0 k km))
        (Cert.ReferenceIdeal.Attn.probs (Cert.ReferenceIdeal.Attn.scores q1 k km)) (Cert.ReferenceIdeal.Attn.lam a b c d) v vm) g
      = fun y => outE q0 q1 k v km vm (lamOf a b c d) (fun x => g (ix2 0 x)) (y 0) (y 1).val (y 2) := by
  obtain ⟨r, hr⟩ := lam_real a b c d h.a h.b h.c h.d
  funext y
  idx_vars y
  exact Cert.ReferenceIdeal.Attn.result_at h.q0 h.q1 h.k h.v h.km h.vm a b c d r hr g _ _ _

end Value

/-- The attention computes the reference's result, from finite queries, keys, values and weights. -/
theorem algebraic1 : Cert.algebraic_KernelIdeal_ReferenceIdeal := by
  intro m g m' g' hpre hagree
  refine ⟨fun c => Cert.KernelIdeal.Attn.result m c, ?_, ?_⟩
  · exact θ_run_mono (θ_run_and (Cert.KernelIdeal.Attn.unchanged m g) (Cert.KernelIdeal.Attn.run_main m g)) fun r h c =>
      ⟨((h.2 c).1 8).trans (Cert.KernelIdeal.Attn.final m c (fine m hpre c)), h.1 c⟩
  · refine θ_run_mono (Cert.ReferenceIdeal.Value.run m' g') fun r h c => ⟨(h c).1.trans ?_, (h c).2⟩
    obtain ⟨e0, e1, e2, e3, e4, e5, e6, e7, e8, e9, e10⟩ := hagree c
    refine (Cert.ReferenceIdeal.Attn.result_eq m' c).trans ?_
    rw [e0, e1, e2, e3, e4, e5, e6, e7, e8, e9, e10]
    exact same (args m hpre c) _

end Cert.Proof

end
-- ==== Proof.lean ====
/-
The certificate: the claims of Defs.lean, assembled.
-/
module

public import proofs.«01_k».proof.Defs
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Frame
public import proofs.«01_k».proof.Proof.Gen.Kernel7Ideal.Value
public import proofs.«01_k».proof.Proof.Gen.Kernel8
public import proofs.«01_k».proof.Proof.Gen.Kernel8.Skeleton
public import proofs.«01_k».proof.Proof.Gen.Kernel8.Launch
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Frame
public import proofs.«01_k».proof.Proof.Gen.Kernel8Ideal.Value
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.MixClaim
public import proofs.«01_k».proof.Proof.MixSampleClaim
public import proofs.«01_k».proof.Proof.FinalClaim
public import proofs.«01_k».proof.Proof.GatesClaim
public import proofs.«01_k».proof.Proof.QkvClaim
public import proofs.«01_k».proof.Proof.QkvSampleClaim
public import proofs.«01_k».proof.Proof.AttnValue

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_finite.Gen.facts,
    frame1, frame1Ideal, frame1Ref, frame2, frame2Ideal, frame2Ref, frame3, frame3Ideal, frame3Ref,
    frame4, frame4Ideal, frame4Ref,
    frame5, frame5Ideal, frame5Ref, frame6, frame6Ideal, frame6Ref,
    frame7, frame7Ideal, frame7Ref, frame8, frame8Ideal, frame8Ref,
    preserves1, algebraic1, trivial, algebraic2, trivial, algebraic3, trivial, algebraic4, trivial, algebraic5, trivial, algebraic6,
    trivial, algebraic7, trivial, algebraic8⟩

end Cert.Proof

end
